-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)) (v6 : (c : Dev Cert.KernelIdeal.nD) → Buf (Elt Ideal) ((c.tc : Thread Cert.KernelIdeal.nD Cert.KernelIdeal.τ).loc Cert.KernelIdeal.main_v12_6)) (v7 : (c : Dev Cert.KernelIdeal.nD) → Buf (Elt Ideal) ((c.tc : Thread Cert.KernelIdeal.nD Cert.KernelIdeal.τ).loc Cert.KernelIdeal.main_v12_7)) (v8 : (c : Dev Cert.KernelIdeal.nD) → Buf (Elt Ideal) ((c.tc : Thread Cert.KernelIdeal.nD Cert.KernelIdeal.τ).loc Cert.KernelIdeal.main_v12_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_v12_6) = v6 c
          ∧ r.2.mem ((c.tc : Thread Cert.KernelIdeal.nD Cert.KernelIdeal.τ).loc Cert.KernelIdeal.main_v12_7) = v7 c
          ∧ r.2.mem ((c.tc : Thread Cert.KernelIdeal.nD Cert.KernelIdeal.τ).loc Cert.KernelIdeal.main_v12_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v148) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_v111) = v6 c
          ∧ r.2.mem ((c.tc : Thread Cert.ReferenceIdeal.nD Cert.ReferenceIdeal.τ).loc Cert.ReferenceIdeal.main_v134) = v7 c
          ∧ r.2.mem ((c.tc : Thread Cert.ReferenceIdeal.nD Cert.ReferenceIdeal.τ).loc Cert.ReferenceIdeal.main_v149) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v285) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v287) = v0 c
          ∧ r.2.mem ((c.tc : Thread Cert.Reference3Ideal.nD Cert.Reference3Ideal.τ).loc Cert.Reference3Ideal.main_v289) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  IdealRules.named_const.Statement Cert.Kernel4Ideal.κ "q_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)) (v5 : (c : Dev Cert.Kernel4Ideal.nD) → Buf (Elt Ideal) ((c.tc : Thread Cert.Kernel4Ideal.nD Cert.Kernel4Ideal.τ).loc Cert.Kernel4Ideal.main_v13_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_v13_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_v84) = v2 c
          ∧ r.2.mem ((c.tc : Thread Cert.Reference4Ideal.nD Cert.Reference4Ideal.τ).loc Cert.Reference4Ideal.main_v86) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_v81) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12_1)) (v1 : (c : Dev Cert.Kernel5Ideal.nD) → Buf (Elt Ideal) ((c.tc : Thread Cert.Kernel5Ideal.nD Cert.Kernel5Ideal.τ).loc Cert.Kernel5Ideal.main_v12_2)) (v2 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_1) = v0 c
          ∧ r.2.mem ((c.tc : Thread Cert.Kernel5Ideal.nD Cert.Kernel5Ideal.τ).loc Cert.Kernel5Ideal.main_v12_2) = v1 c
          ∧ r.2.mem ((c.tc : Thread Cert.Kernel5Ideal.nD Cert.Kernel5Ideal.τ).loc Cert.Kernel5Ideal.main_v12_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x4096x1024 : Shape := ⟨3, ![8, 4096, 1024]⟩
abbrev S1x1024 : Shape := ⟨2, ![1, 1024]⟩
abbrev S1x1024x6400 : Shape := ⟨3, ![1, 1024, 6400]⟩
abbrev S1x64 : Shape := ⟨2, ![1, 64]⟩
abbrev S1024x6400 : Shape := ⟨2, ![1024, 6400]⟩
abbrev S64 : Shape := ⟨1, ![64]⟩
abbrev S12x64 : Shape := ⟨2, ![12, 64]⟩
abbrev S768 : Shape := ⟨1, ![768]⟩
abbrev S1x768 : Shape := ⟨2, ![1, 768]⟩
abbrev S8x1x4096x768 : Shape := ⟨4, ![8, 1, 4096, 768]⟩
abbrev S8x4x1024x768 : Shape := ⟨4, ![8, 4, 1024, 768]⟩
abbrev S8x16x256x768 : Shape := ⟨4, ![8, 16, 256, 768]⟩
abbrev S8x4096x2048 : Shape := ⟨3, ![8, 4096, 2048]⟩
abbrev S8x2x256x128 : Shape := ⟨4, ![8, 2, 256, 128]⟩
abbrev S8x2x256x512 : Shape := ⟨4, ![8, 2, 256, 512]⟩
abbrev S8x2x256x2048 : Shape := ⟨4, ![8, 2, 256, 2048]⟩
abbrev S8x32x1024 : Shape := ⟨3, ![8, 32, 1024]⟩
abbrev S1x256x1024 : Shape := ⟨3, ![1, 256, 1024]⟩
abbrev S1x1x256x768 : Shape := ⟨4, ![1, 1, 256, 768]⟩
abbrev S1x4x64x768 : Shape := ⟨4, ![1, 4, 64, 768]⟩
abbrev S1x16x16x768 : Shape := ⟨4, ![1, 16, 16, 768]⟩
abbrev S1x256x2048 : Shape := ⟨3, ![1, 256, 2048]⟩
abbrev S1x2x256x128 : Shape := ⟨4, ![1, 2, 256, 128]⟩
abbrev S1x2x256x256 : Shape := ⟨4, ![1, 2, 256, 256]⟩
abbrev S1x32x1024 : Shape := ⟨3, ![1, 32, 1024]⟩
abbrev S6x256x128 : Shape := ⟨3, ![6, 256, 128]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x128 : Shape := ⟨2, ![256, 128]⟩
abbrev S1x128 : Shape := ⟨2, ![1, 128]⟩
abbrev S1x256x128 : Shape := ⟨3, ![1, 256, 128]⟩
abbrev S1024x1024 : Shape := ⟨2, ![1024, 1024]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩
abbrev S1x16x128 : Shape := ⟨3, ![1, 16, 128]⟩
abbrev S16x128 : Shape := ⟨2, ![16, 128]⟩
abbrev S1x1x16x128 : Shape := ⟨4, ![1, 1, 16, 128]⟩
abbrev S1x128x128 : Shape := ⟨3, ![1, 128, 128]⟩
abbrev S128x128 : Shape := ⟨2, ![128, 128]⟩
abbrev S1x1x128x128 : Shape := ⟨4, ![1, 1, 128, 128]⟩
abbrev S128x256 : Shape := ⟨2, ![128, 256]⟩
abbrev S1x1x128x256 : Shape := ⟨4, ![1, 1, 128, 256]⟩
abbrev S32x1024 : Shape := ⟨2, ![32, 1024]⟩

abbrev nBuf : Space → Nat
  | .hbm => 26
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x6400, .f32⟩
  | .hbm, ⟨3, _⟩ => ⟨S1x64, .f32⟩
  | .hbm, ⟨4, _⟩ => ⟨S1x64, .f32⟩
  | .hbm, ⟨5, _⟩ => ⟨S1024x6400, .f32⟩
  | .hbm, ⟨6, _⟩ => ⟨S1024x6400, .bf16⟩
  | .hbm, ⟨7, _⟩ => ⟨S64, .f32⟩
  | .hbm, ⟨8, _⟩ => ⟨S1x64, .f32⟩
  | .hbm, ⟨9, _⟩ => ⟨S12x64, .f32⟩
  | .hbm, ⟨10, _⟩ => ⟨S768, .f32⟩
  | .hbm, ⟨11, _⟩ => ⟨S1x768, .f32⟩
  | .hbm, ⟨12, _⟩ => ⟨S64, .f32⟩
  | .hbm, ⟨13, _⟩ => ⟨S1x64, .f32⟩
  | .hbm, ⟨14, _⟩ => ⟨S12x64, .f32⟩
  | .hbm, ⟨15, _⟩ => ⟨S768, .f32⟩
  | .hbm, ⟨16, _⟩ => ⟨S1x768, .f32⟩
  | .hbm, ⟨17, _⟩ => ⟨S8x1x4096x768, .bf16⟩
  | .hbm, ⟨18, _⟩ => ⟨S8x4x1024x768, .bf16⟩
  | .hbm, ⟨19, _⟩ => ⟨S8x16x256x768, .bf16⟩
  | .hbm, ⟨20, _⟩ => ⟨S8x4096x1024, .f32⟩
  | .hbm, ⟨21, _⟩ => ⟨S8x4096x2048, .bf16⟩
  | .hbm, ⟨22, _⟩ => ⟨S8x2x256x128, .f32⟩
  | .hbm, ⟨23, _⟩ => ⟨S8x2x256x512, .f32⟩
  | .hbm, ⟨24, _⟩ => ⟨S8x2x256x2048, .f32⟩
  | .hbm, ⟨25, _⟩ => ⟨S8x32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x6400, .bf16⟩
  | .local _ .vmem, ⟨4, _⟩ => ⟨S1x768, .f32⟩
  | .local _ .vmem, ⟨5, _⟩ => ⟨S1x768, .f32⟩
  | .local _ .vmem, ⟨6, _⟩ => ⟨S1x1x256x768, .bf16⟩
  | .local _ .vmem, ⟨7, _⟩ => ⟨S1x1x256x768, .bf16⟩
  | .local _ .vmem, ⟨8, _⟩ => ⟨S1x4x64x768, .bf16⟩
  | .local _ .vmem, ⟨9, _⟩ => ⟨S1x4x64x768, .bf16⟩
  | .local _ .vmem, ⟨10, _⟩ => ⟨S1x16x16x768, .bf16⟩
  | .local _ .vmem, ⟨11, _⟩ => ⟨S1x16x16x768, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x2048, .bf16⟩
  | .local _ .vmem, ⟨15, _⟩ => ⟨S1x256x2048, .bf16⟩
  | .local _ .vmem, ⟨16, _⟩ => ⟨S1x2x256x128, .f32⟩
  | .local _ .vmem, ⟨17, _⟩ => ⟨S1x2x256x128, .f32⟩
  | .local _ .vmem, ⟨18, _⟩ => ⟨S1x2x256x256, .f32⟩
  | .local _ .vmem, ⟨19, _⟩ => ⟨S1x2x256x256, .f32⟩
  | .local _ .vmem, ⟨20, _⟩ => ⟨S1x2x256x256, .f32⟩
  | .local _ .vmem, ⟨21, _⟩ => ⟨S1x2x256x256, .f32⟩
  | .local _ .vmem, ⟨22, _⟩ => ⟨S1x32x1024, .f32⟩
  | .local _ .vmem, ⟨23, _⟩ => ⟨S1x32x1024, .f32⟩
  | .local _ .vmem, ⟨24, _⟩ => ⟨S6x256x128, .f32⟩
  | .local _ .vmem, ⟨25, _⟩ => ⟨S6x256x128, .f32⟩
  | .local _ .vmem, ⟨26, _⟩ => ⟨S6x256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi arg1 c15_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, c0_i32_1.toNat, v1.toNat]

def cc0_transform_11 (i : grid0.Coords) : Fin 4 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, c0_i32_1.toNat, v1.toNat]

def cc0_transform_12 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, c0_i32_1.toNat, v1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x16x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S8x4096x1024 : Shape := ⟨3, ![8, 4096, 1024]⟩
abbrev S1x1024 : Shape := ⟨2, ![1, 1024]⟩
abbrev S1x1024x6400 : Shape := ⟨3, ![1, 1024, 6400]⟩
abbrev S1x64 : Shape := ⟨2, ![1, 64]⟩
abbrev S1024 : Shape := ⟨1, ![1024]⟩
abbrev S1024x6400 : Shape := ⟨2, ![1024, 6400]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6400 : Shape := ⟨3, ![8, 4096, 6400]⟩
abbrev S8x4096x768 : Shape := ⟨3, ![8, 4096, 768]⟩
abbrev S8x4096x3x4x64 : Shape := ⟨5, ![8, 4096, 3, 4, 64]⟩
abbrev S8x4096x3x4 : Shape := ⟨4, ![8, 4096, 3, 4]⟩
abbrev S8x4096x3x4x1 : Shape := ⟨5, ![8, 4096, 3, 4, 1]⟩
abbrev S1x1x1x1x64 : Shape := ⟨5, ![1, 1, 1, 1, 64]⟩
abbrev S8x4096x1x4x64 : Shape := ⟨5, ![8, 4096, 1, 4, 64]⟩
abbrev S8x4096x4x64 : Shape := ⟨4, ![8, 4096, 4, 64]⟩
abbrev S8x4096x1x256 : Shape := ⟨4, ![8, 4096, 1, 256]⟩
abbrev S8x1x4096x256 : Shape := ⟨4, ![8, 1, 4096, 256]⟩
abbrev S8x1x4096x768 : Shape := ⟨4, ![8, 1, 4096, 768]⟩
abbrev S8x128x1x4x64 : Shape := ⟨5, ![8, 128, 1, 4, 64]⟩
abbrev S8x128x4x64 : Shape := ⟨4, ![8, 128, 4, 64]⟩
abbrev S8x128x2x4x64 : Shape := ⟨5, ![8, 128, 2, 4, 64]⟩
abbrev S8x2x4x64x128 : Shape := ⟨5, ![8, 2, 4, 64, 128]⟩
abbrev S8x2x256x128 : Shape := ⟨4, ![8, 2, 256, 128]⟩
abbrev S8x1024x4x256 : Shape := ⟨4, ![8, 1024, 4, 256]⟩
abbrev S8x4x1024x256 : Shape := ⟨4, ![8, 4, 1024, 256]⟩
abbrev S8x4x1024x768 : Shape := ⟨4, ![8, 4, 1024, 768]⟩
abbrev S8x512x1x4x64 : Shape := ⟨5, ![8, 512, 1, 4, 64]⟩
abbrev S8x512x4x64 : Shape := ⟨4, ![8, 512, 4, 64]⟩
abbrev S8x512x2x4x64 : Shape := ⟨5, ![8, 512, 2, 4, 64]⟩
abbrev S8x2x4x64x512 : Shape := ⟨5, ![8, 2, 4, 64, 512]⟩
abbrev S8x2x256x512 : Shape := ⟨4, ![8, 2, 256, 512]⟩
abbrev S8x256x16x256 : Shape := ⟨4, ![8, 256, 16, 256]⟩
abbrev S8x16x256x256 : Shape := ⟨4, ![8, 16, 256, 256]⟩
abbrev S8x16x256x768 : Shape := ⟨4, ![8, 16, 256, 768]⟩
abbrev S8x2048x1x4x64 : Shape := ⟨5, ![8, 2048, 1, 4, 64]⟩
abbrev S8x2048x4x64 : Shape := ⟨4, ![8, 2048, 4, 64]⟩
abbrev S8x2048x2x4x64 : Shape := ⟨5, ![8, 2048, 2, 4, 64]⟩
abbrev S8x2x4x64x2048 : Shape := ⟨5, ![8, 2, 4, 64, 2048]⟩
abbrev S8x2x256x2048 : Shape := ⟨4, ![8, 2, 256, 2048]⟩
abbrev S8x4096x2048 : Shape := ⟨3, ![8, 4096, 2048]⟩
abbrev S8x32x1024 : Shape := ⟨3, ![8, 32, 1024]⟩

abbrev nBuf : Space → Nat
  | .hbm => 172
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x6400, .f32⟩
  | 3 => ⟨S1x64, .f32⟩
  | 4 => ⟨S1x64, .f32⟩
  | 5 => ⟨S1024, .f32⟩
  | 6 => ⟨S1024x6400, .f32⟩
  | 7 => ⟨S64, .f32⟩
  | 8 => ⟨S64, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x4096x6400, .f32⟩
  | 26 => ⟨S8x4096x768, .f32⟩
  | 27 => ⟨S8x4096x3x4x64, .f32⟩
  | 28 => ⟨S8x4096x768, .f32⟩
  | 29 => ⟨S8x4096x3x4x64, .f32⟩
  | 30 => ⟨S8x4096x768, .f32⟩
  | 31 => ⟨S8x4096x3x4x64, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x3x4x64, .f32⟩
  | 37 => ⟨S_, .f32⟩
  | 38 => ⟨S8x4096x3x4, .f32⟩
  | 39 => ⟨S8x4096x3x4x1, .f32⟩
  | 40 => ⟨S_, .f32⟩
  | 41 => ⟨S8x4096x3x4x1, .f32⟩
  | 42 => ⟨S8x4096x3x4x1, .f32⟩
  | 43 => ⟨S_, .f32⟩
  | 44 => ⟨S8x4096x3x4x1, .f32⟩
  | 45 => ⟨S8x4096x3x4x1, .f32⟩
  | 46 => ⟨S8x4096x3x4x1, .f32⟩
  | 47 => ⟨S8x4096x3x4x64, .f32⟩
  | 48 => ⟨S8x4096x3x4x64, .f32⟩
  | 49 => ⟨S1x1x1x1x64, .f32⟩
  | 50 => ⟨S8x4096x3x4x64, .f32⟩
  | 51 => ⟨S8x4096x3x4x64, .f32⟩
  | 52 => ⟨S8x4096x3x4x64, .f32⟩
  | 53 => ⟨S_, .f32⟩
  | 54 => ⟨S8x4096x3x4, .f32⟩
  | 55 => ⟨S8x4096x3x4x1, .f32⟩
  | 56 => ⟨S_, .f32⟩
  | 57 => ⟨S8x4096x3x4x1, .f32⟩
  | 58 => ⟨S8x4096x3x4x1, .f32⟩
  | 59 => ⟨S_, .f32⟩
  | 60 => ⟨S8x4096x3x4x1, .f32⟩
  | 61 => ⟨S8x4096x3x4x1, .f32⟩
  | 62 => ⟨S8x4096x3x4x1, .f32⟩
  | 63 => ⟨S8x4096x3x4x64, .f32⟩
  | 64 => ⟨S8x4096x3x4x64, .f32⟩
  | 65 => ⟨S1x1x1x1x64, .f32⟩
  | 66 => ⟨S8x4096x3x4x64, .f32⟩
  | 67 => ⟨S8x4096x3x4x64, .f32⟩
  | 68 => ⟨S8x4096x1024, .f32⟩
  | 69 => ⟨S8x4096x1024, .f32⟩
  | 70 => ⟨S_, .f32⟩
  | 71 => ⟨S8x4096x1024, .f32⟩
  | 72 => ⟨S8x4096x1024, .f32⟩
  | 73 => ⟨S_, .f32⟩
  | 74 => ⟨S8x4096x1024, .f32⟩
  | 75 => ⟨S8x4096x1024, .f32⟩
  | 76 => ⟨S8x4096x1024, .f32⟩
  | 77 => ⟨S_, .f32⟩
  | 78 => ⟨S8x4096x3x4x64, .f32⟩
  | 79 => ⟨S8x4096x3x4x64, .f32⟩
  | 80 => ⟨S_, .f32⟩
  | 81 => ⟨S_, .f32⟩
  | 82 => ⟨S8x4096x3x4x64, .f32⟩
  | 83 => ⟨S8x4096x3x4x64, .f32⟩
  | 84 => ⟨S8x4096x1x4x64, .f32⟩
  | 85 => ⟨S8x4096x4x64, .f32⟩
  | 86 => ⟨S8x4096x1x256, .f32⟩
  | 87 => ⟨S8x1x4096x256, .f32⟩
  | 88 => ⟨S8x4096x1x4x64, .f32⟩
  | 89 => ⟨S8x4096x4x64, .f32⟩
  | 90 => ⟨S8x4096x1x256, .f32⟩
  | 91 => ⟨S8x1x4096x256, .f32⟩
  | 92 => ⟨S8x4096x1x4x64, .f32⟩
  | 93 => ⟨S8x4096x4x64, .f32⟩
  | 94 => ⟨S8x4096x1x256, .f32⟩
  | 95 => ⟨S8x1x4096x256, .f32⟩
  | 96 => ⟨S8x1x4096x768, .f32⟩
  | 97 => ⟨S8x1x4096x768, .bf16⟩
  | 98 => ⟨S8x128x1x4x64, .f32⟩
  | 99 => ⟨S8x128x4x64, .f32⟩
  | 100 => ⟨S8x128x1x4x64, .f32⟩
  | 101 => ⟨S8x128x4x64, .f32⟩
  | 102 => ⟨S8x128x1x4x64, .f32⟩
  | 103 => ⟨S8x128x1x4x64, .f32⟩
  | 104 => ⟨S8x128x2x4x64, .f32⟩
  | 105 => ⟨S8x2x4x64x128, .f32⟩
  | 106 => ⟨S8x2x256x128, .f32⟩
  | 107 => ⟨S8x4096x1x4x64, .f32⟩
  | 108 => ⟨S8x4096x4x64, .f32⟩
  | 109 => ⟨S8x1024x4x256, .f32⟩
  | 110 => ⟨S8x4x1024x256, .f32⟩
  | 111 => ⟨S8x4096x1x4x64, .f32⟩
  | 112 => ⟨S8x4096x4x64, .f32⟩
  | 113 => ⟨S8x1024x4x256, .f32⟩
  | 114 => ⟨S8x4x1024x256, .f32⟩
  | 115 => ⟨S8x4096x1x4x64, .f32⟩
  | 116 => ⟨S8x4096x4x64, .f32⟩
  | 117 => ⟨S8x1024x4x256, .f32⟩
  | 118 => ⟨S8x4x1024x256, .f32⟩
  | 119 => ⟨S8x4x1024x768, .f32⟩
  | 120 => ⟨S8x4x1024x768, .bf16⟩
  | 121 => ⟨S8x512x1x4x64, .f32⟩
  | 122 => ⟨S8x512x4x64, .f32⟩
  | 123 => ⟨S8x512x1x4x64, .f32⟩
  | 124 => ⟨S8x512x4x64, .f32⟩
  | 125 => ⟨S8x512x1x4x64, .f32⟩
  | 126 => ⟨S8x512x1x4x64, .f32⟩
  | 127 => ⟨S8x512x2x4x64, .f32⟩
  | _ => ⟨S8x4096x1024, .f32⟩

abbrev hbmTy0_1 (i : Nat) : BufTy := match i % 128 with
  | 0 => ⟨S8x2x4x64x512, .f32⟩
  | 1 => ⟨S8x2x256x512, .f32⟩
  | 2 => ⟨S8x4096x1x4x64, .f32⟩
  | 3 => ⟨S8x4096x4x64, .f32⟩
  | 4 => ⟨S8x256x16x256, .f32⟩
  | 5 => ⟨S8x16x256x256, .f32⟩
  | 6 => ⟨S8x4096x1x4x64, .f32⟩
  | 7 => ⟨S8x4096x4x64, .f32⟩
  | 8 => ⟨S8x256x16x256, .f32⟩
  | 9 => ⟨S8x16x256x256, .f32⟩
  | 10 => ⟨S8x4096x1x4x64, .f32⟩
  | 11 => ⟨S8x4096x4x64, .f32⟩
  | 12 => ⟨S8x256x16x256, .f32⟩
  | 13 => ⟨S8x16x256x256, .f32⟩
  | 14 => ⟨S8x16x256x768, .f32⟩
  | 15 => ⟨S8x16x256x768, .bf16⟩
  | 16 => ⟨S8x2048x1x4x64, .f32⟩
  | 17 => ⟨S8x2048x4x64, .f32⟩
  | 18 => ⟨S8x2048x1x4x64, .f32⟩
  | 19 => ⟨S8x2048x4x64, .f32⟩
  | 20 => ⟨S8x2048x1x4x64, .f32⟩
  | 21 => ⟨S8x2048x1x4x64, .f32⟩
  | 22 => ⟨S8x2048x2x4x64, .f32⟩
  | 23 => ⟨S8x2x4x64x2048, .f32⟩
  | 24 => ⟨S8x2x256x2048, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S_, .f32⟩
  | 31 => ⟨S8x4096x1024, .f32⟩
  | 32 => ⟨S8x4096x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x2048, .f32⟩
  | 42 => ⟨S8x4096x2048, .bf16⟩
  | 43 => ⟨S8x32x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_cst_12 : Ref sig .tc := ⟨.hbm, 155, rfl⟩
abbrev main_v137 : Ref sig .tc := ⟨.hbm, 156, rfl⟩
abbrev main_v138 : Ref sig .tc := ⟨.hbm, 157, rfl⟩
abbrev main_cst_13 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_cst_14 : Ref sig .tc := ⟨.hbm, 163, rfl⟩
abbrev main_v143 : Ref sig .tc := ⟨.hbm, 164, rfl⟩
abbrev main_v144 : Ref sig .tc := ⟨.hbm, 165, rfl⟩
abbrev main_cst_15 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x256 : Shape := ⟨3, ![8, 4096, 256]⟩
abbrev S8x4096x2048 : Shape := ⟨3, ![8, 4096, 2048]⟩
abbrev S1x256x1024 : Shape := ⟨3, ![1, 256, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S31x1024 : Shape := ⟨2, ![31, 1024]⟩
abbrev S1024x1024 : Shape := ⟨2, ![1024, 1024]⟩
abbrev S1024x5632 : Shape := ⟨2, ![1024, 5632]⟩
abbrev S2816x1024 : Shape := ⟨2, ![2816, 1024]⟩
abbrev S32768x1024 : Shape := ⟨2, ![32768, 1024]⟩
abbrev S32768x256 : Shape := ⟨2, ![32768, 256]⟩
abbrev S32768x2048 : Shape := ⟨2, ![32768, 2048]⟩
abbrev S512x1024 : Shape := ⟨2, ![512, 1024]⟩
abbrev S512x256 : Shape := ⟨2, ![512, 256]⟩
abbrev S32x1024 : Shape := ⟨2, ![32, 1024]⟩
abbrev S512x2048 : Shape := ⟨2, ![512, 2048]⟩
abbrev S8x544x128 : Shape := ⟨3, ![8, 544, 128]⟩
abbrev S8x512x128 : Shape := ⟨3, ![8, 512, 128]⟩
abbrev S32x128 : Shape := ⟨2, ![32, 128]⟩
abbrev S1x32x128 : Shape := ⟨3, ![1, 32, 128]⟩
abbrev S512x128 : Shape := ⟨2, ![512, 128]⟩
abbrev S1x512x128 : Shape := ⟨3, ![1, 512, 128]⟩
abbrev S1x128 : Shape := ⟨2, ![1, 128]⟩
abbrev S64x128 : Shape := ⟨2, ![64, 128]⟩
abbrev S1x64x128 : Shape := ⟨3, ![1, 64, 128]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 30
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x1024, .f32⟩
  | .hbm, ⟨3, _⟩ => ⟨S8x4096x2048, .bf16⟩
  | .hbm, ⟨4, _⟩ => ⟨S1x256x1024, .f32⟩
  | .hbm, ⟨5, _⟩ => ⟨S1x31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024x5632, .f32⟩
  | .hbm, ⟨13, _⟩ => ⟨S1x2816x1024, .f32⟩
  | .hbm, ⟨14, _⟩ => ⟨S256x1024, .f32⟩
  | .hbm, ⟨15, _⟩ => ⟨S256x1024, .bf16⟩
  | .hbm, ⟨16, _⟩ => ⟨S31x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S32768x1024, .f32⟩
  | .hbm, ⟨26, _⟩ => ⟨S32768x1024, .f32⟩
  | .hbm, ⟨27, _⟩ => ⟨S32768x256, .bf16⟩
  | .hbm, ⟨28, _⟩ => ⟨S32768x2048, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S512x2048, .bf16⟩
  | .local _ .vmem, ⟨9, _⟩ => ⟨S512x2048, .bf16⟩
  | .local _ .vmem, ⟨10, _⟩ => ⟨S256x1024, .bf16⟩
  | .local _ .vmem, ⟨11, _⟩ => ⟨S31x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S8x544x128, .f32⟩
  | .local _ .vmem, ⟨23, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x4096x1024 : Shape := ⟨3, ![8, 4096, 1024]⟩
abbrev S8x4096x256 : Shape := ⟨3, ![8, 4096, 256]⟩
abbrev S8x4096x2048 : Shape := ⟨3, ![8, 4096, 2048]⟩
abbrev S1x256x1024 : Shape := ⟨3, ![1, 256, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S_ : Shape := ⟨0, ![]⟩
abbrev S8x4126x1024 : Shape := ⟨3, ![8, 4126, 1024]⟩
abbrev S31x1024 : Shape := ⟨2, ![31, 1024]⟩
abbrev S1024 : Shape := ⟨1, ![1024]⟩
abbrev S1x1x1024 : Shape := ⟨3, ![1, 1, 1024]⟩
abbrev S8x4096 : Shape := ⟨2, ![8, 4096]⟩
abbrev S8x4096x1 : Shape := ⟨3, ![8, 4096, 1]⟩
abbrev S1024x1024 : Shape := ⟨2, ![1024, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 326
  | .vmem => 0
  | .smem => 0
  | _ => 0

abbrev hbmTy0_0 (i : Nat) : BufTy := match i % 128 with
  | 0 => ⟨S8x4096x1024, .f32⟩
  | 1 => ⟨S8x4096x256, .bf16⟩
  | 2 => ⟨S8x4096x1024, .f32⟩
  | 3 => ⟨S8x4096x2048, .bf16⟩
  | 4 => ⟨S1x256x1024, .f32⟩
  | 5 => ⟨S1x31x1024, .f32⟩
  | 6 => ⟨S1x1024, .f32⟩
  | 7 => ⟨S1x1024, .f32⟩
  | 8 => ⟨S1x1024, .f32⟩
  | 9 => ⟨S1x1024x1024, .f32⟩
  | 10 => ⟨S1x1024x1024, .f32⟩
  | 11 => ⟨S1x1024, .f32⟩
  | 12 => ⟨S1x1024x5632, .f32⟩
  | 13 => ⟨S1x2816x1024, .f32⟩
  | 14 => ⟨S8x4096x256, .f32⟩
  | 15 => ⟨S256x1024, .f32⟩
  | 16 => ⟨S8x4096x1024, .f32⟩
  | 17 => ⟨S_, .i32⟩
  | 18 => ⟨S_, .f32⟩
  | 19 => ⟨S8x4126x1024, .f32⟩
  | 20 => ⟨S31x1024, .f32⟩
  | 21 => ⟨S1024, .f32⟩
  | 22 => ⟨S8x4096x1024, .f32⟩
  | 23 => ⟨S1x1024, .f32⟩
  | 24 => ⟨S1024, .f32⟩
  | 25 => ⟨S1x1x1024, .f32⟩
  | 26 => ⟨S8x4096x1024, .f32⟩
  | 27 => ⟨S8x4096x1024, .f32⟩
  | 28 => ⟨S8x4096x1024, .f32⟩
  | 29 => ⟨S1x1024, .f32⟩
  | 30 => ⟨S1024, .f32⟩
  | 31 => ⟨S1x1x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S1x1024, .f32⟩
  | 37 => ⟨S1024, .f32⟩
  | 38 => ⟨S1x1x1024, .f32⟩
  | 39 => ⟨S8x4096x1024, .f32⟩
  | 40 => ⟨S8x4096x1024, .f32⟩
  | 41 => ⟨S8x4096x1024, .f32⟩
  | 42 => ⟨S8x4096x1024, .f32⟩
  | 43 => ⟨S1x1024, .f32⟩
  | 44 => ⟨S1024, .f32⟩
  | 45 => ⟨S1x1x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S1x1024, .f32⟩
  | 51 => ⟨S1024, .f32⟩
  | 52 => ⟨S1x1x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S1x1024, .f32⟩
  | 58 => ⟨S1024, .f32⟩
  | 59 => ⟨S1x1x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S1x1024, .f32⟩
  | 65 => ⟨S1024, .f32⟩
  | 66 => ⟨S1x1x1024, .f32⟩
  | 67 => ⟨S8x4096x1024, .f32⟩
  | 68 => ⟨S8x4096x1024, .f32⟩
  | 69 => ⟨S8x4096x1024, .f32⟩
  | 70 => ⟨S8x4096x1024, .f32⟩
  | 71 => ⟨S1x1024, .f32⟩
  | 72 => ⟨S1024, .f32⟩
  | 73 => ⟨S1x1x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S1x1024, .f32⟩
  | 79 => ⟨S1024, .f32⟩
  | 80 => ⟨S1x1x1024, .f32⟩
  | 81 => ⟨S8x4096x1024, .f32⟩
  | 82 => ⟨S8x4096x1024, .f32⟩
  | 83 => ⟨S8x4096x1024, .f32⟩
  | 84 => ⟨S8x4096x1024, .f32⟩
  | 85 => ⟨S1x1024, .f32⟩
  | 86 => ⟨S1024, .f32⟩
  | 87 => ⟨S1x1x1024, .f32⟩
  | 88 => ⟨S8x4096x1024, .f32⟩
  | 89 => ⟨S8x4096x1024, .f32⟩
  | 90 => ⟨S8x4096x1024, .f32⟩
  | 91 => ⟨S8x4096x1024, .f32⟩
  | 92 => ⟨S1x1024, .f32⟩
  | 93 => ⟨S1024, .f32⟩
  | 94 => ⟨S1x1x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S1x1024, .f32⟩
  | 100 => ⟨S1024, .f32⟩
  | 101 => ⟨S1x1x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S1x1024, .f32⟩
  | 107 => ⟨S1024, .f32⟩
  | 108 => ⟨S1x1x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S1x1024, .f32⟩
  | 114 => ⟨S1024, .f32⟩
  | 115 => ⟨S1x1x1024, .f32⟩
  | 116 => ⟨S8x4096x1024, .f32⟩
  | 117 => ⟨S8x4096x1024, .f32⟩
  | 118 => ⟨S8x4096x1024, .f32⟩
  | 119 => ⟨S8x4096x1024, .f32⟩
  | 120 => ⟨S1x1024, .f32⟩
  | 121 => ⟨S1024, .f32⟩
  | 122 => ⟨S1x1x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S1x1024, .f32⟩
  | _ => ⟨S8x4096x1024, .f32⟩

abbrev hbmTy0_1 (i : Nat) : BufTy := match i % 128 with
  | 0 => ⟨S1024, .f32⟩
  | 1 => ⟨S1x1x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S1x1024, .f32⟩
  | 7 => ⟨S1024, .f32⟩
  | 8 => ⟨S1x1x1024, .f32⟩
  | 9 => ⟨S8x4096x1024, .f32⟩
  | 10 => ⟨S8x4096x1024, .f32⟩
  | 11 => ⟨S8x4096x1024, .f32⟩
  | 12 => ⟨S8x4096x1024, .f32⟩
  | 13 => ⟨S1x1024, .f32⟩
  | 14 => ⟨S1024, .f32⟩
  | 15 => ⟨S1x1x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S1x1024, .f32⟩
  | 21 => ⟨S1024, .f32⟩
  | 22 => ⟨S1x1x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S1x1024, .f32⟩
  | 28 => ⟨S1024, .f32⟩
  | 29 => ⟨S1x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S1x1024, .f32⟩
  | 35 => ⟨S1024, .f32⟩
  | 36 => ⟨S1x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S1x1024, .f32⟩
  | 42 => ⟨S1024, .f32⟩
  | 43 => ⟨S1x1x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S1x1024, .f32⟩
  | 49 => ⟨S1024, .f32⟩
  | 50 => ⟨S1x1x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S1x1024, .f32⟩
  | 56 => ⟨S1024, .f32⟩
  | 57 => ⟨S1x1x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S1x1024, .f32⟩
  | 63 => ⟨S1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S1x1024, .f32⟩
  | 70 => ⟨S1024, .f32⟩
  | 71 => ⟨S1x1x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S1x1024, .f32⟩
  | 77 => ⟨S1024, .f32⟩
  | 78 => ⟨S1x1x1024, .f32⟩
  | 79 => ⟨S8x4096x1024, .f32⟩
  | 80 => ⟨S8x4096x1024, .f32⟩
  | 81 => ⟨S8x4096x1024, .f32⟩
  | 82 => ⟨S8x4096x1024, .f32⟩
  | 83 => ⟨S1x1024, .f32⟩
  | 84 => ⟨S1024, .f32⟩
  | 85 => ⟨S1x1x1024, .f32⟩
  | 86 => ⟨S8x4096x1024, .f32⟩
  | 87 => ⟨S8x4096x1024, .f32⟩
  | 88 => ⟨S8x4096x1024, .f32⟩
  | 89 => ⟨S8x4096x1024, .f32⟩
  | 90 => ⟨S1x1024, .f32⟩
  | 91 => ⟨S1024, .f32⟩
  | 92 => ⟨S1x1x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S1x1024, .f32⟩
  | 98 => ⟨S1024, .f32⟩
  | 99 => ⟨S1x1x1024, .f32⟩
  | 100 => ⟨S8x4096x1024, .f32⟩
  | 101 => ⟨S8x4096x1024, .f32⟩
  | 102 => ⟨S8x4096x1024, .f32⟩
  | 103 => ⟨S8x4096x1024, .f32⟩
  | 104 => ⟨S1x1024, .f32⟩
  | 105 => ⟨S1024, .f32⟩
  | 106 => ⟨S1x1x1024, .f32⟩
  | 107 => ⟨S8x4096x1024, .f32⟩
  | 108 => ⟨S8x4096x1024, .f32⟩
  | 109 => ⟨S8x4096x1024, .f32⟩
  | 110 => ⟨S1x1x1024, .f32⟩
  | 111 => ⟨S8x4096x1024, .f32⟩
  | 112 => ⟨S8x4096x1024, .f32⟩
  | 113 => ⟨S1024, .f32⟩
  | 114 => ⟨S1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x1024, .f32⟩
  | 122 => ⟨S8x4096x1024, .f32⟩
  | 123 => ⟨S8x4096x1024, .f32⟩
  | 124 => ⟨S_, .f32⟩
  | 125 => ⟨S8x4096, .f32⟩
  | 126 => ⟨S8x4096x1, .f32⟩
  | 127 => ⟨S_, .f32⟩
  | _ => ⟨S8x4096x1024, .f32⟩

abbrev hbmTy0_2 (i : Nat) : BufTy := match i % 128 with
  | 0 => ⟨S8x4096x1, .f32⟩
  | 1 => ⟨S8x4096x1, .f32⟩
  | 2 => ⟨S_, .f32⟩
  | 3 => ⟨S8x4096x1, .f32⟩
  | 4 => ⟨S8x4096x1, .f32⟩
  | 5 => ⟨S8x4096x1, .f32⟩
  | 6 => ⟨S8x4096x1024, .f32⟩
  | 7 => ⟨S8x4096x1024, .f32⟩
  | 8 => ⟨S1x1x1024, .f32⟩
  | 9 => ⟨S8x4096x1024, .f32⟩
  | 10 => ⟨S8x4096x1024, .f32⟩
  | 11 => ⟨S1x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S_, .f32⟩
  | 17 => ⟨S8x4096x1024, .f32⟩
  | 18 => ⟨S8x4096x1024, .f32⟩
  | 19 => ⟨S_, .f32⟩
  | 20 => ⟨S8x4096x1024, .f32⟩
  | 21 => ⟨S8x4096x1024, .f32⟩
  | 22 => ⟨S8x4096x1024, .f32⟩
  | 23 => ⟨S1024x1024, .f32⟩
  | 24 => ⟨S8x4096x1024, .f32⟩
  | 25 => ⟨S8x4096x1024, .bf16⟩
  | 26 => ⟨S8x4096x1024, .f32⟩
  | 27 => ⟨S8x4096x1024, .bf16⟩
  | 28 => ⟨S8x4096x1024, .f32⟩
  | 29 => ⟨S8x4096x1024, .f32⟩
  | 30 => ⟨S8x4096x1024, .f32⟩
  | 31 => ⟨S8x4096x1024, .f32⟩
  | 32 => ⟨S1024x1024, .f32⟩
  | 33 => ⟨S8x4096x1024, .f32⟩
  | 34 => ⟨S8x4096x1024, .f32⟩
  | 35 => ⟨S1024, .f32⟩
  | 36 => ⟨S8x4096x1024, .f32⟩
  | 37 => ⟨S_, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S_, .f32⟩
  | 44 => ⟨S8x4096x1, .f32⟩
  | 45 => ⟨S8x4096x1, .f32⟩
  | 46 => ⟨S8x4096x1, .f32⟩
  | 47 => ⟨S8x4096x1024, .f32⟩
  | 48 => ⟨S8x4096x1024, .f32⟩
  | 49 => ⟨S1x1x1024, .f32⟩
  | 50 => ⟨S8x4096x1024, .f32⟩
  | 51 => ⟨S8x4096x1024, .f32⟩
  | 52 => ⟨S1024x5632, .f32⟩
  | 53 => ⟨S8x4096x5632, .f32⟩
  | 54 => ⟨S8x4096x2816, .f32⟩
  | 55 => ⟨S8x4096x2816, .f32⟩
  | 56 => ⟨S8x4096x2816, .f32⟩
  | 57 => ⟨S8x4096x2816, .f32⟩
  | 58 => ⟨S_, .f32⟩
  | 59 => ⟨S8x4096x2816, .f32⟩
  | 60 => ⟨S8x4096x2816, .f32⟩
  | 61 => ⟨S_, .f32⟩
  | 62 => ⟨S8x4096x2816, .f32⟩
  | 63 => ⟨S8x4096x2816, .f32⟩
  | 64 => ⟨S8x4096x2816, .f32⟩
  | 65 => ⟨S8x4096x2816, .f32⟩
  | 66 => ⟨S2816x1024, .f32⟩
  | 67 => ⟨S8x4096x1024, .f32⟩
  | 68 => ⟨S8x4096x1024, .f32⟩
  | 69 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_cst : Ref sig .tc := ⟨.hbm, 243, rfl⟩
abbrev main_v227 : Ref sig .tc := ⟨.hbm, 244, rfl⟩
abbrev main_v228 : Ref sig .tc := ⟨.hbm, 245, rfl⟩
abbrev main_cst_0 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_cst_1 : Ref sig .tc := ⟨.hbm, 252, rfl⟩
abbrev main_v234 : Ref sig .tc := ⟨.hbm, 253, rfl⟩
abbrev main_v235 : Ref sig .tc := ⟨.hbm, 254, rfl⟩
abbrev main_cst_2 : Ref sig .tc := ⟨.hbm, 255, rfl⟩
abbrev main_v236 : Ref sig .tc := ⟨.hbm, 256, rfl⟩
abbrev main_v237 : Ref sig .tc := ⟨.hbm, 257, rfl⟩
abbrev main_cst_3 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_cst_4 : Ref sig .tc := ⟨.hbm, 293, rfl⟩
abbrev main_v264 : Ref sig .tc := ⟨.hbm, 294, rfl⟩
abbrev main_v265 : Ref sig .tc := ⟨.hbm, 295, rfl⟩
abbrev main_cst_5 : Ref sig .tc := ⟨.hbm, 296, rfl⟩
abbrev main_v266 : Ref sig .tc := ⟨.hbm, 297, rfl⟩
abbrev main_v267 : Ref sig .tc := ⟨.hbm, 298, rfl⟩
abbrev main_cst_6 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_call2_v0 : Ref sig .tc := ⟨.hbm, 312, rfl⟩
abbrev main_call2_v1 : Ref sig .tc := ⟨.hbm, 313, rfl⟩
abbrev main_call2_cst : Ref sig .tc := ⟨.hbm, 314, rfl⟩
abbrev main_call2_v2 : Ref sig .tc := ⟨.hbm, 315, rfl⟩
abbrev main_call2_v3 : Ref sig .tc := ⟨.hbm, 316, rfl⟩
abbrev main_call2_cst_0 : Ref sig .tc := ⟨.hbm, 317, rfl⟩
abbrev main_call2_v4 : Ref sig .tc := ⟨.hbm, 318, rfl⟩
abbrev main_call2_v5 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩

abbrev nD : Nat := 1
abbrev τ : Topo := Topo.v7x

variable {F : FTy → Type} [FloatOps F]
-- ==== Kernel3.lean ====
abbrev S32x4x1024 : Shape := ⟨3, ![32, 4, 1024]⟩
abbrev S32x4x256 : Shape := ⟨3, ![32, 4, 256]⟩
abbrev S8x128x128 : Shape := ⟨3, ![8, 128, 128]⟩
abbrev S1x32x30x1024 : Shape := ⟨4, ![1, 32, 30, 1024]⟩
abbrev S128x1024 : Shape := ⟨2, ![128, 1024]⟩
abbrev S1x256x1024 : Shape := ⟨3, ![1, 256, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S31x1024 : Shape := ⟨2, ![31, 1024]⟩
abbrev S1024x1024 : Shape := ⟨2, ![1024, 1024]⟩
abbrev S1024x5632 : Shape := ⟨2, ![1024, 5632]⟩
abbrev S2816x1024 : Shape := ⟨2, ![2816, 1024]⟩
abbrev S32x30x1024 : Shape := ⟨3, ![32, 30, 1024]⟩
abbrev S30x32x1024 : Shape := ⟨3, ![30, 32, 1024]⟩
abbrev S128x256 : Shape := ⟨2, ![128, 256]⟩
abbrev S1x128 : Shape := ⟨2, ![1, 128]⟩
abbrev S32x128 : Shape := ⟨2, ![32, 128]⟩
abbrev S1x32x128 : Shape := ⟨3, ![1, 32, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩

abbrev nBuf : Space → Nat
  | .hbm => 33
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S32x4x256, .f32⟩
  | .hbm, ⟨2, _⟩ => ⟨S8x128x128, .f32⟩
  | .hbm, ⟨3, _⟩ => ⟨S1x32x30x1024, .f32⟩
  | .hbm, ⟨4, _⟩ => ⟨S128x1024, .bf16⟩
  | .hbm, ⟨5, _⟩ => ⟨S128x1024, .bf16⟩
  | .hbm, ⟨6, _⟩ => ⟨S1x256x1024, .f32⟩
  | .hbm, ⟨7, _⟩ => ⟨S1x31x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S256x1024, .f32⟩
  | .hbm, ⟨17, _⟩ => ⟨S256x1024, .bf16⟩
  | .hbm, ⟨18, _⟩ => ⟨S31x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x5632, .f32⟩
  | .hbm, ⟨24, _⟩ => ⟨S1024x5632, .bf16⟩
  | .hbm, ⟨25, _⟩ => ⟨S2816x1024, .f32⟩
  | .hbm, ⟨26, _⟩ => ⟨S2816x1024, .bf16⟩
  | .hbm, ⟨27, _⟩ => ⟨S128x1024, .f32⟩
  | .hbm, ⟨28, _⟩ => ⟨S32x30x1024, .f32⟩
  | .hbm, ⟨29, _⟩ => ⟨S30x32x1024, .f32⟩
  | .hbm, ⟨30, _⟩ => ⟨S128x256, .f32⟩
  | .hbm, ⟨31, _⟩ => ⟨S128x1024, .f32⟩
  | .hbm, ⟨32, _⟩ => ⟨S30x32x1024, .f32⟩
  | .local _ .vmem, ⟨0, _⟩ => ⟨S128x1024, .f32⟩
  | .local _ .vmem, ⟨1, _⟩ => ⟨S128x256, .f32⟩
  | .local _ .vmem, ⟨2, _⟩ => ⟨S8x128x128, .f32⟩
  | .local _ .vmem, ⟨3, _⟩ => ⟨S30x32x1024, .f32⟩
  | .local _ .vmem, ⟨4, _⟩ => ⟨S128x1024, .bf16⟩
  | .local _ .vmem, ⟨5, _⟩ => ⟨S128x1024, .bf16⟩
  | .local _ .vmem, ⟨6, _⟩ => ⟨S31x1024, .f32⟩
  | .local _ .vmem, ⟨7, _⟩ => ⟨S1x1024, .f32⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S128x1024, .f32⟩
  | .local _ .vmem, ⟨17, _⟩ => ⟨S30x32x1024, .f32⟩
  | .local _ .vmem, ⟨18, _⟩ => ⟨S8x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S30x32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S32x4x1024 : Shape := ⟨3, ![32, 4, 1024]⟩
abbrev S32x4x256 : Shape := ⟨3, ![32, 4, 256]⟩
abbrev S8x128x128 : Shape := ⟨3, ![8, 128, 128]⟩
abbrev S1x32x30x1024 : Shape := ⟨4, ![1, 32, 30, 1024]⟩
abbrev S128x1024 : Shape := ⟨2, ![128, 1024]⟩
abbrev S1x256x1024 : Shape := ⟨3, ![1, 256, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S128x8x128 : Shape := ⟨3, ![128, 8, 128]⟩
abbrev S256x1024 : Shape := ⟨2, ![256, 1024]⟩
abbrev S32x30x1024 : Shape := ⟨3, ![32, 30, 1024]⟩
abbrev S32x34x1024 : Shape := ⟨3, ![32, 34, 1024]⟩
abbrev S31x1024 : Shape := ⟨2, ![31, 1024]⟩
abbrev S1024 : Shape := ⟨1, ![1024]⟩
abbrev S1x1x1024 : Shape := ⟨3, ![1, 1, 1024]⟩
abbrev S_ : Shape := ⟨0, ![]⟩
abbrev S32x4 : Shape := ⟨2, ![32, 4]⟩
abbrev S32x4x1 : Shape := ⟨3, ![32, 4, 1]⟩
abbrev S1024x1024 : Shape := ⟨2, ![1024, 1024]⟩
abbrev S1024x5632 : Shape := ⟨2, ![1024, 5632]⟩
abbrev S32x4x5632 : Shape := ⟨3, ![32, 4, 5632]⟩
abbrev S32x4x2816 : Shape := ⟨3, ![32, 4, 2816]⟩
abbrev S2816x1024 : Shape := ⟨2, ![2816, 1024]⟩
abbrev S30x32x1024 : Shape := ⟨3, ![30, 32, 1024]⟩

abbrev nBuf : Space → Nat
  | .hbm => 330
  | .vmem => 0
  | .smem => 0
  | _ => 0

abbrev hbmTy0_0 (i : Nat) : BufTy := match i % 128 with
  | 0 => ⟨S32x4x1024, .f32⟩
  | 1 => ⟨S32x4x256, .f32⟩
  | 2 => ⟨S8x128x128, .f32⟩
  | 3 => ⟨S1x32x30x1024, .f32⟩
  | 4 => ⟨S128x1024, .bf16⟩
  | 5 => ⟨S128x1024, .bf16⟩
  | 6 => ⟨S1x256x1024, .f32⟩
  | 7 => ⟨S1x31x1024, .f32⟩
  | 8 => ⟨S1x1024, .f32⟩
  | 9 => ⟨S1x1024, .f32⟩
  | 10 => ⟨S1x1024, .f32⟩
  | 11 => ⟨S1x1024x1024, .f32⟩
  | 12 => ⟨S1x1024x1024, .f32⟩
  | 13 => ⟨S1x1024, .f32⟩
  | 14 => ⟨S1x1024x5632, .f32⟩
  | 15 => ⟨S1x2816x1024, .f32⟩
  | 16 => ⟨S128x8x128, .f32⟩
  | 17 => ⟨S32x4x1024, .f32⟩
  | 18 => ⟨S256x1024, .f32⟩
  | 19 => ⟨S32x4x1024, .f32⟩
  | 20 => ⟨S32x30x1024, .f32⟩
  | 21 => ⟨S32x34x1024, .f32⟩
  | 22 => ⟨S31x1024, .f32⟩
  | 23 => ⟨S32x4x1024, .f32⟩
  | 24 => ⟨S1x1024, .f32⟩
  | 25 => ⟨S1024, .f32⟩
  | 26 => ⟨S1x1x1024, .f32⟩
  | 27 => ⟨S32x4x1024, .f32⟩
  | 28 => ⟨S32x4x1024, .f32⟩
  | 29 => ⟨S32x4x1024, .f32⟩
  | 30 => ⟨S1x1024, .f32⟩
  | 31 => ⟨S1024, .f32⟩
  | 32 => ⟨S1x1x1024, .f32⟩
  | 33 => ⟨S32x4x1024, .f32⟩
  | 34 => ⟨S32x4x1024, .f32⟩
  | 35 => ⟨S32x4x1024, .f32⟩
  | 36 => ⟨S32x4x1024, .f32⟩
  | 37 => ⟨S1x1024, .f32⟩
  | 38 => ⟨S1024, .f32⟩
  | 39 => ⟨S1x1x1024, .f32⟩
  | 40 => ⟨S32x4x1024, .f32⟩
  | 41 => ⟨S32x4x1024, .f32⟩
  | 42 => ⟨S32x4x1024, .f32⟩
  | 43 => ⟨S32x4x1024, .f32⟩
  | 44 => ⟨S1x1024, .f32⟩
  | 45 => ⟨S1024, .f32⟩
  | 46 => ⟨S1x1x1024, .f32⟩
  | 47 => ⟨S32x4x1024, .f32⟩
  | 48 => ⟨S32x4x1024, .f32⟩
  | 49 => ⟨S32x4x1024, .f32⟩
  | 50 => ⟨S32x4x1024, .f32⟩
  | 51 => ⟨S1x1024, .f32⟩
  | 52 => ⟨S1024, .f32⟩
  | 53 => ⟨S1x1x1024, .f32⟩
  | 54 => ⟨S32x4x1024, .f32⟩
  | 55 => ⟨S32x4x1024, .f32⟩
  | 56 => ⟨S32x4x1024, .f32⟩
  | 57 => ⟨S32x4x1024, .f32⟩
  | 58 => ⟨S1x1024, .f32⟩
  | 59 => ⟨S1024, .f32⟩
  | 60 => ⟨S1x1x1024, .f32⟩
  | 61 => ⟨S32x4x1024, .f32⟩
  | 62 => ⟨S32x4x1024, .f32⟩
  | 63 => ⟨S32x4x1024, .f32⟩
  | 64 => ⟨S32x4x1024, .f32⟩
  | 65 => ⟨S1x1024, .f32⟩
  | 66 => ⟨S1024, .f32⟩
  | 67 => ⟨S1x1x1024, .f32⟩
  | 68 => ⟨S32x4x1024, .f32⟩
  | 69 => ⟨S32x4x1024, .f32⟩
  | 70 => ⟨S32x4x1024, .f32⟩
  | 71 => ⟨S32x4x1024, .f32⟩
  | 72 => ⟨S1x1024, .f32⟩
  | 73 => ⟨S1024, .f32⟩
  | 74 => ⟨S1x1x1024, .f32⟩
  | 75 => ⟨S32x4x1024, .f32⟩
  | 76 => ⟨S32x4x1024, .f32⟩
  | 77 => ⟨S32x4x1024, .f32⟩
  | 78 => ⟨S32x4x1024, .f32⟩
  | 79 => ⟨S1x1024, .f32⟩
  | 80 => ⟨S1024, .f32⟩
  | 81 => ⟨S1x1x1024, .f32⟩
  | 82 => ⟨S32x4x1024, .f32⟩
  | 83 => ⟨S32x4x1024, .f32⟩
  | 84 => ⟨S32x4x1024, .f32⟩
  | 85 => ⟨S32x4x1024, .f32⟩
  | 86 => ⟨S1x1024, .f32⟩
  | 87 => ⟨S1024, .f32⟩
  | 88 => ⟨S1x1x1024, .f32⟩
  | 89 => ⟨S32x4x1024, .f32⟩
  | 90 => ⟨S32x4x1024, .f32⟩
  | 91 => ⟨S32x4x1024, .f32⟩
  | 92 => ⟨S32x4x1024, .f32⟩
  | 93 => ⟨S1x1024, .f32⟩
  | 94 => ⟨S1024, .f32⟩
  | 95 => ⟨S1x1x1024, .f32⟩
  | 96 => ⟨S32x4x1024, .f32⟩
  | 97 => ⟨S32x4x1024, .f32⟩
  | 98 => ⟨S32x4x1024, .f32⟩
  | 99 => ⟨S32x4x1024, .f32⟩
  | 100 => ⟨S1x1024, .f32⟩
  | 101 => ⟨S1024, .f32⟩
  | 102 => ⟨S1x1x1024, .f32⟩
  | 103 => ⟨S32x4x1024, .f32⟩
  | 104 => ⟨S32x4x1024, .f32⟩
  | 105 => ⟨S32x4x1024, .f32⟩
  | 106 => ⟨S32x4x1024, .f32⟩
  | 107 => ⟨S1x1024, .f32⟩
  | 108 => ⟨S1024, .f32⟩
  | 109 => ⟨S1x1x1024, .f32⟩
  | 110 => ⟨S32x4x1024, .f32⟩
  | 111 => ⟨S32x4x1024, .f32⟩
  | 112 => ⟨S32x4x1024, .f32⟩
  | 113 => ⟨S32x4x1024, .f32⟩
  | 114 => ⟨S1x1024, .f32⟩
  | 115 => ⟨S1024, .f32⟩
  | 116 => ⟨S1x1x1024, .f32⟩
  | 117 => ⟨S32x4x1024, .f32⟩
  | 118 => ⟨S32x4x1024, .f32⟩
  | 119 => ⟨S32x4x1024, .f32⟩
  | 120 => ⟨S32x4x1024, .f32⟩
  | 121 => ⟨S1x1024, .f32⟩
  | 122 => ⟨S1024, .f32⟩
  | 123 => ⟨S1x1x1024, .f32⟩
  | 124 => ⟨S32x4x1024, .f32⟩
  | 125 => ⟨S32x4x1024, .f32⟩
  | 126 => ⟨S32x4x1024, .f32⟩
  | 127 => ⟨S32x4x1024, .f32⟩
  | _ => ⟨S32x4x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S32x4x1024, .f32⟩
  | 4 => ⟨S32x4x1024, .f32⟩
  | 5 => ⟨S32x4x1024, .f32⟩
  | 6 => ⟨S32x4x1024, .f32⟩
  | 7 => ⟨S1x1024, .f32⟩
  | 8 => ⟨S1024, .f32⟩
  | 9 => ⟨S1x1x1024, .f32⟩
  | 10 => ⟨S32x4x1024, .f32⟩
  | 11 => ⟨S32x4x1024, .f32⟩
  | 12 => ⟨S32x4x1024, .f32⟩
  | 13 => ⟨S32x4x1024, .f32⟩
  | 14 => ⟨S1x1024, .f32⟩
  | 15 => ⟨S1024, .f32⟩
  | 16 => ⟨S1x1x1024, .f32⟩
  | 17 => ⟨S32x4x1024, .f32⟩
  | 18 => ⟨S32x4x1024, .f32⟩
  | 19 => ⟨S32x4x1024, .f32⟩
  | 20 => ⟨S32x4x1024, .f32⟩
  | 21 => ⟨S1x1024, .f32⟩
  | 22 => ⟨S1024, .f32⟩
  | 23 => ⟨S1x1x1024, .f32⟩
  | 24 => ⟨S32x4x1024, .f32⟩
  | 25 => ⟨S32x4x1024, .f32⟩
  | 26 => ⟨S32x4x1024, .f32⟩
  | 27 => ⟨S32x4x1024, .f32⟩
  | 28 => ⟨S1x1024, .f32⟩
  | 29 => ⟨S1024, .f32⟩
  | 30 => ⟨S1x1x1024, .f32⟩
  | 31 => ⟨S32x4x1024, .f32⟩
  | 32 => ⟨S32x4x1024, .f32⟩
  | 33 => ⟨S32x4x1024, .f32⟩
  | 34 => ⟨S32x4x1024, .f32⟩
  | 35 => ⟨S1x1024, .f32⟩
  | 36 => ⟨S1024, .f32⟩
  | 37 => ⟨S1x1x1024, .f32⟩
  | 38 => ⟨S32x4x1024, .f32⟩
  | 39 => ⟨S32x4x1024, .f32⟩
  | 40 => ⟨S32x4x1024, .f32⟩
  | 41 => ⟨S32x4x1024, .f32⟩
  | 42 => ⟨S1x1024, .f32⟩
  | 43 => ⟨S1024, .f32⟩
  | 44 => ⟨S1x1x1024, .f32⟩
  | 45 => ⟨S32x4x1024, .f32⟩
  | 46 => ⟨S32x4x1024, .f32⟩
  | 47 => ⟨S32x4x1024, .f32⟩
  | 48 => ⟨S32x4x1024, .f32⟩
  | 49 => ⟨S1x1024, .f32⟩
  | 50 => ⟨S1024, .f32⟩
  | 51 => ⟨S1x1x1024, .f32⟩
  | 52 => ⟨S32x4x1024, .f32⟩
  | 53 => ⟨S32x4x1024, .f32⟩
  | 54 => ⟨S32x4x1024, .f32⟩
  | 55 => ⟨S32x4x1024, .f32⟩
  | 56 => ⟨S1x1024, .f32⟩
  | 57 => ⟨S1024, .f32⟩
  | 58 => ⟨S1x1x1024, .f32⟩
  | 59 => ⟨S32x4x1024, .f32⟩
  | 60 => ⟨S32x4x1024, .f32⟩
  | 61 => ⟨S32x4x1024, .f32⟩
  | 62 => ⟨S32x4x1024, .f32⟩
  | 63 => ⟨S1x1024, .f32⟩
  | 64 => ⟨S1024, .f32⟩
  | 65 => ⟨S1x1x1024, .f32⟩
  | 66 => ⟨S32x4x1024, .f32⟩
  | 67 => ⟨S32x4x1024, .f32⟩
  | 68 => ⟨S32x4x1024, .f32⟩
  | 69 => ⟨S32x4x1024, .f32⟩
  | 70 => ⟨S1x1024, .f32⟩
  | 71 => ⟨S1024, .f32⟩
  | 72 => ⟨S1x1x1024, .f32⟩
  | 73 => ⟨S32x4x1024, .f32⟩
  | 74 => ⟨S32x4x1024, .f32⟩
  | 75 => ⟨S32x4x1024, .f32⟩
  | 76 => ⟨S32x4x1024, .f32⟩
  | 77 => ⟨S1x1024, .f32⟩
  | 78 => ⟨S1024, .f32⟩
  | 79 => ⟨S1x1x1024, .f32⟩
  | 80 => ⟨S32x4x1024, .f32⟩
  | 81 => ⟨S32x4x1024, .f32⟩
  | 82 => ⟨S32x4x1024, .f32⟩
  | 83 => ⟨S32x4x1024, .f32⟩
  | 84 => ⟨S1x1024, .f32⟩
  | 85 => ⟨S1024, .f32⟩
  | 86 => ⟨S1x1x1024, .f32⟩
  | 87 => ⟨S32x4x1024, .f32⟩
  | 88 => ⟨S32x4x1024, .f32⟩
  | 89 => ⟨S32x4x1024, .f32⟩
  | 90 => ⟨S32x4x1024, .f32⟩
  | 91 => ⟨S1x1024, .f32⟩
  | 92 => ⟨S1024, .f32⟩
  | 93 => ⟨S1x1x1024, .f32⟩
  | 94 => ⟨S32x4x1024, .f32⟩
  | 95 => ⟨S32x4x1024, .f32⟩
  | 96 => ⟨S32x4x1024, .f32⟩
  | 97 => ⟨S32x4x1024, .f32⟩
  | 98 => ⟨S1x1024, .f32⟩
  | 99 => ⟨S1024, .f32⟩
  | 100 => ⟨S1x1x1024, .f32⟩
  | 101 => ⟨S32x4x1024, .f32⟩
  | 102 => ⟨S32x4x1024, .f32⟩
  | 103 => ⟨S32x4x1024, .f32⟩
  | 104 => ⟨S32x4x1024, .f32⟩
  | 105 => ⟨S1x1024, .f32⟩
  | 106 => ⟨S1024, .f32⟩
  | 107 => ⟨S1x1x1024, .f32⟩
  | 108 => ⟨S32x4x1024, .f32⟩
  | 109 => ⟨S32x4x1024, .f32⟩
  | 110 => ⟨S32x4x1024, .f32⟩
  | 111 => ⟨S1024, .f32⟩
  | 112 => ⟨S1x1x1024, .f32⟩
  | 113 => ⟨S32x4x1024, .f32⟩
  | 114 => ⟨S32x4x1024, .f32⟩
  | 115 => ⟨S1024, .f32⟩
  | 116 => ⟨S1024, .f32⟩
  | 117 => ⟨S_, .f32⟩
  | 118 => ⟨S32x4, .f32⟩
  | 119 => ⟨S32x4x1, .f32⟩
  | 120 => ⟨S_, .f32⟩
  | 121 => ⟨S32x4x1, .f32⟩
  | 122 => ⟨S32x4x1, .f32⟩
  | 123 => ⟨S32x4x1024, .f32⟩
  | 124 => ⟨S32x4x1024, .f32⟩
  | 125 => ⟨S32x4x1024, .f32⟩
  | 126 => ⟨S_, .f32⟩
  | 127 => ⟨S32x4, .f32⟩
  | _ => ⟨S32x4x1024, .f32⟩

abbrev hbmTy0_2 (i : Nat) : BufTy := match i % 128 with
  | 0 => ⟨S32x4x1, .f32⟩
  | 1 => ⟨S_, .f32⟩
  | 2 => ⟨S32x4x1, .f32⟩
  | 3 => ⟨S32x4x1, .f32⟩
  | 4 => ⟨S_, .f32⟩
  | 5 => ⟨S32x4x1, .f32⟩
  | 6 => ⟨S32x4x1, .f32⟩
  | 7 => ⟨S32x4x1, .f32⟩
  | 8 => ⟨S32x4x1024, .f32⟩
  | 9 => ⟨S32x4x1024, .f32⟩
  | 10 => ⟨S1x1x1024, .f32⟩
  | 11 => ⟨S32x4x1024, .f32⟩
  | 12 => ⟨S32x4x1024, .f32⟩
  | 13 => ⟨S1x1x1024, .f32⟩
  | 14 => ⟨S32x4x1024, .f32⟩
  | 15 => ⟨S32x4x1024, .f32⟩
  | 16 => ⟨S32x4x1024, .f32⟩
  | 17 => ⟨S32x4x1024, .f32⟩
  | 18 => ⟨S_, .f32⟩
  | 19 => ⟨S32x4x1024, .f32⟩
  | 20 => ⟨S32x4x1024, .f32⟩
  | 21 => ⟨S_, .f32⟩
  | 22 => ⟨S32x4x1024, .f32⟩
  | 23 => ⟨S32x4x1024, .f32⟩
  | 24 => ⟨S32x4x1024, .f32⟩
  | 25 => ⟨S1024x1024, .f32⟩
  | 26 => ⟨S32x4x1024, .f32⟩
  | 27 => ⟨S32x4x1024, .bf16⟩
  | 28 => ⟨S32x4x1024, .f32⟩
  | 29 => ⟨S32x4x1024, .f32⟩
  | 30 => ⟨S32x4x1024, .bf16⟩
  | 31 => ⟨S32x4x1024, .f32⟩
  | 32 => ⟨S32x4x1024, .f32⟩
  | 33 => ⟨S32x4x1024, .f32⟩
  | 34 => ⟨S1024x1024, .f32⟩
  | 35 => ⟨S32x4x1024, .f32⟩
  | 36 => ⟨S32x4x1024, .f32⟩
  | 37 => ⟨S1024, .f32⟩
  | 38 => ⟨S32x4x1024, .f32⟩
  | 39 => ⟨S_, .f32⟩
  | 40 => ⟨S32x4, .f32⟩
  | 41 => ⟨S32x4x1, .f32⟩
  | 42 => ⟨S_, .f32⟩
  | 43 => ⟨S32x4x1, .f32⟩
  | 44 => ⟨S32x4x1, .f32⟩
  | 45 => ⟨S_, .f32⟩
  | 46 => ⟨S32x4x1, .f32⟩
  | 47 => ⟨S32x4x1, .f32⟩
  | 48 => ⟨S32x4x1, .f32⟩
  | 49 => ⟨S32x4x1024, .f32⟩
  | 50 => ⟨S32x4x1024, .f32⟩
  | 51 => ⟨S1x1x1024, .f32⟩
  | 52 => ⟨S32x4x1024, .f32⟩
  | 53 => ⟨S32x4x1024, .f32⟩
  | 54 => ⟨S1024x5632, .f32⟩
  | 55 => ⟨S32x4x5632, .f32⟩
  | 56 => ⟨S32x4x2816, .f32⟩
  | 57 => ⟨S32x4x2816, .f32⟩
  | 58 => ⟨S32x4x2816, .f32⟩
  | 59 => ⟨S32x4x2816, .f32⟩
  | 60 => ⟨S_, .f32⟩
  | 61 => ⟨S32x4x2816, .f32⟩
  | 62 => ⟨S32x4x2816, .f32⟩
  | 63 => ⟨S_, .f32⟩
  | 64 => ⟨S32x4x2816, .f32⟩
  | 65 => ⟨S32x4x2816, .f32⟩
  | 66 => ⟨S32x4x2816, .f32⟩
  | 67 => ⟨S32x4x2816, .f32⟩
  | 68 => ⟨S2816x1024, .f32⟩
  | 69 => ⟨S32x4x1024, .f32⟩
  | 70 => ⟨S32x4x1024, .f32⟩
  | 71 => ⟨S128x1024, .f32⟩
  | 72 => ⟨S32x30x1024, .f32⟩
  | 73 => ⟨S30x32x1024, .f32⟩
  | _ => ⟨S32x4x1024, .f32⟩

abbrev hbmTy (i : Nat) : BufTy := match i / 128 with
  | 0 => hbmTy0_0 i
  | 1 => hbmTy0_1 i
  | 2 => hbmTy0_2 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_cst : Ref sig .tc := ⟨.hbm, 245, rfl⟩
abbrev main_v229 : Ref sig .tc := ⟨.hbm, 246, rfl⟩
abbrev main_v230 : Ref sig .tc := ⟨.hbm, 247, rfl⟩
abbrev main_cst_0 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_cst_1 : Ref sig .tc := ⟨.hbm, 254, rfl⟩
abbrev main_v236 : Ref sig .tc := ⟨.hbm, 255, rfl⟩
abbrev main_v237 : Ref sig .tc := ⟨.hbm, 256, rfl⟩
abbrev main_cst_2 : Ref sig .tc := ⟨.hbm, 257, rfl⟩
abbrev main_v238 : Ref sig .tc := ⟨.hbm, 258, rfl⟩
abbrev main_v239 : Ref sig .tc := ⟨.hbm, 259, rfl⟩
abbrev main_cst_3 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_cst_4 : Ref sig .tc := ⟨.hbm, 295, rfl⟩
abbrev main_v266 : Ref sig .tc := ⟨.hbm, 296, rfl⟩
abbrev main_v267 : Ref sig .tc := ⟨.hbm, 297, rfl⟩
abbrev main_cst_5 : Ref sig .tc := ⟨.hbm, 298, rfl⟩
abbrev main_v268 : Ref sig .tc := ⟨.hbm, 299, rfl⟩
abbrev main_v269 : Ref sig .tc := ⟨.hbm, 300, rfl⟩
abbrev main_cst_6 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_call1_v0 : Ref sig .tc := ⟨.hbm, 314, rfl⟩
abbrev main_call1_v1 : Ref sig .tc := ⟨.hbm, 315, rfl⟩
abbrev main_call1_cst : Ref sig .tc := ⟨.hbm, 316, rfl⟩
abbrev main_call1_v2 : Ref sig .tc := ⟨.hbm, 317, rfl⟩
abbrev main_call1_v3 : Ref sig .tc := ⟨.hbm, 318, rfl⟩
abbrev main_call1_cst_0 : Ref sig .tc := ⟨.hbm, 319, rfl⟩
abbrev main_call1_v4 : Ref sig .tc := ⟨.hbm, 320, rfl⟩
abbrev main_call1_v5 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024 : Shape := ⟨2, ![1, 1024]⟩
abbrev S1x1024x6400 : Shape := ⟨3, ![1, 1024, 6400]⟩
abbrev S1x64 : Shape := ⟨2, ![1, 64]⟩
abbrev S1024x6400 : Shape := ⟨2, ![1024, 6400]⟩
abbrev S64 : Shape := ⟨1, ![64]⟩
abbrev S12x64 : Shape := ⟨2, ![12, 64]⟩
abbrev S768 : Shape := ⟨1, ![768]⟩
abbrev S1x768 : Shape := ⟨2, ![1, 768]⟩
abbrev S128x1024 : Shape := ⟨2, ![128, 1024]⟩
abbrev S128x768 : Shape := ⟨2, ![128, 768]⟩
abbrev S8x128x128 : Shape := ⟨3, ![8, 128, 128]⟩
abbrev S128 : Shape := ⟨1, ![128]⟩
abbrev S128x1 : Shape := ⟨2, ![128, 1]⟩
abbrev S1024x768 : Shape := ⟨2, ![1024, 768]⟩
abbrev S128x128 : Shape := ⟨2, ![128, 128]⟩
abbrev S1x128 : Shape := ⟨2, ![1, 128]⟩
abbrev S1024x1024 : Shape := ⟨2, ![1024, 1024]⟩
abbrev S1x128x128 : Shape := ⟨3, ![1, 128, 128]⟩

abbrev nBuf : Space → Nat
  | .hbm => 24
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x6400, .f32⟩
  | .hbm, ⟨3, _⟩ => ⟨S1x64, .f32⟩
  | .hbm, ⟨4, _⟩ => ⟨S1x64, .f32⟩
  | .hbm, ⟨5, _⟩ => ⟨S1024x6400, .f32⟩
  | .hbm, ⟨6, _⟩ => ⟨S1024x6400, .bf16⟩
  | .hbm, ⟨7, _⟩ => ⟨S64, .f32⟩
  | .hbm, ⟨8, _⟩ => ⟨S1x64, .f32⟩
  | .hbm, ⟨9, _⟩ => ⟨S12x64, .f32⟩
  | .hbm, ⟨10, _⟩ => ⟨S768, .f32⟩
  | .hbm, ⟨11, _⟩ => ⟨S1x768, .f32⟩
  | .hbm, ⟨12, _⟩ => ⟨S64, .f32⟩
  | .hbm, ⟨13, _⟩ => ⟨S1x64, .f32⟩
  | .hbm, ⟨14, _⟩ => ⟨S12x64, .f32⟩
  | .hbm, ⟨15, _⟩ => ⟨S768, .f32⟩
  | .hbm, ⟨16, _⟩ => ⟨S1x768, .f32⟩
  | .hbm, ⟨17, _⟩ => ⟨S128x1024, .f32⟩
  | .hbm, ⟨18, _⟩ => ⟨S128x768, .f32⟩
  | .hbm, ⟨19, _⟩ => ⟨S128x768, .f32⟩
  | .hbm, ⟨20, _⟩ => ⟨S128x768, .f32⟩
  | .hbm, ⟨21, _⟩ => ⟨S8x128x128, .f32⟩
  | .hbm, ⟨22, _⟩ => ⟨S128x1024, .bf16⟩
  | .hbm, ⟨23, _⟩ => ⟨S128x1024, .bf16⟩
  | .local _ .vmem, ⟨0, _⟩ => ⟨S128x1024, .f32⟩
  | .local _ .vmem, ⟨1, _⟩ => ⟨S1x1024, .f32⟩
  | .local _ .vmem, ⟨2, _⟩ => ⟨S1024x6400, .bf16⟩
  | .local _ .vmem, ⟨3, _⟩ => ⟨S1x768, .f32⟩
  | .local _ .vmem, ⟨4, _⟩ => ⟨S1x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S8x128x128, .f32⟩
  | .local _ .vmem, ⟨9, _⟩ => ⟨S128x1024, .bf16⟩
  | .local _ .vmem, ⟨10, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel4Ideal.lean ====
variable {F : FTy → Type} [FloatOps F] [Named F]
def κ : String → Option EReal := fun
  | "q_scale" => some (((1 / 8) * (Real.log 2)⁻¹ : ℝ) : EReal)
  | _ => none
-- ==== Reference4Ideal.lean ====
abbrev S32x4x1024 : Shape := ⟨3, ![32, 4, 1024]⟩
abbrev S1x1024 : Shape := ⟨2, ![1, 1024]⟩
abbrev S1x1024x6400 : Shape := ⟨3, ![1, 1024, 6400]⟩
abbrev S1x64 : Shape := ⟨2, ![1, 64]⟩
abbrev S1024 : Shape := ⟨1, ![1024]⟩
abbrev S1024x6400 : Shape := ⟨2, ![1024, 6400]⟩
abbrev S64 : Shape := ⟨1, ![64]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x6400 : Shape := ⟨3, ![32, 4, 6400]⟩
abbrev S32x4x768 : Shape := ⟨3, ![32, 4, 768]⟩
abbrev S32x4x3x4x64 : Shape := ⟨5, ![32, 4, 3, 4, 64]⟩
abbrev S32x4x3x4 : Shape := ⟨4, ![32, 4, 3, 4]⟩
abbrev S32x4x3x4x1 : Shape := ⟨5, ![32, 4, 3, 4, 1]⟩
abbrev S1x1x1x1x64 : Shape := ⟨5, ![1, 1, 1, 1, 64]⟩
abbrev S128x1024 : Shape := ⟨2, ![128, 1024]⟩
abbrev S128x768 : Shape := ⟨2, ![128, 768]⟩
abbrev S128x8x128 : Shape := ⟨3, ![128, 8, 128]⟩
abbrev S8x128x128 : Shape := ⟨3, ![8, 128, 128]⟩

abbrev nBuf : Space → Nat
  | .hbm => 109
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x6400, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S1024x6400, .f32⟩
  | .hbm, ⟨7, _⟩ => ⟨S64, .f32⟩
  | .hbm, ⟨8, _⟩ => ⟨S64, .f32⟩
  | .hbm, ⟨9, _⟩ => ⟨S32x4x1024, .f32⟩
  | .hbm, ⟨10, _⟩ => ⟨S_, .f32⟩
  | .hbm, ⟨11, _⟩ => ⟨S32x4, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S32x4x1, .f32⟩
  | .hbm, ⟨20, _⟩ => ⟨S32x4x1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S32x4x6400, .f32⟩
  | .hbm, ⟨26, _⟩ => ⟨S32x4x768, .f32⟩
  | .hbm, ⟨27, _⟩ => ⟨S32x4x3x4x64, .f32⟩
  | .hbm, ⟨28, _⟩ => ⟨S32x4x768, .f32⟩
  | .hbm, ⟨29, _⟩ => ⟨S32x4x3x4x64, .f32⟩
  | .hbm, ⟨30, _⟩ => ⟨S32x4x768, .f32⟩
  | .hbm, ⟨31, _⟩ => ⟨S32x4x3x4x64, .f32⟩
  | .hbm, ⟨32, _⟩ => ⟨S32x4x1024, .f32⟩
  | .hbm, ⟨33, _⟩ => ⟨S32x4x1024, .f32⟩
  | .hbm, ⟨34, _⟩ => ⟨S32x4x1024, .f32⟩
  | .hbm, ⟨35, _⟩ => ⟨S32x4x1024, .f32⟩
  | .hbm, ⟨36, _⟩ => ⟨S32x4x3x4x64, .f32⟩
  | .hbm, ⟨37, _⟩ => ⟨S_, .f32⟩
  | .hbm, ⟨38, _⟩ => ⟨S32x4x3x4, .f32⟩
  | .hbm, ⟨39, _⟩ => ⟨S32x4x3x4x1, .f32⟩
  | .hbm, ⟨40, _⟩ => ⟨S_, .f32⟩
  | .hbm, ⟨41, _⟩ => ⟨S32x4x3x4x1, .f32⟩
  | .hbm, ⟨42, _⟩ => ⟨S32x4x3x4x1, .f32⟩
  | .hbm, ⟨43, _⟩ => ⟨S_, .f32⟩
  | .hbm, ⟨44, _⟩ => ⟨S32x4x3x4x1, .f32⟩
  | .hbm, ⟨45, _⟩ => ⟨S32x4x3x4x1, .f32⟩
  | .hbm, ⟨46, _⟩ => ⟨S32x4x3x4x1, .f32⟩
  | .hbm, ⟨47, _⟩ => ⟨S32x4x3x4x64, .f32⟩
  | .hbm, ⟨48, _⟩ => ⟨S32x4x3x4x64, .f32⟩
  | .hbm, ⟨49, _⟩ => ⟨S1x1x1x1x64, .f32⟩
  | .hbm, ⟨50, _⟩ => ⟨S32x4x3x4x64, .f32⟩
  | .hbm, ⟨51, _⟩ => ⟨S32x4x3x4x64, .f32⟩
  | .hbm, ⟨52, _⟩ => ⟨S32x4x3x4x64, .f32⟩
  | .hbm, ⟨53, _⟩ => ⟨S_, .f32⟩
  | .hbm, ⟨54, _⟩ => ⟨S32x4x3x4, .f32⟩
  | .hbm, ⟨55, _⟩ => ⟨S32x4x3x4x1, .f32⟩
  | .hbm, ⟨56, _⟩ => ⟨S_, .f32⟩
  | .hbm, ⟨57, _⟩ => ⟨S32x4x3x4x1, .f32⟩
  | .hbm, ⟨58, _⟩ => ⟨S32x4x3x4x1, .f32⟩
  | .hbm, ⟨59, _⟩ => ⟨S_, .f32⟩
  | .hbm, ⟨60, _⟩ => ⟨S32x4x3x4x1, .f32⟩
  | .hbm, ⟨61, _⟩ => ⟨S32x4x3x4x1, .f32⟩
  | .hbm, ⟨62, _⟩ => ⟨S32x4x3x4x1, .f32⟩
  | .hbm, ⟨63, _⟩ => ⟨S32x4x3x4x64, .f32⟩
  | .hbm, ⟨64, _⟩ => ⟨S32x4x3x4x64, .f32⟩
  | .hbm, ⟨65, _⟩ => ⟨S1x1x1x1x64, .f32⟩
  | .hbm, ⟨66, _⟩ => ⟨S32x4x3x4x64, .f32⟩
  | .hbm, ⟨67, _⟩ => ⟨S32x4x3x4x64, .f32⟩
  | .hbm, ⟨68, _⟩ => ⟨S32x4x1024, .f32⟩
  | .hbm, ⟨69, _⟩ => ⟨S32x4x1024, .f32⟩
  | .hbm, ⟨70, _⟩ => ⟨S_, .f32⟩
  | .hbm, ⟨71, _⟩ => ⟨S32x4x1024, .f32⟩
  | .hbm, ⟨72, _⟩ => ⟨S32x4x1024, .f32⟩
  | .hbm, ⟨73, _⟩ => ⟨S_, .f32⟩
  | .hbm, ⟨74, _⟩ => ⟨S32x4x1024, .f32⟩
  | .hbm, ⟨75, _⟩ => ⟨S32x4x1024, .f32⟩
  | .hbm, ⟨76, _⟩ => ⟨S32x4x1024, .f32⟩
  | .hbm, ⟨77, _⟩ => ⟨S_, .f32⟩
  | .hbm, ⟨78, _⟩ => ⟨S32x4x3x4x64, .f32⟩
  | .hbm, ⟨79, _⟩ => ⟨S32x4x3x4x64, .f32⟩
  | .hbm, ⟨80, _⟩ => ⟨S_, .f32⟩
  | .hbm, ⟨81, _⟩ => ⟨S_, .f32⟩
  | .hbm, ⟨82, _⟩ => ⟨S32x4x3x4x64, .f32⟩
  | .hbm, ⟨83, _⟩ => ⟨S32x4x3x4x64, .f32⟩
  | .hbm, ⟨84, _⟩ => ⟨S32x4x1024, .f32⟩
  | .hbm, ⟨85, _⟩ => ⟨S32x4x1024, .f32⟩
  | .hbm, ⟨86, _⟩ => ⟨S_, .f32⟩
  | .hbm, ⟨87, _⟩ => ⟨S32x4x1024, .f32⟩
  | .hbm, ⟨88, _⟩ => ⟨S32x4x1024, .f32⟩
  | .hbm, ⟨89, _⟩ => ⟨S_, .f32⟩
  | .hbm, ⟨90, _⟩ => ⟨S32x4x1024, .f32⟩
  | .hbm, ⟨91, _⟩ => ⟨S32x4x1024, .f32⟩
  | .hbm, ⟨92, _⟩ => ⟨S128x1024, .f32⟩
  | .hbm, ⟨93, _⟩ => ⟨S128x1024, .bf16⟩
  | .hbm, ⟨94, _⟩ => ⟨S32x4x1024, .f32⟩
  | .hbm, ⟨95, _⟩ => ⟨S32x4x1024, .f32⟩
  | .hbm, ⟨96, _⟩ => ⟨S_, .f32⟩
  | .hbm, ⟨97, _⟩ => ⟨S32x4x1024, .f32⟩
  | .hbm, ⟨98, _⟩ => ⟨S32x4x1024, .f32⟩
  | .hbm, ⟨99, _⟩ => ⟨S_, .f32⟩
  | .hbm, ⟨100, _⟩ => ⟨S32x4x1024, .f32⟩
  | .hbm, ⟨101, _⟩ => ⟨S32x4x1024, .f32⟩
  | .hbm, ⟨102, _⟩ => ⟨S128x1024, .f32⟩
  | .hbm, ⟨103, _⟩ => ⟨S128x1024, .bf16⟩
  | .hbm, ⟨104, _⟩ => ⟨S128x768, .f32⟩
  | .hbm, ⟨105, _⟩ => ⟨S128x768, .f32⟩
  | .hbm, ⟨106, _⟩ => ⟨S128x768, .f32⟩
  | .hbm, ⟨107, _⟩ => ⟨S128x8x128, .f32⟩
  | .hbm, ⟨108, _⟩ => ⟨S8x128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]
-- ==== Kernel5.lean ====
abbrev S128x768 : Shape := ⟨2, ![128, 768]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x128x2x4x64 : Shape := ⟨5, ![32, 128, 2, 4, 64]⟩
abbrev S32x2x4x64x128 : Shape := ⟨5, ![32, 2, 4, 64, 128]⟩
abbrev S32x2x256x128 : Shape := ⟨4, ![32, 2, 256, 128]⟩
abbrev S32x512x2x4x64 : Shape := ⟨5, ![32, 512, 2, 4, 64]⟩
abbrev S32x2x4x64x512 : Shape := ⟨5, ![32, 2, 4, 64, 512]⟩
abbrev S32x2x256x512 : Shape := ⟨4, ![32, 2, 256, 512]⟩
abbrev S32x2048x2x4x64 : Shape := ⟨5, ![32, 2048, 2, 4, 64]⟩
abbrev S32x2x4x64x2048 : Shape := ⟨5, ![32, 2, 4, 64, 2048]⟩
abbrev S32x2x256x2048 : Shape := ⟨4, ![32, 2, 256, 2048]⟩
abbrev S32x4x768 : Shape := ⟨3, ![32, 4, 768]⟩
abbrev S32x4x256 : Shape := ⟨3, ![32, 4, 256]⟩
abbrev S1x4x768 : Shape := ⟨3, ![1, 4, 768]⟩
abbrev S1x2x256x128 : Shape := ⟨4, ![1, 2, 256, 128]⟩
abbrev S1x2x256x512 : Shape := ⟨4, ![1, 2, 256, 512]⟩
abbrev S1x2x256x2048 : Shape := ⟨4, ![1, 2, 256, 2048]⟩
abbrev S1x4x256 : Shape := ⟨3, ![1, 4, 256]⟩
abbrev S3x8x768 : Shape := ⟨3, ![3, 8, 768]⟩
abbrev S256x128 : Shape := ⟨2, ![256, 128]⟩
abbrev S32x256 : Shape := ⟨2, ![32, 256]⟩
abbrev S4x768 : Shape := ⟨2, ![4, 768]⟩
abbrev S1x1x256x128 : Shape := ⟨4, ![1, 1, 256, 128]⟩
abbrev S1x8x256 : Shape := ⟨3, ![1, 8, 256]⟩
abbrev S8x256 : Shape := ⟨2, ![8, 256]⟩
abbrev S256x8 : Shape := ⟨2, ![256, 8]⟩
abbrev S32x128 : Shape := ⟨2, ![32, 128]⟩
abbrev S32x8 : Shape := ⟨2, ![32, 8]⟩
abbrev S32 : Shape := ⟨1, ![32]⟩
abbrev S32x1 : Shape := ⟨2, ![32, 1]⟩
abbrev S1x1x256x512 : Shape := ⟨4, ![1, 1, 256, 512]⟩
abbrev S256x512 : Shape := ⟨2, ![256, 512]⟩
abbrev S32x512 : Shape := ⟨2, ![32, 512]⟩
abbrev S1x1x256x2048 : Shape := ⟨4, ![1, 1, 256, 2048]⟩
abbrev S256x2048 : Shape := ⟨2, ![256, 2048]⟩
abbrev S32x2048 : Shape := ⟨2, ![32, 2048]⟩
abbrev S4x256 : Shape := ⟨2, ![4, 256]⟩

abbrev nBuf : Space → Nat
  | .hbm => 22
  | .vmem => 22
  | .smem => 0
  | _ => 0

abbrev bufTy : (tb : Table) → Fin (tcTables nBuf tb) → BufTy
  | .hbm, ⟨0, _⟩ => ⟨S128x768, .f32⟩
  | .hbm, ⟨1, _⟩ => ⟨S128x768, .f32⟩
  | .hbm, ⟨2, _⟩ => ⟨S128x768, .f32⟩
  | .hbm, ⟨3, _⟩ => ⟨S1x32x128x2x4x64, .f32⟩
  | .hbm, ⟨4, _⟩ => ⟨S1x32x512x2x4x64, .f32⟩
  | .hbm, ⟨5, _⟩ => ⟨S1x32x2048x2x4x64, .f32⟩
  | .hbm, ⟨6, _⟩ => ⟨S32x128x2x4x64, .f32⟩
  | .hbm, ⟨7, _⟩ => ⟨S32x2x4x64x128, .f32⟩
  | .hbm, ⟨8, _⟩ => ⟨S32x2x256x128, .f32⟩
  | .hbm, ⟨9, _⟩ => ⟨S32x512x2x4x64, .f32⟩
  | .hbm, ⟨10, _⟩ => ⟨S32x2x4x64x512, .f32⟩
  | .hbm, ⟨11, _⟩ => ⟨S32x2x256x512, .f32⟩
  | .hbm, ⟨12, _⟩ => ⟨S32x2048x2x4x64, .f32⟩
  | .hbm, ⟨13, _⟩ => ⟨S32x2x4x64x2048, .f32⟩
  | .hbm, ⟨14, _⟩ => ⟨S32x2x256x2048, .f32⟩
  | .hbm, ⟨15, _⟩ => ⟨S32x4x768, .f32⟩
  | .hbm, ⟨16, _⟩ => ⟨S32x4x768, .f32⟩
  | .hbm, ⟨17, _⟩ => ⟨S32x4x768, .f32⟩
  | .hbm, ⟨18, _⟩ => ⟨S32x4x256, .f32⟩
  | .hbm, ⟨19, _⟩ => ⟨S32x2x256x128, .f32⟩
  | .hbm, ⟨20, _⟩ => ⟨S32x2x256x512, .f32⟩
  | .hbm, ⟨21, _⟩ => ⟨S32x2x256x2048, .f32⟩
  | .local _ .vmem, ⟨0, _⟩ => ⟨S1x4x768, .f32⟩
  | .local _ .vmem, ⟨1, _⟩ => ⟨S1x4x768, .f32⟩
  | .local _ .vmem, ⟨2, _⟩ => ⟨S1x4x768, .f32⟩
  | .local _ .vmem, ⟨3, _⟩ => ⟨S1x4x768, .f32⟩
  | .local _ .vmem, ⟨4, _⟩ => ⟨S1x4x768, .f32⟩
  | .local _ .vmem, ⟨5, _⟩ => ⟨S1x4x768, .f32⟩
  | .local _ .vmem, ⟨6, _⟩ => ⟨S1x2x256x128, .f32⟩
  | .local _ .vmem, ⟨7, _⟩ => ⟨S1x2x256x128, .f32⟩
  | .local _ .vmem, ⟨8, _⟩ => ⟨S1x2x256x512, .f32⟩
  | .local _ .vmem, ⟨9, _⟩ => ⟨S1x2x256x512, .f32⟩
  | .local _ .vmem, ⟨10, _⟩ => ⟨S1x2x256x2048, .f32⟩
  | .local _ .vmem, ⟨11, _⟩ => ⟨S1x2x256x2048, .f32⟩
  | .local _ .vmem, ⟨12, _⟩ => ⟨S1x4x256, .f32⟩
  | .local _ .vmem, ⟨13, _⟩ => ⟨S1x4x256, .f32⟩
  | .local _ .vmem, ⟨14, _⟩ => ⟨S1x2x256x128, .f32⟩
  | .local _ .vmem, ⟨15, _⟩ => ⟨S1x2x256x128, .f32⟩
  | .local _ .vmem, ⟨16, _⟩ => ⟨S1x2x256x512, .f32⟩
  | .local _ .vmem, ⟨17, _⟩ => ⟨S1x2x256x512, .f32⟩
  | .local _ .vmem, ⟨18, _⟩ => ⟨S1x2x256x2048, .f32⟩
  | .local _ .vmem, ⟨19, _⟩ => ⟨S1x2x256x2048, .f32⟩
  | .local _ .vmem, ⟨20, _⟩ => ⟨S3x8x768, .f32⟩
  | .local _ .vmem, ⟨21, _⟩ => ⟨S256x128, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S128x768 : Shape := ⟨2, ![128, 768]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x4x3x4x64 : Shape := ⟨5, ![32, 4, 3, 4, 64]⟩
abbrev S32x128x2x4x64 : Shape := ⟨5, ![32, 128, 2, 4, 64]⟩
abbrev S32x4x1x4x64 : Shape := ⟨5, ![32, 4, 1, 4, 64]⟩
abbrev S32x4x4x64 : Shape := ⟨4, ![32, 4, 4, 64]⟩
abbrev S32x4x2x4x64 : Shape := ⟨5, ![32, 4, 2, 4, 64]⟩
abbrev S32x132x2x4x64 : Shape := ⟨5, ![32, 132, 2, 4, 64]⟩
abbrev S32x2x4x64x128 : Shape := ⟨5, ![32, 2, 4, 64, 128]⟩
abbrev S32x2x256x128 : Shape := ⟨4, ![32, 2, 256, 128]⟩
abbrev S32x512x2x4x64 : Shape := ⟨5, ![32, 512, 2, 4, 64]⟩
abbrev S32x516x2x4x64 : Shape := ⟨5, ![32, 516, 2, 4, 64]⟩
abbrev S32x2x4x64x512 : Shape := ⟨5, ![32, 2, 4, 64, 512]⟩
abbrev S32x2x256x512 : Shape := ⟨4, ![32, 2, 256, 512]⟩
abbrev S32x2048x2x4x64 : Shape := ⟨5, ![32, 2048, 2, 4, 64]⟩
abbrev S32x2052x2x4x64 : Shape := ⟨5, ![32, 2052, 2, 4, 64]⟩
abbrev S32x2x4x64x2048 : Shape := ⟨5, ![32, 2, 4, 64, 2048]⟩
abbrev S32x2x256x2048 : Shape := ⟨4, ![32, 2, 256, 2048]⟩

abbrev nBuf : Space → Nat
  | .hbm => 44
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S128x768, .f32⟩
  | .hbm, ⟨2, _⟩ => ⟨S128x768, .f32⟩
  | .hbm, ⟨3, _⟩ => ⟨S1x32x128x2x4x64, .f32⟩
  | .hbm, ⟨4, _⟩ => ⟨S1x32x512x2x4x64, .f32⟩
  | .hbm, ⟨5, _⟩ => ⟨S1x32x2048x2x4x64, .f32⟩
  | .hbm, ⟨6, _⟩ => ⟨S32x4x3x4x64, .f32⟩
  | .hbm, ⟨7, _⟩ => ⟨S32x4x3x4x64, .f32⟩
  | .hbm, ⟨8, _⟩ => ⟨S32x128x2x4x64, .f32⟩
  | .hbm, ⟨9, _⟩ => ⟨S32x4x1x4x64, .f32⟩
  | .hbm, ⟨10, _⟩ => ⟨S32x4x4x64, .f32⟩
  | .hbm, ⟨11, _⟩ => ⟨S32x4x1x4x64, .f32⟩
  | .hbm, ⟨12, _⟩ => ⟨S32x4x4x64, .f32⟩
  | .hbm, ⟨13, _⟩ => ⟨S32x4x1x4x64, .f32⟩
  | .hbm, ⟨14, _⟩ => ⟨S32x4x1x4x64, .f32⟩
  | .hbm, ⟨15, _⟩ => ⟨S32x4x2x4x64, .f32⟩
  | .hbm, ⟨16, _⟩ => ⟨S32x132x2x4x64, .f32⟩
  | .hbm, ⟨17, _⟩ => ⟨S32x128x2x4x64, .f32⟩
  | .hbm, ⟨18, _⟩ => ⟨S32x2x4x64x128, .f32⟩
  | .hbm, ⟨19, _⟩ => ⟨S32x2x256x128, .f32⟩
  | .hbm, ⟨20, _⟩ => ⟨S32x512x2x4x64, .f32⟩
  | .hbm, ⟨21, _⟩ => ⟨S32x4x1x4x64, .f32⟩
  | .hbm, ⟨22, _⟩ => ⟨S32x4x4x64, .f32⟩
  | .hbm, ⟨23, _⟩ => ⟨S32x4x1x4x64, .f32⟩
  | .hbm, ⟨24, _⟩ => ⟨S32x4x4x64, .f32⟩
  | .hbm, ⟨25, _⟩ => ⟨S32x4x1x4x64, .f32⟩
  | .hbm, ⟨26, _⟩ => ⟨S32x4x1x4x64, .f32⟩
  | .hbm, ⟨27, _⟩ => ⟨S32x4x2x4x64, .f32⟩
  | .hbm, ⟨28, _⟩ => ⟨S32x516x2x4x64, .f32⟩
  | .hbm, ⟨29, _⟩ => ⟨S32x512x2x4x64, .f32⟩
  | .hbm, ⟨30, _⟩ => ⟨S32x2x4x64x512, .f32⟩
  | .hbm, ⟨31, _⟩ => ⟨S32x2x256x512, .f32⟩
  | .hbm, ⟨32, _⟩ => ⟨S32x2048x2x4x64, .f32⟩
  | .hbm, ⟨33, _⟩ => ⟨S32x4x1x4x64, .f32⟩
  | .hbm, ⟨34, _⟩ => ⟨S32x4x4x64, .f32⟩
  | .hbm, ⟨35, _⟩ => ⟨S32x4x1x4x64, .f32⟩
  | .hbm, ⟨36, _⟩ => ⟨S32x4x4x64, .f32⟩
  | .hbm, ⟨37, _⟩ => ⟨S32x4x1x4x64, .f32⟩
  | .hbm, ⟨38, _⟩ => ⟨S32x4x1x4x64, .f32⟩
  | .hbm, ⟨39, _⟩ => ⟨S32x4x2x4x64, .f32⟩
  | .hbm, ⟨40, _⟩ => ⟨S32x2052x2x4x64, .f32⟩
  | .hbm, ⟨41, _⟩ => ⟨S32x2048x2x4x64, .f32⟩
  | .hbm, ⟨42, _⟩ => ⟨S32x2x4x64x2048, .f32⟩
  | .hbm, ⟨43, _⟩ => ⟨S32x2x256x2048, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Spec.lean ====
module

public import Idealize.ShloMosaic.Lib.Pipeline.ValueKit

@[expose] public section

set_option maxRecDepth 16384

noncomputable section

namespace Cert.Spec
open Idealize.ShloMosaic

/-! The mathematics of the input projection for ONE token, as functions of the token's row, the normalisation weight, the projection matrix and the two
head-normalisation weights (each spread over the 768 columns of its part). -/

/-- The root-mean-square normalised row: each entry over the root of the row's mean square, times its weight. -/
def rms (row nw : Fin 1024 → EReal) (d : Fin 1024) : EReal :=
  row d * Ideal.rsqrt (Ideal.div (∑ k, row k * row k) (Ideal.ofBits .f32 1149239296#32) + Ideal.ofBits .f32 897988541#32) * nw d

/-- Column `n` of the projection of the normalised row. -/
def proj (row nw : Fin 1024 → EReal) (W : Fin 1024 → Fin 6400 → EReal) (n : Fin 6400) : EReal :=
  ∑ d, rms row nw d * W d n

/-- Root-mean-square normalisation of the 64 columns of a head, times the column's weight. -/
def headNorm (z w : Fin 768 → EReal) (n : Fin 768) : EReal :=
  z n * Ideal.rsqrt ((∑ k : Fin 64, z ⟨64 * (n.val / 64) + k.val, by omega⟩ * z ⟨64 * (n.val / 64) + k.val, by omega⟩)
    * Ideal.ofBits .f32 1015021568#32 + Ideal.ofBits .f32 897988541#32) * w n

variable (row nw : Fin 1024 → EReal) (W : Fin 1024 → Fin 6400 → EReal) (qw kw : Fin 768 → EReal)

/-- The scale on the queries: one eighth, over the logarithm of two. -/
def qScale : EReal := (((1 / 8) * (Real.log 2)⁻¹ : ℝ) : EReal)

/-- Query column `n`: normalised per head and scaled. -/
def query (n : Fin 768) : EReal := headNorm (fun n => proj row nw W ⟨n.val, by omega⟩) qw n * qScale

/-- Key column `n`: normalised per head. -/
def key (n : Fin 768) : EReal := headNorm (fun n => proj row nw W ⟨768 + n.val, by omega⟩) kw n

/-- Value column `n`. -/
def value (n : Fin 768) : EReal := proj row nw W ⟨1536 + n.val, by omega⟩

/-- Column `n` of the gated convolution input: a projection times the logistic function of another. -/
def conv (n : Fin 1024) : EReal :=
  proj row nw W ⟨2304 + n.val, by omega⟩ * Ideal.div 1 (1 + Ideal.exp (-(proj row nw W ⟨3328 + n.val, by omega⟩)))

/-- Column `n` of the two merge gates, side by side: the logistic function of a projection. -/
def gate (n : Fin 2048) : EReal := Ideal.div 1 (1 + Ideal.exp (-(proj row nw W ⟨4352 + n.val, by omega⟩)))

/-- Column `n` of group `g`'s queries, keys and values, side by side. -/
def packed (g : Fin 3) (n : Fin 768) : EReal :=
  if h : n.val < 256 then query row nw W qw ⟨256 * g.val + n.val, by omega⟩
  else if h' : n.val < 512 then key row nw W kw ⟨256 * g.val + (n.val - 256), by omega⟩
  else value row nw W ⟨256 * g.val + (n.val - 512), by omega⟩

/-- Column `n` of group `g`'s keys (`s = 0`) or values (`s = 1`). -/
def tail (g : Fin 3) (s : Fin 2) (n : Fin 256) : EReal :=
  if s.val = 0 then key row nw W kw ⟨256 * g.val + n.val, by omega⟩ else value row nw W ⟨256 * g.val + n.val, by omega⟩

end Cert.Spec

end
-- ==== Proof.Stage.lean ====
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.KernelIdeal.Block
open Cert.KernelIdeal Cert.KernelIdeal.Gen
open Idealize.ShloMosaic Idealize.ShloMosaic.TcCoe Idealize.SL.Sem

/-! What one grid point puts into its three staging buffers: the queries, keys and values of its 256 tokens, six tiles of 128 columns each. -/

/-- The mask of a lane below 64, on a lane number: the first alternative below 64, the second above. -/
theorem select_low (l : Fin 128) (a b : EReal) :
    Scalar.select (IntOp.cmpi CmpIPredicate.slt (BitVec.ofNat 32 l.val) 64#32) a b = if l.val < 64 then a else b := by
  have h : (IntOp.cmpi CmpIPredicate.slt (BitVec.ofNat 32 l.val) 64#32) = if l.val < 64 then 1#1 else 0#1 := by
    revert l; decide
  rw [h]
  split <;> rfl

/-- The sum over the lanes of one's own half: a lane below 64 takes the sum of the lower half, the others that of the upper half. -/
theorem half_sum (l : Fin 128) (f : Fin 128 → EReal) :
    Scalar.select (IntOp.cmpi CmpIPredicate.slt (BitVec.ofNat 32 l.val) 64#32)
      (∑ x : Fin 128, Scalar.select (IntOp.cmpi CmpIPredicate.slt (BitVec.ofNat 32 x.val) 64#32) (f x) 0)
      (∑ x : Fin 128, Scalar.select (IntOp.cmpi CmpIPredicate.slt (BitVec.ofNat 32 x.val) 64#32) 0 (f x))
    = ∑ k : Fin 64, f ⟨64 * (l.val / 64) + k.val, by omega⟩ := by
  simp only [select_low]
  rw [Fin.sum_univ_add (a := 64) (b := 64) (fun x : Fin (64 + 64) => if (x : ℕ) < 64 then f x else 0),
    Fin.sum_univ_add (a := 64) (b := 64) (fun x : Fin (64 + 64) => if (x : ℕ) < 64 then 0 else f x)]
  have e1 : ∀ k : Fin 64, ((Fin.castAdd 64 k : Fin (64 + 64)) : ℕ) < 64 := fun k => k.isLt
  have e2 : ∀ k : Fin 64, ¬((Fin.natAdd 64 k : Fin (64 + 64)) : ℕ) < 64 := fun k => by simp [Fin.natAdd]
  simp only [e1, e2, if_true, if_false, Finset.sum_const_zero, add_zero, zero_add]
  by_cases h : l.val < 64
  · rw [if_pos h]
    refine Finset.sum_congr rfl fun k _ => congrArg f (Fin.ext ?_)
    show k.val = 64 * (l.val / 64) + k.val
    omega
  · rw [if_neg h]
    refine Finset.sum_congr rfl fun k _ => congrArg f (Fin.ext ?_)
    show 64 + k.val = 64 * (l.val / 64) + k.val
    omega

/-- Row `r` of a block of tokens. -/
def row (x0 : Vec Ideal S1x256x1024 .f32) (r : Fin 256) : Fin 1024 → EReal := fun d => x0 (ix3 0 r d)
/-- The normalisation weight as a row. -/
def wrow (x1 : Vec Ideal S1x1024 .f32) : Fin 1024 → EReal := fun d => x1 (ix2 0 d)
/-- The projection matrix by coordinates. -/
def wmat (x2 : Vec Ideal S1024x6400 .bf16) : Fin 1024 → Fin 6400 → EReal := fun d n => x2 (ix2 d n)
/-- A spread head weight as a row. -/
def hrow (x3 : Vec Ideal S1x768 .f32) : Fin 768 → EReal := fun n => x3 (ix2 0 n)

/-- The query tiles of a block. -/
def stageQ (x0 : Vec Ideal S1x256x1024 .f32) (x1 : Vec Ideal S1x1024 .f32) (x2 : Vec Ideal S1024x6400 .bf16) (x3 : Vec Ideal S1x768 .f32) : Vec Ideal S6x256x128 .f32 :=
  fun j => Spec.query (row x0 (j 1)) (wrow x1) (wmat x2) (hrow x3) ⟨128 * (j 0).val + (j 2).val, by have := (j 0).isLt; have := (j 2).isLt; simp at *; omega⟩
/-- The key tiles of a block. -/
def stageK (x0 : Vec Ideal S1x256x1024 .f32) (x1 : Vec Ideal S1x1024 .f32) (x2 : Vec Ideal S1024x6400 .bf16) (x4 : Vec Ideal S1x768 .f32) : Vec Ideal S6x256x128 .f32 :=
  fun j => Spec.key (row x0 (j 1)) (wrow x1) (wmat x2) (hrow x4) ⟨128 * (j 0).val + (j 2).val, by have := (j 0).isLt; have := (j 2).isLt; simp at *; omega⟩
/-- The value tiles of a block. -/
def stageV (x0 : Vec Ideal S1x256x1024 .f32) (x1 : Vec Ideal S1x1024 .f32) (x2 : Vec Ideal S1024x6400 .bf16) : Vec Ideal S6x256x128 .f32 :=
  fun j => Spec.value (row x0 (j 1)) (wrow x1) (wmat x2) ⟨128 * (j 0).val + (j 2).val, by have := (j 0).isLt; have := (j 2).isLt; simp at *; omega⟩

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x6400 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S1x1x256x768 .bf16) (harg7 : arg7.IsWhole) (arg8 : Memref sig .tc .vmem S1x4x64x768 .bf16) (harg8 : arg8.IsWhole) (arg9 : Memref sig .tc .vmem S1x16x16x768 .bf16) (harg9 : arg9.IsWhole) (arg10 : Memref sig .tc .vmem S1x256x1024 .f32) (harg10 : arg10.IsWhole) (arg11 : Memref sig .tc .vmem S1x256x2048 .bf16) (harg11 : arg11.IsWhole) (arg12 : Memref sig .tc .vmem S1x2x256x128 .f32) (harg12 : arg12.IsWhole) (arg13 : Memref sig .tc .vmem S1x2x256x256 .f32) (harg13 : arg13.IsWhole) (arg14 : Memref sig .tc .vmem S1x2x256x256 .f32) (harg14 : arg14.IsWhole) (arg15 : Memref sig .tc .vmem S1x32x1024 .f32) (harg15 : arg15.IsWhole) (arg16 : Memref sig .tc .vmem S6x256x128 .f32) (harg16 : arg16.IsWhole) (arg17 : Memref sig .tc .vmem S6x256x128 .f32) (harg17 : arg17.IsWhole) (arg18 : Memref sig .tc .vmem S6x256x128 .f32) (harg18 : arg18.IsWhole)
    (x0 : Vec Ideal S1x256x1024 .f32) (x1 : Vec Ideal S1x1024 .f32) (x2 : Vec Ideal S1024x6400 .bf16) (x3 : Vec Ideal S1x768 .f32) (x4 : Vec Ideal S1x768 .f32)

/-- The named scale at the ideal values. -/
theorem named_qScale : (Named.named κ "q_scale" 1043900987#32 : Ideal .f32) = Spec.qScale :=
  IdealRules.named_const.ideal_named_scalar _ _ _ _ rfl

/-- What the staging buffer of the queries holds after its six stores. -/
theorem canonQ : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.1 = stageQ x0 x1 x2 x3 := by
  funext j
  frame_out
  canon_tiles x h
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
    simp only [named_qScale, stageQ, Spec.query, Spec.headNorm, Spec.proj, Spec.rms, row, wrow, wmat, hrow]
    blk_point []
  all_goals
    refine (congrArg (· * _) (half_sum (x 2) _)).trans ?_
    blk_point []

/-- What the staging buffer of the keys holds after its six stores. -/
theorem canonK : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.1 = stageK x0 x1 x2 x4 := by
  funext j
  frame_out
  canon_tiles x h
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
    simp only [named_qScale, stageK, Spec.key, Spec.headNorm, Spec.proj, Spec.rms, row, wrow, wmat, hrow]
    blk_point []
  all_goals
    refine (congrArg (· * _) (half_sum (x 2) _)).trans ?_
    blk_point []

/-- What the staging buffer of the values holds after its six stores. -/
theorem canonV : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.2.1 = stageV x0 x1 x2 := by
  funext j
  frame_out
  canon_tiles x h
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
    simp only [named_qScale, stageV, Spec.value, Spec.proj, Spec.rms, row, wrow, wmat, hrow]
    blk_point []

/-- A load from that buffer reads the queries. -/
theorem readQ {κ : Kind} {sp : Space} (v : View sig κ sp S6x256x128 .f32) (B : LoadRect S6x256x128) :
    v.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.1 B = fun z => stageQ x0 x1 x2 x3 (B.idx z) := by
  rw [View.readCov_eq_canon', canonQ]

/-- A load from that buffer reads the keys. -/
theorem readK {κ : Kind} {sp : Space} (v : View sig κ sp S6x256x128 .f32) (B : LoadRect S6x256x128) :
    v.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.1 B = fun z => stageK x0 x1 x2 x4 (B.idx z) := by
  rw [View.readCov_eq_canon', canonK]

/-- A load from that buffer reads the values. -/
theorem readV {κ : Kind} {sp : Space} (v : View sig κ sp S6x256x128 .f32) (B : LoadRect S6x256x128) :
    v.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2.2.2.2.2.2.2.2.2.2.1 B = fun z => stageV x0 x1 x2 (B.idx z) := by
  rw [View.readCov_eq_canon', canonV]

end Cert.KernelIdeal.Block

end
-- ==== Proof.Layer.lean ====
module

public import proofs.«01_k».proof.Proof.Spec

@[expose] public section

set_option maxRecDepth 16384

noncomputable section

namespace Cert.Spec
open Idealize.ShloMosaic

/-! The nine results of the input projection as functions of the argument arrays. -/

/-- The activations of all tokens. -/
abbrev ActT := Vec Ideal ⟨3, ![8, 4096, 1024]⟩ .f32
/-- The normalisation weight. -/
abbrev NormT := Vec Ideal ⟨2, ![1, 1024]⟩ .f32
/-- The projection weights. -/
abbrev ProjT := Vec Ideal ⟨3, ![1, 1024, 6400]⟩ .f32
/-- A head's normalisation weight. -/
abbrev HeadT := Vec Ideal ⟨2, ![1, 64]⟩ .f32

/-- The row of token `t` of batch entry `b`. -/
def tok (x : ActT) (b : Fin 8) (t : Fin 4096) : Fin 1024 → EReal := fun d => x (ix3 b t d)
/-- The normalisation weight as a row. -/
def nrm (x : NormT) : Fin 1024 → EReal := fun d => x (ix2 0 d)
/-- The projection matrix by coordinates. -/
def mat (x : ProjT) : Fin 1024 → Fin 6400 → EReal := fun d n => x (ix3 0 d n)
/-- A head weight repeated over the twelve heads. -/
def hds (x : HeadT) : Fin 768 → EReal := fun n => x (ix2 0 ⟨n.val % 64, by omega⟩)

variable (x : ActT) (nw : NormT) (w : ProjT) (qw kw : HeadT)

/-- Group `g`'s queries, keys and values of token `t`. -/
def packedAt (g : Fin 3) (b : Fin 8) (t : Fin 4096) (n : Fin 768) : EReal := packed (tok x b t) (nrm nw) (mat w) (hds qw) (hds kw) g n
/-- Group `g`'s keys or values of token `t`. -/
def tailAt (g : Fin 3) (b : Fin 8) (s : Fin 2) (n : Fin 256) (t : Fin 4096) : EReal := tail (tok x b t) (nrm nw) (mat w) (hds kw) g s n
/-- The gated convolution input of token `t`. -/
def convAt (b : Fin 8) (t : Fin 4096) (n : Fin 1024) : EReal := conv (tok x b t) (nrm nw) (mat w) n
/-- The merge gates of token `t`. -/
def gateAt (b : Fin 8) (t : Fin 4096) (n : Fin 2048) : EReal := gate (tok x b t) (nrm nw) (mat w) n

/-- The packed array of the group of dilation 1. -/
def out0 : Vec Ideal ⟨4, ![8, 1, 4096, 768]⟩ .bf16 := fun y => packedAt x nw w qw kw 0 (y 0) (y 2) (y 3)
/-- The packed array of the group of dilation 4: token `4·j + r` lies at residue `r`, place `j`. -/
def out1 : Vec Ideal ⟨4, ![8, 4, 1024, 768]⟩ .bf16 := fun y => packedAt x nw w qw kw 1 (y 0)
  ⟨4 * (y 2).val + (y 1).val, by have h1 : (y 1).val < 4 := (y 1).isLt; have h2 : (y 2).val < 1024 := (y 2).isLt; omega⟩ (y 3)
/-- The packed array of the group of dilation 16: token `16·j + r` lies at residue `r`, place `j`. -/
def out2 : Vec Ideal ⟨4, ![8, 16, 256, 768]⟩ .bf16 := fun y => packedAt x nw w qw kw 2 (y 0)
  ⟨16 * (y 2).val + (y 1).val, by have h1 : (y 1).val < 16 := (y 1).isLt; have h2 : (y 2).val < 256 := (y 2).isLt; omega⟩ (y 3)
/-- The gated convolution input. -/
def out3 : Vec Ideal ⟨3, ![8, 4096, 1024]⟩ .f32 := fun y => convAt x nw w (y 0) (y 1) (y 2)
/-- The merge gates. -/
def out4 : Vec Ideal ⟨3, ![8, 4096, 2048]⟩ .bf16 := fun y => gateAt x nw w (y 0) (y 1) (y 2)
/-- The last 128 tokens' keys and values of the group of dilation 1. -/
def out5 : Vec Ideal ⟨4, ![8, 2, 256, 128]⟩ .f32 := fun y => tailAt x nw w kw 0 (y 0) (y 1) (y 2)
  ⟨3968 + (y 3).val, by have h1 : (y 3).val < 128 := (y 3).isLt; omega⟩
/-- The last 512 tokens' keys and values of the group of dilation 4. -/
def out6 : Vec Ideal ⟨4, ![8, 2, 256, 512]⟩ .f32 := fun y => tailAt x nw w kw 1 (y 0) (y 1) (y 2)
  ⟨3584 + (y 3).val, by have h1 : (y 3).val < 512 := (y 3).isLt; omega⟩
/-- The last 2048 tokens' keys and values of the group of dilation 16. -/
def out7 : Vec Ideal ⟨4, ![8, 2, 256, 2048]⟩ .f32 := fun y => tailAt x nw w kw 2 (y 0) (y 1) (y 2)
  ⟨2048 + (y 3).val, by have h1 : (y 3).val < 2048 := (y 3).isLt; omega⟩
/-- The gated convolution input of the last 32 tokens. -/
def out8 : Vec Ideal ⟨3, ![8, 32, 1024]⟩ .f32 := fun y => convAt x nw w (y 0)
  ⟨4064 + (y 1).val, by have h1 : (y 1).val < 32 := (y 1).isLt; omega⟩ (y 2)

end Cert.Spec

end
-- ==== Proof.Operands.lean ====
module

public import proofs.«01_k».proof.Proof.Gen.KernelIdeal.Frame
public import Idealize.ShloMosaic.Lib.Pipeline.ValueKit
public import Idealize.ShloMosaic.Lib.Claim
public import proofs.«01_k».proof.Proof.Stage
public import proofs.«01_k».proof.Proof.Layer

@[expose] public section

set_option maxRecDepth 16384

noncomputable section

namespace Cert.KernelIdeal.Block
open Cert.KernelIdeal Cert.KernelIdeal.Gen
open Idealize.ShloMosaic Idealize.ShloMosaic.TcCoe Idealize.SL.Sem

/-! What the input blocks of a grid point hold, by the argument arrays. -/

variable (m : (ℓ : Loc nD τ sig) → Buf (Elt Ideal) ℓ)

/-- The input windows' block indices at a grid point. -/
theorem idxIn : ∀ t : Fin cfg0.N, win0_0.index t = ![t.val / 16, t.val % 16, 0] ∧ win0_1.index t = ![0, 0] ∧ win0_2.index t = ![0, 0]
    ∧ win0_3.index t = ![0, 0] ∧ win0_4.index t = ![0, 0] :=
  (by decide +kernel : ∀ t : Fin grid0.N, _)

/-- Row `r` of the token block is the row of token `256·(t mod 16) + r` of batch entry `t / 16`. -/
theorem row_iblk (c : Dev nD) (t : Fin cfg0.N) (r : Fin 256) (b : Fin 8) (s : Fin 4096) (hb : b.val = t.val / 16) (hs : s.val = 256 * (t.val % 16) + r.val) :
    row (iblk m c 0 t) r = Spec.tok (m ((c : Thread nD τ).loc main_arg0)) b s := by
  funext d
  simp only [row, Spec.tok]
  blk_ext [iblk, V, idxIn t]

/-- The normalisation weight's block. -/
theorem wrow_iblk (c : Dev nD) (t : Fin cfg0.N) : wrow (iblk m c 1 t) = Spec.nrm (m ((c : Thread nD τ).loc main_arg1)) := by
  funext d
  simp only [wrow, Spec.nrm]
  blk_point [iblk, V, idxIn t]

/-- The projection matrix's block. -/
theorem wmat_iblk (c : Dev nD) (t : Fin cfg0.N) : wmat (iblk m c 2 t) = Spec.mat (m ((c : Thread nD τ).loc main_arg2)) := by
  funext d n
  simp only [wmat, Spec.mat]
  blk_point [iblk, V, idxIn t]

/-- The query weight's block. -/
theorem hrow_iblk3 (c : Dev nD) (t : Fin cfg0.N) : hrow (iblk m c 3 t) = Spec.hds (m ((c : Thread nD τ).loc main_arg3)) := by
  funext n
  simp only [hrow, Spec.hds]
  blk_point [iblk, V, idxIn t]

/-- The key weight's block. -/
theorem hrow_iblk4 (c : Dev nD) (t : Fin cfg0.N) : hrow (iblk m c 4 t) = Spec.hds (m ((c : Thread nD τ).loc main_arg4)) := by
  funext n
  simp only [hrow, Spec.hds]
  blk_point [iblk, V, idxIn t]

end Cert.KernelIdeal.Block

end
-- ==== Proof.Tiles.lean ====
module

public import proofs.«01_k».proof.Proof.Gen.KernelIdeal.Frame
public import Idealize.ShloMosaic.Lib.Pipeline.ValueKit
public import Idealize.ShloMosaic.Lib.Pipeline.ReadBack
public import proofs.«01_k».proof.Proof.Stage

@[expose] public section

set_option maxRecDepth 16384

noncomputable section

namespace Cert.KernelIdeal.Block
open Cert.KernelIdeal Cert.KernelIdeal.Gen
open Idealize.ShloMosaic Idealize.ShloMosaic.TcCoe Idealize.SL.Sem

/-! Which column of the packed queries, keys and values a tile's entry is. -/

variable (x0 : Vec Ideal S1x256x1024 .f32) (x1 : Vec Ideal S1x1024 .f32) (x2 : Vec Ideal S1024x6400 .bf16) (x3 x4 : Vec Ideal S1x768 .f32)

/-- A query tile's entry is the packed column it stands for. -/
theorem stageQ_packed (j : S6x256x128.Idx) (g : Fin 3) (r : Fin 256) (n : Fin 768) (hr : (j 1).val = r.val) (hn : n.val < 256)
    (hc : 128 * (j 0).val + (j 2).val + 0 = 256 * g.val + n.val) :
    stageQ x0 x1 x2 x3 j = Spec.packed (row x0 r) (wrow x1) (wmat x2) (hrow x3) (hrow x4) g n := by
  have e : j 1 = r := Fin.ext hr
  unfold Spec.packed
  rw [dif_pos hn]
  unfold stageQ
  rw [e]
  exact congrArg _ (Fin.ext (by simp only []; omega))

/-- A key tile's entry is the packed column it stands for. -/
theorem stageK_packed (j : S6x256x128.Idx) (g : Fin 3) (r : Fin 256) (n : Fin 768) (hr : (j 1).val = r.val) (hl : 256 ≤ n.val) (hn : n.val < 512)
    (hc : 128 * (j 0).val + (j 2).val + 256 = 256 * g.val + n.val) :
    stageK x0 x1 x2 x4 j = Spec.packed (row x0 r) (wrow x1) (wmat x2) (hrow x3) (hrow x4) g n := by
  have e : j 1 = r := Fin.ext hr
  unfold Spec.packed
  rw [dif_neg (by omega), dif_pos hn]
  unfold stageK
  rw [e]
  exact congrArg _ (Fin.ext (by simp only []; omega))

/-- A value tile's entry is the packed column it stands for. -/
theorem stageV_packed (j : S6x256x128.Idx) (g : Fin 3) (r : Fin 256) (n : Fin 768) (hr : (j 1).val = r.val) (hn : 512 ≤ n.val)
    (hc : 128 * (j 0).val + (j 2).val + 512 = 256 * g.val + n.val) :
    stageV x0 x1 x2 j = Spec.packed (row x0 r) (wrow x1) (wmat x2) (hrow x3) (hrow x4) g n := by
  have e : j 1 = r := Fin.ext hr
  unfold Spec.packed
  rw [dif_neg (by omega), dif_neg (by omega)]
  unfold stageV
  rw [e]
  exact congrArg _ (Fin.ext (by simp only []; omega))

/-- A key tile's entry is the tail column it stands for. -/
theorem stageK_tail (j : S6x256x128.Idx) (g : Fin 3) (s : Fin 2) (r : Fin 256) (n : Fin 256) (hr : (j 1).val = r.val) (hs : s.val = 0)
    (hc : 128 * (j 0).val + (j 2).val = 256 * g.val + n.val) :
    stageK x0 x1 x2 x4 j = Spec.tail (row x0 r) (wrow x1) (wmat x2) (hrow x4) g s n := by
  have e : j 1 = r := Fin.ext hr
  unfold Spec.tail
  rw [if_pos hs]
  unfold stageK
  rw [e]
  exact congrArg _ (Fin.ext (by simp only []; omega))

/-- A value tile's entry is the tail column it stands for. -/
theorem stageV_tail (j : S6x256x128.Idx) (g : Fin 3) (s : Fin 2) (r : Fin 256) (n : Fin 256) (hr : (j 1).val = r.val) (hs : s.val = 1)
    (hc : 128 * (j 0).val + (j 2).val = 256 * g.val + n.val) :
    stageV x0 x1 x2 j = Spec.tail (row x0 r) (wrow x1) (wmat x2) (hrow x4) g s n := by
  have e : j 1 = r := Fin.ext hr
  unfold Spec.tail
  rw [if_neg (by omega)]
  unfold stageV
  rw [e]
  exact congrArg _ (Fin.ext (by simp only []; omega))

end Cert.KernelIdeal.Block

end
-- ==== Proof.Packed0.lean ====
module

public import proofs.«01_k».proof.Proof.Gen.KernelIdeal.Frame
public import Idealize.ShloMosaic.Lib.Pipeline.ValueKit
public import Idealize.ShloMosaic.Lib.Pipeline.ReadBack
public import proofs.«01_k».proof.Proof.Tiles

@[expose] public section

set_option maxRecDepth 16384

noncomputable section

namespace Cert.KernelIdeal.Block
open Cert.KernelIdeal Cert.KernelIdeal.Gen
open Idealize.ShloMosaic Idealize.ShloMosaic.TcCoe Idealize.SL.Sem

/-! The packed output of the undilated group at one grid point. -/

variable (m : (ℓ : Loc nD τ sig) → Buf (Elt Ideal) ℓ)

set_option maxHeartbeats 4000000 in
/-- Group 0's output block: row `t` of the block holds the packed columns of its token. -/
theorem block5 (c : Dev nD) (t : Fin cfg0.N) (y : S1x1x256x768.Idx) : (outsAt0 m c t).1 y =
    Spec.packed (row (iblk m c 0 t) (y 2)) (wrow (iblk m c 1 t)) (wmat (iblk m c 2 t)) (hrow (iblk m c 3 t)) (hrow (iblk m c 4 t)) 0 (y 3) := by
  have hQ := readQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hQ
  frame_open at hK
  frame_open at hV
  simp only [↓ hQ, ↓ hK, ↓ hV]
  rw [View.read_writes_junk_eq_canon]
  clear hQ hK hV
  canon_tiles x h
  all_goals
    pointwise []
    first
    | refine stageQ_packed _ _ _ _ _ _ _ _ _ ?_ ?_ ?_
    | refine stageK_packed _ _ _ _ _ _ _ _ _ ?_ ?_ ?_ ?_
    | refine stageV_packed _ _ _ _ _ _ _ _ _ ?_ ?_ ?_
    all_goals first | omega | (simp [ix3]; omega) | simp [ix3]

end Cert.KernelIdeal.Block

end
-- ==== Proof.Tails.lean ====
module

public import proofs.«01_k».proof.Proof.Gen.KernelIdeal.Frame
public import Idealize.ShloMosaic.Lib.Pipeline.ValueKit
public import Idealize.ShloMosaic.Lib.Pipeline.ReadBack
public import proofs.«01_k».proof.Proof.Tiles

@[expose] public section

set_option maxRecDepth 16384

noncomputable section

namespace Cert.KernelIdeal.Block
open Cert.KernelIdeal Cert.KernelIdeal.Gen
open Idealize.ShloMosaic Idealize.ShloMosaic.TcCoe Idealize.SL.Sem

/-! The keys and values of the last tokens at one grid point, transposed. -/

variable (m : (ℓ : Loc nD τ sig) → Buf (Elt Ideal) ℓ)

set_option maxHeartbeats 4000000 in
/-- Group 0's tail block: keys and values of the block's last tokens, transposed. -/
theorem block10 (c : Dev nD) (t : Fin cfg0.N) (y : S1x2x256x128.Idx) : (outsAt0 m c t).2.2.2.2.2.1 y =
    Spec.tail (row (iblk m c 0 t) ⟨128 + (y 3).val, by have := (y 3).isLt; simp at *; omega⟩) (wrow (iblk m c 1 t)) (wmat (iblk m c 2 t)) (hrow (iblk m c 4 t)) 0 (y 1) (y 2) := by
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hK
  frame_open at hV
  simp only [↓ hK, ↓ hV]
  rw [View.read_writes_junk_eq_canon]
  clear hK hV
  canon_tiles x h
  all_goals
    pointwise [k0_pay1, k0_pay206, k0_pay207, k0_pay208, k0_pay209, k0_pay210, k0_pay211, k0_pay212, k0_pay213, k0_pay214, k0_pay215, k0_pay216, k0_pay217, k0_pay218]
    first
    | refine stageK_tail _ _ _ _ _ _ _ _ _ ?_ ?_ ?_
    | refine stageV_tail _ _ _ _ _ _ _ _ _ ?_ ?_ ?_
    all_goals first | omega | (simp [ix3]; omega) | simp [ix3]

set_option maxHeartbeats 4000000 in
/-- Group 1's tail block: keys and values of the block's last tokens, transposed. -/
theorem block11 (c : Dev nD) (t : Fin cfg0.N) (y : S1x2x256x256.Idx) : (outsAt0 m c t).2.2.2.2.2.2.1 y =
    Spec.tail (row (iblk m c 0 t) (y 3)) (wrow (iblk m c 1 t)) (wmat (iblk m c 2 t)) (hrow (iblk m c 4 t)) 1 (y 1) (y 2) := by
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hK
  frame_open at hV
  simp only [↓ hK, ↓ hV]
  rw [View.read_writes_junk_eq_canon]
  clear hK hV
  canon_tiles x h
  all_goals
    pointwise [k0_pay1, k0_pay206, k0_pay207, k0_pay208, k0_pay209, k0_pay210, k0_pay211, k0_pay212, k0_pay213, k0_pay214, k0_pay215, k0_pay216, k0_pay217, k0_pay218]
    first
    | refine stageK_tail _ _ _ _ _ _ _ _ _ ?_ ?_ ?_
    | refine stageV_tail _ _ _ _ _ _ _ _ _ ?_ ?_ ?_
    all_goals first | omega | (simp [ix3]; omega) | simp [ix3]

set_option maxHeartbeats 4000000 in
/-- Group 2's tail block: keys and values of the block's last tokens, transposed. -/
theorem block12 (c : Dev nD) (t : Fin cfg0.N) (y : S1x2x256x256.Idx) : (outsAt0 m c t).2.2.2.2.2.2.2.1 y =
    Spec.tail (row (iblk m c 0 t) (y 3)) (wrow (iblk m c 1 t)) (wmat (iblk m c 2 t)) (hrow (iblk m c 4 t)) 2 (y 1) (y 2) := by
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hK
  frame_open at hV
  simp only [↓ hK, ↓ hV]
  rw [View.read_writes_junk_eq_canon]
  clear hK hV
  canon_tiles x h
  all_goals
    pointwise [k0_pay1, k0_pay206, k0_pay207, k0_pay208, k0_pay209, k0_pay210, k0_pay211, k0_pay212, k0_pay213, k0_pay214, k0_pay215, k0_pay216, k0_pay217, k0_pay218]
    first
    | refine stageK_tail _ _ _ _ _ _ _ _ _ ?_ ?_ ?_
    | refine stageV_tail _ _ _ _ _ _ _ _ _ ?_ ?_ ?_
    all_goals first | omega | (simp [ix3]; omega) | simp [ix3]

end Cert.KernelIdeal.Block

end
-- ==== Proof.Plain.lean ====
module

public import proofs.«01_k».proof.Proof.Gen.KernelIdeal.Frame
public import Idealize.ShloMosaic.Lib.Pipeline.ValueKit
public import Idealize.ShloMosaic.Lib.Pipeline.ReadBack
public import proofs.«01_k».proof.Proof.Stage

@[expose] public section

set_option maxRecDepth 16384

noncomputable section

namespace Cert.KernelIdeal.Block
open Cert.KernelIdeal Cert.KernelIdeal.Gen
open Idealize.ShloMosaic Idealize.ShloMosaic.TcCoe Idealize.SL.Sem

/-! The outputs of one grid point that are not staged: the convolution input and the gates. -/

variable (m : (ℓ : Loc nD τ sig) → Buf (Elt Ideal) ℓ)

set_option maxHeartbeats 4000000 in
/-- The gated convolution input of the block's tokens. -/
theorem block8 (c : Dev nD) (t : Fin cfg0.N) (y : S1x256x1024.Idx) : (outsAt0 m c t).2.2.2.1 y =
    Spec.conv (row (iblk m c 0 t) (y 1)) (wrow (iblk m c 1 t)) (wmat (iblk m c 2 t)) (y 2) := by
  simp only [outsAt0]
  frame_out
  pointwise []
  simp only [Spec.conv, Spec.proj, Spec.rms, row, wrow, wmat, zero_sub]

set_option maxHeartbeats 4000000 in
/-- The gated convolution input of the block's last 32 tokens. -/
theorem block13 (c : Dev nD) (t : Fin cfg0.N) (y : S1x32x1024.Idx) : (outsAt0 m c t).2.2.2.2.2.2.2.2 y =
    Spec.conv (row (iblk m c 0 t) ⟨224 + (y 1).val, by have := (y 1).isLt; simp at *; omega⟩) (wrow (iblk m c 1 t)) (wmat (iblk m c 2 t)) (y 2) := by
  simp only [outsAt0]
  frame_out
  pointwise []
  simp only [Spec.conv, Spec.proj, Spec.rms, row, wrow, wmat, zero_sub]
  blk_point []
  exact congrArg _ (zero_sub _)

set_option maxHeartbeats 4000000 in
/-- The two merge gates of the block's tokens. -/
theorem block9 (c : Dev nD) (t : Fin cfg0.N) (y : S1x256x2048.Idx) : (outsAt0 m c t).2.2.2.2.1 y =
    Spec.gate (row (iblk m c 0 t) (y 1)) (wrow (iblk m c 1 t)) (wmat (iblk m c 2 t)) (y 2) := by
  simp only [outsAt0]
  frame_out
  canon_tiles x h
  all_goals
    pointwise []
    simp only [Spec.gate, Spec.proj, Spec.rms, row, wrow, wmat, zero_sub]
    blk_point []

end Cert.KernelIdeal.Block

end
-- ==== Proof.Arrays.lean ====
module

public import proofs.«01_k».proof.Proof.Operands
public import proofs.«01_k».proof.Proof.Packed0
public import proofs.«01_k».proof.Proof.Tails
public import proofs.«01_k».proof.Proof.Plain

@[expose] public section

set_option maxRecDepth 16384

noncomputable section

namespace Cert.KernelIdeal.Block
open Cert.KernelIdeal Cert.KernelIdeal.Gen
open Idealize.ShloMosaic Idealize.ShloMosaic.TcCoe Idealize.SL.Sem
open Idealize.ShloMosaic.Pipeline (Dat)

/-! The arrays the kernel leaves, by the argument arrays. -/

variable (m : (ℓ : Loc nD τ sig) → Buf (Elt Ideal) ℓ)

/-- What point `t` writes into window 5's block, by the argument arrays. -/
theorem place5 (c : Dev nD) (t : Fin cfg0.N) (y : S1x1x256x768.Idx) : (outsAt0 m c t).1 y = Spec.out0 (m ((c : Thread nD τ).loc main_arg0)) (m ((c : Thread nD τ).loc main_arg1)) (m ((c : Thread nD τ).loc main_arg2)) (m ((c : Thread nD τ).loc main_arg3)) (m ((c : Thread nD τ).loc main_arg4))
    (ix4 ⟨t.val / 16, by have ht : t.val < 128 := t.isLt; have h0 : (y 0).val < 1 := (y 0).isLt; have h1 : (y 1).val < 1 := (y 1).isLt; have h2 : (y 2).val < 256 := (y 2).isLt; have h3 : (y 3).val < 768 := (y 3).isLt; omega⟩ ⟨0, by have ht : t.val < 128 := t.isLt; have h0 : (y 0).val < 1 := (y 0).isLt; have h1 : (y 1).val < 1 := (y 1).isLt; have h2 : (y 2).val < 256 := (y 2).isLt; have h3 : (y 3).val < 768 := (y 3).isLt; omega⟩ ⟨256 * (t.val % 16) + (y 2).val, by have ht : t.val < 128 := t.isLt; have h0 : (y 0).val < 1 := (y 0).isLt; have h1 : (y 1).val < 1 := (y 1).isLt; have h2 : (y 2).val < 256 := (y 2).isLt; have h3 : (y 3).val < 768 := (y 3).isLt; omega⟩ (y 3)) := by
  have ht : t.val < 128 := t.isLt
  have h0 : (y 0).val < 1 := (y 0).isLt
  have h1 : (y 1).val < 1 := (y 1).isLt
  have h2 : (y 2).val < 256 := (y 2).isLt
  have h3 : (y 3).val < 768 := (y 3).isLt
  rw [block5 m c t y, wrow_iblk, wmat_iblk, hrow_iblk3, hrow_iblk4]
  refine (congrArg (fun r => Spec.packed r (Spec.nrm (m ((c : Thread nD τ).loc main_arg1))) (Spec.mat (m ((c : Thread nD τ).loc main_arg2))) (Spec.hds (m ((c : Thread nD τ).loc main_arg3))) (Spec.hds (m ((c : Thread nD τ).loc main_arg4))) 0 (y 3)) (row_iblk m c t (y 2) ⟨t.val / 16, by omega⟩ ⟨256 * (t.val % 16) + (y 2).val, by omega⟩ rfl (by rfl))).trans ?_
  rfl

/-- Window 5's block index at a grid point. -/
theorem idx5 : ∀ t : Fin cfg0.N, win0_5.index t = ![t.val / 16, 0, t.val % 16, 0] :=
  (by decide +kernel : ∀ t : Fin grid0.N, _)

/-- The packed array of the group of dilation 1. -/
theorem final5 (c : Dev nD) : (dats m 0 c).arrAt 5 (cfgs 0).N = Spec.out0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hi := idx5 t
  blk_simp
  rw [after0_5]
  have ht : t.val < 128 := t.isLt
  have h0 : (y 0).val < 1 := (y 0).isLt
  have h1 : (y 1).val < 1 := (y 1).isLt
  have h2 : (y 2).val < 256 := (y 2).isLt
  have h3 : (y 3).val < 768 := (y 3).isLt
  have e : (win0_5.blk t).view.emb y = ix4 ⟨t.val / 16, by omega⟩ ⟨0, by omega⟩ ⟨256 * (t.val % 16) + (y 2).val, by omega⟩ (y 3) := by blk_ext [hi]
  rw [e]
  exact place5 m c t y

/-- What point `t` writes into window 8's block, by the argument arrays. -/
theorem place8 (c : Dev nD) (t : Fin cfg0.N) (y : S1x256x1024.Idx) : (outsAt0 m c t).2.2.2.1 y = Spec.out3 (m ((c : Thread nD τ).loc main_arg0)) (m ((c : Thread nD τ).loc main_arg1)) (m ((c : Thread nD τ).loc main_arg2))
    (ix3 ⟨t.val / 16, by have ht : t.val < 128 := t.isLt; have h0 : (y 0).val < 1 := (y 0).isLt; have h1 : (y 1).val < 256 := (y 1).isLt; have h2 : (y 2).val < 1024 := (y 2).isLt; omega⟩ ⟨256 * (t.val % 16) + (y 1).val, by have ht : t.val < 128 := t.isLt; have h0 : (y 0).val < 1 := (y 0).isLt; have h1 : (y 1).val < 256 := (y 1).isLt; have h2 : (y 2).val < 1024 := (y 2).isLt; omega⟩ (y 2)) := by
  have ht : t.val < 128 := t.isLt
  have h0 : (y 0).val < 1 := (y 0).isLt
  have h1 : (y 1).val < 256 := (y 1).isLt
  have h2 : (y 2).val < 1024 := (y 2).isLt
  rw [block8 m c t y, wrow_iblk, wmat_iblk]
  refine (congrArg (fun r => Spec.conv r (Spec.nrm (m ((c : Thread nD τ).loc main_arg1))) (Spec.mat (m ((c : Thread nD τ).loc main_arg2))) (y 2)) (row_iblk m c t (y 1) ⟨t.val / 16, by omega⟩ ⟨256 * (t.val % 16) + (y 1).val, by omega⟩ rfl (by rfl))).trans ?_
  rfl

/-- Window 8's block index at a grid point. -/
theorem idx8 : ∀ t : Fin cfg0.N, win0_8.index t = ![t.val / 16, t.val % 16, 0] :=
  (by decide +kernel : ∀ t : Fin grid0.N, _)

/-- The gated convolution input of all tokens. -/
theorem final8 (c : Dev nD) : (dats m 0 c).arrAt 8 (cfgs 0).N = Spec.out3 (m ((c : Thread nD τ).loc main_arg0)) (m ((c : Thread nD τ).loc main_arg1)) (m ((c : Thread nD τ).loc main_arg2)) := by
  refine (dats m 0 c).arrAt_eq_of_covers 8 _ (by decide +kernel) fun t hf y => ?_
  have hi := idx8 t
  blk_simp
  rw [after0_8]
  have ht : t.val < 128 := t.isLt
  have h0 : (y 0).val < 1 := (y 0).isLt
  have h1 : (y 1).val < 256 := (y 1).isLt
  have h2 : (y 2).val < 1024 := (y 2).isLt
  have e : (win0_8.blk t).view.emb y = ix3 ⟨t.val / 16, by omega⟩ ⟨256 * (t.val % 16) + (y 1).val, by omega⟩ (y 2) := by blk_ext [hi]
  rw [e]
  exact place8 m c t y

/-- What point `t` writes into window 9's block, by the argument arrays. -/
theorem place9 (c : Dev nD) (t : Fin cfg0.N) (y : S1x256x2048.Idx) : (outsAt0 m c t).2.2.2.2.1 y = Spec.out4 (m ((c : Thread nD τ).loc main_arg0)) (m ((c : Thread nD τ).loc main_arg1)) (m ((c : Thread nD τ).loc main_arg2))
    (ix3 ⟨t.val / 16, by have ht : t.val < 128 := t.isLt; have h0 : (y 0).val < 1 := (y 0).isLt; have h1 : (y 1).val < 256 := (y 1).isLt; have h2 : (y 2).val < 2048 := (y 2).isLt; omega⟩ ⟨256 * (t.val % 16) + (y 1).val, by have ht : t.val < 128 := t.isLt; have h0 : (y 0).val < 1 := (y 0).isLt; have h1 : (y 1).val < 256 := (y 1).isLt; have h2 : (y 2).val < 2048 := (y 2).isLt; omega⟩ (y 2)) := by
  have ht : t.val < 128 := t.isLt
  have h0 : (y 0).val < 1 := (y 0).isLt
  have h1 : (y 1).val < 256 := (y 1).isLt
  have h2 : (y 2).val < 2048 := (y 2).isLt
  rw [block9 m c t y, wrow_iblk, wmat_iblk]
  refine (congrArg (fun r => Spec.gate r (Spec.nrm (m ((c : Thread nD τ).loc main_arg1))) (Spec.mat (m ((c : Thread nD τ).loc main_arg2))) (y 2)) (row_iblk m c t (y 1) ⟨t.val / 16, by omega⟩ ⟨256 * (t.val % 16) + (y 1).val, by omega⟩ rfl (by rfl))).trans ?_
  rfl

/-- Window 9's block index at a grid point. -/
theorem idx9 : ∀ t : Fin cfg0.N, win0_9.index t = ![t.val / 16, t.val % 16, 0] :=
  (by decide +kernel : ∀ t : Fin grid0.N, _)

/-- The merge gates of all tokens. -/
theorem final9 (c : Dev nD) : (dats m 0 c).arrAt 9 (cfgs 0).N = Spec.out4 (m ((c : Thread nD τ).loc main_arg0)) (m ((c : Thread nD τ).loc main_arg1)) (m ((c : Thread nD τ).loc main_arg2)) := by
  refine (dats m 0 c).arrAt_eq_of_covers 9 _ (by decide +kernel) fun t hf y => ?_
  have hi := idx9 t
  blk_simp
  rw [after0_9]
  have ht : t.val < 128 := t.isLt
  have h0 : (y 0).val < 1 := (y 0).isLt
  have h1 : (y 1).val < 256 := (y 1).isLt
  have h2 : (y 2).val < 2048 := (y 2).isLt
  have e : (win0_9.blk t).view.emb y = ix3 ⟨t.val / 16, by omega⟩ ⟨256 * (t.val % 16) + (y 1).val, by omega⟩ (y 2) := by blk_ext [hi]
  rw [e]
  exact place9 m c t y

/-- What point `t` writes into window 10's block, by the argument arrays. -/
theorem place10 (c : Dev nD) (t : Fin cfg0.N) (hg : t.val % 16 = 15) (y : S1x2x256x128.Idx) : (outsAt0 m c t).2.2.2.2.2.1 y = Spec.out5 (m ((c : Thread nD τ).loc main_arg0)) (m ((c : Thread nD τ).loc main_arg1)) (m ((c : Thread nD τ).loc main_arg2)) (m ((c : Thread nD τ).loc main_arg4))
    (ix4 ⟨t.val / 16, by have ht : t.val < 128 := t.isLt; have h0 : (y 0).val < 1 := (y 0).isLt; have h1 : (y 1).val < 2 := (y 1).isLt; have h2 : (y 2).val < 256 := (y 2).isLt; have h3 : (y 3).val < 128 := (y 3).isLt; omega⟩ (y 1) (y 2) (y 3)) := by
  have ht : t.val < 128 := t.isLt
  have h0 : (y 0).val < 1 := (y 0).isLt
  have h1 : (y 1).val < 2 := (y 1).isLt
  have h2 : (y 2).val < 256 := (y 2).isLt
  have h3 : (y 3).val < 128 := (y 3).isLt
  rw [block10 m c t y, wrow_iblk, wmat_iblk, hrow_iblk4]
  refine (congrArg (fun r => Spec.tail r (Spec.nrm (m ((c : Thread nD τ).loc main_arg1))) (Spec.mat (m ((c : Thread nD τ).loc main_arg2))) (Spec.hds (m ((c : Thread nD τ).loc main_arg4))) 0 (y 1) (y 2)) (row_iblk m c t _ ⟨t.val / 16, by omega⟩ ⟨3968 + (y 3).val, by omega⟩ rfl (by show 3968 + (y 3).val = 256 * (t.val % 16) + (128 + (y 3).val); omega))).trans ?_
  rfl

/-- Window 10's block index at a grid point that writes it back. -/
theorem idx10 : ∀ t : Fin cfg0.N, win0_10.flush t = true → win0_10.index t = ![t.val / 16, 0, 0, 0] ∧ t.val % 16 = 15 :=
  (by decide +kernel : ∀ t : Fin grid0.N, _)

/-- The last 128 tokens of the group of dilation 1. -/
theorem final10 (c : Dev nD) : (dats m 0 c).arrAt 10 (cfgs 0).N = Spec.out5 (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have hi := idx10 t hf
  blk_simp
  rw [after0_10]
  have ht : t.val < 128 := t.isLt
  have h0 : (y 0).val < 1 := (y 0).isLt
  have h1 : (y 1).val < 2 := (y 1).isLt
  have h2 : (y 2).val < 256 := (y 2).isLt
  have h3 : (y 3).val < 128 := (y 3).isLt
  obtain ⟨hi, hg⟩ := hi
  have e : (win0_10.blk t).view.emb y = ix4 ⟨t.val / 16, by omega⟩ (y 1) (y 2) (y 3) := by blk_ext [hi]
  rw [e]
  exact place10 m c t hg y

/-- What point `t` writes into window 11's block, by the argument arrays. -/
theorem place11 (c : Dev nD) (t : Fin cfg0.N) (hg : 14 ≤ t.val % 16) (y : S1x2x256x256.Idx) : (outsAt0 m c t).2.2.2.2.2.2.1 y = Spec.out6 (m ((c : Thread nD τ).loc main_arg0)) (m ((c : Thread nD τ).loc main_arg1)) (m ((c : Thread nD τ).loc main_arg2)) (m ((c : Thread nD τ).loc main_arg4))
    (ix4 ⟨t.val / 16, by have ht : t.val < 128 := t.isLt; have h0 : (y 0).val < 1 := (y 0).isLt; have h1 : (y 1).val < 2 := (y 1).isLt; have h2 : (y 2).val < 256 := (y 2).isLt; have h3 : (y 3).val < 256 := (y 3).isLt; omega⟩ (y 1) (y 2) ⟨256 * (t.val % 16 - 14) + (y 3).val, by have ht : t.val < 128 := t.isLt; have h0 : (y 0).val < 1 := (y 0).isLt; have h1 : (y 1).val < 2 := (y 1).isLt; have h2 : (y 2).val < 256 := (y 2).isLt; have h3 : (y 3).val < 256 := (y 3).isLt; omega⟩) := by
  have ht : t.val < 128 := t.isLt
  have h0 : (y 0).val < 1 := (y 0).isLt
  have h1 : (y 1).val < 2 := (y 1).isLt
  have h2 : (y 2).val < 256 := (y 2).isLt
  have h3 : (y 3).val < 256 := (y 3).isLt
  rw [block11 m c t y, wrow_iblk, wmat_iblk, hrow_iblk4]
  refine (congrArg (fun r => Spec.tail r (Spec.nrm (m ((c : Thread nD τ).loc main_arg1))) (Spec.mat (m ((c : Thread nD τ).loc main_arg2))) (Spec.hds (m ((c : Thread nD τ).loc main_arg4))) 1 (y 1) (y 2)) (row_iblk m c t _ ⟨t.val / 16, by omega⟩ ⟨3584 + (256 * (t.val % 16 - 14) + (y 3).val), by omega⟩ rfl (by show 3584 + (256 * (t.val % 16 - 14) + (y 3).val) = 256 * (t.val % 16) + (y 3).val; omega))).trans ?_
  rfl

/-- Window 11's block index at a grid point that writes it back. -/
theorem idx11 : ∀ t : Fin cfg0.N, win0_11.flush t = true → win0_11.index t = ![t.val / 16, 0, 0, t.val % 16 - 14] ∧ 14 ≤ t.val % 16 :=
  (by decide +kernel : ∀ t : Fin grid0.N, _)

/-- The last 512 tokens of the group of dilation 4. -/
theorem final11 (c : Dev nD) : (dats m 0 c).arrAt 11 (cfgs 0).N = Spec.out6 (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t hf y => ?_
  have hi := idx11 t hf
  blk_simp
  rw [after0_11]
  have ht : t.val < 128 := t.isLt
  have h0 : (y 0).val < 1 := (y 0).isLt
  have h1 : (y 1).val < 2 := (y 1).isLt
  have h2 : (y 2).val < 256 := (y 2).isLt
  have h3 : (y 3).val < 256 := (y 3).isLt
  obtain ⟨hi, hg⟩ := hi
  have e : (win0_11.blk t).view.emb y = ix4 ⟨t.val / 16, by omega⟩ (y 1) (y 2) ⟨256 * (t.val % 16 - 14) + (y 3).val, by omega⟩ := by blk_ext [hi]
  rw [e]
  exact place11 m c t hg y

/-- What point `t` writes into window 12's block, by the argument arrays. -/
theorem place12 (c : Dev nD) (t : Fin cfg0.N) (hg : 8 ≤ t.val % 16) (y : S1x2x256x256.Idx) : (outsAt0 m c t).2.2.2.2.2.2.2.1 y = Spec.out7 (m ((c : Thread nD τ).loc main_arg0)) (m ((c : Thread nD τ).loc main_arg1)) (m ((c : Thread nD τ).loc main_arg2)) (m ((c : Thread nD τ).loc main_arg4))
    (ix4 ⟨t.val / 16, by have ht : t.val < 128 := t.isLt; have h0 : (y 0).val < 1 := (y 0).isLt; have h1 : (y 1).val < 2 := (y 1).isLt; have h2 : (y 2).val < 256 := (y 2).isLt; have h3 : (y 3).val < 256 := (y 3).isLt; omega⟩ (y 1) (y 2) ⟨256 * (t.val % 16 - 8) + (y 3).val, by have ht : t.val < 128 := t.isLt; have h0 : (y 0).val < 1 := (y 0).isLt; have h1 : (y 1).val < 2 := (y 1).isLt; have h2 : (y 2).val < 256 := (y 2).isLt; have h3 : (y 3).val < 256 := (y 3).isLt; omega⟩) := by
  have ht : t.val < 128 := t.isLt
  have h0 : (y 0).val < 1 := (y 0).isLt
  have h1 : (y 1).val < 2 := (y 1).isLt
  have h2 : (y 2).val < 256 := (y 2).isLt
  have h3 : (y 3).val < 256 := (y 3).isLt
  rw [block12 m c t y, wrow_iblk, wmat_iblk, hrow_iblk4]
  refine (congrArg (fun r => Spec.tail r (Spec.nrm (m ((c : Thread nD τ).loc main_arg1))) (Spec.mat (m ((c : Thread nD τ).loc main_arg2))) (Spec.hds (m ((c : Thread nD τ).loc main_arg4))) 2 (y 1) (y 2)) (row_iblk m c t _ ⟨t.val / 16, by omega⟩ ⟨2048 + (256 * (t.val % 16 - 8) + (y 3).val), by omega⟩ rfl (by show 2048 + (256 * (t.val % 16 - 8) + (y 3).val) = 256 * (t.val % 16) + (y 3).val; omega))).trans ?_
  rfl

/-- Window 12's block index at a grid point that writes it back. -/
theorem idx12 : ∀ t : Fin cfg0.N, win0_12.flush t = true → win0_12.index t = ![t.val / 16, 0, 0, t.val % 16 - 8] ∧ 8 ≤ t.val % 16 :=
  (by decide +kernel : ∀ t : Fin grid0.N, _)

/-- The last 2048 tokens of the group of dilation 16. -/
theorem final12 (c : Dev nD) : (dats m 0 c).arrAt 12 (cfgs 0).N = Spec.out7 (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t hf y => ?_
  have hi := idx12 t hf
  blk_simp
  rw [after0_12]
  have ht : t.val < 128 := t.isLt
  have h0 : (y 0).val < 1 := (y 0).isLt
  have h1 : (y 1).val < 2 := (y 1).isLt
  have h2 : (y 2).val < 256 := (y 2).isLt
  have h3 : (y 3).val < 256 := (y 3).isLt
  obtain ⟨hi, hg⟩ := hi
  have e : (win0_12.blk t).view.emb y = ix4 ⟨t.val / 16, by omega⟩ (y 1) (y 2) ⟨256 * (t.val % 16 - 8) + (y 3).val, by omega⟩ := by blk_ext [hi]
  rw [e]
  exact place12 m c t hg y

/-- What point `t` writes into window 13's block, by the argument arrays. -/
theorem place13 (c : Dev nD) (t : Fin cfg0.N) (hg : t.val % 16 = 15) (y : S1x32x1024.Idx) : (outsAt0 m c t).2.2.2.2.2.2.2.2 y = Spec.out8 (m ((c : Thread nD τ).loc main_arg0)) (m ((c : Thread nD τ).loc main_arg1)) (m ((c : Thread nD τ).loc main_arg2))
    (ix3 ⟨t.val / 16, by have ht : t.val < 128 := t.isLt; have h0 : (y 0).val < 1 := (y 0).isLt; have h1 : (y 1).val < 32 := (y 1).isLt; have h2 : (y 2).val < 1024 := (y 2).isLt; omega⟩ (y 1) (y 2)) := by
  have ht : t.val < 128 := t.isLt
  have h0 : (y 0).val < 1 := (y 0).isLt
  have h1 : (y 1).val < 32 := (y 1).isLt
  have h2 : (y 2).val < 1024 := (y 2).isLt
  rw [block13 m c t y, wrow_iblk, wmat_iblk]
  refine (congrArg (fun r => Spec.conv r (Spec.nrm (m ((c : Thread nD τ).loc main_arg1))) (Spec.mat (m ((c : Thread nD τ).loc main_arg2))) (y 2)) (row_iblk m c t _ ⟨t.val / 16, by omega⟩ ⟨4064 + (y 1).val, by omega⟩ rfl (by show 4064 + (y 1).val = 256 * (t.val % 16) + (224 + (y 1).val); omega))).trans ?_
  rfl

/-- Window 13's block index at a grid point that writes it back. -/
theorem idx13 : ∀ t : Fin cfg0.N, win0_13.flush t = true → win0_13.index t = ![t.val / 16, 0, 0] ∧ t.val % 16 = 15 :=
  (by decide +kernel : ∀ t : Fin grid0.N, _)

/-- The gated convolution input of the last 32 tokens. -/
theorem final13 (c : Dev nD) : (dats m 0 c).arrAt 13 (cfgs 0).N = Spec.out8 (m ((c : Thread nD τ).loc main_arg0)) (m ((c : Thread nD τ).loc main_arg1)) (m ((c : Thread nD τ).loc main_arg2)) := by
  refine (dats m 0 c).arrAt_eq_of_covers 13 _ (by decide +kernel) fun t hf y => ?_
  have hi := idx13 t hf
  blk_simp
  rw [after0_13]
  have ht : t.val < 128 := t.isLt
  have h0 : (y 0).val < 1 := (y 0).isLt
  have h1 : (y 1).val < 32 := (y 1).isLt
  have h2 : (y 2).val < 1024 := (y 2).isLt
  obtain ⟨hi, hg⟩ := hi
  have e : (win0_13.blk t).view.emb y = ix3 ⟨t.val / 16, by omega⟩ (y 1) (y 2) := by blk_ext [hi]
  rw [e]
  exact place13 m c t hg y

end Cert.KernelIdeal.Block

end
-- ==== Proof.Packed1.lean ====
module

public import proofs.«01_k».proof.Proof.Gen.KernelIdeal.Frame
public import Idealize.ShloMosaic.Lib.Pipeline.ValueKit
public import Idealize.ShloMosaic.Lib.Pipeline.ReadBack
public import proofs.«01_k».proof.Proof.Tiles

@[expose] public section

set_option maxRecDepth 16384

noncomputable section

namespace Cert.KernelIdeal.Block
open Cert.KernelIdeal Cert.KernelIdeal.Gen
open Idealize.ShloMosaic Idealize.ShloMosaic.TcCoe Idealize.SL.Sem

/-! The packed output of the group of dilation 4 at one grid point. -/

variable (m : (ℓ : Loc nD τ sig) → Buf (Elt Ideal) ℓ)

set_option maxHeartbeats 4000000 in
/-- Group 1's output block: row `4 t + r` of the block holds the packed columns of its token. -/
theorem block6 (c : Dev nD) (t : Fin cfg0.N) (y : S1x4x64x768.Idx) : (outsAt0 m c t).2.1 y =
    Spec.packed (row (iblk m c 0 t) ⟨4 * (y 2).val + (y 1).val, by have := (y 1).isLt; have := (y 2).isLt; simp at *; omega⟩) (wrow (iblk m c 1 t)) (wmat (iblk m c 2 t)) (hrow (iblk m c 3 t)) (hrow (iblk m c 4 t)) 1 (y 3) := by
  have hQ := readQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hQ
  frame_open at hK
  frame_open at hV
  simp only [↓ hQ, ↓ hK, ↓ hV]
  rw [View.read_writes_junk_eq_canon]
  clear hQ hK hV
  canon_tiles x h
  all_goals
    pointwise []
    first
    | refine stageQ_packed _ _ _ _ _ _ _ _ _ ?_ ?_ ?_
    | refine stageK_packed _ _ _ _ _ _ _ _ _ ?_ ?_ ?_ ?_
    | refine stageV_packed _ _ _ _ _ _ _ _ _ ?_ ?_ ?_
    all_goals first | omega | (simp [ix3]; omega) | simp [ix3]

end Cert.KernelIdeal.Block

end
-- ==== Proof.Packed2.lean ====
module

public import proofs.«01_k».proof.Proof.Gen.KernelIdeal.Frame
public import Idealize.ShloMosaic.Lib.Pipeline.ValueKit
public import Idealize.ShloMosaic.Lib.Pipeline.ReadBack
public import proofs.«01_k».proof.Proof.Tiles

@[expose] public section

set_option maxRecDepth 16384

noncomputable section

namespace Cert.KernelIdeal.Block
open Cert.KernelIdeal Cert.KernelIdeal.Gen
open Idealize.ShloMosaic Idealize.ShloMosaic.TcCoe Idealize.SL.Sem

/-! The packed output of the group of dilation 16 at one grid point. -/

variable (m : (ℓ : Loc nD τ sig) → Buf (Elt Ideal) ℓ)

set_option maxHeartbeats 40000000 in
/-- Group 2's output block: row `16 t + r` of the block holds the packed columns of its token. -/
theorem block7 (c : Dev nD) (t : Fin cfg0.N) (y : S1x16x16x768.Idx) : (outsAt0 m c t).2.2.1 y =
    Spec.packed (row (iblk m c 0 t) ⟨16 * (y 2).val + (y 1).val, by have := (y 1).isLt; have := (y 2).isLt; simp at *; omega⟩) (wrow (iblk m c 1 t)) (wmat (iblk m c 2 t)) (hrow (iblk m c 3 t)) (hrow (iblk m c 4 t)) 2 (y 3) := by
  have hQ := readQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hK := readK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  have hV := readV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (iblk m c 0 t) (iblk m c 1 t) (iblk m c 2 t) (iblk m c 3 t) (iblk m c 4 t) (κ := .tc) (sp := .vmem)
  simp only [outsAt0]
  frame_open
  frame_open at hQ
  frame_open at hK
  frame_open at hV
  simp only [↓ hQ, ↓ hK, ↓ hV]
  rw [View.read_writes_junk_eq_canon]
  clear hQ hK hV
  canon_tiles x h
  all_goals
    pointwise []
    first
    | refine stageQ_packed _ _ _ _ _ _ _ _ _ ?_ ?_ ?_
    | refine stageK_packed _ _ _ _ _ _ _ _ _ ?_ ?_ ?_ ?_
    | refine stageV_packed _ _ _ _ _ _ _ _ _ ?_ ?_ ?_
    all_goals first | omega | (simp [ix3]; omega) | simp [ix3]

end Cert.KernelIdeal.Block

end
-- ==== Proof.Arrays1.lean ====
module

public import proofs.«01_k».proof.Proof.Operands
public import proofs.«01_k».proof.Proof.Packed1
public import proofs.«01_k».proof.Proof.Packed2

@[expose] public section

set_option maxRecDepth 16384

noncomputable section

namespace Cert.KernelIdeal.Block
open Cert.KernelIdeal Cert.KernelIdeal.Gen
open Idealize.ShloMosaic Idealize.ShloMosaic.TcCoe Idealize.SL.Sem
open Idealize.ShloMosaic.Pipeline (Dat)

/-! The packed arrays of the groups of dilation 4 and 16, by the argument arrays. -/

variable (m : (ℓ : Loc nD τ sig) → Buf (Elt Ideal) ℓ)

/-- What point `t` writes into window 6's block, by the argument arrays. -/
theorem place6 (c : Dev nD) (t : Fin cfg0.N) (y : S1x4x64x768.Idx) : (outsAt0 m c t).2.1 y = Spec.out1 (m ((c : Thread nD τ).loc main_arg0)) (m ((c : Thread nD τ).loc main_arg1)) (m ((c : Thread nD τ).loc main_arg2)) (m ((c : Thread nD τ).loc main_arg3)) (m ((c : Thread nD τ).loc main_arg4))
    (ix4 ⟨t.val / 16, by have ht : t.val < 128 := t.isLt; have h0 : (y 0).val < 1 := (y 0).isLt; have h1 : (y 1).val < 4 := (y 1).isLt; have h2 : (y 2).val < 64 := (y 2).isLt; have h3 : (y 3).val < 768 := (y 3).isLt; omega⟩ (y 1) ⟨64 * (t.val % 16) + (y 2).val, by have ht : t.val < 128 := t.isLt; have h0 : (y 0).val < 1 := (y 0).isLt; have h1 : (y 1).val < 4 := (y 1).isLt; have h2 : (y 2).val < 64 := (y 2).isLt; have h3 : (y 3).val < 768 := (y 3).isLt; omega⟩ (y 3)) := by
  have ht : t.val < 128 := t.isLt
  have h0 : (y 0).val < 1 := (y 0).isLt
  have h1 : (y 1).val < 4 := (y 1).isLt
  have h2 : (y 2).val < 64 := (y 2).isLt
  have h3 : (y 3).val < 768 := (y 3).isLt
  rw [block6 m c t y, wrow_iblk, wmat_iblk, hrow_iblk3, hrow_iblk4]
  refine (congrArg (fun r => Spec.packed r (Spec.nrm (m ((c : Thread nD τ).loc main_arg1))) (Spec.mat (m ((c : Thread nD τ).loc main_arg2))) (Spec.hds (m ((c : Thread nD τ).loc main_arg3))) (Spec.hds (m ((c : Thread nD τ).loc main_arg4))) 1 (y 3)) (row_iblk m c t _ ⟨t.val / 16, by omega⟩ ⟨4 * (64 * (t.val % 16) + (y 2).val) + (y 1).val, by omega⟩ rfl (by show 4 * (64 * (t.val % 16) + (y 2).val) + (y 1).val = 256 * (t.val % 16) + (4 * (y 2).val + (y 1).val); omega))).trans ?_
  rfl

/-- Window 6's block index at a grid point. -/
theorem idx6 : ∀ t : Fin cfg0.N, win0_6.index t = ![t.val / 16, 0, t.val % 16, 0] :=
  (by decide +kernel : ∀ t : Fin grid0.N, _)

/-- The packed array of the group of dilation 4. -/
theorem final6 (c : Dev nD) : (dats m 0 c).arrAt 6 (cfgs 0).N = Spec.out1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hi := idx6 t
  blk_simp
  rw [after0_6]
  have ht : t.val < 128 := t.isLt
  have h0 : (y 0).val < 1 := (y 0).isLt
  have h1 : (y 1).val < 4 := (y 1).isLt
  have h2 : (y 2).val < 64 := (y 2).isLt
  have h3 : (y 3).val < 768 := (y 3).isLt
  have e : (win0_6.blk t).view.emb y = ix4 ⟨t.val / 16, by omega⟩ (y 1) ⟨64 * (t.val % 16) + (y 2).val, by omega⟩ (y 3) := by blk_ext [hi]
  rw [e]
  exact place6 m c t y

/-- What point `t` writes into window 7's block, by the argument arrays. -/
theorem place7 (c : Dev nD) (t : Fin cfg0.N) (y : S1x16x16x768.Idx) : (outsAt0 m c t).2.2.1 y = Spec.out2 (m ((c : Thread nD τ).loc main_arg0)) (m ((c : Thread nD τ).loc main_arg1)) (m ((c : Thread nD τ).loc main_arg2)) (m ((c : Thread nD τ).loc main_arg3)) (m ((c : Thread nD τ).loc main_arg4))
    (ix4 ⟨t.val / 16, by have ht : t.val < 128 := t.isLt; have h0 : (y 0).val < 1 := (y 0).isLt; have h1 : (y 1).val < 16 := (y 1).isLt; have h2 : (y 2).val < 16 := (y 2).isLt; have h3 : (y 3).val < 768 := (y 3).isLt; omega⟩ (y 1) ⟨16 * (t.val % 16) + (y 2).val, by have ht : t.val < 128 := t.isLt; have h0 : (y 0).val < 1 := (y 0).isLt; have h1 : (y 1).val < 16 := (y 1).isLt; have h2 : (y 2).val < 16 := (y 2).isLt; have h3 : (y 3).val < 768 := (y 3).isLt; omega⟩ (y 3)) := by
  have ht : t.val < 128 := t.isLt
  have h0 : (y 0).val < 1 := (y 0).isLt
  have h1 : (y 1).val < 16 := (y 1).isLt
  have h2 : (y 2).val < 16 := (y 2).isLt
  have h3 : (y 3).val < 768 := (y 3).isLt
  rw [block7 m c t y, wrow_iblk, wmat_iblk, hrow_iblk3, hrow_iblk4]
  refine (congrArg (fun r => Spec.packed r (Spec.nrm (m ((c : Thread nD τ).loc main_arg1))) (Spec.mat (m ((c : Thread nD τ).loc main_arg2))) (Spec.hds (m ((c : Thread nD τ).loc main_arg3))) (Spec.hds (m ((c : Thread nD τ).loc main_arg4))) 2 (y 3)) (row_iblk m c t _ ⟨t.val / 16, by omega⟩ ⟨16 * (16 * (t.val % 16) + (y 2).val) + (y 1).val, by omega⟩ rfl (by show 16 * (16 * (t.val % 16) + (y 2).val) + (y 1).val = 256 * (t.val % 16) + (16 * (y 2).val + (y 1).val); omega))).trans ?_
  rfl

/-- Window 7's block index at a grid point. -/
theorem idx7 : ∀ t : Fin cfg0.N, win0_7.index t = ![t.val / 16, 0, t.val % 16, 0] :=
  (by decide +kernel : ∀ t : Fin grid0.N, _)

/-- The packed array of the group of dilation 16. -/
theorem final7 (c : Dev nD) : (dats m 0 c).arrAt 7 (cfgs 0).N = Spec.out2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hi := idx7 t
  blk_simp
  rw [after0_7]
  have ht : t.val < 128 := t.isLt
  have h0 : (y 0).val < 1 := (y 0).isLt
  have h1 : (y 1).val < 16 := (y 1).isLt
  have h2 : (y 2).val < 16 := (y 2).isLt
  have h3 : (y 3).val < 768 := (y 3).isLt
  have e : (win0_7.blk t).view.emb y = ix4 ⟨t.val / 16, by omega⟩ (y 1) ⟨16 * (t.val % 16) + (y 2).val, by omega⟩ (y 3) := by blk_ext [hi]
  rw [e]
  exact place7 m c t y

end Cert.KernelIdeal.Block

end
-- ==== Proof.Consts.lean ====
module

public import proofs.«01_k».proof.Proof.Layer

@[expose] public section

noncomputable section

namespace Cert.Spec
open Idealize.ShloMosaic

/-! The constants of the two programs as real numbers, and the two steps where they write a division and a product differently. -/

/-- Sixty-four. -/
theorem c64 : Ideal.ofBits .f32 1115684864#32 = ((64 : ℝ) : EReal) := by
  simp [Ideal.ofBits, Ideal.ieee, -EReal.coe_mul]; norm_num
/-- One over sixty-four. -/
theorem c1_64 : Ideal.ofBits .f32 1015021568#32 = ((1 / 64 : ℝ) : EReal) := by
  simp [Ideal.ofBits, Ideal.ieee, -EReal.coe_mul]; norm_num
/-- One eighth. -/
theorem c1_8 : Ideal.ofBits .f32 1040187392#32 = ((1 / 8 : ℝ) : EReal) := by
  simp [Ideal.ofBits, Ideal.ieee, -EReal.coe_mul]; norm_num
/-- Two. -/
theorem c2 : Ideal.ofBits .f32 1073741824#32 = ((2 : ℝ) : EReal) := by
  simp [Ideal.ofBits, Ideal.ieee, -EReal.coe_mul]; norm_num

/-- The mean over a head's 64 columns: dividing by 64 is multiplying by 1/64. -/
theorem mean64 (x : EReal) : Ideal.div x (Ideal.ofBits .f32 1115684864#32) = x * Ideal.ofBits .f32 1015021568#32 := by
  rw [c64, c1_64]
  exact Ideal.div_coe (by norm_num) x

/-- The scale on the queries: times one eighth and over the logarithm of two, or times the one number. -/
theorem scaled (x : EReal) : Ideal.div (x * Ideal.ofBits .f32 1040187392#32) (Ideal.log (Ideal.ofBits .f32 1073741824#32)) = x * qScale := by
  rw [c1_8, c2]
  have hl : Ideal.log ((2 : ℝ) : EReal) = ((Real.log 2 : ℝ) : EReal) := by
    rw [Ideal.log_coe, if_neg (by norm_num)]
  have h0 : Real.log 2 ≠ 0 := (Real.log_pos (by norm_num)).ne'
  rw [hl, Ideal.div_coe h0, mul_assoc, ← EReal.coe_mul, one_div (Real.log 2)]
  rfl

end Cert.Spec

end
-- ==== Proof.RefParts.lean ====
module

public import proofs.«01_k».proof.Proof.Gen.ReferenceIdeal.Read
public import Idealize.ShloMosaic.Lib.Pipeline.ValueKit
public import proofs.«01_k».proof.Proof.Consts

@[expose] public section

set_option maxRecDepth 16384

noncomputable section

namespace Cert.ReferenceIdeal.Plain
open Cert.ReferenceIdeal Cert.ReferenceIdeal.Read
open Idealize.ShloMosaic Idealize.ShloMosaic.TcCoe Idealize.SL.Sem

/-! The reference's results, entry by entry. -/

variable (x0 : (⟨S8x4096x1024, .f32⟩ : BufTy).Contents (Elt Ideal)) (x1 : (⟨S1x1024, .f32⟩ : BufTy).Contents (Elt Ideal))
  (x2 : (⟨S1x1024x6400, .f32⟩ : BufTy).Contents (Elt Ideal)) (x3 x4 : (⟨S1x64, .f32⟩ : BufTy).Contents (Elt Ideal))

/-- Entry of the projection. -/
theorem proj_at (i : S8x4096x6400.Idx) : val_main_v17 (F := Ideal) x0 x1 x2 i = Spec.proj (Spec.tok x0 (i 0) (i 1)) (Spec.nrm x1) (Spec.mat x2) (i 2) := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_v0, val_main_v1, Spec.proj, Spec.rms, Spec.tok, Spec.nrm, Spec.mat]

/-- Entry of the query columns by group, head and column. -/
theorem zq_at (i : S8x4096x3x4x64.Idx) : val_main_v19 (F := Ideal) x0 x1 x2 i = Spec.proj (Spec.tok x0 (i 0) (i 1)) (Spec.nrm x1) (Spec.mat x2)
    ⟨(256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 8 := (i 0).isLt
  have h1 : (i 1).val < 4096 := (i 1).isLt
  have h2 : (i 2).val < 3 := (i 2).isLt
  have h3 : (i 3).val < 4 := (i 3).isLt
  have h4 : (i 4).val < 64 := (i 4).isLt
  rw [val_main_v19_apply, val_main_v18_apply, proj_at]
  have e0 : idx_main_v18 (idx_main_v19 i) 0 = i 0 := Fin.ext (by show (((((i 0).val * 4096 + (i 1).val) * 3 + (i 2).val) * 4 + (i 3).val) * 64 + (i 4).val) / 3145728 = (i 0).val; omega)
  have e1 : idx_main_v18 (idx_main_v19 i) 1 = i 1 := Fin.ext (by show (((((i 0).val * 4096 + (i 1).val) * 3 + (i 2).val) * 4 + (i 3).val) * 64 + (i 4).val) / 768 % 4096 = (i 1).val; omega)
  have e2 : idx_main_v18 (idx_main_v19 i) 2 = (⟨(256 * (i 2).val + 64 * (i 3).val + (i 4).val), by omega⟩ : Fin 6400) :=
    Fin.ext (by show (((((i 0).val * 4096 + (i 1).val) * 3 + (i 2).val) * 4 + (i 3).val) * 64 + (i 4).val) % 768 = (256 * (i 2).val + 64 * (i 3).val + (i 4).val); omega)
  rw [e0, e1, e2]

/-- Entry of the key columns by group, head and column. -/
theorem zk_at (i : S8x4096x3x4x64.Idx) : val_main_v21 (F := Ideal) x0 x1 x2 i = Spec.proj (Spec.tok x0 (i 0) (i 1)) (Spec.nrm x1) (Spec.mat x2)
    ⟨768 + (256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 8 := (i 0).isLt
  have h1 : (i 1).val < 4096 := (i 1).isLt
  have h2 : (i 2).val < 3 := (i 2).isLt
  have h3 : (i 3).val < 4 := (i 3).isLt
  have h4 : (i 4).val < 64 := (i 4).isLt
  rw [val_main_v21_apply, val_main_v20_apply, proj_at]
  have e0 : idx_main_v20 (idx_main_v21 i) 0 = i 0 := Fin.ext (by show (((((i 0).val * 4096 + (i 1).val) * 3 + (i 2).val) * 4 + (i 3).val) * 64 + (i 4).val) / 3145728 = (i 0).val; omega)
  have e1 : idx_main_v20 (idx_main_v21 i) 1 = i 1 := Fin.ext (by show (((((i 0).val * 4096 + (i 1).val) * 3 + (i 2).val) * 4 + (i 3).val) * 64 + (i 4).val) / 768 % 4096 = (i 1).val; omega)
  have e2 : idx_main_v20 (idx_main_v21 i) 2 = (⟨768 + (256 * (i 2).val + 64 * (i 3).val + (i 4).val), by omega⟩ : Fin 6400) :=
    Fin.ext (by show 768 + (((((i 0).val * 4096 + (i 1).val) * 3 + (i 2).val) * 4 + (i 3).val) * 64 + (i 4).val) % 768 = 768 + (256 * (i 2).val + 64 * (i 3).val + (i 4).val); omega)
  rw [e0, e1, e2]

/-- Entry of the value columns by group, head and column. -/
theorem zv_at (i : S8x4096x3x4x64.Idx) : val_main_v23 (F := Ideal) x0 x1 x2 i = Spec.proj (Spec.tok x0 (i 0) (i 1)) (Spec.nrm x1) (Spec.mat x2)
    ⟨1536 + (256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 8 := (i 0).isLt
  have h1 : (i 1).val < 4096 := (i 1).isLt
  have h2 : (i 2).val < 3 := (i 2).isLt
  have h3 : (i 3).val < 4 := (i 3).isLt
  have h4 : (i 4).val < 64 := (i 4).isLt
  rw [val_main_v23_apply, val_main_v22_apply, proj_at]
  have e0 : idx_main_v22 (idx_main_v23 i) 0 = i 0 := Fin.ext (by show (((((i 0).val * 4096 + (i 1).val) * 3 + (i 2).val) * 4 + (i 3).val) * 64 + (i 4).val) / 3145728 = (i 0).val; omega)
  have e1 : idx_main_v22 (idx_main_v23 i) 1 = i 1 := Fin.ext (by show (((((i 0).val * 4096 + (i 1).val) * 3 + (i 2).val) * 4 + (i 3).val) * 64 + (i 4).val) / 768 % 4096 = (i 1).val; omega)
  have e2 : idx_main_v22 (idx_main_v23 i) 2 = (⟨1536 + (256 * (i 2).val + 64 * (i 3).val + (i 4).val), by omega⟩ : Fin 6400) :=
    Fin.ext (by show 1536 + (((((i 0).val * 4096 + (i 1).val) * 3 + (i 2).val) * 4 + (i 3).val) * 64 + (i 4).val) % 768 = 1536 + (256 * (i 2).val + 64 * (i 3).val + (i 4).val); omega)
  rw [e0, e1, e2]

/-- Entry of the scaled queries. -/
theorem q_at (i : S8x4096x3x4x64.Idx) : val_main_v65 (F := Ideal) x0 x1 x2 x3 i = Spec.query (Spec.tok x0 (i 0) (i 1)) (Spec.nrm x1) (Spec.mat x2) (Spec.hds x3)
    ⟨256 * (i 2).val + 64 * (i 3).val + (i 4).val, by have h2 : (i 2).val < 3 := (i 2).isLt; have h3 : (i 3).val < 4 := (i 3).isLt; have h4 : (i 4).val < 64 := (i 4).isLt; omega⟩ := by
  pointwise [val_main_v65, val_main_v64, val_main_v63, val_main_v62, val_main_v61, val_main_v40, val_main_v39, val_main_v38, val_main_v37, val_main_v36, val_main_v35, val_main_v34, val_main_v33, val_main_v32, val_main_v31, val_main_v30, val_main_v29, val_main_v28, val_main_v2, val_main_cst_2, val_main_cst_3, val_main_cst_4, val_main_cst_10, val_main_cst_11]
  have hB : ∀ k : Fin 64, 256 * (i 2).val + 64 * (i 3).val + k.val = 64 * ((256 * (i 2).val + 64 * (i 3).val + (i 4).val) / 64) + k.val := fun k => by
    have h4 : (i 4).val < 64 := (i 4).isLt
    omega
  have hM : (256 * (i 2).val + 64 * (i 3).val + (i 4).val) % 64 = (i 4).val := by
    have h4 : (i 4).val < 64 := (i 4).isLt
    omega
  simp only [zq_at]
  rw [Spec.scaled, Spec.mean64]
  simp only [Spec.query, Spec.headNorm, Spec.hds, hM, ← hB]
  rfl

/-- Entry of the normalised keys. -/
theorem k_at (i : S8x4096x3x4x64.Idx) : val_main_v53 (F := Ideal) x0 x1 x2 x4 i = Spec.key (Spec.tok x0 (i 0) (i 1)) (Spec.nrm x1) (Spec.mat x2) (Spec.hds x4)
    ⟨256 * (i 2).val + 64 * (i 3).val + (i 4).val, by have h2 : (i 2).val < 3 := (i 2).isLt; have h3 : (i 3).val < 4 := (i 3).isLt; have h4 : (i 4).val < 64 := (i 4).isLt; omega⟩ := by
  pointwise [val_main_v53, val_main_v52, val_main_v51, val_main_v50, val_main_v49, val_main_v48, val_main_v47, val_main_v46, val_main_v45, val_main_v44, val_main_v43, val_main_v42, val_main_v41, val_main_v3, val_main_cst_5, val_main_cst_6, val_main_cst_7]
  have hB : ∀ k : Fin 64, 256 * (i 2).val + 64 * (i 3).val + k.val = 64 * ((256 * (i 2).val + 64 * (i 3).val + (i 4).val) / 64) + k.val := fun k => by
    have h4 : (i 4).val < 64 := (i 4).isLt
    omega
  have hM : (256 * (i 2).val + 64 * (i 3).val + (i 4).val) % 64 = (i 4).val := by
    have h4 : (i 4).val < 64 := (i 4).isLt
    omega
  simp only [zk_at]
  rw [Spec.mean64]
  simp only [Spec.key, Spec.headNorm, Spec.hds, hM, ← hB]
  rfl

/-- Entry of the gated convolution input. -/
theorem u_at (i : S8x4096x1024.Idx) : val_main_v60 (F := Ideal) x0 x1 x2 i = Spec.conv (Spec.tok x0 (i 0) (i 1)) (Spec.nrm x1) (Spec.mat x2) (i 2) := by
  pointwise [val_main_v60, val_main_v59, val_main_v58, val_main_v57, val_main_v56, val_main_v55, val_main_v54, val_main_v25, val_main_v24, val_main_cst_8, val_main_cst_9]
  simp only [proj_at]
  rfl

end Cert.ReferenceIdeal.Plain
end
-- ==== Proof.RefVal.lean ====
module

public import proofs.«01_k».proof.Proof.Gen.ReferenceIdeal.Read
public import Idealize.ShloMosaic.Lib.Pipeline.ValueKit
public import proofs.«01_k».proof.Proof.RefParts

@[expose] public section

set_option maxRecDepth 16384

noncomputable section

namespace Cert.ReferenceIdeal.Plain
open Cert.ReferenceIdeal Cert.ReferenceIdeal.Read
open Idealize.ShloMosaic Idealize.ShloMosaic.TcCoe Idealize.SL.Sem

/-! The reference's nine results are the nine arrays of the specification. -/

variable (x0 : (⟨S8x4096x1024, .f32⟩ : BufTy).Contents (Elt Ideal)) (x1 : (⟨S1x1024, .f32⟩ : BufTy).Contents (Elt Ideal))
  (x2 : (⟨S1x1024x6400, .f32⟩ : BufTy).Contents (Elt Ideal)) (x3 x4 : (⟨S1x64, .f32⟩ : BufTy).Contents (Elt Ideal))

/-- Equal coordinates, equal entry. -/
theorem query_at_eq (qw : Spec.HeadT) {b b' : Fin 8} {t t' : Fin 4096} {n n' : Fin 768} (hb : b.val = b'.val) (ht : t.val = t'.val) (hn : n.val = n'.val) :
    Spec.query (Spec.tok x0 b t) (Spec.nrm x1) (Spec.mat x2) (Spec.hds qw) n = Spec.query (Spec.tok x0 b' t') (Spec.nrm x1) (Spec.mat x2) (Spec.hds qw) n' := by
  rw [Fin.ext hb, Fin.ext ht, Fin.ext hn]

/-- Equal coordinates, equal entry. -/
theorem key_at_eq (kw : Spec.HeadT) {b b' : Fin 8} {t t' : Fin 4096} {n n' : Fin 768} (hb : b.val = b'.val) (ht : t.val = t'.val) (hn : n.val = n'.val) :
    Spec.key (Spec.tok x0 b t) (Spec.nrm x1) (Spec.mat x2) (Spec.hds kw) n = Spec.key (Spec.tok x0 b' t') (Spec.nrm x1) (Spec.mat x2) (Spec.hds kw) n' := by
  rw [Fin.ext hb, Fin.ext ht, Fin.ext hn]

/-- Equal coordinates, equal entry. -/
theorem proj_at_eq  {b b' : Fin 8} {t t' : Fin 4096} {n n' : Fin 6400} (hb : b.val = b'.val) (ht : t.val = t'.val) (hn : n.val = n'.val) :
    Spec.proj (Spec.tok x0 b t) (Spec.nrm x1) (Spec.mat x2)  n = Spec.proj (Spec.tok x0 b' t') (Spec.nrm x1) (Spec.mat x2)  n' := by
  rw [Fin.ext hb, Fin.ext ht, Fin.ext hn]

/-- The packed array of the group of dilation 1. -/
theorem ref0 : val_main_v79 (F := Ideal) x0 x1 x2 x3 x4 = Spec.out0 x0 x1 x2 x3 x4 := by
  funext y
  have h0 : (y 0).val < 8 := (y 0).isLt
  have h1 : (y 1).val < 1 := (y 1).isLt
  have h2 : (y 2).val < 4096 := (y 2).isLt
  have h3 : (y 3).val < 768 := (y 3).isLt
  pointwise [val_main_v79, val_main_v78, val_main_v77, val_main_v76, val_main_v75, val_main_v74, val_main_v73, val_main_v72, val_main_v71, val_main_v70, val_main_v69, val_main_v68, val_main_v67, val_main_v66]
  simp only [q_at, k_at, zv_at, Spec.out0, Spec.packedAt, Spec.packed, Spec.value]
  by_cases ha : (y 3).val < 256
  · simp only [ha, ↓reduceDIte]
    refine query_at_eq _ _ _ _ ?_ ?_ ?_
    all_goals first | omega | (simp [ix5]; done) | (simp [ix5]; omega)
  · by_cases hc : (y 3).val < 512
    · have hd : (y 3).val - 256 < 256 := by omega
      simp only [ha, hc, hd, ↓reduceDIte]
      refine key_at_eq _ _ _ _ ?_ ?_ ?_
      all_goals first | omega | (simp [ix5]; done) | (simp [ix5]; omega)
    · have hd : ¬(y 3).val - 256 < 256 := by omega
      simp only [ha, hc, hd, ↓reduceDIte]
      refine proj_at_eq _ _ _ ?_ ?_ ?_
      all_goals first | omega | (simp [ix5]; done) | (simp [ix5]; omega)

/-- The packed array of the group of dilation 4. -/
theorem ref1 : val_main_v102 (F := Ideal) x0 x1 x2 x3 x4 = Spec.out1 x0 x1 x2 x3 x4 := by
  funext y
  have h0 : (y 0).val < 8 := (y 0).isLt
  have h1 : (y 1).val < 4 := (y 1).isLt
  have h2 : (y 2).val < 1024 := (y 2).isLt
  have h3 : (y 3).val < 768 := (y 3).isLt
  pointwise [val_main_v102, val_main_v101, val_main_v100, val_main_v99, val_main_v98, val_main_v97, val_main_v96, val_main_v95, val_main_v94, val_main_v93, val_main_v92, val_main_v91, val_main_v90, val_main_v89]
  simp only [q_at, k_at, zv_at, Spec.out1, Spec.packedAt, Spec.packed, Spec.value]
  by_cases ha : (y 3).val < 256
  · simp only [ha, ↓reduceDIte]
    refine query_at_eq _ _ _ _ ?_ ?_ ?_
    all_goals first | omega | (simp [ix5]; done) | (simp [ix5]; omega)
  · by_cases hc : (y 3).val < 512
    · have hd : (y 3).val - 256 < 256 := by omega
      simp only [ha, hc, hd, ↓reduceDIte]
      refine key_at_eq _ _ _ _ ?_ ?_ ?_
      all_goals first | omega | (simp [ix5]; done) | (simp [ix5]; omega)
    · have hd : ¬(y 3).val - 256 < 256 := by omega
      simp only [ha, hc, hd, ↓reduceDIte]
      refine proj_at_eq _ _ _ ?_ ?_ ?_
      all_goals first | omega | (simp [ix5]; done) | (simp [ix5]; omega)

/-- The packed array of the group of dilation 16. -/
theorem ref2 : val_main_v125 (F := Ideal) x0 x1 x2 x3 x4 = Spec.out2 x0 x1 x2 x3 x4 := by
  funext y
  have h0 : (y 0).val < 8 := (y 0).isLt
  have h1 : (y 1).val < 16 := (y 1).isLt
  have h2 : (y 2).val < 256 := (y 2).isLt
  have h3 : (y 3).val < 768 := (y 3).isLt
  pointwise [val_main_v125, val_main_v124, val_main_v123, val_main_v122, val_main_v121, val_main_v120, val_main_v119, val_main_v118, val_main_v117, val_main_v116, val_main_v115, val_main_v114, val_main_v113, val_main_v112]
  simp only [q_at, k_at, zv_at, Spec.out2, Spec.packedAt, Spec.packed, Spec.value]
  by_cases ha : (y 3).val < 256
  · simp only [ha, ↓reduceDIte]
    refine query_at_eq _ _ _ _ ?_ ?_ ?_
    all_goals first | omega | (simp [ix5]; done) | (simp [ix5]; omega)
  · by_cases hc : (y 3).val < 512
    · have hd : (y 3).val - 256 < 256 := by omega
      simp only [ha, hc, hd, ↓reduceDIte]
      refine key_at_eq _ _ _ _ ?_ ?_ ?_
      all_goals first | omega | (simp [ix5]; done) | (simp [ix5]; omega)
    · have hd : ¬(y 3).val - 256 < 256 := by omega
      simp only [ha, hc, hd, ↓reduceDIte]
      refine proj_at_eq _ _ _ ?_ ?_ ?_
      all_goals first | omega | (simp [ix5]; done) | (simp [ix5]; omega)

/-- The gated convolution input. -/
theorem ref3 : val_main_v60 (F := Ideal) x0 x1 x2 = Spec.out3 x0 x1 x2 := by
  funext y
  rw [u_at]
  rfl

/-- The merge gates. -/
theorem ref4 : val_main_v148 (F := Ideal) x0 x1 x2 = Spec.out4 x0 x1 x2 := by
  funext y
  have h0 : (y 0).val < 8 := (y 0).isLt
  have h1 : (y 1).val < 4096 := (y 1).isLt
  have h2 : (y 2).val < 2048 := (y 2).isLt
  pointwise [val_main_v148, val_main_v147, val_main_v146, val_main_v145, val_main_v144, val_main_v143, val_main_v142, val_main_v141, val_main_v140, val_main_v139, val_main_v138, val_main_v137, val_main_v136, val_main_v135, val_main_v27, val_main_v26, val_main_cst_12, val_main_cst_13, val_main_cst_14, val_main_cst_15]
  simp only [proj_at, Spec.out4, Spec.gateAt, Spec.gate]
  by_cases ha : (y 2).val < 1024
  · rw [dif_pos ha]
    rfl
  · rw [dif_neg ha]
    refine congrArg (fun z => Ideal.div 1 (1 + Ideal.exp (-z))) (proj_at_eq x0 x1 x2 rfl rfl ?_)
    show 5376 + ((y 2).val - 1024) = 4352 + (y 2).val
    omega

/-- The last 128 tokens' keys and values of their group. -/
theorem ref5 : val_main_v88 (F := Ideal) x0 x1 x2 x4 = Spec.out5 x0 x1 x2 x4 := by
  funext y
  have h0 : (y 0).val < 8 := (y 0).isLt
  have h1 : (y 1).val < 2 := (y 1).isLt
  have h2 : (y 2).val < 256 := (y 2).isLt
  have h3 : (y 3).val < 128 := (y 3).isLt
  pointwise [val_main_v88, val_main_v87, val_main_v86, val_main_v85, val_main_v84, val_main_v83, val_main_v82, val_main_v81, val_main_v80]
  simp only [k_at, zv_at, Spec.out5, Spec.tailAt, Spec.tail, Spec.value]
  by_cases ha : (y 1).val = 0
  · have hd : (y 1).val < 1 := by omega
    simp only [ha, hd, ↓reduceDIte, ↓reduceIte]
    refine key_at_eq _ _ _ _ ?_ ?_ ?_
    all_goals first | omega | (simp [ix5]; done) | (simp [ix5]; omega)
  · have hd : ¬(y 1).val < 1 := by omega
    simp only [ha, hd, ↓reduceDIte, ↓reduceIte]
    refine proj_at_eq _ _ _ ?_ ?_ ?_
    all_goals first | omega | (simp [ix5]; done) | (simp [ix5]; omega)

/-- The last 512 tokens' keys and values of their group. -/
theorem ref6 : val_main_v111 (F := Ideal) x0 x1 x2 x4 = Spec.out6 x0 x1 x2 x4 := by
  funext y
  have h0 : (y 0).val < 8 := (y 0).isLt
  have h1 : (y 1).val < 2 := (y 1).isLt
  have h2 : (y 2).val < 256 := (y 2).isLt
  have h3 : (y 3).val < 512 := (y 3).isLt
  pointwise [val_main_v111, val_main_v110, val_main_v109, val_main_v108, val_main_v107, val_main_v106, val_main_v105, val_main_v104, val_main_v103]
  simp only [k_at, zv_at, Spec.out6, Spec.tailAt, Spec.tail, Spec.value]
  by_cases ha : (y 1).val = 0
  · have hd : (y 1).val < 1 := by omega
    simp only [ha, hd, ↓reduceDIte, ↓reduceIte]
    refine key_at_eq _ _ _ _ ?_ ?_ ?_
    all_goals first | omega | (simp [ix5]; done) | (simp [ix5]; omega)
  · have hd : ¬(y 1).val < 1 := by omega
    simp only [ha, hd, ↓reduceDIte, ↓reduceIte]
    refine proj_at_eq _ _ _ ?_ ?_ ?_
    all_goals first | omega | (simp [ix5]; done) | (simp [ix5]; omega)

/-- The last 2048 tokens' keys and values of their group. -/
theorem ref7 : val_main_v134 (F := Ideal) x0 x1 x2 x4 = Spec.out7 x0 x1 x2 x4 := by
  funext y
  have h0 : (y 0).val < 8 := (y 0).isLt
  have h1 : (y 1).val < 2 := (y 1).isLt
  have h2 : (y 2).val < 256 := (y 2).isLt
  have h3 : (y 3).val < 2048 := (y 3).isLt
  pointwise [val_main_v134, val_main_v133, val_main_v132, val_main_v131, val_main_v130, val_main_v129, val_main_v128, val_main_v127, val_main_v126]
  simp only [k_at, zv_at, Spec.out7, Spec.tailAt, Spec.tail, Spec.value]
  by_cases ha : (y 1).val = 0
  · have hd : (y 1).val < 1 := by omega
    simp only [ha, hd, ↓reduceDIte, ↓reduceIte]
    refine key_at_eq _ _ _ _ ?_ ?_ ?_
    all_goals first | omega | (simp [ix5]; done) | (simp [ix5]; omega)
  · have hd : ¬(y 1).val < 1 := by omega
    simp only [ha, hd, ↓reduceDIte, ↓reduceIte]
    refine proj_at_eq _ _ _ ?_ ?_ ?_
    all_goals first | omega | (simp [ix5]; done) | (simp [ix5]; omega)

/-- The gated convolution input of the last 32 tokens. -/
theorem ref8 : val_main_v149 (F := Ideal) x0 x1 x2 = Spec.out8 x0 x1 x2 := by
  funext y
  pointwise [val_main_v149]
  simp only [u_at]
  rfl

end Cert.ReferenceIdeal.Plain

end
-- ==== Proof.MergeFrame.lean ====
module

public import proofs.«01_k».proof.Defs
public import proofs.«01_k».proof.Kernel2
public import proofs.«01_k».proof.Proof.Gen.Kernel2Ideal.Frame

@[expose] public section

set_option maxRecDepth 65536

noncomputable section

namespace Cert.Kernel2.Same
open Idealize.ShloMosaic Idealize.ShloMosaic.TcCoe Idealize.SL.Sem

/-! The second kernel's own program and its idealized one have the same text, so the second program's facts and its frame are those of the first at the other float values. -/

theorem shapes1 : Cert.Kernel2.Shapes1.Facts₀ := by
  constructor
  all_goals decide

theorem shapes2 : Cert.Kernel2.Shapes2.Facts₀ := by
  constructor
  all_goals decide

theorem k0 : Cert.Kernel2.K0.Facts₀ where
  hrank0 := @Cert.Kernel2Ideal.Gen.hrank0
  hstage0_0 := @Cert.Kernel2Ideal.Gen.hstage0_0
  nbuf0_0 := @Cert.Kernel2Ideal.Gen.nbuf0_0
  hreads0_0 := @Cert.Kernel2Ideal.Gen.hreads0_0
  hinb0_0 := @Cert.Kernel2Ideal.Gen.hinb0_0
  hwx0_0 := @Cert.Kernel2Ideal.Gen.hwx0_0
  hstage0_1 := @Cert.Kernel2Ideal.Gen.hstage0_1
  nbuf0_1 := @Cert.Kernel2Ideal.Gen.nbuf0_1
  hreads0_1 := @Cert.Kernel2Ideal.Gen.hreads0_1
  hinb0_1 := @Cert.Kernel2Ideal.Gen.hinb0_1
  hwx0_1 := @Cert.Kernel2Ideal.Gen.hwx0_1
  hstage0_2 := @Cert.Kernel2Ideal.Gen.hstage0_2
  nbuf0_2 := @Cert.Kernel2Ideal.Gen.nbuf0_2
  hreads0_2 := @Cert.Kernel2Ideal.Gen.hreads0_2
  hinb0_2 := @Cert.Kernel2Ideal.Gen.hinb0_2
  hwx0_2 := @Cert.Kernel2Ideal.Gen.hwx0_2
  hstage0_3 := @Cert.Kernel2Ideal.Gen.hstage0_3
  nbuf0_3 := @Cert.Kernel2Ideal.Gen.nbuf0_3
  hreads0_3 := @Cert.Kernel2Ideal.Gen.hreads0_3
  hinb0_3 := @Cert.Kernel2Ideal.Gen.hinb0_3
  hwx0_3 := @Cert.Kernel2Ideal.Gen.hwx0_3
  hstage0_4 := @Cert.Kernel2Ideal.Gen.hstage0_4
  nbuf0_4 := @Cert.Kernel2Ideal.Gen.nbuf0_4
  hreads0_4 := @Cert.Kernel2Ideal.Gen.hreads0_4
  hinb0_4 := @Cert.Kernel2Ideal.Gen.hinb0_4
  hwx0_4 := @Cert.Kernel2Ideal.Gen.hwx0_4
  hstage0_5 := @Cert.Kernel2Ideal.Gen.hstage0_5
  nbuf0_5 := @Cert.Kernel2Ideal.Gen.nbuf0_5
  hreads0_5 := @Cert.Kernel2Ideal.Gen.hreads0_5
  hinb0_5 := @Cert.Kernel2Ideal.Gen.hinb0_5
  hwx0_5 := @Cert.Kernel2Ideal.Gen.hwx0_5
  hstage0_6 := @Cert.Kernel2Ideal.Gen.hstage0_6
  nbuf0_6 := @Cert.Kernel2Ideal.Gen.nbuf0_6
  hreads0_6 := @Cert.Kernel2Ideal.Gen.hreads0_6
  hinb0_6 := @Cert.Kernel2Ideal.Gen.hinb0_6
  hwx0_6 := @Cert.Kernel2Ideal.Gen.hwx0_6
  hstage0_7 := @Cert.Kernel2Ideal.Gen.hstage0_7
  nbuf0_7 := @Cert.Kernel2Ideal.Gen.nbuf0_7
  hreads0_7 := @Cert.Kernel2Ideal.Gen.hreads0_7
  hinb0_7 := @Cert.Kernel2Ideal.Gen.hinb0_7
  hwx0_7 := @Cert.Kernel2Ideal.Gen.hwx0_7
  hstage0_8 := @Cert.Kernel2Ideal.Gen.hstage0_8
  nbuf0_8 := @Cert.Kernel2Ideal.Gen.nbuf0_8
  hreads0_8 := @Cert.Kernel2Ideal.Gen.hreads0_8
  hinb0_8 := @Cert.Kernel2Ideal.Gen.hinb0_8
  hwx0_8 := @Cert.Kernel2Ideal.Gen.hwx0_8
  hstage0_9 := @Cert.Kernel2Ideal.Gen.hstage0_9
  nbuf0_9 := @Cert.Kernel2Ideal.Gen.nbuf0_9
  hreads0_9 := @Cert.Kernel2Ideal.Gen.hreads0_9
  hinb0_9 := @Cert.Kernel2Ideal.Gen.hinb0_9
  hwx0_9 := @Cert.Kernel2Ideal.Gen.hwx0_9
  hstage0_10 := @Cert.Kernel2Ideal.Gen.hstage0_10
  nbuf0_10 := @Cert.Kernel2Ideal.Gen.nbuf0_10
  hreads0_10 := @Cert.Kernel2Ideal.Gen.hreads0_10
  hinb0_10 := @Cert.Kernel2Ideal.Gen.hinb0_10
  hwx0_10 := @Cert.Kernel2Ideal.Gen.hwx0_10
  hstage0_11 := @Cert.Kernel2Ideal.Gen.hstage0_11
  nbuf0_11 := @Cert.Kernel2Ideal.Gen.nbuf0_11
  hreads0_11 := @Cert.Kernel2Ideal.Gen.hreads0_11
  hinb0_11 := @Cert.Kernel2Ideal.Gen.hinb0_11
  hwx0_11 := @Cert.Kernel2Ideal.Gen.hwx0_11
  hstage0_12 := @Cert.Kernel2Ideal.Gen.hstage0_12
  nbuf0_12 := @Cert.Kernel2Ideal.Gen.nbuf0_12
  hreads0_12 := @Cert.Kernel2Ideal.Gen.hreads0_12
  hinb0_12 := @Cert.Kernel2Ideal.Gen.hinb0_12
  hwx0_12 := @Cert.Kernel2Ideal.Gen.hwx0_12
  hstage0_13 := @Cert.Kernel2Ideal.Gen.hstage0_13
  nbuf0_13 := @Cert.Kernel2Ideal.Gen.nbuf0_13
  hreads0_13 := @Cert.Kernel2Ideal.Gen.hreads0_13
  hinb0_13 := @Cert.Kernel2Ideal.Gen.hinb0_13
  hwx0_13 := @Cert.Kernel2Ideal.Gen.hwx0_13
  hstage0_14 := @Cert.Kernel2Ideal.Gen.hstage0_14
  nbuf0_14 := @Cert.Kernel2Ideal.Gen.nbuf0_14
  hreads0_14 := @Cert.Kernel2Ideal.Gen.hreads0_14
  hinb0_14 := @Cert.Kernel2Ideal.Gen.hinb0_14
  hwx0_14 := @Cert.Kernel2Ideal.Gen.hwx0_14
  hstage0_15 := @Cert.Kernel2Ideal.Gen.hstage0_15
  nbuf0_15 := @Cert.Kernel2Ideal.Gen.nbuf0_15
  hreads0_15 := @Cert.Kernel2Ideal.Gen.hreads0_15
  hinb0_15 := @Cert.Kernel2Ideal.Gen.hinb0_15
  hwx0_15 := @Cert.Kernel2Ideal.Gen.hwx0_15

instance facts₀ : Cert.Kernel2.Facts₀ where
  shapes1 := shapes1
  shapes2 := shapes2
  k0 := k0

instance facts : Cert.Kernel2.Facts where

variable {F : FTy → Type} [FloatOps F]
set_option maxHeartbeats 4000000

set_option maxRecDepth 1000000
theorem body_eq : Cert.Kernel2.cc0_merge_ffn_prompt (F := F) = Cert.Kernel2Ideal.cc0_merge_ffn_prompt (F := F) := rfl

theorem defs₀_eq : Cert.Kernel2.defs₀ (F := F) = Cert.Kernel2Ideal.defs₀ (F := F) := by
  unfold Cert.Kernel2.defs₀ Cert.Kernel2Ideal.defs₀
  refine congrArg _ ?_
  funext l a
  match l, a with
  | ⟨0, _⟩, a => exact rfl

theorem defs_eq : Cert.Kernel2.defs (F := F) = Cert.Kernel2Ideal.defs (F := F) := congrArg _ defs₀_eq

theorem main_eq : Cert.Kernel2.main (F := F) = Cert.Kernel2Ideal.main (F := F) := rfl

/-- The same run from the same state: what holds after the idealized program's holds after this one's. -/
theorem run_of (m : (ℓ : Loc nD τ sig) → Buf (Elt F) ℓ) (ρ : Dev nD → PrngReg) (post)
    (h : θ_run (Cert.Kernel2Ideal.defs (F := F)) (onTc (τ := Cert.Kernel2Ideal.τ) (Cert.Kernel2Ideal.main (F := F))) ⟨m, fun _ => 0, ρ⟩ post) :
    θ_run (Cert.Kernel2.defs (F := F)) (onTc (τ := τ) (Cert.Kernel2.main (F := F))) ⟨m, fun _ => 0, ρ⟩ post := by
  rw [defs_eq, main_eq]
  exact h

theorem frame : Cert.quiescent_Kernel2 (hKernel2 := facts) := fun m ρ _ =>
  run_of m ρ _ (Cert.Kernel2Ideal.Gen.frame (F := Bits) m ρ)

end Cert.Kernel2.Same

end
-- ==== Proof.MergeSpec.lean ====
module

public import proofs.«01_k».proof.Proof.Spec

@[expose] public section

set_option maxRecDepth 16384

noncomputable section

namespace Cert.Merge
open Idealize.ShloMosaic

/-! The mathematics of the merge of attention and convolution followed by the feed-forward layer, for ONE token: functions of the token's row, its attention
output, the 31 rows of the convolution input that end at the token, its gates, and the weights. -/

/-- Thirty-one terms added one after the other are their sum. -/
theorem taps (f : Fin 31 → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k, f k := by
  simp only [Fin.sum_univ_castSucc, Fin.sum_univ_zero, zero_add]
  rfl

/-- The same from a first term, which may as well be added last. -/
theorem taps_from (b : EReal) (f : Fin 31 → EReal) : b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = (∑ k, f k) + b := by
  rw [← taps, add_comm _ b]
  simp only [add_assoc]

/-- A row of the convolution input by its place after 30 rows of zeros. -/
def padded (u : Fin 4096 → Fin 1024 → EReal) (s : ℕ) (n : Fin 1024) : EReal :=
  if h : 30 ≤ s ∧ s - 30 < 4096 then u ⟨s - 30, h.2⟩ n else 0

/-- The convolution: each column on its own, 31 taps and a bias. -/
def conv (win : Fin 31 → Fin 1024 → EReal) (cw : Fin 31 → Fin 1024 → EReal) (cb : Fin 1024 → EReal) (n : Fin 1024) : EReal :=
  (∑ k, win k n * cw k n) + cb n

/-- The mean of a row. -/
def mean (z : Fin 1024 → EReal) : EReal := Ideal.div (∑ k, z k) (Ideal.ofBits .f32 1149239296#32)

/-- Layer normalisation: the row less its mean, over the root of the mean square of that, times a weight, plus a bias. -/
def lnorm (z lw lb : Fin 1024 → EReal) (n : Fin 1024) : EReal :=
  (z n - mean z) * Ideal.rsqrt (Ideal.div (∑ k, (z k - mean z) * (z k - mean z)) (Ideal.ofBits .f32 1149239296#32) + Ideal.ofBits .f32 925353388#32) * lw n + lb n

/-- The activation: a number times its logistic function. -/
def silu (a : EReal) : EReal := a * Ideal.div 1 (1 + Ideal.exp (-a))

/-- The gated sum of the attention's and the convolution's projections. -/
def merged (oa : Fin 256 → EReal) (z lw lb ga gb : Fin 1024 → EReal) (wa : Fin 256 → Fin 1024 → EReal) (wc : Fin 1024 → Fin 1024 → EReal) (n : Fin 1024) : EReal :=
  ga n * (∑ k, oa k * wa k n) + gb n * (∑ k, silu (lnorm z lw lb k) * wc k n)

/-- The row after the residual sum. -/
def resid (x : Fin 1024 → EReal) (mg : Fin 1024 → EReal) (wo : Fin 1024 → Fin 1024 → EReal) (n : Fin 1024) : EReal := x n + ∑ k, mg k * wo k n

/-- The feed-forward layer on a row, with its own residual sum. -/
def ffn (r nw : Fin 1024 → EReal) (wg : Fin 1024 → Fin 5632 → EReal) (wd : Fin 2816 → Fin 1024 → EReal) (n : Fin 1024) : EReal :=
  r n + ∑ j : Fin 2816, silu (∑ d, Spec.rms r nw d * wg d ⟨j.val, by omega⟩) * (∑ d, Spec.rms r nw d * wg d ⟨2816 + j.val, by omega⟩) * wd j n

end Cert.Merge

end
-- ==== Proof.MergeStage.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeSpec

@[expose] public section

set_option maxRecDepth 16384

noncomputable section

namespace Cert.Kernel2Ideal.Block
open Cert.Kernel2Ideal Cert.Kernel2Ideal.Gen
open Idealize.ShloMosaic Idealize.ShloMosaic.TcCoe Idealize.SL.Sem

/-! What one grid point puts into its first staging buffer: the 32 rows before the block's tokens and the block's own 512 rows of the convolution input, by tiles of 128
columns; and what it puts into its second: the convolution of the first. -/

/-- Row `r` of the staged rows: the 32 rows before the block, zero where the block is the first of its batch entry, and then the block's own. -/
def win (i : grid0.Coords) (x2 : Vec Ideal S512x1024 .f32) (x3 : Vec Ideal S32x1024 .f32) (r : ℕ) (n : Fin 1024) : EReal :=
  if h : r < 32 then (if (i 0).val % 8 = 0 then 0 else x3 (ix2 ⟨r, h⟩ n)) else if h : r - 32 < 512 then x2 (ix2 ⟨r - 32, h⟩ n) else 0

/-- The first staging buffer. -/
def ubuf (i : grid0.Coords) (x2 : Vec Ideal S512x1024 .f32) (x3 : Vec Ideal S32x1024 .f32) : Vec Ideal S8x544x128 .f32 :=
  fun j => win i x2 x3 (j 1).val ⟨128 * (j 0).val + (j 2).val, by have := (j 0).isLt; have := (j 2).isLt; simp at *; omega⟩

/-- The second staging buffer. -/
def cbuf (i : grid0.Coords) (x2 : Vec Ideal S512x1024 .f32) (x3 : Vec Ideal S32x1024 .f32) (x6 : Vec Ideal S31x1024 .f32) (x7 : Vec Ideal S1x1024 .f32) : Vec Ideal S8x512x128 .f32 :=
  fun j => Merge.conv (fun k n => win i x2 x3 (k.val + (2 + (j 1).val)) n) (fun k n => x6 (ix2 k n)) (fun n => x7 (ix2 0 n))
    ⟨128 * (j 0).val + (j 2).val, by have := (j 0).isLt; have := (j 2).isLt; simp at *; omega⟩

/-- The choice by the grid point: the first alternative where the point is a multiple of eight. -/
theorem select_first (n : Fin 64) (a b : EReal) :
    Scalar.select (Scalar.cmpi CmpIPredicate.eq (Scalar.remsi (BitVec.ofNat 32 n.val) 8#32) 0#32) a b = if n.val % 8 = 0 then a else b := by
  have h : (Scalar.cmpi CmpIPredicate.eq (Scalar.remsi (BitVec.ofNat 32 n.val) 8#32) 0#32) = if n.val % 8 = 0 then 1#1 else 0#1 := by
    revert n; decide
  rw [h]
  split <;> rfl

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000 in
/-- What the first staging buffer holds after its sixteen stores. -/
theorem canonU : View.canon (kernelRun0_A.sl.HS0_16 c i arg3 harg3 arg4 harg4 x2 x3) = ubuf i x2 x3 := by
  funext j
  have hc := View.cover_of_tiledBy (kernelRun0_A.sl.HS0_16 c i arg3 harg3 arg4 harg4 x2 x3) ![1, 32, 128] (by sl_kernel_rfl)
  unfold kernelRun0_A.sl.HS0_16 at hc ⊢
  canon_tiles x h using (hc j)
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, kernelRun0_A.sl.cst_18, kernelRun0_A.sl.r, kernelRun0_A.sl.v1, kernelRun0_A.sl.v0]
    rw [Memref.IsWhole.readAt_unread]
    simp only [ubuf, win]
    clear hc
  all_goals first
    | (rw [dif_neg (by omega), dif_pos (by omega)]
       refine congrArg x2 ?_
       blk_ext [Rect.idx_unit_val])
    | (rw [dif_pos (by omega)]
       refine (select_first (i 0) _ _).trans ?_
       refine congrArg (fun a => if (i 0).val % 8 = 0 then (0 : EReal) else a) ?_
       refine congrArg x3 ?_
       blk_ext [Rect.idx_unit_val])

/-- A load from that buffer reads those rows. -/
theorem readU {κ : Kind} {sp : Space} (v : View sig κ sp S8x544x128 .f32) (B : LoadRect S8x544x128) :
    v.readCov (kernelRun0_A.sl.HS0_16 c i arg3 harg3 arg4 harg4 x2 x3) B = fun z => ubuf i x2 x3 (B.idx z) := by
  rw [View.readCov_eq_canon', canonU]

/-- The first staging buffer at a place given by its three coordinates. -/
theorem ubuf_at (a : Fin 8) (b : Fin 544) (l : Fin 128) (r : ℕ) (n : Fin 1024) (h1 : b.val = r) (h2 : 128 * a.val + l.val = n.val) :
    ubuf i x2 x3 (ix3 a b l) = win i x2 x3 r n := by
  subst h1
  exact congrArg (win i x2 x3 b.val) (Fin.ext h2)

/-- A load of part of a row of the filter reads the filter's row. -/
theorem tap_at (B : LoadRect S31x1024) (z : B.shape.Idx) (k : Fin 31) (n : Fin 1024) (h0 : (B.idx z 0).val = k.val) (h1 : (B.idx z 1).val = n.val) :
    x6 (B.idx z) = x6 (ix2 k n) := by
  refine congrArg x6 ?_
  funext a
  match a with
  | 0 => exact Fin.ext h0
  | 1 => exact Fin.ext h1

/-- A load of part of the bias reads the bias. -/
theorem bias_at (B : LoadRect S1x1024) (z : B.shape.Idx) (n : Fin 1024) (h1 : (B.idx z 1).val = n.val) :
    x7 (B.idx z) = x7 (ix2 0 n) := by
  refine congrArg x7 ?_
  funext a
  match a with
  | 0 => exact Fin.ext (by have h : (B.idx z 0).val < 1 := (B.idx z 0).isLt; show (B.idx z 0).val = 0; omega)
  | 1 => exact Fin.ext h1

end Cert.Kernel2Ideal.Block

end
-- ==== Proof.MergeTile0.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 0 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 0, rows 385, 387, … 511 of the second staging buffer. -/
theorem tile_0_385 (x : S1x64x128.Idx) (j : S8x512x128.Idx) (h0 : (j 0).val = 0) (h1 : (j 1).val = 385 + 2 * (x 1).val) (h2 : (j 2).val = (x 2).val) :
    (k0_pay125 (r_100 c i arg3 harg3 arg4 harg4 arg7 harg7 arg8 harg8 arg17 x2 x3 x6 x7) (r_101 c i arg3 harg3 arg4 harg4 arg17 x2 x3) (View.readAt (Elt Ideal) arg7.view (Rect.unit (s := S31x1024) ![28, 0] S1x128.size inb_S31x1024_S1x128_28_0).toLoadRect (harg7.unread x6)) (v980 c i arg3 harg3 arg4 harg4 arg17 x2 x3) (View.readAt (Elt Ideal) arg7.view (Rect.unit (s := S31x1024) ![29, 0] S1x128.size inb_S31x1024_S1x128_29_0).toLoadRect (harg7.unread x6)) (v1872 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [v1872, v980, r_101, v973, r_100, v966, v959, v952, v945, r_99, v938, r_98, v931, v924, v917, v910, r_97, v903, r_96, v896, v889, v882, v875, r_95, v868, r_94, v861, v854, v847, v840, r_93, v833, r_92, v826, v819, v812, v805, r_91, v798, r_90, v791, v784, v777, readU]
  pointwise [k0_pay113, k0_pay114, k0_pay115, k0_pay116, k0_pay117, k0_pay118, k0_pay119, k0_pay120, k0_pay121, k0_pay122, k0_pay123, k0_pay124, k0_pay125]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 257, 259, … 383 of the second staging buffer. -/
theorem tile_0_257 (x : S1x64x128.Idx) (j : S8x512x128.Idx) (h0 : (j 0).val = 0) (h1 : (j 1).val = 257 + 2 * (x 1).val) (h2 : (j 2).val = (x 2).val) :
    (k0_pay112 (r_88 c i arg3 harg3 arg4 harg4 arg7 harg7 arg8 harg8 arg17 x2 x3 x6 x7) (r_89 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [r_89, v1649, r_88, v757, v750, v743, v736, r_87, v729, r_86, v722, v715, v708, v701, r_85, v694, r_84, v687, v680, v673, v666, r_83, v659, r_82, v652, v645, v638, v631, r_81, v624, r_80, v617, v610, v603, v596, r_79, v589, r_78, v582, v575, v568, v561, r_77, v554, r_76, readU]
  pointwise [k0_pay98, k0_pay99, k0_pay100, k0_pay101, k0_pay102, k0_pay103, k0_pay104, k0_pay105, k0_pay106, k0_pay107, k0_pay108, k0_pay109, k0_pay110, k0_pay111, k0_pay112]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 129, 131, … 255 of the second staging buffer. -/
theorem tile_0_129 (x : S1x64x128.Idx) (j : S8x512x128.Idx) (h0 : (j 0).val = 0) (h1 : (j 1).val = 129 + 2 * (x 1).val) (h2 : (j 2).val = (x 2).val) :
    (k0_pay97 (r_74 c i arg3 harg3 arg4 harg4 arg7 harg7 arg8 harg8 arg17 x2 x3 x6 x7) (r_75 c i arg3 harg3 arg4 harg4 arg17 x2 x3) (View.readAt (Elt Ideal) arg7.view (Rect.unit (s := S31x1024) ![27, 0] S1x128.size inb_S31x1024_S1x128_27_0).toLoadRect (harg7.unread x6)) (v527 c i arg3 harg3 arg4 harg4 arg17 x2 x3) (View.readAt (Elt Ideal) arg7.view (Rect.unit (s := S31x1024) ![28, 0] S1x128.size inb_S31x1024_S1x128_28_0).toLoadRect (harg7.unread x6)) (v534 c i arg3 harg3 arg4 harg4 arg17 x2 x3) (View.readAt (Elt Ideal) arg7.view (Rect.unit (s := S31x1024) ![29, 0] S1x128.size inb_S31x1024_S1x128_29_0).toLoadRect (harg7.unread x6)) (v1426 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [v1426, v534, v527, r_75, v520, r_74, v513, v506, v499, v492, r_73, v485, r_72, v478, v471, v464, v457, r_71, v450, r_70, v443, v436, v429, v422, r_69, v415, r_68, v408, v401, v394, v387, r_67, v380, r_66, v373, v366, v359, v352, r_65, v345, r_64, v338, v331, readU]
  pointwise [k0_pay85, k0_pay86, k0_pay87, k0_pay88, k0_pay89, k0_pay90, k0_pay91, k0_pay92, k0_pay93, k0_pay94, k0_pay95, k0_pay96, k0_pay97]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 1, 3, … 127 of the second staging buffer. -/
theorem tile_0_1 (x : S1x64x128.Idx) (j : S8x512x128.Idx) (h0 : (j 0).val = 0) (h1 : (j 1).val = 1 + 2 * (x 1).val) (h2 : (j 2).val = (x 2).val) :
    (k0_pay84 (r_62 c i arg3 harg3 arg4 harg4 arg7 harg7 arg8 harg8 arg17 x2 x3 x6 x7) (r_63 c i arg3 harg3 arg4 harg4 arg17 x2 x3) (View.readAt (Elt Ideal) arg7.view (Rect.unit (s := S31x1024) ![29, 0] S1x128.size inb_S31x1024_S1x128_29_0).toLoadRect (harg7.unread x6)) (v1203 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [v1203, r_63, v311, r_62, v304, v297, v290, v283, r_61, v276, r_60, v269, v262, v255, v248, r_59, v241, r_58, v234, v227, v220, v213, r_57, v206, r_56, v199, v192, v185, v178, r_55, v171, r_54, v164, v157, v150, v143, r_53, v136, r_52, v129, v122, v115, v108, readU]
  pointwise [k0_pay72, k0_pay73, k0_pay74, k0_pay75, k0_pay76, k0_pay77, k0_pay78, k0_pay79, k0_pay80, k0_pay81, k0_pay82, k0_pay83, k0_pay84]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 384, 386, … 510 of the second staging buffer. -/
theorem tile_0_384 (x : S1x64x128.Idx) (j : S8x512x128.Idx) (h0 : (j 0).val = 0) (h1 : (j 1).val = 384 + 2 * (x 1).val) (h2 : (j 2).val = (x 2).val) :
    (r_51 c i arg3 harg3 arg4 harg4 arg7 harg7 arg8 harg8 arg17 x2 x3 x6 x7) x = cbuf i x2 x3 x6 x7 j := by
  simp only [r_51, v980, v973, v966, v959, r_50, v952, r_49, v945, v938, v931, v924, r_48, v917, r_47, v910, v903, v896, v889, r_46, v882, r_45, v875, v868, v861, v854, r_44, v847, r_43, v840, v833, v826, v819, r_42, v812, r_41, v805, v798, v791, v784, r_40, v777, r_39, v770, readU]
  pointwise [k0_pay59, k0_pay60, k0_pay61, k0_pay62, k0_pay63, k0_pay64, k0_pay65, k0_pay66, k0_pay67, k0_pay68, k0_pay69, k0_pay70, k0_pay71]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 256, 258, … 382 of the second staging buffer. -/
theorem tile_0_256 (x : S1x64x128.Idx) (j : S8x512x128.Idx) (h0 : (j 0).val = 0) (h1 : (j 1).val = 256 + 2 * (x 1).val) (h2 : (j 2).val = (x 2).val) :
    (k0_pay58 (r_37 c i arg3 harg3 arg4 harg4 arg7 harg7 arg8 harg8 arg17 x2 x3 x6 x7) (r_38 c i arg3 harg3 arg4 harg4 arg17 x2 x3) (View.readAt (Elt Ideal) arg7.view (Rect.unit (s := S31x1024) ![28, 0] S1x128.size inb_S31x1024_S1x128_28_0).toLoadRect (harg7.unread x6)) (v750 c i arg3 harg3 arg4 harg4 arg17 x2 x3) (View.readAt (Elt Ideal) arg7.view (Rect.unit (s := S31x1024) ![29, 0] S1x128.size inb_S31x1024_S1x128_29_0).toLoadRect (harg7.unread x6)) (v757 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [v757, v750, r_38, v743, r_37, v736, v729, v722, v715, r_36, v708, r_35, v701, v694, v687, v680, r_34, v673, r_33, v666, v659, v652, v645, r_32, v638, r_31, v631, v624, v617, v610, r_30, v603, r_29, v596, v589, v582, v575, r_28, v568, r_27, v561, v554, v547, readU]
  pointwise [k0_pay46, k0_pay47, k0_pay48, k0_pay49, k0_pay50, k0_pay51, k0_pay52, k0_pay53, k0_pay54, k0_pay55, k0_pay56, k0_pay57, k0_pay58]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 128, 130, … 254 of the second staging buffer. -/
theorem tile_0_128 (x : S1x64x128.Idx) (j : S8x512x128.Idx) (h0 : (j 0).val = 0) (h1 : (j 1).val = 128 + 2 * (x 1).val) (h2 : (j 2).val = (x 2).val) :
    (k0_pay45 (r_25 c i arg3 harg3 arg4 harg4 arg7 harg7 arg8 harg8 arg17 x2 x3 x6 x7) (r_26 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [r_26, v534, r_25, v527, v520, v513, v506, r_24, v499, r_23, v492, v485, v478, v471, r_22, v464, r_21, v457, v450, v443, v436, r_20, v429, r_19, v422, v415, v408, v401, r_18, v394, r_17, v387, v380, v373, v366, r_16, v359, r_15, v352, v345, v338, v331, r_14, v324, r_13, readU]
  pointwise [k0_pay31, k0_pay32, k0_pay33, k0_pay34, k0_pay35, k0_pay36, k0_pay37, k0_pay38, k0_pay39, k0_pay40, k0_pay41, k0_pay42, k0_pay43, k0_pay44, k0_pay45]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 0, rows 0, 2, … 126 of the second staging buffer. -/
theorem tile_0_0 (x : S1x64x128.Idx) (j : S8x512x128.Idx) (h0 : (j 0).val = 0) (h1 : (j 1).val = 0 + 2 * (x 1).val) (h2 : (j 2).val = (x 2).val) :
    (k0_pay30 (r_11 c i arg3 harg3 arg4 harg4 arg7 harg7 arg8 harg8 arg17 x2 x3 x6 x7) (r_12 c i arg3 harg3 arg4 harg4 arg17 x2 x3) (View.readAt (Elt Ideal) arg7.view (Rect.unit (s := S31x1024) ![27, 0] S1x128.size inb_S31x1024_S1x128_27_0).toLoadRect (harg7.unread x6)) (v297 c i arg3 harg3 arg4 harg4 arg17 x2 x3) (View.readAt (Elt Ideal) arg7.view (Rect.unit (s := S31x1024) ![28, 0] S1x128.size inb_S31x1024_S1x128_28_0).toLoadRect (harg7.unread x6)) (v304 c i arg3 harg3 arg4 harg4 arg17 x2 x3) (View.readAt (Elt Ideal) arg7.view (Rect.unit (s := S31x1024) ![29, 0] S1x128.size inb_S31x1024_S1x128_29_0).toLoadRect (harg7.unread x6)) (v311 c i arg3 harg3 arg4 harg4 arg17 x2 x3) (View.readAt (Elt Ideal) arg7.view (Rect.unit (s := S31x1024) ![30, 0] S1x128.size inb_S31x1024_S1x128_30_0).toLoadRect (harg7.unread x6))) x = cbuf i x2 x3 x6 x7 j := by
  simp only [v311, v304, v297, r_12, v290, r_11, v283, v276, v269, v262, r_10, v255, r_9, v248, v241, v234, v227, r_8, v220, r_7, v213, v206, v199, v192, r_6, v185, r_5, v178, v171, v164, v157, r_4, v150, r_3, v143, v136, v129, v122, r_2, v115, r_1, v108, v101, readU]
  pointwise [k0_pay18, k0_pay19, k0_pay20, k0_pay21, k0_pay22, k0_pay23, k0_pay24, k0_pay25, k0_pay26, k0_pay27, k0_pay28, k0_pay29, k0_pay30]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile1.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 1 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 1, rows 385, 387, … 511 of the second staging buffer. -/
theorem tile_1_385 (x : S1x64x128.Idx) (j : S8x512x128.Idx) (h0 : (j 0).val = 1) (h1 : (j 1).val = 385 + 2 * (x 1).val) (h2 : (j 2).val = (x 2).val) :
    (k0_pay231 (r_200 c i arg3 harg3 arg4 harg4 arg7 harg7 arg8 harg8 arg17 x2 x3 x6 x7) (r_201 c i arg3 harg3 arg4 harg4 arg17 x2 x3) (View.readAt (Elt Ideal) arg7.view (Rect.unit (s := S31x1024) ![27, 128] S1x128.size inb_S31x1024_S1x128_27_128).toLoadRect (harg7.unread x6)) (v2757 c i arg3 harg3 arg4 harg4 arg17 x2 x3) (View.readAt (Elt Ideal) arg7.view (Rect.unit (s := S31x1024) ![28, 128] S1x128.size inb_S31x1024_S1x128_28_128).toLoadRect (harg7.unread x6)) (v2764 c i arg3 harg3 arg4 harg4 arg17 x2 x3) (View.readAt (Elt Ideal) arg7.view (Rect.unit (s := S31x1024) ![29, 128] S1x128.size inb_S31x1024_S1x128_29_128).toLoadRect (harg7.unread x6)) (v3656 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [v3656, v2764, v2757, r_201, v2750, r_200, v2743, v2736, v2729, v2722, r_199, v2715, r_198, v2708, v2701, v2694, v2687, r_197, v2680, r_196, v2673, v2666, v2659, v2652, r_195, v2645, r_194, v2638, v2631, v2624, v2617, r_193, v2610, r_192, v2603, v2596, v2589, v2582, r_191, v2575, r_190, v2568, v2561, readU]
  pointwise [k0_pay219, k0_pay220, k0_pay221, k0_pay222, k0_pay223, k0_pay224, k0_pay225, k0_pay226, k0_pay227, k0_pay228, k0_pay229, k0_pay230, k0_pay231]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 257, 259, … 383 of the second staging buffer. -/
theorem tile_1_257 (x : S1x64x128.Idx) (j : S8x512x128.Idx) (h0 : (j 0).val = 1) (h1 : (j 1).val = 257 + 2 * (x 1).val) (h2 : (j 2).val = (x 2).val) :
    (k0_pay218 (r_188 c i arg3 harg3 arg4 harg4 arg7 harg7 arg8 harg8 arg17 x2 x3 x6 x7) (r_189 c i arg3 harg3 arg4 harg4 arg17 x2 x3) (View.readAt (Elt Ideal) arg7.view (Rect.unit (s := S31x1024) ![29, 128] S1x128.size inb_S31x1024_S1x128_29_128).toLoadRect (harg7.unread x6)) (v3433 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [v3433, r_189, v2541, r_188, v2534, v2527, v2520, v2513, r_187, v2506, r_186, v2499, v2492, v2485, v2478, r_185, v2471, r_184, v2464, v2457, v2450, v2443, r_183, v2436, r_182, v2429, v2422, v2415, v2408, r_181, v2401, r_180, v2394, v2387, v2380, v2373, r_179, v2366, r_178, v2359, v2352, v2345, v2338, readU]
  pointwise [k0_pay206, k0_pay207, k0_pay208, k0_pay209, k0_pay210, k0_pay211, k0_pay212, k0_pay213, k0_pay214, k0_pay215, k0_pay216, k0_pay217, k0_pay218]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 129, 131, … 255 of the second staging buffer. -/
theorem tile_1_129 (x : S1x64x128.Idx) (j : S8x512x128.Idx) (h0 : (j 0).val = 1) (h1 : (j 1).val = 129 + 2 * (x 1).val) (h2 : (j 2).val = (x 2).val) :
    (r_177 c i arg3 harg3 arg4 harg4 arg7 harg7 arg8 harg8 arg17 x2 x3 x6 x7) x = cbuf i x2 x3 x6 x7 j := by
  simp only [r_177, v3210, v2318, v2311, v2304, r_176, v2297, r_175, v2290, v2283, v2276, v2269, r_174, v2262, r_173, v2255, v2248, v2241, v2234, r_172, v2227, r_171, v2220, v2213, v2206, v2199, r_170, v2192, r_169, v2185, v2178, v2171, v2164, r_168, v2157, r_167, v2150, v2143, v2136, v2129, r_166, v2122, r_165, v2115, readU]
  pointwise [k0_pay193, k0_pay194, k0_pay195, k0_pay196, k0_pay197, k0_pay198, k0_pay199, k0_pay200, k0_pay201, k0_pay202, k0_pay203, k0_pay204, k0_pay205]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 1, 3, … 127 of the second staging buffer. -/
theorem tile_1_1 (x : S1x64x128.Idx) (j : S8x512x128.Idx) (h0 : (j 0).val = 1) (h1 : (j 1).val = 1 + 2 * (x 1).val) (h2 : (j 2).val = (x 2).val) :
    (k0_pay192 (r_163 c i arg3 harg3 arg4 harg4 arg7 harg7 arg8 harg8 arg17 x2 x3 x6 x7) (r_164 c i arg3 harg3 arg4 harg4 arg17 x2 x3) (View.readAt (Elt Ideal) arg7.view (Rect.unit (s := S31x1024) ![28, 128] S1x128.size inb_S31x1024_S1x128_28_128).toLoadRect (harg7.unread x6)) (v2095 c i arg3 harg3 arg4 harg4 arg17 x2 x3) (View.readAt (Elt Ideal) arg7.view (Rect.unit (s := S31x1024) ![29, 128] S1x128.size inb_S31x1024_S1x128_29_128).toLoadRect (harg7.unread x6)) (v2987 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [v2987, v2095, r_164, v2088, r_163, v2081, v2074, v2067, v2060, r_162, v2053, r_161, v2046, v2039, v2032, v2025, r_160, v2018, r_159, v2011, v2004, v1997, v1990, r_158, v1983, r_157, v1976, v1969, v1962, v1955, r_156, v1948, r_155, v1941, v1934, v1927, v1920, r_154, v1913, r_153, v1906, v1899, v1892, readU]
  pointwise [k0_pay180, k0_pay181, k0_pay182, k0_pay183, k0_pay184, k0_pay185, k0_pay186, k0_pay187, k0_pay188, k0_pay189, k0_pay190, k0_pay191, k0_pay192]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 384, 386, … 510 of the second staging buffer. -/
theorem tile_1_384 (x : S1x64x128.Idx) (j : S8x512x128.Idx) (h0 : (j 0).val = 1) (h1 : (j 1).val = 384 + 2 * (x 1).val) (h2 : (j 2).val = (x 2).val) :
    (k0_pay179 (r_151 c i arg3 harg3 arg4 harg4 arg7 harg7 arg8 harg8 arg17 x2 x3 x6 x7) (r_152 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [r_152, v2764, r_151, v2757, v2750, v2743, v2736, r_150, v2729, r_149, v2722, v2715, v2708, v2701, r_148, v2694, r_147, v2687, v2680, v2673, v2666, r_146, v2659, r_145, v2652, v2645, v2638, v2631, r_144, v2624, r_143, v2617, v2610, v2603, v2596, r_142, v2589, r_141, v2582, v2575, v2568, v2561, r_140, v2554, r_139, readU]
  pointwise [k0_pay165, k0_pay166, k0_pay167, k0_pay168, k0_pay169, k0_pay170, k0_pay171, k0_pay172, k0_pay173, k0_pay174, k0_pay175, k0_pay176, k0_pay177, k0_pay178, k0_pay179]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 256, 258, … 382 of the second staging buffer. -/
theorem tile_1_256 (x : S1x64x128.Idx) (j : S8x512x128.Idx) (h0 : (j 0).val = 1) (h1 : (j 1).val = 256 + 2 * (x 1).val) (h2 : (j 2).val = (x 2).val) :
    (k0_pay164 (r_137 c i arg3 harg3 arg4 harg4 arg7 harg7 arg8 harg8 arg17 x2 x3 x6 x7) (r_138 c i arg3 harg3 arg4 harg4 arg17 x2 x3) (View.readAt (Elt Ideal) arg7.view (Rect.unit (s := S31x1024) ![27, 128] S1x128.size inb_S31x1024_S1x128_27_128).toLoadRect (harg7.unread x6)) (v2527 c i arg3 harg3 arg4 harg4 arg17 x2 x3) (View.readAt (Elt Ideal) arg7.view (Rect.unit (s := S31x1024) ![28, 128] S1x128.size inb_S31x1024_S1x128_28_128).toLoadRect (harg7.unread x6)) (v2534 c i arg3 harg3 arg4 harg4 arg17 x2 x3) (View.readAt (Elt Ideal) arg7.view (Rect.unit (s := S31x1024) ![29, 128] S1x128.size inb_S31x1024_S1x128_29_128).toLoadRect (harg7.unread x6)) (v2541 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [v2541, v2534, v2527, r_138, v2520, r_137, v2513, v2506, v2499, v2492, r_136, v2485, r_135, v2478, v2471, v2464, v2457, r_134, v2450, r_133, v2443, v2436, v2429, v2422, r_132, v2415, r_131, v2408, v2401, v2394, v2387, r_130, v2380, r_129, v2373, v2366, v2359, v2352, r_128, v2345, r_127, v2338, v2331, readU]
  pointwise [k0_pay152, k0_pay153, k0_pay154, k0_pay155, k0_pay156, k0_pay157, k0_pay158, k0_pay159, k0_pay160, k0_pay161, k0_pay162, k0_pay163, k0_pay164]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 128, 130, … 254 of the second staging buffer. -/
theorem tile_1_128 (x : S1x64x128.Idx) (j : S8x512x128.Idx) (h0 : (j 0).val = 1) (h1 : (j 1).val = 128 + 2 * (x 1).val) (h2 : (j 2).val = (x 2).val) :
    (k0_pay151 (r_125 c i arg3 harg3 arg4 harg4 arg7 harg7 arg8 harg8 arg17 x2 x3 x6 x7) (r_126 c i arg3 harg3 arg4 harg4 arg17 x2 x3) (View.readAt (Elt Ideal) arg7.view (Rect.unit (s := S31x1024) ![29, 128] S1x128.size inb_S31x1024_S1x128_29_128).toLoadRect (harg7.unread x6)) (v2318 c i arg3 harg3 arg4 harg4 arg17 x2 x3) (View.readAt (Elt Ideal) arg7.view (Rect.unit (s := S31x1024) ![30, 128] S1x128.size inb_S31x1024_S1x128_30_128).toLoadRect (harg7.unread x6))) x = cbuf i x2 x3 x6 x7 j := by
  simp only [v2318, r_126, v2311, r_125, v2304, v2297, v2290, v2283, r_124, v2276, r_123, v2269, v2262, v2255, v2248, r_122, v2241, r_121, v2234, v2227, v2220, v2213, r_120, v2206, r_119, v2199, v2192, v2185, v2178, r_118, v2171, r_117, v2164, v2157, v2150, v2143, r_116, v2136, r_115, v2129, v2122, v2115, v2108, readU]
  pointwise [k0_pay139, k0_pay140, k0_pay141, k0_pay142, k0_pay143, k0_pay144, k0_pay145, k0_pay146, k0_pay147, k0_pay148, k0_pay149, k0_pay150, k0_pay151]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 1, rows 0, 2, … 126 of the second staging buffer. -/
theorem tile_1_0 (x : S1x64x128.Idx) (j : S8x512x128.Idx) (h0 : (j 0).val = 1) (h1 : (j 1).val = 0 + 2 * (x 1).val) (h2 : (j 2).val = (x 2).val) :
    (r_114 c i arg3 harg3 arg4 harg4 arg7 harg7 arg8 harg8 arg17 x2 x3 x6 x7) x = cbuf i x2 x3 x6 x7 j := by
  simp only [r_114, v2095, v2088, v2081, v2074, r_113, v2067, r_112, v2060, v2053, v2046, v2039, r_111, v2032, r_110, v2025, v2018, v2011, v2004, r_109, v1997, r_108, v1990, v1983, v1976, v1969, r_107, v1962, r_106, v1955, v1948, v1941, v1934, r_105, v1927, r_104, v1920, v1913, v1906, v1899, r_103, v1892, r_102, v1885, readU]
  pointwise [k0_pay126, k0_pay127, k0_pay128, k0_pay129, k0_pay130, k0_pay131, k0_pay132, k0_pay133, k0_pay134, k0_pay135, k0_pay136, k0_pay137, k0_pay138]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile2.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 2 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 2, rows 385, 387, … 511 of the second staging buffer. -/
theorem tile_2_385 (x : S1x64x128.Idx) (j : S8x512x128.Idx) (h0 : (j 0).val = 2) (h1 : (j 1).val = 385 + 2 * (x 1).val) (h2 : (j 2).val = (x 2).val) :
    (r_303 c i arg3 harg3 arg4 harg4 arg7 harg7 arg8 harg8 arg17 x2 x3 x6 x7) x = cbuf i x2 x3 x6 x7 j := by
  simp only [r_303, v5440, v4548, v4541, v4534, r_302, v4527, r_301, v4520, v4513, v4506, v4499, r_300, v4492, r_299, v4485, v4478, v4471, v4464, r_298, v4457, r_297, v4450, v4443, v4436, v4429, r_296, v4422, r_295, v4415, v4408, v4401, v4394, r_294, v4387, r_293, v4380, v4373, v4366, v4359, r_292, v4352, r_291, v4345, readU]
  pointwise [k0_pay327, k0_pay328, k0_pay329, k0_pay330, k0_pay331, k0_pay332, k0_pay333, k0_pay334, k0_pay335, k0_pay336, k0_pay337, k0_pay338, k0_pay339]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 257, 259, … 383 of the second staging buffer. -/
theorem tile_2_257 (x : S1x64x128.Idx) (j : S8x512x128.Idx) (h0 : (j 0).val = 2) (h1 : (j 1).val = 257 + 2 * (x 1).val) (h2 : (j 2).val = (x 2).val) :
    (k0_pay326 (r_289 c i arg3 harg3 arg4 harg4 arg7 harg7 arg8 harg8 arg17 x2 x3 x6 x7) (r_290 c i arg3 harg3 arg4 harg4 arg17 x2 x3) (View.readAt (Elt Ideal) arg7.view (Rect.unit (s := S31x1024) ![28, 256] S1x128.size inb_S31x1024_S1x128_28_256).toLoadRect (harg7.unread x6)) (v4325 c i arg3 harg3 arg4 harg4 arg17 x2 x3) (View.readAt (Elt Ideal) arg7.view (Rect.unit (s := S31x1024) ![29, 256] S1x128.size inb_S31x1024_S1x128_29_256).toLoadRect (harg7.unread x6)) (v5217 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [v5217, v4325, r_290, v4318, r_289, v4311, v4304, v4297, v4290, r_288, v4283, r_287, v4276, v4269, v4262, v4255, r_286, v4248, r_285, v4241, v4234, v4227, v4220, r_284, v4213, r_283, v4206, v4199, v4192, v4185, r_282, v4178, r_281, v4171, v4164, v4157, v4150, r_280, v4143, r_279, v4136, v4129, v4122, readU]
  pointwise [k0_pay314, k0_pay315, k0_pay316, k0_pay317, k0_pay318, k0_pay319, k0_pay320, k0_pay321, k0_pay322, k0_pay323, k0_pay324, k0_pay325, k0_pay326]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 129, 131, … 255 of the second staging buffer. -/
theorem tile_2_129 (x : S1x64x128.Idx) (j : S8x512x128.Idx) (h0 : (j 0).val = 2) (h1 : (j 1).val = 129 + 2 * (x 1).val) (h2 : (j 2).val = (x 2).val) :
    (k0_pay313 (r_277 c i arg3 harg3 arg4 harg4 arg7 harg7 arg8 harg8 arg17 x2 x3 x6 x7) (r_278 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [r_278, v4994, r_277, v4102, v4095, v4088, v4081, r_276, v4074, r_275, v4067, v4060, v4053, v4046, r_274, v4039, r_273, v4032, v4025, v4018, v4011, r_272, v4004, r_271, v3997, v3990, v3983, v3976, r_270, v3969, r_269, v3962, v3955, v3948, v3941, r_268, v3934, r_267, v3927, v3920, v3913, v3906, r_266, v3899, r_265, readU]
  pointwise [k0_pay299, k0_pay300, k0_pay301, k0_pay302, k0_pay303, k0_pay304, k0_pay305, k0_pay306, k0_pay307, k0_pay308, k0_pay309, k0_pay310, k0_pay311, k0_pay312, k0_pay313]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 1, 3, … 127 of the second staging buffer. -/
theorem tile_2_1 (x : S1x64x128.Idx) (j : S8x512x128.Idx) (h0 : (j 0).val = 2) (h1 : (j 1).val = 1 + 2 * (x 1).val) (h2 : (j 2).val = (x 2).val) :
    (k0_pay298 (r_263 c i arg3 harg3 arg4 harg4 arg7 harg7 arg8 harg8 arg17 x2 x3 x6 x7) (r_264 c i arg3 harg3 arg4 harg4 arg17 x2 x3) (View.readAt (Elt Ideal) arg7.view (Rect.unit (s := S31x1024) ![27, 256] S1x128.size inb_S31x1024_S1x128_27_256).toLoadRect (harg7.unread x6)) (v3872 c i arg3 harg3 arg4 harg4 arg17 x2 x3) (View.readAt (Elt Ideal) arg7.view (Rect.unit (s := S31x1024) ![28, 256] S1x128.size inb_S31x1024_S1x128_28_256).toLoadRect (harg7.unread x6)) (v3879 c i arg3 harg3 arg4 harg4 arg17 x2 x3) (View.readAt (Elt Ideal) arg7.view (Rect.unit (s := S31x1024) ![29, 256] S1x128.size inb_S31x1024_S1x128_29_256).toLoadRect (harg7.unread x6)) (v4771 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [v4771, v3879, v3872, r_264, v3865, r_263, v3858, v3851, v3844, v3837, r_262, v3830, r_261, v3823, v3816, v3809, v3802, r_260, v3795, r_259, v3788, v3781, v3774, v3767, r_258, v3760, r_257, v3753, v3746, v3739, v3732, r_256, v3725, r_255, v3718, v3711, v3704, v3697, r_254, v3690, r_253, v3683, v3676, readU]
  pointwise [k0_pay286, k0_pay287, k0_pay288, k0_pay289, k0_pay290, k0_pay291, k0_pay292, k0_pay293, k0_pay294, k0_pay295, k0_pay296, k0_pay297, k0_pay298]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 384, 386, … 510 of the second staging buffer. -/
theorem tile_2_384 (x : S1x64x128.Idx) (j : S8x512x128.Idx) (h0 : (j 0).val = 2) (h1 : (j 1).val = 384 + 2 * (x 1).val) (h2 : (j 2).val = (x 2).val) :
    (k0_pay285 (r_251 c i arg3 harg3 arg4 harg4 arg7 harg7 arg8 harg8 arg17 x2 x3 x6 x7) (r_252 c i arg3 harg3 arg4 harg4 arg17 x2 x3) (View.readAt (Elt Ideal) arg7.view (Rect.unit (s := S31x1024) ![29, 256] S1x128.size inb_S31x1024_S1x128_29_256).toLoadRect (harg7.unread x6)) (v4548 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [v4548, r_252, v4541, r_251, v4534, v4527, v4520, v4513, r_250, v4506, r_249, v4499, v4492, v4485, v4478, r_248, v4471, r_247, v4464, v4457, v4450, v4443, r_246, v4436, r_245, v4429, v4422, v4415, v4408, r_244, v4401, r_243, v4394, v4387, v4380, v4373, r_242, v4366, r_241, v4359, v4352, v4345, v4338, readU]
  pointwise [k0_pay273, k0_pay274, k0_pay275, k0_pay276, k0_pay277, k0_pay278, k0_pay279, k0_pay280, k0_pay281, k0_pay282, k0_pay283, k0_pay284, k0_pay285]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 256, 258, … 382 of the second staging buffer. -/
theorem tile_2_256 (x : S1x64x128.Idx) (j : S8x512x128.Idx) (h0 : (j 0).val = 2) (h1 : (j 1).val = 256 + 2 * (x 1).val) (h2 : (j 2).val = (x 2).val) :
    (r_240 c i arg3 harg3 arg4 harg4 arg7 harg7 arg8 harg8 arg17 x2 x3 x6 x7) x = cbuf i x2 x3 x6 x7 j := by
  simp only [r_240, v4325, v4318, v4311, v4304, r_239, v4297, r_238, v4290, v4283, v4276, v4269, r_237, v4262, r_236, v4255, v4248, v4241, v4234, r_235, v4227, r_234, v4220, v4213, v4206, v4199, r_233, v4192, r_232, v4185, v4178, v4171, v4164, r_231, v4157, r_230, v4150, v4143, v4136, v4129, r_229, v4122, r_228, v4115, readU]
  pointwise [k0_pay260, k0_pay261, k0_pay262, k0_pay263, k0_pay264, k0_pay265, k0_pay266, k0_pay267, k0_pay268, k0_pay269, k0_pay270, k0_pay271, k0_pay272]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 128, 130, … 254 of the second staging buffer. -/
theorem tile_2_128 (x : S1x64x128.Idx) (j : S8x512x128.Idx) (h0 : (j 0).val = 2) (h1 : (j 1).val = 128 + 2 * (x 1).val) (h2 : (j 2).val = (x 2).val) :
    (k0_pay259 (r_226 c i arg3 harg3 arg4 harg4 arg7 harg7 arg8 harg8 arg17 x2 x3 x6 x7) (r_227 c i arg3 harg3 arg4 harg4 arg17 x2 x3) (View.readAt (Elt Ideal) arg7.view (Rect.unit (s := S31x1024) ![28, 256] S1x128.size inb_S31x1024_S1x128_28_256).toLoadRect (harg7.unread x6)) (v4095 c i arg3 harg3 arg4 harg4 arg17 x2 x3) (View.readAt (Elt Ideal) arg7.view (Rect.unit (s := S31x1024) ![29, 256] S1x128.size inb_S31x1024_S1x128_29_256).toLoadRect (harg7.unread x6)) (v4102 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [v4102, v4095, r_227, v4088, r_226, v4081, v4074, v4067, v4060, r_225, v4053, r_224, v4046, v4039, v4032, v4025, r_223, v4018, r_222, v4011, v4004, v3997, v3990, r_221, v3983, r_220, v3976, v3969, v3962, v3955, r_219, v3948, r_218, v3941, v3934, v3927, v3920, r_217, v3913, r_216, v3906, v3899, v3892, readU]
  pointwise [k0_pay247, k0_pay248, k0_pay249, k0_pay250, k0_pay251, k0_pay252, k0_pay253, k0_pay254, k0_pay255, k0_pay256, k0_pay257, k0_pay258, k0_pay259]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 2, rows 0, 2, … 126 of the second staging buffer. -/
theorem tile_2_0 (x : S1x64x128.Idx) (j : S8x512x128.Idx) (h0 : (j 0).val = 2) (h1 : (j 1).val = 0 + 2 * (x 1).val) (h2 : (j 2).val = (x 2).val) :
    (k0_pay246 (r_214 c i arg3 harg3 arg4 harg4 arg7 harg7 arg8 harg8 arg17 x2 x3 x6 x7) (r_215 c i arg3 harg3 arg4 harg4 arg17 x2 x3) (View.readAt (Elt Ideal) arg7.view (Rect.unit (s := S31x1024) ![30, 256] S1x128.size inb_S31x1024_S1x128_30_256).toLoadRect (harg7.unread x6))) x = cbuf i x2 x3 x6 x7 j := by
  simp only [r_215, v3879, r_214, v3872, v3865, v3858, v3851, r_213, v3844, r_212, v3837, v3830, v3823, v3816, r_211, v3809, r_210, v3802, v3795, v3788, v3781, r_209, v3774, r_208, v3767, v3760, v3753, v3746, r_207, v3739, r_206, v3732, v3725, v3718, v3711, r_205, v3704, r_204, v3697, v3690, v3683, v3676, r_203, v3669, r_202, readU]
  pointwise [k0_pay232, k0_pay233, k0_pay234, k0_pay235, k0_pay236, k0_pay237, k0_pay238, k0_pay239, k0_pay240, k0_pay241, k0_pay242, k0_pay243, k0_pay244, k0_pay245, k0_pay246]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile3.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 3 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 3, rows 385, 387, … 511 of the second staging buffer. -/
theorem tile_3_385 (x : S1x64x128.Idx) (j : S8x512x128.Idx) (h0 : (j 0).val = 3) (h1 : (j 1).val = 385 + 2 * (x 1).val) (h2 : (j 2).val = (x 2).val) :
    (k0_pay447 (r_403 c i arg3 harg3 arg4 harg4 arg7 harg7 arg8 harg8 arg17 x2 x3 x6 x7) (r_404 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [r_404, v7224, r_403, v6332, v6325, v6318, v6311, r_402, v6304, r_401, v6297, v6290, v6283, v6276, r_400, v6269, r_399, v6262, v6255, v6248, v6241, r_398, v6234, r_397, v6227, v6220, v6213, v6206, r_396, v6199, r_395, v6192, v6185, v6178, v6171, r_394, v6164, r_393, v6157, v6150, v6143, v6136, r_392, v6129, r_391, readU]
  pointwise [k0_pay433, k0_pay434, k0_pay435, k0_pay436, k0_pay437, k0_pay438, k0_pay439, k0_pay440, k0_pay441, k0_pay442, k0_pay443, k0_pay444, k0_pay445, k0_pay446, k0_pay447]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 257, 259, … 383 of the second staging buffer. -/
theorem tile_3_257 (x : S1x64x128.Idx) (j : S8x512x128.Idx) (h0 : (j 0).val = 3) (h1 : (j 1).val = 257 + 2 * (x 1).val) (h2 : (j 2).val = (x 2).val) :
    (k0_pay432 (r_389 c i arg3 harg3 arg4 harg4 arg7 harg7 arg8 harg8 arg17 x2 x3 x6 x7) (r_390 c i arg3 harg3 arg4 harg4 arg17 x2 x3) (View.readAt (Elt Ideal) arg7.view (Rect.unit (s := S31x1024) ![27, 384] S1x128.size inb_S31x1024_S1x128_27_384).toLoadRect (harg7.unread x6)) (v6102 c i arg3 harg3 arg4 harg4 arg17 x2 x3) (View.readAt (Elt Ideal) arg7.view (Rect.unit (s := S31x1024) ![28, 384] S1x128.size inb_S31x1024_S1x128_28_384).toLoadRect (harg7.unread x6)) (v6109 c i arg3 harg3 arg4 harg4 arg17 x2 x3) (View.readAt (Elt Ideal) arg7.view (Rect.unit (s := S31x1024) ![29, 384] S1x128.size inb_S31x1024_S1x128_29_384).toLoadRect (harg7.unread x6)) (v7001 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [v7001, v6109, v6102, r_390, v6095, r_389, v6088, v6081, v6074, v6067, r_388, v6060, r_387, v6053, v6046, v6039, v6032, r_386, v6025, r_385, v6018, v6011, v6004, v5997, r_384, v5990, r_383, v5983, v5976, v5969, v5962, r_382, v5955, r_381, v5948, v5941, v5934, v5927, r_380, v5920, r_379, v5913, v5906, readU]
  pointwise [k0_pay420, k0_pay421, k0_pay422, k0_pay423, k0_pay424, k0_pay425, k0_pay426, k0_pay427, k0_pay428, k0_pay429, k0_pay430, k0_pay431, k0_pay432]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 129, 131, … 255 of the second staging buffer. -/
theorem tile_3_129 (x : S1x64x128.Idx) (j : S8x512x128.Idx) (h0 : (j 0).val = 3) (h1 : (j 1).val = 129 + 2 * (x 1).val) (h2 : (j 2).val = (x 2).val) :
    (k0_pay419 (r_377 c i arg3 harg3 arg4 harg4 arg7 harg7 arg8 harg8 arg17 x2 x3 x6 x7) (r_378 c i arg3 harg3 arg4 harg4 arg17 x2 x3) (View.readAt (Elt Ideal) arg7.view (Rect.unit (s := S31x1024) ![29, 384] S1x128.size inb_S31x1024_S1x128_29_384).toLoadRect (harg7.unread x6)) (v6778 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [v6778, r_378, v5886, r_377, v5879, v5872, v5865, v5858, r_376, v5851, r_375, v5844, v5837, v5830, v5823, r_374, v5816, r_373, v5809, v5802, v5795, v5788, r_372, v5781, r_371, v5774, v5767, v5760, v5753, r_370, v5746, r_369, v5739, v5732, v5725, v5718, r_368, v5711, r_367, v5704, v5697, v5690, v5683, readU]
  pointwise [k0_pay407, k0_pay408, k0_pay409, k0_pay410, k0_pay411, k0_pay412, k0_pay413, k0_pay414, k0_pay415, k0_pay416, k0_pay417, k0_pay418, k0_pay419]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 1, 3, … 127 of the second staging buffer. -/
theorem tile_3_1 (x : S1x64x128.Idx) (j : S8x512x128.Idx) (h0 : (j 0).val = 3) (h1 : (j 1).val = 1 + 2 * (x 1).val) (h2 : (j 2).val = (x 2).val) :
    (r_366 c i arg3 harg3 arg4 harg4 arg7 harg7 arg8 harg8 arg17 x2 x3 x6 x7) x = cbuf i x2 x3 x6 x7 j := by
  simp only [r_366, v6555, v5663, v5656, v5649, r_365, v5642, r_364, v5635, v5628, v5621, v5614, r_363, v5607, r_362, v5600, v5593, v5586, v5579, r_361, v5572, r_360, v5565, v5558, v5551, v5544, r_359, v5537, r_358, v5530, v5523, v5516, v5509, r_357, v5502, r_356, v5495, v5488, v5481, v5474, r_355, v5467, r_354, v5460, readU]
  pointwise [k0_pay394, k0_pay395, k0_pay396, k0_pay397, k0_pay398, k0_pay399, k0_pay400, k0_pay401, k0_pay402, k0_pay403, k0_pay404, k0_pay405, k0_pay406]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 384, 386, … 510 of the second staging buffer. -/
theorem tile_3_384 (x : S1x64x128.Idx) (j : S8x512x128.Idx) (h0 : (j 0).val = 3) (h1 : (j 1).val = 384 + 2 * (x 1).val) (h2 : (j 2).val = (x 2).val) :
    (k0_pay393 (r_352 c i arg3 harg3 arg4 harg4 arg7 harg7 arg8 harg8 arg17 x2 x3 x6 x7) (r_353 c i arg3 harg3 arg4 harg4 arg17 x2 x3) (View.readAt (Elt Ideal) arg7.view (Rect.unit (s := S31x1024) ![28, 384] S1x128.size inb_S31x1024_S1x128_28_384).toLoadRect (harg7.unread x6)) (v6325 c i arg3 harg3 arg4 harg4 arg17 x2 x3) (View.readAt (Elt Ideal) arg7.view (Rect.unit (s := S31x1024) ![29, 384] S1x128.size inb_S31x1024_S1x128_29_384).toLoadRect (harg7.unread x6)) (v6332 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [v6332, v6325, r_353, v6318, r_352, v6311, v6304, v6297, v6290, r_351, v6283, r_350, v6276, v6269, v6262, v6255, r_349, v6248, r_348, v6241, v6234, v6227, v6220, r_347, v6213, r_346, v6206, v6199, v6192, v6185, r_345, v6178, r_344, v6171, v6164, v6157, v6150, r_343, v6143, r_342, v6136, v6129, v6122, readU]
  pointwise [k0_pay381, k0_pay382, k0_pay383, k0_pay384, k0_pay385, k0_pay386, k0_pay387, k0_pay388, k0_pay389, k0_pay390, k0_pay391, k0_pay392, k0_pay393]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 256, 258, … 382 of the second staging buffer. -/
theorem tile_3_256 (x : S1x64x128.Idx) (j : S8x512x128.Idx) (h0 : (j 0).val = 3) (h1 : (j 1).val = 256 + 2 * (x 1).val) (h2 : (j 2).val = (x 2).val) :
    (k0_pay380 (r_340 c i arg3 harg3 arg4 harg4 arg7 harg7 arg8 harg8 arg17 x2 x3 x6 x7) (r_341 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [r_341, v6109, r_340, v6102, v6095, v6088, v6081, r_339, v6074, r_338, v6067, v6060, v6053, v6046, r_337, v6039, r_336, v6032, v6025, v6018, v6011, r_335, v6004, r_334, v5997, v5990, v5983, v5976, r_333, v5969, r_332, v5962, v5955, v5948, v5941, r_331, v5934, r_330, v5927, v5920, v5913, v5906, r_329, v5899, r_328, readU]
  pointwise [k0_pay366, k0_pay367, k0_pay368, k0_pay369, k0_pay370, k0_pay371, k0_pay372, k0_pay373, k0_pay374, k0_pay375, k0_pay376, k0_pay377, k0_pay378, k0_pay379, k0_pay380]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 128, 130, … 254 of the second staging buffer. -/
theorem tile_3_128 (x : S1x64x128.Idx) (j : S8x512x128.Idx) (h0 : (j 0).val = 3) (h1 : (j 1).val = 128 + 2 * (x 1).val) (h2 : (j 2).val = (x 2).val) :
    (k0_pay365 (r_326 c i arg3 harg3 arg4 harg4 arg7 harg7 arg8 harg8 arg17 x2 x3 x6 x7) (r_327 c i arg3 harg3 arg4 harg4 arg17 x2 x3) (View.readAt (Elt Ideal) arg7.view (Rect.unit (s := S31x1024) ![27, 384] S1x128.size inb_S31x1024_S1x128_27_384).toLoadRect (harg7.unread x6)) (v5872 c i arg3 harg3 arg4 harg4 arg17 x2 x3) (View.readAt (Elt Ideal) arg7.view (Rect.unit (s := S31x1024) ![28, 384] S1x128.size inb_S31x1024_S1x128_28_384).toLoadRect (harg7.unread x6)) (v5879 c i arg3 harg3 arg4 harg4 arg17 x2 x3) (View.readAt (Elt Ideal) arg7.view (Rect.unit (s := S31x1024) ![29, 384] S1x128.size inb_S31x1024_S1x128_29_384).toLoadRect (harg7.unread x6)) (v5886 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [v5886, v5879, v5872, r_327, v5865, r_326, v5858, v5851, v5844, v5837, r_325, v5830, r_324, v5823, v5816, v5809, v5802, r_323, v5795, r_322, v5788, v5781, v5774, v5767, r_321, v5760, r_320, v5753, v5746, v5739, v5732, r_319, v5725, r_318, v5718, v5711, v5704, v5697, r_317, v5690, r_316, v5683, v5676, readU]
  pointwise [k0_pay353, k0_pay354, k0_pay355, k0_pay356, k0_pay357, k0_pay358, k0_pay359, k0_pay360, k0_pay361, k0_pay362, k0_pay363, k0_pay364, k0_pay365]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 3, rows 0, 2, … 126 of the second staging buffer. -/
theorem tile_3_0 (x : S1x64x128.Idx) (j : S8x512x128.Idx) (h0 : (j 0).val = 3) (h1 : (j 1).val = 0 + 2 * (x 1).val) (h2 : (j 2).val = (x 2).val) :
    (k0_pay352 (r_314 c i arg3 harg3 arg4 harg4 arg7 harg7 arg8 harg8 arg17 x2 x3 x6 x7) (r_315 c i arg3 harg3 arg4 harg4 arg17 x2 x3) (View.readAt (Elt Ideal) arg7.view (Rect.unit (s := S31x1024) ![29, 384] S1x128.size inb_S31x1024_S1x128_29_384).toLoadRect (harg7.unread x6)) (v5663 c i arg3 harg3 arg4 harg4 arg17 x2 x3) (View.readAt (Elt Ideal) arg7.view (Rect.unit (s := S31x1024) ![30, 384] S1x128.size inb_S31x1024_S1x128_30_384).toLoadRect (harg7.unread x6))) x = cbuf i x2 x3 x6 x7 j := by
  simp only [v5663, r_315, v5656, r_314, v5649, v5642, v5635, v5628, r_313, v5621, r_312, v5614, v5607, v5600, v5593, r_311, v5586, r_310, v5579, v5572, v5565, v5558, r_309, v5551, r_308, v5544, v5537, v5530, v5523, r_307, v5516, r_306, v5509, v5502, v5495, v5488, r_305, v5481, r_304, v5474, v5467, v5460, v5453, readU]
  pointwise [k0_pay340, k0_pay341, k0_pay342, k0_pay343, k0_pay344, k0_pay345, k0_pay346, k0_pay347, k0_pay348, k0_pay349, k0_pay350, k0_pay351, k0_pay352]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile4.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 4 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 4, rows 385, 387, … 511 of the second staging buffer. -/
theorem tile_4_385 (x : S1x64x128.Idx) (j : S8x512x128.Idx) (h0 : (j 0).val = 4) (h1 : (j 1).val = 385 + 2 * (x 1).val) (h2 : (j 2).val = (x 2).val) :
    (k0_pay553 (r_503 c i arg3 harg3 arg4 harg4 arg7 harg7 arg8 harg8 arg17 x2 x3 x6 x7) (r_504 c i arg3 harg3 arg4 harg4 arg17 x2 x3) (View.readAt (Elt Ideal) arg7.view (Rect.unit (s := S31x1024) ![29, 512] S1x128.size inb_S31x1024_S1x128_29_512).toLoadRect (harg7.unread x6)) (v9008 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [v9008, r_504, v8116, r_503, v8109, v8102, v8095, v8088, r_502, v8081, r_501, v8074, v8067, v8060, v8053, r_500, v8046, r_499, v8039, v8032, v8025, v8018, r_498, v8011, r_497, v8004, v7997, v7990, v7983, r_496, v7976, r_495, v7969, v7962, v7955, v7948, r_494, v7941, r_493, v7934, v7927, v7920, v7913, readU]
  pointwise [k0_pay541, k0_pay542, k0_pay543, k0_pay544, k0_pay545, k0_pay546, k0_pay547, k0_pay548, k0_pay549, k0_pay550, k0_pay551, k0_pay552, k0_pay553]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 257, 259, … 383 of the second staging buffer. -/
theorem tile_4_257 (x : S1x64x128.Idx) (j : S8x512x128.Idx) (h0 : (j 0).val = 4) (h1 : (j 1).val = 257 + 2 * (x 1).val) (h2 : (j 2).val = (x 2).val) :
    (r_492 c i arg3 harg3 arg4 harg4 arg7 harg7 arg8 harg8 arg17 x2 x3 x6 x7) x = cbuf i x2 x3 x6 x7 j := by
  simp only [r_492, v8785, v7893, v7886, v7879, r_491, v7872, r_490, v7865, v7858, v7851, v7844, r_489, v7837, r_488, v7830, v7823, v7816, v7809, r_487, v7802, r_486, v7795, v7788, v7781, v7774, r_485, v7767, r_484, v7760, v7753, v7746, v7739, r_483, v7732, r_482, v7725, v7718, v7711, v7704, r_481, v7697, r_480, v7690, readU]
  pointwise [k0_pay528, k0_pay529, k0_pay530, k0_pay531, k0_pay532, k0_pay533, k0_pay534, k0_pay535, k0_pay536, k0_pay537, k0_pay538, k0_pay539, k0_pay540]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 129, 131, … 255 of the second staging buffer. -/
theorem tile_4_129 (x : S1x64x128.Idx) (j : S8x512x128.Idx) (h0 : (j 0).val = 4) (h1 : (j 1).val = 129 + 2 * (x 1).val) (h2 : (j 2).val = (x 2).val) :
    (k0_pay527 (r_478 c i arg3 harg3 arg4 harg4 arg7 harg7 arg8 harg8 arg17 x2 x3 x6 x7) (r_479 c i arg3 harg3 arg4 harg4 arg17 x2 x3) (View.readAt (Elt Ideal) arg7.view (Rect.unit (s := S31x1024) ![28, 512] S1x128.size inb_S31x1024_S1x128_28_512).toLoadRect (harg7.unread x6)) (v7670 c i arg3 harg3 arg4 harg4 arg17 x2 x3) (View.readAt (Elt Ideal) arg7.view (Rect.unit (s := S31x1024) ![29, 512] S1x128.size inb_S31x1024_S1x128_29_512).toLoadRect (harg7.unread x6)) (v8562 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [v8562, v7670, r_479, v7663, r_478, v7656, v7649, v7642, v7635, r_477, v7628, r_476, v7621, v7614, v7607, v7600, r_475, v7593, r_474, v7586, v7579, v7572, v7565, r_473, v7558, r_472, v7551, v7544, v7537, v7530, r_471, v7523, r_470, v7516, v7509, v7502, v7495, r_469, v7488, r_468, v7481, v7474, v7467, readU]
  pointwise [k0_pay515, k0_pay516, k0_pay517, k0_pay518, k0_pay519, k0_pay520, k0_pay521, k0_pay522, k0_pay523, k0_pay524, k0_pay525, k0_pay526, k0_pay527]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 1, 3, … 127 of the second staging buffer. -/
theorem tile_4_1 (x : S1x64x128.Idx) (j : S8x512x128.Idx) (h0 : (j 0).val = 4) (h1 : (j 1).val = 1 + 2 * (x 1).val) (h2 : (j 2).val = (x 2).val) :
    (k0_pay514 (r_466 c i arg3 harg3 arg4 harg4 arg7 harg7 arg8 harg8 arg17 x2 x3 x6 x7) (r_467 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [r_467, v8339, r_466, v7447, v7440, v7433, v7426, r_465, v7419, r_464, v7412, v7405, v7398, v7391, r_463, v7384, r_462, v7377, v7370, v7363, v7356, r_461, v7349, r_460, v7342, v7335, v7328, v7321, r_459, v7314, r_458, v7307, v7300, v7293, v7286, r_457, v7279, r_456, v7272, v7265, v7258, v7251, r_455, v7244, r_454, readU]
  pointwise [k0_pay500, k0_pay501, k0_pay502, k0_pay503, k0_pay504, k0_pay505, k0_pay506, k0_pay507, k0_pay508, k0_pay509, k0_pay510, k0_pay511, k0_pay512, k0_pay513, k0_pay514]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 384, 386, … 510 of the second staging buffer. -/
theorem tile_4_384 (x : S1x64x128.Idx) (j : S8x512x128.Idx) (h0 : (j 0).val = 4) (h1 : (j 1).val = 384 + 2 * (x 1).val) (h2 : (j 2).val = (x 2).val) :
    (k0_pay499 (r_452 c i arg3 harg3 arg4 harg4 arg7 harg7 arg8 harg8 arg17 x2 x3 x6 x7) (r_453 c i arg3 harg3 arg4 harg4 arg17 x2 x3) (View.readAt (Elt Ideal) arg7.view (Rect.unit (s := S31x1024) ![27, 512] S1x128.size inb_S31x1024_S1x128_27_512).toLoadRect (harg7.unread x6)) (v8102 c i arg3 harg3 arg4 harg4 arg17 x2 x3) (View.readAt (Elt Ideal) arg7.view (Rect.unit (s := S31x1024) ![28, 512] S1x128.size inb_S31x1024_S1x128_28_512).toLoadRect (harg7.unread x6)) (v8109 c i arg3 harg3 arg4 harg4 arg17 x2 x3) (View.readAt (Elt Ideal) arg7.view (Rect.unit (s := S31x1024) ![29, 512] S1x128.size inb_S31x1024_S1x128_29_512).toLoadRect (harg7.unread x6)) (v8116 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [v8116, v8109, v8102, r_453, v8095, r_452, v8088, v8081, v8074, v8067, r_451, v8060, r_450, v8053, v8046, v8039, v8032, r_449, v8025, r_448, v8018, v8011, v8004, v7997, r_447, v7990, r_446, v7983, v7976, v7969, v7962, r_445, v7955, r_444, v7948, v7941, v7934, v7927, r_443, v7920, r_442, v7913, v7906, readU]
  pointwise [k0_pay487, k0_pay488, k0_pay489, k0_pay490, k0_pay491, k0_pay492, k0_pay493, k0_pay494, k0_pay495, k0_pay496, k0_pay497, k0_pay498, k0_pay499]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 256, 258, … 382 of the second staging buffer. -/
theorem tile_4_256 (x : S1x64x128.Idx) (j : S8x512x128.Idx) (h0 : (j 0).val = 4) (h1 : (j 1).val = 256 + 2 * (x 1).val) (h2 : (j 2).val = (x 2).val) :
    (k0_pay486 (r_440 c i arg3 harg3 arg4 harg4 arg7 harg7 arg8 harg8 arg17 x2 x3 x6 x7) (r_441 c i arg3 harg3 arg4 harg4 arg17 x2 x3) (View.readAt (Elt Ideal) arg7.view (Rect.unit (s := S31x1024) ![29, 512] S1x128.size inb_S31x1024_S1x128_29_512).toLoadRect (harg7.unread x6)) (v7893 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [v7893, r_441, v7886, r_440, v7879, v7872, v7865, v7858, r_439, v7851, r_438, v7844, v7837, v7830, v7823, r_437, v7816, r_436, v7809, v7802, v7795, v7788, r_435, v7781, r_434, v7774, v7767, v7760, v7753, r_433, v7746, r_432, v7739, v7732, v7725, v7718, r_431, v7711, r_430, v7704, v7697, v7690, v7683, readU]
  pointwise [k0_pay474, k0_pay475, k0_pay476, k0_pay477, k0_pay478, k0_pay479, k0_pay480, k0_pay481, k0_pay482, k0_pay483, k0_pay484, k0_pay485, k0_pay486]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 128, 130, … 254 of the second staging buffer. -/
theorem tile_4_128 (x : S1x64x128.Idx) (j : S8x512x128.Idx) (h0 : (j 0).val = 4) (h1 : (j 1).val = 128 + 2 * (x 1).val) (h2 : (j 2).val = (x 2).val) :
    (r_429 c i arg3 harg3 arg4 harg4 arg7 harg7 arg8 harg8 arg17 x2 x3 x6 x7) x = cbuf i x2 x3 x6 x7 j := by
  simp only [r_429, v7670, v7663, v7656, v7649, r_428, v7642, r_427, v7635, v7628, v7621, v7614, r_426, v7607, r_425, v7600, v7593, v7586, v7579, r_424, v7572, r_423, v7565, v7558, v7551, v7544, r_422, v7537, r_421, v7530, v7523, v7516, v7509, r_420, v7502, r_419, v7495, v7488, v7481, v7474, r_418, v7467, r_417, v7460, readU]
  pointwise [k0_pay461, k0_pay462, k0_pay463, k0_pay464, k0_pay465, k0_pay466, k0_pay467, k0_pay468, k0_pay469, k0_pay470, k0_pay471, k0_pay472, k0_pay473]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 4, rows 0, 2, … 126 of the second staging buffer. -/
theorem tile_4_0 (x : S1x64x128.Idx) (j : S8x512x128.Idx) (h0 : (j 0).val = 4) (h1 : (j 1).val = 0 + 2 * (x 1).val) (h2 : (j 2).val = (x 2).val) :
    (k0_pay460 (r_415 c i arg3 harg3 arg4 harg4 arg7 harg7 arg8 harg8 arg17 x2 x3 x6 x7) (r_416 c i arg3 harg3 arg4 harg4 arg17 x2 x3) (View.readAt (Elt Ideal) arg7.view (Rect.unit (s := S31x1024) ![28, 512] S1x128.size inb_S31x1024_S1x128_28_512).toLoadRect (harg7.unread x6)) (v7440 c i arg3 harg3 arg4 harg4 arg17 x2 x3) (View.readAt (Elt Ideal) arg7.view (Rect.unit (s := S31x1024) ![29, 512] S1x128.size inb_S31x1024_S1x128_29_512).toLoadRect (harg7.unread x6)) (v7447 c i arg3 harg3 arg4 harg4 arg17 x2 x3) (View.readAt (Elt Ideal) arg7.view (Rect.unit (s := S31x1024) ![30, 512] S1x128.size inb_S31x1024_S1x128_30_512).toLoadRect (harg7.unread x6))) x = cbuf i x2 x3 x6 x7 j := by
  simp only [v7447, v7440, r_416, v7433, r_415, v7426, v7419, v7412, v7405, r_414, v7398, r_413, v7391, v7384, v7377, v7370, r_412, v7363, r_411, v7356, v7349, v7342, v7335, r_410, v7328, r_409, v7321, v7314, v7307, v7300, r_408, v7293, r_407, v7286, v7279, v7272, v7265, r_406, v7258, r_405, v7251, v7244, v7237, readU]
  pointwise [k0_pay448, k0_pay449, k0_pay450, k0_pay451, k0_pay452, k0_pay453, k0_pay454, k0_pay455, k0_pay456, k0_pay457, k0_pay458, k0_pay459, k0_pay460]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile5.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 5 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 5, rows 385, 387, … 511 of the second staging buffer. -/
theorem tile_5_385 (x : S1x64x128.Idx) (j : S8x512x128.Idx) (h0 : (j 0).val = 5) (h1 : (j 1).val = 385 + 2 * (x 1).val) (h2 : (j 2).val = (x 2).val) :
    (k0_pay661 (r_604 c i arg3 harg3 arg4 harg4 arg7 harg7 arg8 harg8 arg17 x2 x3 x6 x7) (r_605 c i arg3 harg3 arg4 harg4 arg17 x2 x3) (View.readAt (Elt Ideal) arg7.view (Rect.unit (s := S31x1024) ![28, 640] S1x128.size inb_S31x1024_S1x128_28_640).toLoadRect (harg7.unread x6)) (v9900 c i arg3 harg3 arg4 harg4 arg17 x2 x3) (View.readAt (Elt Ideal) arg7.view (Rect.unit (s := S31x1024) ![29, 640] S1x128.size inb_S31x1024_S1x128_29_640).toLoadRect (harg7.unread x6)) (v10792 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [v10792, v9900, r_605, v9893, r_604, v9886, v9879, v9872, v9865, r_603, v9858, r_602, v9851, v9844, v9837, v9830, r_601, v9823, r_600, v9816, v9809, v9802, v9795, r_599, v9788, r_598, v9781, v9774, v9767, v9760, r_597, v9753, r_596, v9746, v9739, v9732, v9725, r_595, v9718, r_594, v9711, v9704, v9697, readU]
  pointwise [k0_pay649, k0_pay650, k0_pay651, k0_pay652, k0_pay653, k0_pay654, k0_pay655, k0_pay656, k0_pay657, k0_pay658, k0_pay659, k0_pay660, k0_pay661]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 257, 259, … 383 of the second staging buffer. -/
theorem tile_5_257 (x : S1x64x128.Idx) (j : S8x512x128.Idx) (h0 : (j 0).val = 5) (h1 : (j 1).val = 257 + 2 * (x 1).val) (h2 : (j 2).val = (x 2).val) :
    (k0_pay648 (r_592 c i arg3 harg3 arg4 harg4 arg7 harg7 arg8 harg8 arg17 x2 x3 x6 x7) (r_593 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [r_593, v10569, r_592, v9677, v9670, v9663, v9656, r_591, v9649, r_590, v9642, v9635, v9628, v9621, r_589, v9614, r_588, v9607, v9600, v9593, v9586, r_587, v9579, r_586, v9572, v9565, v9558, v9551, r_585, v9544, r_584, v9537, v9530, v9523, v9516, r_583, v9509, r_582, v9502, v9495, v9488, v9481, r_581, v9474, r_580, readU]
  pointwise [k0_pay634, k0_pay635, k0_pay636, k0_pay637, k0_pay638, k0_pay639, k0_pay640, k0_pay641, k0_pay642, k0_pay643, k0_pay644, k0_pay645, k0_pay646, k0_pay647, k0_pay648]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 129, 131, … 255 of the second staging buffer. -/
theorem tile_5_129 (x : S1x64x128.Idx) (j : S8x512x128.Idx) (h0 : (j 0).val = 5) (h1 : (j 1).val = 129 + 2 * (x 1).val) (h2 : (j 2).val = (x 2).val) :
    (k0_pay633 (r_578 c i arg3 harg3 arg4 harg4 arg7 harg7 arg8 harg8 arg17 x2 x3 x6 x7) (r_579 c i arg3 harg3 arg4 harg4 arg17 x2 x3) (View.readAt (Elt Ideal) arg7.view (Rect.unit (s := S31x1024) ![27, 640] S1x128.size inb_S31x1024_S1x128_27_640).toLoadRect (harg7.unread x6)) (v9447 c i arg3 harg3 arg4 harg4 arg17 x2 x3) (View.readAt (Elt Ideal) arg7.view (Rect.unit (s := S31x1024) ![28, 640] S1x128.size inb_S31x1024_S1x128_28_640).toLoadRect (harg7.unread x6)) (v9454 c i arg3 harg3 arg4 harg4 arg17 x2 x3) (View.readAt (Elt Ideal) arg7.view (Rect.unit (s := S31x1024) ![29, 640] S1x128.size inb_S31x1024_S1x128_29_640).toLoadRect (harg7.unread x6)) (v10346 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [v10346, v9454, v9447, r_579, v9440, r_578, v9433, v9426, v9419, v9412, r_577, v9405, r_576, v9398, v9391, v9384, v9377, r_575, v9370, r_574, v9363, v9356, v9349, v9342, r_573, v9335, r_572, v9328, v9321, v9314, v9307, r_571, v9300, r_570, v9293, v9286, v9279, v9272, r_569, v9265, r_568, v9258, v9251, readU]
  pointwise [k0_pay621, k0_pay622, k0_pay623, k0_pay624, k0_pay625, k0_pay626, k0_pay627, k0_pay628, k0_pay629, k0_pay630, k0_pay631, k0_pay632, k0_pay633]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 1, 3, … 127 of the second staging buffer. -/
theorem tile_5_1 (x : S1x64x128.Idx) (j : S8x512x128.Idx) (h0 : (j 0).val = 5) (h1 : (j 1).val = 1 + 2 * (x 1).val) (h2 : (j 2).val = (x 2).val) :
    (k0_pay620 (r_566 c i arg3 harg3 arg4 harg4 arg7 harg7 arg8 harg8 arg17 x2 x3 x6 x7) (r_567 c i arg3 harg3 arg4 harg4 arg17 x2 x3) (View.readAt (Elt Ideal) arg7.view (Rect.unit (s := S31x1024) ![29, 640] S1x128.size inb_S31x1024_S1x128_29_640).toLoadRect (harg7.unread x6)) (v10123 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [v10123, r_567, v9231, r_566, v9224, v9217, v9210, v9203, r_565, v9196, r_564, v9189, v9182, v9175, v9168, r_563, v9161, r_562, v9154, v9147, v9140, v9133, r_561, v9126, r_560, v9119, v9112, v9105, v9098, r_559, v9091, r_558, v9084, v9077, v9070, v9063, r_557, v9056, r_556, v9049, v9042, v9035, v9028, readU]
  pointwise [k0_pay608, k0_pay609, k0_pay610, k0_pay611, k0_pay612, k0_pay613, k0_pay614, k0_pay615, k0_pay616, k0_pay617, k0_pay618, k0_pay619, k0_pay620]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 384, 386, … 510 of the second staging buffer. -/
theorem tile_5_384 (x : S1x64x128.Idx) (j : S8x512x128.Idx) (h0 : (j 0).val = 5) (h1 : (j 1).val = 384 + 2 * (x 1).val) (h2 : (j 2).val = (x 2).val) :
    (r_555 c i arg3 harg3 arg4 harg4 arg7 harg7 arg8 harg8 arg17 x2 x3 x6 x7) x = cbuf i x2 x3 x6 x7 j := by
  simp only [r_555, v9900, v9893, v9886, v9879, r_554, v9872, r_553, v9865, v9858, v9851, v9844, r_552, v9837, r_551, v9830, v9823, v9816, v9809, r_550, v9802, r_549, v9795, v9788, v9781, v9774, r_548, v9767, r_547, v9760, v9753, v9746, v9739, r_546, v9732, r_545, v9725, v9718, v9711, v9704, r_544, v9697, r_543, v9690, readU]
  pointwise [k0_pay595, k0_pay596, k0_pay597, k0_pay598, k0_pay599, k0_pay600, k0_pay601, k0_pay602, k0_pay603, k0_pay604, k0_pay605, k0_pay606, k0_pay607]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 256, 258, … 382 of the second staging buffer. -/
theorem tile_5_256 (x : S1x64x128.Idx) (j : S8x512x128.Idx) (h0 : (j 0).val = 5) (h1 : (j 1).val = 256 + 2 * (x 1).val) (h2 : (j 2).val = (x 2).val) :
    (k0_pay594 (r_541 c i arg3 harg3 arg4 harg4 arg7 harg7 arg8 harg8 arg17 x2 x3 x6 x7) (r_542 c i arg3 harg3 arg4 harg4 arg17 x2 x3) (View.readAt (Elt Ideal) arg7.view (Rect.unit (s := S31x1024) ![28, 640] S1x128.size inb_S31x1024_S1x128_28_640).toLoadRect (harg7.unread x6)) (v9670 c i arg3 harg3 arg4 harg4 arg17 x2 x3) (View.readAt (Elt Ideal) arg7.view (Rect.unit (s := S31x1024) ![29, 640] S1x128.size inb_S31x1024_S1x128_29_640).toLoadRect (harg7.unread x6)) (v9677 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [v9677, v9670, r_542, v9663, r_541, v9656, v9649, v9642, v9635, r_540, v9628, r_539, v9621, v9614, v9607, v9600, r_538, v9593, r_537, v9586, v9579, v9572, v9565, r_536, v9558, r_535, v9551, v9544, v9537, v9530, r_534, v9523, r_533, v9516, v9509, v9502, v9495, r_532, v9488, r_531, v9481, v9474, v9467, readU]
  pointwise [k0_pay582, k0_pay583, k0_pay584, k0_pay585, k0_pay586, k0_pay587, k0_pay588, k0_pay589, k0_pay590, k0_pay591, k0_pay592, k0_pay593, k0_pay594]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 128, 130, … 254 of the second staging buffer. -/
theorem tile_5_128 (x : S1x64x128.Idx) (j : S8x512x128.Idx) (h0 : (j 0).val = 5) (h1 : (j 1).val = 128 + 2 * (x 1).val) (h2 : (j 2).val = (x 2).val) :
    (k0_pay581 (r_529 c i arg3 harg3 arg4 harg4 arg7 harg7 arg8 harg8 arg17 x2 x3 x6 x7) (r_530 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [r_530, v9454, r_529, v9447, v9440, v9433, v9426, r_528, v9419, r_527, v9412, v9405, v9398, v9391, r_526, v9384, r_525, v9377, v9370, v9363, v9356, r_524, v9349, r_523, v9342, v9335, v9328, v9321, r_522, v9314, r_521, v9307, v9300, v9293, v9286, r_520, v9279, r_519, v9272, v9265, v9258, v9251, r_518, v9244, r_517, readU]
  pointwise [k0_pay567, k0_pay568, k0_pay569, k0_pay570, k0_pay571, k0_pay572, k0_pay573, k0_pay574, k0_pay575, k0_pay576, k0_pay577, k0_pay578, k0_pay579, k0_pay580, k0_pay581]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 5, rows 0, 2, … 126 of the second staging buffer. -/
theorem tile_5_0 (x : S1x64x128.Idx) (j : S8x512x128.Idx) (h0 : (j 0).val = 5) (h1 : (j 1).val = 0 + 2 * (x 1).val) (h2 : (j 2).val = (x 2).val) :
    (k0_pay566 (r_515 c i arg3 harg3 arg4 harg4 arg7 harg7 arg8 harg8 arg17 x2 x3 x6 x7) (r_516 c i arg3 harg3 arg4 harg4 arg17 x2 x3) (View.readAt (Elt Ideal) arg7.view (Rect.unit (s := S31x1024) ![27, 640] S1x128.size inb_S31x1024_S1x128_27_640).toLoadRect (harg7.unread x6)) (v9217 c i arg3 harg3 arg4 harg4 arg17 x2 x3) (View.readAt (Elt Ideal) arg7.view (Rect.unit (s := S31x1024) ![28, 640] S1x128.size inb_S31x1024_S1x128_28_640).toLoadRect (harg7.unread x6)) (v9224 c i arg3 harg3 arg4 harg4 arg17 x2 x3) (View.readAt (Elt Ideal) arg7.view (Rect.unit (s := S31x1024) ![29, 640] S1x128.size inb_S31x1024_S1x128_29_640).toLoadRect (harg7.unread x6)) (v9231 c i arg3 harg3 arg4 harg4 arg17 x2 x3) (View.readAt (Elt Ideal) arg7.view (Rect.unit (s := S31x1024) ![30, 640] S1x128.size inb_S31x1024_S1x128_30_640).toLoadRect (harg7.unread x6))) x = cbuf i x2 x3 x6 x7 j := by
  simp only [v9231, v9224, v9217, r_516, v9210, r_515, v9203, v9196, v9189, v9182, r_514, v9175, r_513, v9168, v9161, v9154, v9147, r_512, v9140, r_511, v9133, v9126, v9119, v9112, r_510, v9105, r_509, v9098, v9091, v9084, v9077, r_508, v9070, r_507, v9063, v9056, v9049, v9042, r_506, v9035, r_505, v9028, v9021, readU]
  pointwise [k0_pay554, k0_pay555, k0_pay556, k0_pay557, k0_pay558, k0_pay559, k0_pay560, k0_pay561, k0_pay562, k0_pay563, k0_pay564, k0_pay565, k0_pay566]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile6.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 6 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 6, rows 385, 387, … 511 of the second staging buffer. -/
theorem tile_6_385 (x : S1x64x128.Idx) (j : S8x512x128.Idx) (h0 : (j 0).val = 6) (h1 : (j 1).val = 385 + 2 * (x 1).val) (h2 : (j 2).val = (x 2).val) :
    (k0_pay767 (r_704 c i arg3 harg3 arg4 harg4 arg7 harg7 arg8 harg8 arg17 x2 x3 x6 x7) (r_705 c i arg3 harg3 arg4 harg4 arg17 x2 x3) (View.readAt (Elt Ideal) arg7.view (Rect.unit (s := S31x1024) ![27, 768] S1x128.size inb_S31x1024_S1x128_27_768).toLoadRect (harg7.unread x6)) (v11677 c i arg3 harg3 arg4 harg4 arg17 x2 x3) (View.readAt (Elt Ideal) arg7.view (Rect.unit (s := S31x1024) ![28, 768] S1x128.size inb_S31x1024_S1x128_28_768).toLoadRect (harg7.unread x6)) (v11684 c i arg3 harg3 arg4 harg4 arg17 x2 x3) (View.readAt (Elt Ideal) arg7.view (Rect.unit (s := S31x1024) ![29, 768] S1x128.size inb_S31x1024_S1x128_29_768).toLoadRect (harg7.unread x6)) (v12576 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [v12576, v11684, v11677, r_705, v11670, r_704, v11663, v11656, v11649, v11642, r_703, v11635, r_702, v11628, v11621, v11614, v11607, r_701, v11600, r_700, v11593, v11586, v11579, v11572, r_699, v11565, r_698, v11558, v11551, v11544, v11537, r_697, v11530, r_696, v11523, v11516, v11509, v11502, r_695, v11495, r_694, v11488, v11481, readU]
  pointwise [k0_pay755, k0_pay756, k0_pay757, k0_pay758, k0_pay759, k0_pay760, k0_pay761, k0_pay762, k0_pay763, k0_pay764, k0_pay765, k0_pay766, k0_pay767]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 257, 259, … 383 of the second staging buffer. -/
theorem tile_6_257 (x : S1x64x128.Idx) (j : S8x512x128.Idx) (h0 : (j 0).val = 6) (h1 : (j 1).val = 257 + 2 * (x 1).val) (h2 : (j 2).val = (x 2).val) :
    (k0_pay754 (r_692 c i arg3 harg3 arg4 harg4 arg7 harg7 arg8 harg8 arg17 x2 x3 x6 x7) (r_693 c i arg3 harg3 arg4 harg4 arg17 x2 x3) (View.readAt (Elt Ideal) arg7.view (Rect.unit (s := S31x1024) ![29, 768] S1x128.size inb_S31x1024_S1x128_29_768).toLoadRect (harg7.unread x6)) (v12353 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [v12353, r_693, v11461, r_692, v11454, v11447, v11440, v11433, r_691, v11426, r_690, v11419, v11412, v11405, v11398, r_689, v11391, r_688, v11384, v11377, v11370, v11363, r_687, v11356, r_686, v11349, v11342, v11335, v11328, r_685, v11321, r_684, v11314, v11307, v11300, v11293, r_683, v11286, r_682, v11279, v11272, v11265, v11258, readU]
  pointwise [k0_pay742, k0_pay743, k0_pay744, k0_pay745, k0_pay746, k0_pay747, k0_pay748, k0_pay749, k0_pay750, k0_pay751, k0_pay752, k0_pay753, k0_pay754]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 129, 131, … 255 of the second staging buffer. -/
theorem tile_6_129 (x : S1x64x128.Idx) (j : S8x512x128.Idx) (h0 : (j 0).val = 6) (h1 : (j 1).val = 129 + 2 * (x 1).val) (h2 : (j 2).val = (x 2).val) :
    (r_681 c i arg3 harg3 arg4 harg4 arg7 harg7 arg8 harg8 arg17 x2 x3 x6 x7) x = cbuf i x2 x3 x6 x7 j := by
  simp only [r_681, v12130, v11238, v11231, v11224, r_680, v11217, r_679, v11210, v11203, v11196, v11189, r_678, v11182, r_677, v11175, v11168, v11161, v11154, r_676, v11147, r_675, v11140, v11133, v11126, v11119, r_674, v11112, r_673, v11105, v11098, v11091, v11084, r_672, v11077, r_671, v11070, v11063, v11056, v11049, r_670, v11042, r_669, v11035, readU]
  pointwise [k0_pay729, k0_pay730, k0_pay731, k0_pay732, k0_pay733, k0_pay734, k0_pay735, k0_pay736, k0_pay737, k0_pay738, k0_pay739, k0_pay740, k0_pay741]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 1, 3, … 127 of the second staging buffer. -/
theorem tile_6_1 (x : S1x64x128.Idx) (j : S8x512x128.Idx) (h0 : (j 0).val = 6) (h1 : (j 1).val = 1 + 2 * (x 1).val) (h2 : (j 2).val = (x 2).val) :
    (k0_pay728 (r_667 c i arg3 harg3 arg4 harg4 arg7 harg7 arg8 harg8 arg17 x2 x3 x6 x7) (r_668 c i arg3 harg3 arg4 harg4 arg17 x2 x3) (View.readAt (Elt Ideal) arg7.view (Rect.unit (s := S31x1024) ![28, 768] S1x128.size inb_S31x1024_S1x128_28_768).toLoadRect (harg7.unread x6)) (v11015 c i arg3 harg3 arg4 harg4 arg17 x2 x3) (View.readAt (Elt Ideal) arg7.view (Rect.unit (s := S31x1024) ![29, 768] S1x128.size inb_S31x1024_S1x128_29_768).toLoadRect (harg7.unread x6)) (v11907 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [v11907, v11015, r_668, v11008, r_667, v11001, v10994, v10987, v10980, r_666, v10973, r_665, v10966, v10959, v10952, v10945, r_664, v10938, r_663, v10931, v10924, v10917, v10910, r_662, v10903, r_661, v10896, v10889, v10882, v10875, r_660, v10868, r_659, v10861, v10854, v10847, v10840, r_658, v10833, r_657, v10826, v10819, v10812, readU]
  pointwise [k0_pay716, k0_pay717, k0_pay718, k0_pay719, k0_pay720, k0_pay721, k0_pay722, k0_pay723, k0_pay724, k0_pay725, k0_pay726, k0_pay727, k0_pay728]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 384, 386, … 510 of the second staging buffer. -/
theorem tile_6_384 (x : S1x64x128.Idx) (j : S8x512x128.Idx) (h0 : (j 0).val = 6) (h1 : (j 1).val = 384 + 2 * (x 1).val) (h2 : (j 2).val = (x 2).val) :
    (k0_pay715 (r_655 c i arg3 harg3 arg4 harg4 arg7 harg7 arg8 harg8 arg17 x2 x3 x6 x7) (r_656 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [r_656, v11684, r_655, v11677, v11670, v11663, v11656, r_654, v11649, r_653, v11642, v11635, v11628, v11621, r_652, v11614, r_651, v11607, v11600, v11593, v11586, r_650, v11579, r_649, v11572, v11565, v11558, v11551, r_648, v11544, r_647, v11537, v11530, v11523, v11516, r_646, v11509, r_645, v11502, v11495, v11488, v11481, r_644, v11474, r_643, readU]
  pointwise [k0_pay701, k0_pay702, k0_pay703, k0_pay704, k0_pay705, k0_pay706, k0_pay707, k0_pay708, k0_pay709, k0_pay710, k0_pay711, k0_pay712, k0_pay713, k0_pay714, k0_pay715]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 256, 258, … 382 of the second staging buffer. -/
theorem tile_6_256 (x : S1x64x128.Idx) (j : S8x512x128.Idx) (h0 : (j 0).val = 6) (h1 : (j 1).val = 256 + 2 * (x 1).val) (h2 : (j 2).val = (x 2).val) :
    (k0_pay700 (r_641 c i arg3 harg3 arg4 harg4 arg7 harg7 arg8 harg8 arg17 x2 x3 x6 x7) (r_642 c i arg3 harg3 arg4 harg4 arg17 x2 x3) (View.readAt (Elt Ideal) arg7.view (Rect.unit (s := S31x1024) ![27, 768] S1x128.size inb_S31x1024_S1x128_27_768).toLoadRect (harg7.unread x6)) (v11447 c i arg3 harg3 arg4 harg4 arg17 x2 x3) (View.readAt (Elt Ideal) arg7.view (Rect.unit (s := S31x1024) ![28, 768] S1x128.size inb_S31x1024_S1x128_28_768).toLoadRect (harg7.unread x6)) (v11454 c i arg3 harg3 arg4 harg4 arg17 x2 x3) (View.readAt (Elt Ideal) arg7.view (Rect.unit (s := S31x1024) ![29, 768] S1x128.size inb_S31x1024_S1x128_29_768).toLoadRect (harg7.unread x6)) (v11461 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [v11461, v11454, v11447, r_642, v11440, r_641, v11433, v11426, v11419, v11412, r_640, v11405, r_639, v11398, v11391, v11384, v11377, r_638, v11370, r_637, v11363, v11356, v11349, v11342, r_636, v11335, r_635, v11328, v11321, v11314, v11307, r_634, v11300, r_633, v11293, v11286, v11279, v11272, r_632, v11265, r_631, v11258, v11251, readU]
  pointwise [k0_pay688, k0_pay689, k0_pay690, k0_pay691, k0_pay692, k0_pay693, k0_pay694, k0_pay695, k0_pay696, k0_pay697, k0_pay698, k0_pay699, k0_pay700]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 128, 130, … 254 of the second staging buffer. -/
theorem tile_6_128 (x : S1x64x128.Idx) (j : S8x512x128.Idx) (h0 : (j 0).val = 6) (h1 : (j 1).val = 128 + 2 * (x 1).val) (h2 : (j 2).val = (x 2).val) :
    (k0_pay687 (r_629 c i arg3 harg3 arg4 harg4 arg7 harg7 arg8 harg8 arg17 x2 x3 x6 x7) (r_630 c i arg3 harg3 arg4 harg4 arg17 x2 x3) (View.readAt (Elt Ideal) arg7.view (Rect.unit (s := S31x1024) ![29, 768] S1x128.size inb_S31x1024_S1x128_29_768).toLoadRect (harg7.unread x6)) (v11238 c i arg3 harg3 arg4 harg4 arg17 x2 x3) (View.readAt (Elt Ideal) arg7.view (Rect.unit (s := S31x1024) ![30, 768] S1x128.size inb_S31x1024_S1x128_30_768).toLoadRect (harg7.unread x6))) x = cbuf i x2 x3 x6 x7 j := by
  simp only [v11238, r_630, v11231, r_629, v11224, v11217, v11210, v11203, r_628, v11196, r_627, v11189, v11182, v11175, v11168, r_626, v11161, r_625, v11154, v11147, v11140, v11133, r_624, v11126, r_623, v11119, v11112, v11105, v11098, r_622, v11091, r_621, v11084, v11077, v11070, v11063, r_620, v11056, r_619, v11049, v11042, v11035, v11028, readU]
  pointwise [k0_pay675, k0_pay676, k0_pay677, k0_pay678, k0_pay679, k0_pay680, k0_pay681, k0_pay682, k0_pay683, k0_pay684, k0_pay685, k0_pay686, k0_pay687]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 6, rows 0, 2, … 126 of the second staging buffer. -/
theorem tile_6_0 (x : S1x64x128.Idx) (j : S8x512x128.Idx) (h0 : (j 0).val = 6) (h1 : (j 1).val = 0 + 2 * (x 1).val) (h2 : (j 2).val = (x 2).val) :
    (r_618 c i arg3 harg3 arg4 harg4 arg7 harg7 arg8 harg8 arg17 x2 x3 x6 x7) x = cbuf i x2 x3 x6 x7 j := by
  simp only [r_618, v11015, v11008, v11001, v10994, r_617, v10987, r_616, v10980, v10973, v10966, v10959, r_615, v10952, r_614, v10945, v10938, v10931, v10924, r_613, v10917, r_612, v10910, v10903, v10896, v10889, r_611, v10882, r_610, v10875, v10868, v10861, v10854, r_609, v10847, r_608, v10840, v10833, v10826, v10819, r_607, v10812, r_606, v10805, readU]
  pointwise [k0_pay662, k0_pay663, k0_pay664, k0_pay665, k0_pay666, k0_pay667, k0_pay668, k0_pay669, k0_pay670, k0_pay671, k0_pay672, k0_pay673, k0_pay674]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeTile7.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeStage

@[expose] public section

set_option maxRecDepth 16384

noncomputable section

namespace Cert.Kernel2Ideal.Block
open Cert.Kernel2Ideal Cert.Kernel2Ideal.Gen Cert.Kernel2Ideal.Gen.kernelRun0_A.sl
open Idealize.ShloMosaic Idealize.ShloMosaic.TcCoe Idealize.SL.Sem

/-! The eight stores of column tile 7 into the second staging buffer, each the convolution of the first at the rows it stores. -/

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- Column tile 7, rows 385, 387, … 511 of the second staging buffer. -/
theorem tile_7_385 (x : S1x64x128.Idx) (j : S8x512x128.Idx) (h0 : (j 0).val = 7) (h1 : (j 1).val = 385 + 2 * (x 1).val) (h2 : (j 2).val = (x 2).val) :
    (r_807 c i arg3 harg3 arg4 harg4 arg7 harg7 arg8 harg8 arg17 x2 x3 x6 x7) x = cbuf i x2 x3 x6 x7 j := by
  simp only [r_807, v14360, v13468, v13461, v13454, r_806, v13447, r_805, v13440, v13433, v13426, v13419, r_804, v13412, r_803, v13405, v13398, v13391, v13384, r_802, v13377, r_801, v13370, v13363, v13356, v13349, r_800, v13342, r_799, v13335, v13328, v13321, v13314, r_798, v13307, r_797, v13300, v13293, v13286, v13279, r_796, v13272, r_795, v13265, readU]
  pointwise [k0_pay863, k0_pay864, k0_pay865, k0_pay866, k0_pay867, k0_pay868, k0_pay869, k0_pay870, k0_pay871, k0_pay872, k0_pay873, k0_pay874, k0_pay875]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 257, 259, … 383 of the second staging buffer. -/
theorem tile_7_257 (x : S1x64x128.Idx) (j : S8x512x128.Idx) (h0 : (j 0).val = 7) (h1 : (j 1).val = 257 + 2 * (x 1).val) (h2 : (j 2).val = (x 2).val) :
    (k0_pay862 (r_793 c i arg3 harg3 arg4 harg4 arg7 harg7 arg8 harg8 arg17 x2 x3 x6 x7) (r_794 c i arg3 harg3 arg4 harg4 arg17 x2 x3) (View.readAt (Elt Ideal) arg7.view (Rect.unit (s := S31x1024) ![28, 896] S1x128.size inb_S31x1024_S1x128_28_896).toLoadRect (harg7.unread x6)) (v13245 c i arg3 harg3 arg4 harg4 arg17 x2 x3) (View.readAt (Elt Ideal) arg7.view (Rect.unit (s := S31x1024) ![29, 896] S1x128.size inb_S31x1024_S1x128_29_896).toLoadRect (harg7.unread x6)) (v14137 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [v14137, v13245, r_794, v13238, r_793, v13231, v13224, v13217, v13210, r_792, v13203, r_791, v13196, v13189, v13182, v13175, r_790, v13168, r_789, v13161, v13154, v13147, v13140, r_788, v13133, r_787, v13126, v13119, v13112, v13105, r_786, v13098, r_785, v13091, v13084, v13077, v13070, r_784, v13063, r_783, v13056, v13049, v13042, readU]
  pointwise [k0_pay850, k0_pay851, k0_pay852, k0_pay853, k0_pay854, k0_pay855, k0_pay856, k0_pay857, k0_pay858, k0_pay859, k0_pay860, k0_pay861, k0_pay862]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 129, 131, … 255 of the second staging buffer. -/
theorem tile_7_129 (x : S1x64x128.Idx) (j : S8x512x128.Idx) (h0 : (j 0).val = 7) (h1 : (j 1).val = 129 + 2 * (x 1).val) (h2 : (j 2).val = (x 2).val) :
    (k0_pay849 (r_781 c i arg3 harg3 arg4 harg4 arg7 harg7 arg8 harg8 arg17 x2 x3 x6 x7) (r_782 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [r_782, v13914, r_781, v13022, v13015, v13008, v13001, r_780, v12994, r_779, v12987, v12980, v12973, v12966, r_778, v12959, r_777, v12952, v12945, v12938, v12931, r_776, v12924, r_775, v12917, v12910, v12903, v12896, r_774, v12889, r_773, v12882, v12875, v12868, v12861, r_772, v12854, r_771, v12847, v12840, v12833, v12826, r_770, v12819, r_769, readU]
  pointwise [k0_pay835, k0_pay836, k0_pay837, k0_pay838, k0_pay839, k0_pay840, k0_pay841, k0_pay842, k0_pay843, k0_pay844, k0_pay845, k0_pay846, k0_pay847, k0_pay848, k0_pay849]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 1, 3, … 127 of the second staging buffer. -/
theorem tile_7_1 (x : S1x64x128.Idx) (j : S8x512x128.Idx) (h0 : (j 0).val = 7) (h1 : (j 1).val = 1 + 2 * (x 1).val) (h2 : (j 2).val = (x 2).val) :
    (k0_pay834 (r_767 c i arg3 harg3 arg4 harg4 arg7 harg7 arg8 harg8 arg17 x2 x3 x6 x7) (r_768 c i arg3 harg3 arg4 harg4 arg17 x2 x3) (View.readAt (Elt Ideal) arg7.view (Rect.unit (s := S31x1024) ![27, 896] S1x128.size inb_S31x1024_S1x128_27_896).toLoadRect (harg7.unread x6)) (v12792 c i arg3 harg3 arg4 harg4 arg17 x2 x3) (View.readAt (Elt Ideal) arg7.view (Rect.unit (s := S31x1024) ![28, 896] S1x128.size inb_S31x1024_S1x128_28_896).toLoadRect (harg7.unread x6)) (v12799 c i arg3 harg3 arg4 harg4 arg17 x2 x3) (View.readAt (Elt Ideal) arg7.view (Rect.unit (s := S31x1024) ![29, 896] S1x128.size inb_S31x1024_S1x128_29_896).toLoadRect (harg7.unread x6)) (v13691 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [v13691, v12799, v12792, r_768, v12785, r_767, v12778, v12771, v12764, v12757, r_766, v12750, r_765, v12743, v12736, v12729, v12722, r_764, v12715, r_763, v12708, v12701, v12694, v12687, r_762, v12680, r_761, v12673, v12666, v12659, v12652, r_760, v12645, r_759, v12638, v12631, v12624, v12617, r_758, v12610, r_757, v12603, v12596, readU]
  pointwise [k0_pay822, k0_pay823, k0_pay824, k0_pay825, k0_pay826, k0_pay827, k0_pay828, k0_pay829, k0_pay830, k0_pay831, k0_pay832, k0_pay833, k0_pay834]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 384, 386, … 510 of the second staging buffer. -/
theorem tile_7_384 (x : S1x64x128.Idx) (j : S8x512x128.Idx) (h0 : (j 0).val = 7) (h1 : (j 1).val = 384 + 2 * (x 1).val) (h2 : (j 2).val = (x 2).val) :
    (k0_pay821 (r_755 c i arg3 harg3 arg4 harg4 arg7 harg7 arg8 harg8 arg17 x2 x3 x6 x7) (r_756 c i arg3 harg3 arg4 harg4 arg17 x2 x3) (View.readAt (Elt Ideal) arg7.view (Rect.unit (s := S31x1024) ![29, 896] S1x128.size inb_S31x1024_S1x128_29_896).toLoadRect (harg7.unread x6)) (v13468 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [v13468, r_756, v13461, r_755, v13454, v13447, v13440, v13433, r_754, v13426, r_753, v13419, v13412, v13405, v13398, r_752, v13391, r_751, v13384, v13377, v13370, v13363, r_750, v13356, r_749, v13349, v13342, v13335, v13328, r_748, v13321, r_747, v13314, v13307, v13300, v13293, r_746, v13286, r_745, v13279, v13272, v13265, v13258, readU]
  pointwise [k0_pay809, k0_pay810, k0_pay811, k0_pay812, k0_pay813, k0_pay814, k0_pay815, k0_pay816, k0_pay817, k0_pay818, k0_pay819, k0_pay820, k0_pay821]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 256, 258, … 382 of the second staging buffer. -/
theorem tile_7_256 (x : S1x64x128.Idx) (j : S8x512x128.Idx) (h0 : (j 0).val = 7) (h1 : (j 1).val = 256 + 2 * (x 1).val) (h2 : (j 2).val = (x 2).val) :
    (r_744 c i arg3 harg3 arg4 harg4 arg7 harg7 arg8 harg8 arg17 x2 x3 x6 x7) x = cbuf i x2 x3 x6 x7 j := by
  simp only [r_744, v13245, v13238, v13231, v13224, r_743, v13217, r_742, v13210, v13203, v13196, v13189, r_741, v13182, r_740, v13175, v13168, v13161, v13154, r_739, v13147, r_738, v13140, v13133, v13126, v13119, r_737, v13112, r_736, v13105, v13098, v13091, v13084, r_735, v13077, r_734, v13070, v13063, v13056, v13049, r_733, v13042, r_732, v13035, readU]
  pointwise [k0_pay796, k0_pay797, k0_pay798, k0_pay799, k0_pay800, k0_pay801, k0_pay802, k0_pay803, k0_pay804, k0_pay805, k0_pay806, k0_pay807, k0_pay808]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 128, 130, … 254 of the second staging buffer. -/
theorem tile_7_128 (x : S1x64x128.Idx) (j : S8x512x128.Idx) (h0 : (j 0).val = 7) (h1 : (j 1).val = 128 + 2 * (x 1).val) (h2 : (j 2).val = (x 2).val) :
    (k0_pay795 (r_730 c i arg3 harg3 arg4 harg4 arg7 harg7 arg8 harg8 arg17 x2 x3 x6 x7) (r_731 c i arg3 harg3 arg4 harg4 arg17 x2 x3) (View.readAt (Elt Ideal) arg7.view (Rect.unit (s := S31x1024) ![28, 896] S1x128.size inb_S31x1024_S1x128_28_896).toLoadRect (harg7.unread x6)) (v13015 c i arg3 harg3 arg4 harg4 arg17 x2 x3) (View.readAt (Elt Ideal) arg7.view (Rect.unit (s := S31x1024) ![29, 896] S1x128.size inb_S31x1024_S1x128_29_896).toLoadRect (harg7.unread x6)) (v13022 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [v13022, v13015, r_731, v13008, r_730, v13001, v12994, v12987, v12980, r_729, v12973, r_728, v12966, v12959, v12952, v12945, r_727, v12938, r_726, v12931, v12924, v12917, v12910, r_725, v12903, r_724, v12896, v12889, v12882, v12875, r_723, v12868, r_722, v12861, v12854, v12847, v12840, r_721, v12833, r_720, v12826, v12819, v12812, readU]
  pointwise [k0_pay783, k0_pay784, k0_pay785, k0_pay786, k0_pay787, k0_pay788, k0_pay789, k0_pay790, k0_pay791, k0_pay792, k0_pay793, k0_pay794, k0_pay795]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

/-- Column tile 7, rows 0, 2, … 126 of the second staging buffer. -/
theorem tile_7_0 (x : S1x64x128.Idx) (j : S8x512x128.Idx) (h0 : (j 0).val = 7) (h1 : (j 1).val = 0 + 2 * (x 1).val) (h2 : (j 2).val = (x 2).val) :
    (k0_pay782 (r_718 c i arg3 harg3 arg4 harg4 arg7 harg7 arg8 harg8 arg17 x2 x3 x6 x7) (r_719 c i arg3 harg3 arg4 harg4 arg17 x2 x3) (View.readAt (Elt Ideal) arg7.view (Rect.unit (s := S31x1024) ![30, 896] S1x128.size inb_S31x1024_S1x128_30_896).toLoadRect (harg7.unread x6))) x = cbuf i x2 x3 x6 x7 j := by
  simp only [r_719, v12799, r_718, v12792, v12785, v12778, v12771, r_717, v12764, r_716, v12757, v12750, v12743, v12736, r_715, v12729, r_714, v12722, v12715, v12708, v12701, r_713, v12694, r_712, v12687, v12680, v12673, v12666, r_711, v12659, r_710, v12652, v12645, v12638, v12631, r_709, v12624, r_708, v12617, v12610, v12603, v12596, r_707, v12589, r_706, readU]
  pointwise [k0_pay768, k0_pay769, k0_pay770, k0_pay771, k0_pay772, k0_pay773, k0_pay774, k0_pay775, k0_pay776, k0_pay777, k0_pay778, k0_pay779, k0_pay780, k0_pay781, k0_pay782]
  simp only [Memref.IsWhole.readAt_unread]
  refine Eq.trans ?_ (Merge.taps_from _ _)
  iterate 31 refine congrArg₂ (· + ·) ?_ (congrArg₂ (· * ·) (ubuf_at i x2 x3 _ _ _ _ _ ?_ ?_) (tap_at x6 _ _ _ _ ?_ ?_))
  refine bias_at x7 _ _ _ ?_
  all_goals simp [h0, h1, h2, Rect.idx_unit_val]
  all_goals omega

end Cert.Kernel2Ideal.Block

end
-- ==== Proof.MergeConv.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeTile0
public import proofs.«01_k».proof.Proof.MergeTile1
public import proofs.«01_k».proof.Proof.MergeTile2
public import proofs.«01_k».proof.Proof.MergeTile3
public import proofs.«01_k».proof.Proof.MergeTile4
public import proofs.«01_k».proof.Proof.MergeTile5
public import proofs.«01_k».proof.Proof.MergeTile6
public import proofs.«01_k».proof.Proof.MergeTile7

@[expose] public section

set_option maxRecDepth 16384

noncomputable section

namespace Cert.Kernel2Ideal.Block
open Cert.Kernel2Ideal Cert.Kernel2Ideal.Gen
open Idealize.ShloMosaic Idealize.ShloMosaic.TcCoe Idealize.SL.Sem

/-! The second staging buffer holds the convolution. -/

/-- A place of the second staging buffer lies in a store of every other row from `o` on. -/
theorem mem_tile (R : Rect S8x512x128) (y : S8x512x128.Idx) (l o : ℕ) (hoff : R.off = ![l, o, 0]) (hsz : R.size = ![1, 64, 128]) (hst : R.stride = ![1, 2, 1])
    (h0 : (y 0).val = l) (ho : o ≤ (y 1).val) (ho' : (y 1).val < o + 128) (hp : (y 1).val % 2 = o % 2) : y ∈ R.set := by
  refine R.mem_set.2 fun a => ?_
  rw [hoff, hsz, hst]
  match a with
  | 0 => exact ⟨0, by show (0 : ℕ) < 1; omega, by show (y 0).val = l + 1 * 0; omega⟩
  | 1 => exact ⟨((y 1).val - o) / 2, by show ((y 1).val - o) / 2 < 64; omega, by show (y 1).val = o + 2 * (((y 1).val - o) / 2); omega⟩
  | 2 => exact ⟨(y 2).val, (y 2).isLt, by show (y 2).val = 0 + 1 * (y 2).val; omega⟩

/-- The place of an element of a store of every other row, by coordinate. -/
theorem emb0 (R : Rect S8x512x128) (x : R.shape.Idx) (l : ℕ) (hoff : R.off 0 = l) (hsz : R.size 0 = 1) : (R.emb x 0).val = l := by
  have h : (x 0).val < 1 := hsz ▸ (x 0).isLt
  show R.off 0 + R.stride 0 * (x 0).val = l
  rw [hoff, Nat.lt_one_iff.1 h, Nat.mul_zero, Nat.add_zero]

theorem emb1 (R : Rect S8x512x128) (x : R.shape.Idx) (o : ℕ) (hoff : R.off 1 = o) (hst : R.stride 1 = 2) : (R.emb x 1).val = o + 2 * (x 1).val := by
  show R.off 1 + R.stride 1 * (x 1).val = _
  rw [hoff, hst]

theorem emb2 (R : Rect S8x512x128) (x : R.shape.Idx) (hoff : R.off 2 = 0) (hst : R.stride 2 = 1) : (R.emb x 2).val = (x 2).val := by
  show R.off 2 + R.stride 2 * (x 2).val = _
  rw [hoff, hst, Nat.zero_add, Nat.one_mul]

variable (c : Dev nD) (i : grid0.Coords) (arg3 : Memref sig .tc .vmem S512x1024 .f32) (harg3 : arg3.IsWhole) (arg4 : Memref sig .tc .vmem S32x1024 .f32) (harg4 : arg4.IsWhole)
  (arg7 : Memref sig .tc .vmem S31x1024 .f32) (harg7 : arg7.IsWhole) (arg8 : Memref sig .tc .vmem S1x1024 .f32) (harg8 : arg8.IsWhole) (arg17 : Memref sig .tc .vmem S8x544x128 .f32)
  (x2 : Vec Ideal S512x1024 .f32) (x3 : Vec Ideal S32x1024 .f32) (x6 : Vec Ideal S31x1024 .f32) (x7 : Vec Ideal S1x1024 .f32)

set_option maxHeartbeats 4000000

/-- The stores are 64. -/
theorem lenC : (kernelRun0_A.sl.HS1_64 c i arg3 harg3 arg4 harg4 arg7 harg7 arg8 harg8 arg17 x2 x3 x6 x7).length = 64 := rfl

/-- Every place of the second staging buffer is in one of its stores. -/
theorem coverC (y : S8x512x128.Idx) : ∃ p ∈ kernelRun0_A.sl.HS1_64 c i arg3 harg3 arg4 harg4 arg7 harg7 arg8 harg8 arg17 x2 x3 x6 x7, y ∈ p.1.set := by
  have h0 : (y 0).val < 8 := (y 0).isLt
  have h1 : (y 1).val < 512 := (y 1).isLt
  rcases (by omega : (y 0).val = 0 ∨ (y 0).val = 1 ∨ (y 0).val = 2 ∨ (y 0).val = 3 ∨ (y 0).val = 4 ∨ (y 0).val = 5 ∨ (y 0).val = 6 ∨ (y 0).val = 7) with e0 | e0 | e0 | e0 | e0 | e0 | e0 | e0 <;>
    rcases (by omega : (y 1).val / 128 = 0 ∨ (y 1).val / 128 = 1 ∨ (y 1).val / 128 = 2 ∨ (y 1).val / 128 = 3) with e1 | e1 | e1 | e1 <;>
    rcases (by omega : (y 1).val % 2 = 0 ∨ (y 1).val % 2 = 1) with e2 | e2
  · exact ⟨(kernelRun0_A.sl.HS1_64 c i arg3 harg3 arg4 harg4 arg7 harg7 arg8 harg8 arg17 x2 x3 x6 x7)[63]'(by rw [lenC]; decide), List.getElem_mem _, mem_tile _ y 0 0 rfl rfl rfl e0 (by omega) (by omega) (by omega)⟩
  · exact ⟨(kernelRun0_A.sl.HS1_64 c i arg3 harg3 arg4 harg4 arg7 harg7 arg8 harg8 arg17 x2 x3 x6 x7)[59]'(by rw [lenC]; decide), List.getElem_mem _, mem_tile _ y 0 1 rfl rfl rfl e0 (by omega) (by omega) (by omega)⟩
  · exact ⟨(kernelRun0_A.sl.HS1_64 c i arg3 harg3 arg4 harg4 arg7 harg7 arg8 harg8 arg17 x2 x3 x6 x7)[62]'(by rw [lenC]; decide), List.getElem_mem _, mem_tile _ y 0 128 rfl rfl rfl e0 (by omega) (by omega) (by omega)⟩
  · exact ⟨(kernelRun0_A.sl.HS1_64 c i arg3 harg3 arg4 harg4 arg7 harg7 arg8 harg8 arg17 x2 x3 x6 x7)[58]'(by rw [lenC]; decide), List.getElem_mem _, mem_tile _ y 0 129 rfl rfl rfl e0 (by omega) (by omega) (by omega)⟩
  · exact ⟨(kernelRun0_A.sl.HS1_64 c i arg3 harg3 arg4 harg4 arg7 harg7 arg8 harg8 arg17 x2 x3 x6 x7)[61]'(by rw [lenC]; decide), List.getElem_mem _, mem_tile _ y 0 256 rfl rfl rfl e0 (by omega) (by omega) (by omega)⟩
  · exact ⟨(kernelRun0_A.sl.HS1_64 c i arg3 harg3 arg4 harg4 arg7 harg7 arg8 harg8 arg17 x2 x3 x6 x7)[57]'(by rw [lenC]; decide), List.getElem_mem _, mem_tile _ y 0 257 rfl rfl rfl e0 (by omega) (by omega) (by omega)⟩
  · exact ⟨(kernelRun0_A.sl.HS1_64 c i arg3 harg3 arg4 harg4 arg7 harg7 arg8 harg8 arg17 x2 x3 x6 x7)[60]'(by rw [lenC]; decide), List.getElem_mem _, mem_tile _ y 0 384 rfl rfl rfl e0 (by omega) (by omega) (by omega)⟩
  · exact ⟨(kernelRun0_A.sl.HS1_64 c i arg3 harg3 arg4 harg4 arg7 harg7 arg8 harg8 arg17 x2 x3 x6 x7)[56]'(by rw [lenC]; decide), List.getElem_mem _, mem_tile _ y 0 385 rfl rfl rfl e0 (by omega) (by omega) (by omega)⟩
  · exact ⟨(kernelRun0_A.sl.HS1_64 c i arg3 harg3 arg4 harg4 arg7 harg7 arg8 harg8 arg17 x2 x3 x6 x7)[55]'(by rw [lenC]; decide), List.getElem_mem _, mem_tile _ y 1 0 rfl rfl rfl e0 (by omega) (by omega) (by omega)⟩
  · exact ⟨(kernelRun0_A.sl.HS1_64 c i arg3 harg3 arg4 harg4 arg7 harg7 arg8 harg8 arg17 x2 x3 x6 x7)[51]'(by rw [lenC]; decide), List.getElem_mem _, mem_tile _ y 1 1 rfl rfl rfl e0 (by omega) (by omega) (by omega)⟩
  · exact ⟨(kernelRun0_A.sl.HS1_64 c i arg3 harg3 arg4 harg4 arg7 harg7 arg8 harg8 arg17 x2 x3 x6 x7)[54]'(by rw [lenC]; decide), List.getElem_mem _, mem_tile _ y 1 128 rfl rfl rfl e0 (by omega) (by omega) (by omega)⟩
  · exact ⟨(kernelRun0_A.sl.HS1_64 c i arg3 harg3 arg4 harg4 arg7 harg7 arg8 harg8 arg17 x2 x3 x6 x7)[50]'(by rw [lenC]; decide), List.getElem_mem _, mem_tile _ y 1 129 rfl rfl rfl e0 (by omega) (by omega) (by omega)⟩
  · exact ⟨(kernelRun0_A.sl.HS1_64 c i arg3 harg3 arg4 harg4 arg7 harg7 arg8 harg8 arg17 x2 x3 x6 x7)[53]'(by rw [lenC]; decide), List.getElem_mem _, mem_tile _ y 1 256 rfl rfl rfl e0 (by omega) (by omega) (by omega)⟩
  · exact ⟨(kernelRun0_A.sl.HS1_64 c i arg3 harg3 arg4 harg4 arg7 harg7 arg8 harg8 arg17 x2 x3 x6 x7)[49]'(by rw [lenC]; decide), List.getElem_mem _, mem_tile _ y 1 257 rfl rfl rfl e0 (by omega) (by omega) (by omega)⟩
  · exact ⟨(kernelRun0_A.sl.HS1_64 c i arg3 harg3 arg4 harg4 arg7 harg7 arg8 harg8 arg17 x2 x3 x6 x7)[52]'(by rw [lenC]; decide), List.getElem_mem _, mem_tile _ y 1 384 rfl rfl rfl e0 (by omega) (by omega) (by omega)⟩
  · exact ⟨(kernelRun0_A.sl.HS1_64 c i arg3 harg3 arg4 harg4 arg7 harg7 arg8 harg8 arg17 x2 x3 x6 x7)[48]'(by rw [lenC]; decide), List.getElem_mem _, mem_tile _ y 1 385 rfl rfl rfl e0 (by omega) (by omega) (by omega)⟩
  · exact ⟨(kernelRun0_A.sl.HS1_64 c i arg3 harg3 arg4 harg4 arg7 harg7 arg8 harg8 arg17 x2 x3 x6 x7)[47]'(by rw [lenC]; decide), List.getElem_mem _, mem_tile _ y 2 0 rfl rfl rfl e0 (by omega) (by omega) (by omega)⟩
  · exact ⟨(kernelRun0_A.sl.HS1_64 c i arg3 harg3 arg4 harg4 arg7 harg7 arg8 harg8 arg17 x2 x3 x6 x7)[43]'(by rw [lenC]; decide), List.getElem_mem _, mem_tile _ y 2 1 rfl rfl rfl e0 (by omega) (by omega) (by omega)⟩
  · exact ⟨(kernelRun0_A.sl.HS1_64 c i arg3 harg3 arg4 harg4 arg7 harg7 arg8 harg8 arg17 x2 x3 x6 x7)[46]'(by rw [lenC]; decide), List.getElem_mem _, mem_tile _ y 2 128 rfl rfl rfl e0 (by omega) (by omega) (by omega)⟩
  · exact ⟨(kernelRun0_A.sl.HS1_64 c i arg3 harg3 arg4 harg4 arg7 harg7 arg8 harg8 arg17 x2 x3 x6 x7)[42]'(by rw [lenC]; decide), List.getElem_mem _, mem_tile _ y 2 129 rfl rfl rfl e0 (by omega) (by omega) (by omega)⟩
  · exact ⟨(kernelRun0_A.sl.HS1_64 c i arg3 harg3 arg4 harg4 arg7 harg7 arg8 harg8 arg17 x2 x3 x6 x7)[45]'(by rw [lenC]; decide), List.getElem_mem _, mem_tile _ y 2 256 rfl rfl rfl e0 (by omega) (by omega) (by omega)⟩
  · exact ⟨(kernelRun0_A.sl.HS1_64 c i arg3 harg3 arg4 harg4 arg7 harg7 arg8 harg8 arg17 x2 x3 x6 x7)[41]'(by rw [lenC]; decide), List.getElem_mem _, mem_tile _ y 2 257 rfl rfl rfl e0 (by omega) (by omega) (by omega)⟩
  · exact ⟨(kernelRun0_A.sl.HS1_64 c i arg3 harg3 arg4 harg4 arg7 harg7 arg8 harg8 arg17 x2 x3 x6 x7)[44]'(by rw [lenC]; decide), List.getElem_mem _, mem_tile _ y 2 384 rfl rfl rfl e0 (by omega) (by omega) (by omega)⟩
  · exact ⟨(kernelRun0_A.sl.HS1_64 c i arg3 harg3 arg4 harg4 arg7 harg7 arg8 harg8 arg17 x2 x3 x6 x7)[40]'(by rw [lenC]; decide), List.getElem_mem _, mem_tile _ y 2 385 rfl rfl rfl e0 (by omega) (by omega) (by omega)⟩
  · exact ⟨(kernelRun0_A.sl.HS1_64 c i arg3 harg3 arg4 harg4 arg7 harg7 arg8 harg8 arg17 x2 x3 x6 x7)[39]'(by rw [lenC]; decide), List.getElem_mem _, mem_tile _ y 3 0 rfl rfl rfl e0 (by omega) (by omega) (by omega)⟩
  · exact ⟨(kernelRun0_A.sl.HS1_64 c i arg3 harg3 arg4 harg4 arg7 harg7 arg8 harg8 arg17 x2 x3 x6 x7)[35]'(by rw [lenC]; decide), List.getElem_mem _, mem_tile _ y 3 1 rfl rfl rfl e0 (by omega) (by omega) (by omega)⟩
  · exact ⟨(kernelRun0_A.sl.HS1_64 c i arg3 harg3 arg4 harg4 arg7 harg7 arg8 harg8 arg17 x2 x3 x6 x7)[38]'(by rw [lenC]; decide), List.getElem_mem _, mem_tile _ y 3 128 rfl rfl rfl e0 (by omega) (by omega) (by omega)⟩
  · exact ⟨(kernelRun0_A.sl.HS1_64 c i arg3 harg3 arg4 harg4 arg7 harg7 arg8 harg8 arg17 x2 x3 x6 x7)[34]'(by rw [lenC]; decide), List.getElem_mem _, mem_tile _ y 3 129 rfl rfl rfl e0 (by omega) (by omega) (by omega)⟩
  · exact ⟨(kernelRun0_A.sl.HS1_64 c i arg3 harg3 arg4 harg4 arg7 harg7 arg8 harg8 arg17 x2 x3 x6 x7)[37]'(by rw [lenC]; decide), List.getElem_mem _, mem_tile _ y 3 256 rfl rfl rfl e0 (by omega) (by omega) (by omega)⟩
  · exact ⟨(kernelRun0_A.sl.HS1_64 c i arg3 harg3 arg4 harg4 arg7 harg7 arg8 harg8 arg17 x2 x3 x6 x7)[33]'(by rw [lenC]; decide), List.getElem_mem _, mem_tile _ y 3 257 rfl rfl rfl e0 (by omega) (by omega) (by omega)⟩
  · exact ⟨(kernelRun0_A.sl.HS1_64 c i arg3 harg3 arg4 harg4 arg7 harg7 arg8 harg8 arg17 x2 x3 x6 x7)[36]'(by rw [lenC]; decide), List.getElem_mem _, mem_tile _ y 3 384 rfl rfl rfl e0 (by omega) (by omega) (by omega)⟩
  · exact ⟨(kernelRun0_A.sl.HS1_64 c i arg3 harg3 arg4 harg4 arg7 harg7 arg8 harg8 arg17 x2 x3 x6 x7)[32]'(by rw [lenC]; decide), List.getElem_mem _, mem_tile _ y 3 385 rfl rfl rfl e0 (by omega) (by omega) (by omega)⟩
  · exact ⟨(kernelRun0_A.sl.HS1_64 c i arg3 harg3 arg4 harg4 arg7 harg7 arg8 harg8 arg17 x2 x3 x6 x7)[31]'(by rw [lenC]; decide), List.getElem_mem _, mem_tile _ y 4 0 rfl rfl rfl e0 (by omega) (by omega) (by omega)⟩
  · exact ⟨(kernelRun0_A.sl.HS1_64 c i arg3 harg3 arg4 harg4 arg7 harg7 arg8 harg8 arg17 x2 x3 x6 x7)[27]'(by rw [lenC]; decide), List.getElem_mem _, mem_tile _ y 4 1 rfl rfl rfl e0 (by omega) (by omega) (by omega)⟩
  · exact ⟨(kernelRun0_A.sl.HS1_64 c i arg3 harg3 arg4 harg4 arg7 harg7 arg8 harg8 arg17 x2 x3 x6 x7)[30]'(by rw [lenC]; decide), List.getElem_mem _, mem_tile _ y 4 128 rfl rfl rfl e0 (by omega) (by omega) (by omega)⟩
  · exact ⟨(kernelRun0_A.sl.HS1_64 c i arg3 harg3 arg4 harg4 arg7 harg7 arg8 harg8 arg17 x2 x3 x6 x7)[26]'(by rw [lenC]; decide), List.getElem_mem _, mem_tile _ y 4 129 rfl rfl rfl e0 (by omega) (by omega) (by omega)⟩
  · exact ⟨(kernelRun0_A.sl.HS1_64 c i arg3 harg3 arg4 harg4 arg7 harg7 arg8 harg8 arg17 x2 x3 x6 x7)[29]'(by rw [lenC]; decide), List.getElem_mem _, mem_tile _ y 4 256 rfl rfl rfl e0 (by omega) (by omega) (by omega)⟩
  · exact ⟨(kernelRun0_A.sl.HS1_64 c i arg3 harg3 arg4 harg4 arg7 harg7 arg8 harg8 arg17 x2 x3 x6 x7)[25]'(by rw [lenC]; decide), List.getElem_mem _, mem_tile _ y 4 257 rfl rfl rfl e0 (by omega) (by omega) (by omega)⟩
  · exact ⟨(kernelRun0_A.sl.HS1_64 c i arg3 harg3 arg4 harg4 arg7 harg7 arg8 harg8 arg17 x2 x3 x6 x7)[28]'(by rw [lenC]; decide), List.getElem_mem _, mem_tile _ y 4 384 rfl rfl rfl e0 (by omega) (by omega) (by omega)⟩
  · exact ⟨(kernelRun0_A.sl.HS1_64 c i arg3 harg3 arg4 harg4 arg7 harg7 arg8 harg8 arg17 x2 x3 x6 x7)[24]'(by rw [lenC]; decide), List.getElem_mem _, mem_tile _ y 4 385 rfl rfl rfl e0 (by omega) (by omega) (by omega)⟩
  · exact ⟨(kernelRun0_A.sl.HS1_64 c i arg3 harg3 arg4 harg4 arg7 harg7 arg8 harg8 arg17 x2 x3 x6 x7)[23]'(by rw [lenC]; decide), List.getElem_mem _, mem_tile _ y 5 0 rfl rfl rfl e0 (by omega) (by omega) (by omega)⟩
  · exact ⟨(kernelRun0_A.sl.HS1_64 c i arg3 harg3 arg4 harg4 arg7 harg7 arg8 harg8 arg17 x2 x3 x6 x7)[19]'(by rw [lenC]; decide), List.getElem_mem _, mem_tile _ y 5 1 rfl rfl rfl e0 (by omega) (by omega) (by omega)⟩
  · exact ⟨(kernelRun0_A.sl.HS1_64 c i arg3 harg3 arg4 harg4 arg7 harg7 arg8 harg8 arg17 x2 x3 x6 x7)[22]'(by rw [lenC]; decide), List.getElem_mem _, mem_tile _ y 5 128 rfl rfl rfl e0 (by omega) (by omega) (by omega)⟩
  · exact ⟨(kernelRun0_A.sl.HS1_64 c i arg3 harg3 arg4 harg4 arg7 harg7 arg8 harg8 arg17 x2 x3 x6 x7)[18]'(by rw [lenC]; decide), List.getElem_mem _, mem_tile _ y 5 129 rfl rfl rfl e0 (by omega) (by omega) (by omega)⟩
  · exact ⟨(kernelRun0_A.sl.HS1_64 c i arg3 harg3 arg4 harg4 arg7 harg7 arg8 harg8 arg17 x2 x3 x6 x7)[21]'(by rw [lenC]; decide), List.getElem_mem _, mem_tile _ y 5 256 rfl rfl rfl e0 (by omega) (by omega) (by omega)⟩
  · exact ⟨(kernelRun0_A.sl.HS1_64 c i arg3 harg3 arg4 harg4 arg7 harg7 arg8 harg8 arg17 x2 x3 x6 x7)[17]'(by rw [lenC]; decide), List.getElem_mem _, mem_tile _ y 5 257 rfl rfl rfl e0 (by omega) (by omega) (by omega)⟩
  · exact ⟨(kernelRun0_A.sl.HS1_64 c i arg3 harg3 arg4 harg4 arg7 harg7 arg8 harg8 arg17 x2 x3 x6 x7)[20]'(by rw [lenC]; decide), List.getElem_mem _, mem_tile _ y 5 384 rfl rfl rfl e0 (by omega) (by omega) (by omega)⟩
  · exact ⟨(kernelRun0_A.sl.HS1_64 c i arg3 harg3 arg4 harg4 arg7 harg7 arg8 harg8 arg17 x2 x3 x6 x7)[16]'(by rw [lenC]; decide), List.getElem_mem _, mem_tile _ y 5 385 rfl rfl rfl e0 (by omega) (by omega) (by omega)⟩
  · exact ⟨(kernelRun0_A.sl.HS1_64 c i arg3 harg3 arg4 harg4 arg7 harg7 arg8 harg8 arg17 x2 x3 x6 x7)[15]'(by rw [lenC]; decide), List.getElem_mem _, mem_tile _ y 6 0 rfl rfl rfl e0 (by omega) (by omega) (by omega)⟩
  · exact ⟨(kernelRun0_A.sl.HS1_64 c i arg3 harg3 arg4 harg4 arg7 harg7 arg8 harg8 arg17 x2 x3 x6 x7)[11]'(by rw [lenC]; decide), List.getElem_mem _, mem_tile _ y 6 1 rfl rfl rfl e0 (by omega) (by omega) (by omega)⟩
  · exact ⟨(kernelRun0_A.sl.HS1_64 c i arg3 harg3 arg4 harg4 arg7 harg7 arg8 harg8 arg17 x2 x3 x6 x7)[14]'(by rw [lenC]; decide), List.getElem_mem _, mem_tile _ y 6 128 rfl rfl rfl e0 (by omega) (by omega) (by omega)⟩
  · exact ⟨(kernelRun0_A.sl.HS1_64 c i arg3 harg3 arg4 harg4 arg7 harg7 arg8 harg8 arg17 x2 x3 x6 x7)[10]'(by rw [lenC]; decide), List.getElem_mem _, mem_tile _ y 6 129 rfl rfl rfl e0 (by omega) (by omega) (by omega)⟩
  · exact ⟨(kernelRun0_A.sl.HS1_64 c i arg3 harg3 arg4 harg4 arg7 harg7 arg8 harg8 arg17 x2 x3 x6 x7)[13]'(by rw [lenC]; decide), List.getElem_mem _, mem_tile _ y 6 256 rfl rfl rfl e0 (by omega) (by omega) (by omega)⟩
  · exact ⟨(kernelRun0_A.sl.HS1_64 c i arg3 harg3 arg4 harg4 arg7 harg7 arg8 harg8 arg17 x2 x3 x6 x7)[9]'(by rw [lenC]; decide), List.getElem_mem _, mem_tile _ y 6 257 rfl rfl rfl e0 (by omega) (by omega) (by omega)⟩
  · exact ⟨(kernelRun0_A.sl.HS1_64 c i arg3 harg3 arg4 harg4 arg7 harg7 arg8 harg8 arg17 x2 x3 x6 x7)[12]'(by rw [lenC]; decide), List.getElem_mem _, mem_tile _ y 6 384 rfl rfl rfl e0 (by omega) (by omega) (by omega)⟩
  · exact ⟨(kernelRun0_A.sl.HS1_64 c i arg3 harg3 arg4 harg4 arg7 harg7 arg8 harg8 arg17 x2 x3 x6 x7)[8]'(by rw [lenC]; decide), List.getElem_mem _, mem_tile _ y 6 385 rfl rfl rfl e0 (by omega) (by omega) (by omega)⟩
  · exact ⟨(kernelRun0_A.sl.HS1_64 c i arg3 harg3 arg4 harg4 arg7 harg7 arg8 harg8 arg17 x2 x3 x6 x7)[7]'(by rw [lenC]; decide), List.getElem_mem _, mem_tile _ y 7 0 rfl rfl rfl e0 (by omega) (by omega) (by omega)⟩
  · exact ⟨(kernelRun0_A.sl.HS1_64 c i arg3 harg3 arg4 harg4 arg7 harg7 arg8 harg8 arg17 x2 x3 x6 x7)[3]'(by rw [lenC]; decide), List.getElem_mem _, mem_tile _ y 7 1 rfl rfl rfl e0 (by omega) (by omega) (by omega)⟩
  · exact ⟨(kernelRun0_A.sl.HS1_64 c i arg3 harg3 arg4 harg4 arg7 harg7 arg8 harg8 arg17 x2 x3 x6 x7)[6]'(by rw [lenC]; decide), List.getElem_mem _, mem_tile _ y 7 128 rfl rfl rfl e0 (by omega) (by omega) (by omega)⟩
  · exact ⟨(kernelRun0_A.sl.HS1_64 c i arg3 harg3 arg4 harg4 arg7 harg7 arg8 harg8 arg17 x2 x3 x6 x7)[2]'(by rw [lenC]; decide), List.getElem_mem _, mem_tile _ y 7 129 rfl rfl rfl e0 (by omega) (by omega) (by omega)⟩
  · exact ⟨(kernelRun0_A.sl.HS1_64 c i arg3 harg3 arg4 harg4 arg7 harg7 arg8 harg8 arg17 x2 x3 x6 x7)[5]'(by rw [lenC]; decide), List.getElem_mem _, mem_tile _ y 7 256 rfl rfl rfl e0 (by omega) (by omega) (by omega)⟩
  · exact ⟨(kernelRun0_A.sl.HS1_64 c i arg3 harg3 arg4 harg4 arg7 harg7 arg8 harg8 arg17 x2 x3 x6 x7)[1]'(by rw [lenC]; decide), List.getElem_mem _, mem_tile _ y 7 257 rfl rfl rfl e0 (by omega) (by omega) (by omega)⟩
  · exact ⟨(kernelRun0_A.sl.HS1_64 c i arg3 harg3 arg4 harg4 arg7 harg7 arg8 harg8 arg17 x2 x3 x6 x7)[4]'(by rw [lenC]; decide), List.getElem_mem _, mem_tile _ y 7 384 rfl rfl rfl e0 (by omega) (by omega) (by omega)⟩
  · exact ⟨(kernelRun0_A.sl.HS1_64 c i arg3 harg3 arg4 harg4 arg7 harg7 arg8 harg8 arg17 x2 x3 x6 x7)[0]'(by rw [lenC]; decide), List.getElem_mem _, mem_tile _ y 7 385 rfl rfl rfl e0 (by omega) (by omega) (by omega)⟩

/-- The second staging buffer holds the convolution of the first. -/
theorem canonC : View.canon (kernelRun0_A.sl.HS1_64 c i arg3 harg3 arg4 harg4 arg7 harg7 arg8 harg8 arg17 x2 x3 x6 x7) = cbuf i x2 x3 x6 x7 := by
  funext y
  refine View.canon_apply_of_pieces (cbuf i x2 x3 x6 x7) _ ?_ y (coverC c i arg3 harg3 arg4 harg4 arg7 harg7 arg8 harg8 arg17 x2 x3 x6 x7 y)
  unfold kernelRun0_A.sl.HS1_64
  refine List.forall_mem_cons.2 ⟨fun x => tile_7_385 (x := x) (j := _) (h0 := emb0 _ x _ rfl rfl) (h1 := emb1 _ x _ rfl rfl) (h2 := emb2 _ x rfl rfl) .., ?_⟩
  refine List.forall_mem_cons.2 ⟨fun x => tile_7_257 (x := x) (j := _) (h0 := emb0 _ x _ rfl rfl) (h1 := emb1 _ x _ rfl rfl) (h2 := emb2 _ x rfl rfl) .., ?_⟩
  refine List.forall_mem_cons.2 ⟨fun x => tile_7_129 (x := x) (j := _) (h0 := emb0 _ x _ rfl rfl) (h1 := emb1 _ x _ rfl rfl) (h2 := emb2 _ x rfl rfl) .., ?_⟩
  refine List.forall_mem_cons.2 ⟨fun x => tile_7_1 (x := x) (j := _) (h0 := emb0 _ x _ rfl rfl) (h1 := emb1 _ x _ rfl rfl) (h2 := emb2 _ x rfl rfl) .., ?_⟩
  refine List.forall_mem_cons.2 ⟨fun x => tile_7_384 (x := x) (j := _) (h0 := emb0 _ x _ rfl rfl) (h1 := emb1 _ x _ rfl rfl) (h2 := emb2 _ x rfl rfl) .., ?_⟩
  refine List.forall_mem_cons.2 ⟨fun x => tile_7_256 (x := x) (j := _) (h0 := emb0 _ x _ rfl rfl) (h1 := emb1 _ x _ rfl rfl) (h2 := emb2 _ x rfl rfl) .., ?_⟩
  refine List.forall_mem_cons.2 ⟨fun x => tile_7_128 (x := x) (j := _) (h0 := emb0 _ x _ rfl rfl) (h1 := emb1 _ x _ rfl rfl) (h2 := emb2 _ x rfl rfl) .., ?_⟩
  refine List.forall_mem_cons.2 ⟨fun x => tile_7_0 (x := x) (j := _) (h0 := emb0 _ x _ rfl rfl) (h1 := emb1 _ x _ rfl rfl) (h2 := emb2 _ x rfl rfl) .., ?_⟩
  refine List.forall_mem_cons.2 ⟨fun x => tile_6_385 (x := x) (j := _) (h0 := emb0 _ x _ rfl rfl) (h1 := emb1 _ x _ rfl rfl) (h2 := emb2 _ x rfl rfl) .., ?_⟩
  refine List.forall_mem_cons.2 ⟨fun x => tile_6_257 (x := x) (j := _) (h0 := emb0 _ x _ rfl rfl) (h1 := emb1 _ x _ rfl rfl) (h2 := emb2 _ x rfl rfl) .., ?_⟩
  refine List.forall_mem_cons.2 ⟨fun x => tile_6_129 (x := x) (j := _) (h0 := emb0 _ x _ rfl rfl) (h1 := emb1 _ x _ rfl rfl) (h2 := emb2 _ x rfl rfl) .., ?_⟩
  refine List.forall_mem_cons.2 ⟨fun x => tile_6_1 (x := x) (j := _) (h0 := emb0 _ x _ rfl rfl) (h1 := emb1 _ x _ rfl rfl) (h2 := emb2 _ x rfl rfl) .., ?_⟩
  refine List.forall_mem_cons.2 ⟨fun x => tile_6_384 (x := x) (j := _) (h0 := emb0 _ x _ rfl rfl) (h1 := emb1 _ x _ rfl rfl) (h2 := emb2 _ x rfl rfl) .., ?_⟩
  refine List.forall_mem_cons.2 ⟨fun x => tile_6_256 (x := x) (j := _) (h0 := emb0 _ x _ rfl rfl) (h1 := emb1 _ x _ rfl rfl) (h2 := emb2 _ x rfl rfl) .., ?_⟩
  refine List.forall_mem_cons.2 ⟨fun x => tile_6_128 (x := x) (j := _) (h0 := emb0 _ x _ rfl rfl) (h1 := emb1 _ x _ rfl rfl) (h2 := emb2 _ x rfl rfl) .., ?_⟩
  refine List.forall_mem_cons.2 ⟨fun x => tile_6_0 (x := x) (j := _) (h0 := emb0 _ x _ rfl rfl) (h1 := emb1 _ x _ rfl rfl) (h2 := emb2 _ x rfl rfl) .., ?_⟩
  refine List.forall_mem_cons.2 ⟨fun x => tile_5_385 (x := x) (j := _) (h0 := emb0 _ x _ rfl rfl) (h1 := emb1 _ x _ rfl rfl) (h2 := emb2 _ x rfl rfl) .., ?_⟩
  refine List.forall_mem_cons.2 ⟨fun x => tile_5_257 (x := x) (j := _) (h0 := emb0 _ x _ rfl rfl) (h1 := emb1 _ x _ rfl rfl) (h2 := emb2 _ x rfl rfl) .., ?_⟩
  refine List.forall_mem_cons.2 ⟨fun x => tile_5_129 (x := x) (j := _) (h0 := emb0 _ x _ rfl rfl) (h1 := emb1 _ x _ rfl rfl) (h2 := emb2 _ x rfl rfl) .., ?_⟩
  refine List.forall_mem_cons.2 ⟨fun x => tile_5_1 (x := x) (j := _) (h0 := emb0 _ x _ rfl rfl) (h1 := emb1 _ x _ rfl rfl) (h2 := emb2 _ x rfl rfl) .., ?_⟩
  refine List.forall_mem_cons.2 ⟨fun x => tile_5_384 (x := x) (j := _) (h0 := emb0 _ x _ rfl rfl) (h1 := emb1 _ x _ rfl rfl) (h2 := emb2 _ x rfl rfl) .., ?_⟩
  refine List.forall_mem_cons.2 ⟨fun x => tile_5_256 (x := x) (j := _) (h0 := emb0 _ x _ rfl rfl) (h1 := emb1 _ x _ rfl rfl) (h2 := emb2 _ x rfl rfl) .., ?_⟩
  refine List.forall_mem_cons.2 ⟨fun x => tile_5_128 (x := x) (j := _) (h0 := emb0 _ x _ rfl rfl) (h1 := emb1 _ x _ rfl rfl) (h2 := emb2 _ x rfl rfl) .., ?_⟩
  refine List.forall_mem_cons.2 ⟨fun x => tile_5_0 (x := x) (j := _) (h0 := emb0 _ x _ rfl rfl) (h1 := emb1 _ x _ rfl rfl) (h2 := emb2 _ x rfl rfl) .., ?_⟩
  refine List.forall_mem_cons.2 ⟨fun x => tile_4_385 (x := x) (j := _) (h0 := emb0 _ x _ rfl rfl) (h1 := emb1 _ x _ rfl rfl) (h2 := emb2 _ x rfl rfl) .., ?_⟩
  refine List.forall_mem_cons.2 ⟨fun x => tile_4_257 (x := x) (j := _) (h0 := emb0 _ x _ rfl rfl) (h1 := emb1 _ x _ rfl rfl) (h2 := emb2 _ x rfl rfl) .., ?_⟩
  refine List.forall_mem_cons.2 ⟨fun x => tile_4_129 (x := x) (j := _) (h0 := emb0 _ x _ rfl rfl) (h1 := emb1 _ x _ rfl rfl) (h2 := emb2 _ x rfl rfl) .., ?_⟩
  refine List.forall_mem_cons.2 ⟨fun x => tile_4_1 (x := x) (j := _) (h0 := emb0 _ x _ rfl rfl) (h1 := emb1 _ x _ rfl rfl) (h2 := emb2 _ x rfl rfl) .., ?_⟩
  refine List.forall_mem_cons.2 ⟨fun x => tile_4_384 (x := x) (j := _) (h0 := emb0 _ x _ rfl rfl) (h1 := emb1 _ x _ rfl rfl) (h2 := emb2 _ x rfl rfl) .., ?_⟩
  refine List.forall_mem_cons.2 ⟨fun x => tile_4_256 (x := x) (j := _) (h0 := emb0 _ x _ rfl rfl) (h1 := emb1 _ x _ rfl rfl) (h2 := emb2 _ x rfl rfl) .., ?_⟩
  refine List.forall_mem_cons.2 ⟨fun x => tile_4_128 (x := x) (j := _) (h0 := emb0 _ x _ rfl rfl) (h1 := emb1 _ x _ rfl rfl) (h2 := emb2 _ x rfl rfl) .., ?_⟩
  refine List.forall_mem_cons.2 ⟨fun x => tile_4_0 (x := x) (j := _) (h0 := emb0 _ x _ rfl rfl) (h1 := emb1 _ x _ rfl rfl) (h2 := emb2 _ x rfl rfl) .., ?_⟩
  refine List.forall_mem_cons.2 ⟨fun x => tile_3_385 (x := x) (j := _) (h0 := emb0 _ x _ rfl rfl) (h1 := emb1 _ x _ rfl rfl) (h2 := emb2 _ x rfl rfl) .., ?_⟩
  refine List.forall_mem_cons.2 ⟨fun x => tile_3_257 (x := x) (j := _) (h0 := emb0 _ x _ rfl rfl) (h1 := emb1 _ x _ rfl rfl) (h2 := emb2 _ x rfl rfl) .., ?_⟩
  refine List.forall_mem_cons.2 ⟨fun x => tile_3_129 (x := x) (j := _) (h0 := emb0 _ x _ rfl rfl) (h1 := emb1 _ x _ rfl rfl) (h2 := emb2 _ x rfl rfl) .., ?_⟩
  refine List.forall_mem_cons.2 ⟨fun x => tile_3_1 (x := x) (j := _) (h0 := emb0 _ x _ rfl rfl) (h1 := emb1 _ x _ rfl rfl) (h2 := emb2 _ x rfl rfl) .., ?_⟩
  refine List.forall_mem_cons.2 ⟨fun x => tile_3_384 (x := x) (j := _) (h0 := emb0 _ x _ rfl rfl) (h1 := emb1 _ x _ rfl rfl) (h2 := emb2 _ x rfl rfl) .., ?_⟩
  refine List.forall_mem_cons.2 ⟨fun x => tile_3_256 (x := x) (j := _) (h0 := emb0 _ x _ rfl rfl) (h1 := emb1 _ x _ rfl rfl) (h2 := emb2 _ x rfl rfl) .., ?_⟩
  refine List.forall_mem_cons.2 ⟨fun x => tile_3_128 (x := x) (j := _) (h0 := emb0 _ x _ rfl rfl) (h1 := emb1 _ x _ rfl rfl) (h2 := emb2 _ x rfl rfl) .., ?_⟩
  refine List.forall_mem_cons.2 ⟨fun x => tile_3_0 (x := x) (j := _) (h0 := emb0 _ x _ rfl rfl) (h1 := emb1 _ x _ rfl rfl) (h2 := emb2 _ x rfl rfl) .., ?_⟩
  refine List.forall_mem_cons.2 ⟨fun x => tile_2_385 (x := x) (j := _) (h0 := emb0 _ x _ rfl rfl) (h1 := emb1 _ x _ rfl rfl) (h2 := emb2 _ x rfl rfl) .., ?_⟩
  refine List.forall_mem_cons.2 ⟨fun x => tile_2_257 (x := x) (j := _) (h0 := emb0 _ x _ rfl rfl) (h1 := emb1 _ x _ rfl rfl) (h2 := emb2 _ x rfl rfl) .., ?_⟩
  refine List.forall_mem_cons.2 ⟨fun x => tile_2_129 (x := x) (j := _) (h0 := emb0 _ x _ rfl rfl) (h1 := emb1 _ x _ rfl rfl) (h2 := emb2 _ x rfl rfl) .., ?_⟩
  refine List.forall_mem_cons.2 ⟨fun x => tile_2_1 (x := x) (j := _) (h0 := emb0 _ x _ rfl rfl) (h1 := emb1 _ x _ rfl rfl) (h2 := emb2 _ x rfl rfl) .., ?_⟩
  refine List.forall_mem_cons.2 ⟨fun x => tile_2_384 (x := x) (j := _) (h0 := emb0 _ x _ rfl rfl) (h1 := emb1 _ x _ rfl rfl) (h2 := emb2 _ x rfl rfl) .., ?_⟩
  refine List.forall_mem_cons.2 ⟨fun x => tile_2_256 (x := x) (j := _) (h0 := emb0 _ x _ rfl rfl) (h1 := emb1 _ x _ rfl rfl) (h2 := emb2 _ x rfl rfl) .., ?_⟩
  refine List.forall_mem_cons.2 ⟨fun x => tile_2_128 (x := x) (j := _) (h0 := emb0 _ x _ rfl rfl) (h1 := emb1 _ x _ rfl rfl) (h2 := emb2 _ x rfl rfl) .., ?_⟩
  refine List.forall_mem_cons.2 ⟨fun x => tile_2_0 (x := x) (j := _) (h0 := emb0 _ x _ rfl rfl) (h1 := emb1 _ x _ rfl rfl) (h2 := emb2 _ x rfl rfl) .., ?_⟩
  refine List.forall_mem_cons.2 ⟨fun x => tile_1_385 (x := x) (j := _) (h0 := emb0 _ x _ rfl rfl) (h1 := emb1 _ x _ rfl rfl) (h2 := emb2 _ x rfl rfl) .., ?_⟩
  refine List.forall_mem_cons.2 ⟨fun x => tile_1_257 (x := x) (j := _) (h0 := emb0 _ x _ rfl rfl) (h1 := emb1 _ x _ rfl rfl) (h2 := emb2 _ x rfl rfl) .., ?_⟩
  refine List.forall_mem_cons.2 ⟨fun x => tile_1_129 (x := x) (j := _) (h0 := emb0 _ x _ rfl rfl) (h1 := emb1 _ x _ rfl rfl) (h2 := emb2 _ x rfl rfl) .., ?_⟩
  refine List.forall_mem_cons.2 ⟨fun x => tile_1_1 (x := x) (j := _) (h0 := emb0 _ x _ rfl rfl) (h1 := emb1 _ x _ rfl rfl) (h2 := emb2 _ x rfl rfl) .., ?_⟩
  refine List.forall_mem_cons.2 ⟨fun x => tile_1_384 (x := x) (j := _) (h0 := emb0 _ x _ rfl rfl) (h1 := emb1 _ x _ rfl rfl) (h2 := emb2 _ x rfl rfl) .., ?_⟩
  refine List.forall_mem_cons.2 ⟨fun x => tile_1_256 (x := x) (j := _) (h0 := emb0 _ x _ rfl rfl) (h1 := emb1 _ x _ rfl rfl) (h2 := emb2 _ x rfl rfl) .., ?_⟩
  refine List.forall_mem_cons.2 ⟨fun x => tile_1_128 (x := x) (j := _) (h0 := emb0 _ x _ rfl rfl) (h1 := emb1 _ x _ rfl rfl) (h2 := emb2 _ x rfl rfl) .., ?_⟩
  refine List.forall_mem_cons.2 ⟨fun x => tile_1_0 (x := x) (j := _) (h0 := emb0 _ x _ rfl rfl) (h1 := emb1 _ x _ rfl rfl) (h2 := emb2 _ x rfl rfl) .., ?_⟩
  refine List.forall_mem_cons.2 ⟨fun x => tile_0_385 (x := x) (j := _) (h0 := emb0 _ x _ rfl rfl) (h1 := emb1 _ x _ rfl rfl) (h2 := emb2 _ x rfl rfl) .., ?_⟩
  refine List.forall_mem_cons.2 ⟨fun x => tile_0_257 (x := x) (j := _) (h0 := emb0 _ x _ rfl rfl) (h1 := emb1 _ x _ rfl rfl) (h2 := emb2 _ x rfl rfl) .., ?_⟩
  refine List.forall_mem_cons.2 ⟨fun x => tile_0_129 (x := x) (j := _) (h0 := emb0 _ x _ rfl rfl) (h1 := emb1 _ x _ rfl rfl) (h2 := emb2 _ x rfl rfl) .., ?_⟩
  refine List.forall_mem_cons.2 ⟨fun x => tile_0_1 (x := x) (j := _) (h0 := emb0 _ x _ rfl rfl) (h1 := emb1 _ x _ rfl rfl) (h2 := emb2 _ x rfl rfl) .., ?_⟩
  refine List.forall_mem_cons.2 ⟨fun x => tile_0_384 (x := x) (j := _) (h0 := emb0 _ x _ rfl rfl) (h1 := emb1 _ x _ rfl rfl) (h2 := emb2 _ x rfl rfl) .., ?_⟩
  refine List.forall_mem_cons.2 ⟨fun x => tile_0_256 (x := x) (j := _) (h0 := emb0 _ x _ rfl rfl) (h1 := emb1 _ x _ rfl rfl) (h2 := emb2 _ x rfl rfl) .., ?_⟩
  refine List.forall_mem_cons.2 ⟨fun x => tile_0_128 (x := x) (j := _) (h0 := emb0 _ x _ rfl rfl) (h1 := emb1 _ x _ rfl rfl) (h2 := emb2 _ x rfl rfl) .., ?_⟩
  refine List.forall_mem_cons.2 ⟨fun x => tile_0_0 (x := x) (j := _) (h0 := emb0 _ x _ rfl rfl) (h1 := emb1 _ x _ rfl rfl) (h2 := emb2 _ x rfl rfl) .., ?_⟩
  exact List.forall_mem_nil _

/-- A load from the second staging buffer reads the convolution. -/
theorem readC {κ : Kind} {sp : Space} (v : View sig κ sp S8x512x128 .f32) (B : LoadRect S8x512x128) :
    v.readCov (kernelRun0_A.sl.HS1_64 c i arg3 harg3 arg4 harg4 arg7 harg7 arg8 harg8 arg17 x2 x3 x6 x7) B = fun z => cbuf i x2 x3 x6 x7 (B.idx z) := by
  rw [View.readCov_eq_canon', canonC]

end Cert.Kernel2Ideal.Block

end
-- ==== Proof.MergeOut.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeSpec

@[expose] public section

set_option maxRecDepth 16384

noncomputable section

namespace Cert.Kernel2Ideal.Block
open Cert.Kernel2Ideal Cert.Kernel2Ideal.Gen
open Idealize.ShloMosaic Idealize.ShloMosaic.TcCoe Idealize.SL.Sem

/-! The two long payloads after the convolution, at one row and column. -/

set_option maxHeartbeats 4000000

/-- The gated sum of the two projections. -/
theorem pay881_at (z : Vec Ideal S512x1024 .f32) (oa : Vec Ideal S512x256 .bf16) (ga gb : Vec Ideal S512x1024 .bf16) (wa : Vec Ideal S256x1024 .bf16) (lw lb : Vec Ideal S1x1024 .f32)
    (wc : Vec Ideal S1024x1024 .bf16) (r : Fin 512) (n : Fin 1024) :
    k0_pay881 z oa ga gb wa lw lb wc (ix2 r n) = Merge.merged (fun k => oa (ix2 r k)) (fun k => z (ix2 r k)) (fun k => lw (ix2 0 k)) (fun k => lb (ix2 0 k)) (fun k => ga (ix2 r k)) (fun k => gb (ix2 r k))
      (fun k n => wa (ix2 k n)) (fun k n => wc (ix2 k n)) n := by
  pointwise [k0_pay881]
  simp only [Merge.merged, Merge.lnorm, Merge.mean, Merge.silu, zero_sub]

/-- The output row: the residual sum and the feed-forward layer. -/
theorem pay882_at (x : Vec Ideal S512x1024 .f32) (mg : Vec Ideal S512x1024 .bf16) (wo : Vec Ideal S1024x1024 .bf16) (nw : Vec Ideal S1x1024 .f32) (wg wu : Vec Ideal S1024x2816 .bf16)
    (wd : Vec Ideal S2816x1024 .bf16) (w : Fin 1024 → Fin 5632 → EReal) (hg : ∀ k (j : Fin 2816), wg (ix2 k j) = w k ⟨j.val, by omega⟩) (hu : ∀ k (j : Fin 2816), wu (ix2 k j) = w k ⟨2816 + j.val, by omega⟩)
    (r : Fin 512) (n : Fin 1024) :
    k0_pay882 x mg wo nw wg wu wd (ix2 r n) = Merge.ffn (Merge.resid (fun k => x (ix2 r k)) (fun k => mg (ix2 r k)) (fun k n => wo (ix2 k n))) (fun k => nw (ix2 0 k)) w (fun j n => wd (ix2 j n)) n := by
  pointwise [k0_pay882]
  simp only [Merge.ffn, Merge.resid, Merge.silu, Spec.rms, zero_sub, ← hg, ← hu]

end Cert.Kernel2Ideal.Block

end
-- ==== Proof.MergeBlock.lean ====
module

public import proofs.«01_k».proof.Proof.Gen.Kernel2Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.MergeConv
public import proofs.«01_k».proof.Proof.MergeOut
public import proofs.«01_k».proof.Proof.Gen.Kernel2Ideal.Frame

@[expose] public section

set_option maxRecDepth 16384

noncomputable section

namespace Cert.Kernel2Ideal.Block
open Cert.Kernel2Ideal Cert.Kernel2Ideal.Gen
open Idealize.ShloMosaic Idealize.ShloMosaic.TcCoe Idealize.SL.Sem

/-! What one grid point leaves in its output block, by row and column. -/

set_option maxHeartbeats 4000000

variable (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x1024 .f32) (harg3 : arg3.IsWhole) (arg4 : Memref sig .tc .vmem S32x1024 .f32) (harg4 : arg4.IsWhole) (arg5 : Memref sig .tc .vmem S512x2048 .bf16) (harg5 : arg5.IsWhole) (arg6 : Memref sig .tc .vmem S256x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S512x1024 .f32) (harg16 : arg16.IsWhole) (arg17 : Memref sig .tc .vmem S8x544x128 .f32) (harg17 : arg17.IsWhole) (arg18 : Memref sig .tc .vmem S8x512x128 .f32) (harg18 : arg18.IsWhole)
  (x0 : Vec Ideal S512x1024 .f32) (x1 : Vec Ideal S512x256 .bf16) (x2 : Vec Ideal S512x1024 .f32) (x3 : Vec Ideal S32x1024 .f32) (x4 : Vec Ideal S512x2048 .bf16) (x5 : Vec Ideal S256x1024 .bf16) (x6 : Vec Ideal S31x1024 .f32) (x7 : Vec Ideal S1x1024 .f32) (x8 : Vec Ideal S1x1024 .f32) (x9 : Vec Ideal S1x1024 .f32) (x10 : Vec Ideal S1024x1024 .bf16) (x11 : Vec Ideal S1024x1024 .bf16) (x12 : Vec Ideal S1x1024 .f32) (x13 : Vec Ideal S1024x5632 .bf16) (x14 : Vec Ideal S2816x1024 .bf16)

/-- The second staging buffer at a place given by its three coordinates. -/
theorem cbuf_at (a : Fin 8) (r : Fin 512) (l : Fin 128) (n : Fin 1024) (h : 128 * a.val + l.val = n.val) :
    cbuf i x2 x3 x6 x7 (ix3 a r l) = Merge.conv (fun k n => win i x2 x3 (k.val + (2 + r.val)) n) (fun k n => x6 (ix2 k n)) (fun n => x7 (ix2 0 n)) n :=
  congrArg (Merge.conv (fun k n => win i x2 x3 (k.val + (2 + r.val)) n) (fun k n => x6 (ix2 k n)) (fun n => x7 (ix2 0 n))) (Fin.ext h)

/-- A load of a whole operand. -/
theorem read_all {s : Shape} {e : EltTy} (M : Memref sig .tc .vmem s e) (h : M.IsWhole) (X : Vec Ideal s e) (off : Fin s.rank → ℕ) (hoff : ∀ a, off a = 0)
    (inb : ∀ a, off a + s.size a ≤ s.size a) : View.readAt (Elt Ideal) M.view (Rect.unit (s := s) off s.size inb).toLoadRect (h.unread X) = X := by
  funext x
  rw [Memref.IsWhole.readAt_unread]
  refine congrArg X (funext fun a => Fin.ext ?_)
  show off a + 1 * (x a).val = (x a).val
  rw [hoff, Nat.zero_add, Nat.one_mul]

/-- A load of part of an operand of two axes, at a row and a column. -/
theorem read_part {A B a b : ℕ} {e : EltTy} (M : Memref sig .tc .vmem ⟨2, ![A, B]⟩ e) (h : M.IsWhole) (X : Vec Ideal ⟨2, ![A, B]⟩ e) (o : ℕ)
    (inb : ∀ k, (![0, o] : Fin 2 → ℕ) k + (⟨2, ![a, b]⟩ : Shape).size k ≤ (⟨2, ![A, B]⟩ : Shape).size k) (r : Fin a) (n : Fin b) (r' : Fin A) (n' : Fin B) (hr : r.val = r'.val) (hn : o + n.val = n'.val) :
    View.readAt (Elt Ideal) M.view (Rect.unit (s := ⟨2, ![A, B]⟩) ![0, o] (⟨2, ![a, b]⟩ : Shape).size inb).toLoadRect (h.unread X) (ix2 r n) = X (ix2 r' n') := by
  rw [Memref.IsWhole.readAt_unread]
  refine congrArg X (funext fun k => ?_)
  match k with
  | 0 => exact Fin.ext (by show 0 + 1 * r.val = r'.val; omega)
  | 1 => exact Fin.ext (by show o + 1 * n.val = n'.val; omega)

/-- The offsets of a whole load. -/
theorem zero2 : ∀ a : Fin 2, (![0, 0] : Fin 2 → ℕ) a = 0 := by decide

theorem x_op (r : Fin 512) (n : Fin 1024) : kernelRun0_A.sl.v14388 c arg1 harg1 x0 (ix2 r n) = x0 (ix2 r n) := by
  unfold kernelRun0_A.sl.v14388
  pointwise []
  exact read_part arg1 harg1 x0 0 _ _ _ _ _ rfl (Nat.zero_add _)

theorem o_op (r : Fin 512) (n : Fin 256) : kernelRun0_A.sl.v14390 c arg2 harg2 x1 (ix2 r n) = x1 (ix2 r n) := by
  unfold kernelRun0_A.sl.v14390
  pointwise []
  exact read_part arg2 harg2 x1 0 _ _ _ _ _ rfl (Nat.zero_add _)

theorem ga_op (r : Fin 512) (n : Fin 1024) : kernelRun0_A.sl.v14392 c arg5 harg5 x4 (ix2 r n) = x4 (ix2 r ⟨n.val, by omega⟩) := by
  unfold kernelRun0_A.sl.v14392
  pointwise []
  exact read_part arg5 harg5 x4 0 _ _ _ _ _ rfl (Nat.zero_add _)

theorem gb_op (r : Fin 512) (n : Fin 1024) : kernelRun0_A.sl.v14394 c arg5 harg5 x4 (ix2 r n) = x4 (ix2 r ⟨1024 + n.val, by omega⟩) := by
  unfold kernelRun0_A.sl.v14394
  pointwise []
  exact read_part arg5 harg5 x4 1024 _ _ _ _ _ rfl rfl

/-- The convolution as the body gathers it from its eight column tiles. -/
theorem z_at (r : Fin 512) (n : Fin 1024) : kernelRun0_A.sl.v14386 c i arg3 harg3 arg4 harg4 arg7 harg7 arg8 harg8 arg17 arg18 x2 x3 x6 x7 (ix2 r n) =
    Merge.conv (fun k n => win i x2 x3 (k.val + (2 + r.val)) n) (fun k n => x6 (ix2 k n)) (fun n => x7 (ix2 0 n)) n := by
  simp only [kernelRun0_A.sl.v14386, kernelRun0_A.sl.v14385, kernelRun0_A.sl.v14384, kernelRun0_A.sl.v14383, kernelRun0_A.sl.v14382, kernelRun0_A.sl.v14381, kernelRun0_A.sl.v14380, kernelRun0_A.sl.v14379, kernelRun0_A.sl.v14378, kernelRun0_A.sl.v14377, kernelRun0_A.sl.v14376, kernelRun0_A.sl.v14375, kernelRun0_A.sl.v14374, kernelRun0_A.sl.v14373, kernelRun0_A.sl.v14372, kernelRun0_A.sl.v14371, kernelRun0_A.sl.v14370, readC]
  pointwise []
  have hn := n.isLt
  repeat' split
  all_goals exact cbuf_at i x2 x3 x6 x7 _ _ _ _ (by simp; try omega)

/-- The run's last value at a row and a column. -/
theorem last_at (r : Fin 512) (n : Fin 1024) : kernelRun0_A.sl.r_809 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14 (ix2 r n) =
    Merge.ffn (Merge.resid (fun k => x0 (ix2 r k)) (Merge.merged (fun k => x1 (ix2 r k))
      (Merge.conv (fun k n => win i x2 x3 (k.val + (2 + r.val)) n) (fun k n => x6 (ix2 k n)) (fun n => x7 (ix2 0 n)))
      (fun k => x8 (ix2 0 k)) (fun k => x9 (ix2 0 k)) (fun k => x4 (ix2 r ⟨k.val, by omega⟩)) (fun k => x4 (ix2 r ⟨1024 + k.val, by omega⟩))
      (fun k n => x5 (ix2 k n)) (fun k n => x10 (ix2 k n))) (fun k n => x11 (ix2 k n))) (fun k => x12 (ix2 0 k)) (fun k n => x13 (ix2 k n)) (fun j n => x14 (ix2 j n)) n := by
  unfold kernelRun0_A.sl.r_809 kernelRun0_A.sl.r_808
  refine (pay882_at _ _ _ _ _ _ _ (fun k n => x13 (ix2 k n)) ?_ ?_ r n).trans ?_
  · exact fun k j => read_part arg14 harg14 x13 0 _ _ _ _ _ rfl (Nat.zero_add _)
  · exact fun k j => read_part arg14 harg14 x13 2816 _ _ _ _ _ rfl rfl
  rw [read_all arg12 harg12 x11 _ zero2, read_all arg13 harg13 x12 _ zero2, read_all arg15 harg15 x14 _ zero2, read_all arg6 harg6 x5 _ zero2, read_all arg9 harg9 x8 _ zero2, read_all arg10 harg10 x9 _ zero2,
    read_all arg11 harg11 x10 _ zero2]
  simp only [pay881_at, x_op, o_op, ga_op, gb_op, z_at]

/-- What the run leaves in the output's block. -/
theorem out_at (r : Fin 512) (n : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix2 r n) = kernelRun0_A.sl.r_809 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14 (ix2 r n) := by
  unfold out0_A_15
  rw [View.read_writes_junk_eq_canon]
  show View.canon [(⟨Rect.unit (s := S512x1024) ![0, 0] S512x1024.size inb_S512x1024_S512x1024_0_0, kernelRun0_A.sl.r_809 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 x0 x1 x2 x3 x4 x5 x6 x7 x8 x9 x10 x11 x12 x13 x14⟩ : View.Piece (Elt Ideal) S512x1024 .f32)] (ix2 r n) = _
  canon_tiles x h
  refine congrArg _ (funext fun a => Fin.ext ?_)
  match a with
  | 0 => exact h0.symm
  | 1 => exact h1.symm

end Cert.Kernel2Ideal.Block

end
-- ==== Proof.MergeOperands.lean ====
module

public import proofs.«01_k».proof.Proof.Gen.Kernel2Ideal.Frame.Runs
public import Idealize.ShloMosaic.Lib.Pipeline.ValueKit
public import Idealize.ShloMosaic.Lib.Claim
public import proofs.«01_k».proof.Proof.MergeSpec

@[expose] public section

set_option maxRecDepth 16384

noncomputable section

namespace Cert.Kernel2Ideal.Block
open Cert.Kernel2Ideal Cert.Kernel2Ideal.Gen
open Idealize.ShloMosaic Idealize.ShloMosaic.TcCoe Idealize.SL.Sem

/-! What the input blocks of a grid point hold, by the argument arrays. -/

variable (m : (ℓ : Loc nD τ sig) → Buf (Elt Ideal) ℓ)

/-- The first five windows' block indices at a grid point. -/
theorem idxTok : ∀ t : Fin cfg0.N, win0_0.index t = ![t.val, 0] ∧ win0_1.index t = ![t.val, 0] ∧ win0_2.index t = ![t.val, 0]
    ∧ win0_3.index t = ![16 * t.val - 1, 0] ∧ win0_4.index t = ![t.val, 0] :=
  (by decide +kernel : ∀ t : Fin grid0.N, _)

/-- The weights' block indices. -/
theorem idxWgt : ∀ t : Fin cfg0.N, win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- The tokens: row `r` of the block is token `512·(t mod 8) + r` of batch entry `t / 8`. -/
theorem op0 (c : Dev nD) (t : Fin cfg0.N) (r : Fin 512) (n : Fin 1024) (b : Fin 8) (s : Fin 4096) (hb : b.val = t.val / 8) (hs : s.val = 512 * (t.val % 8) + r.val) :
    (iblk m c 0 t : Vec Ideal S512x1024 .f32) (ix2 r n) = (m ((c : Thread nD τ).loc main_arg0)) (ix3 b s n) := by
  have ht : t.val < 64 := t.isLt
  blk_point [iblk, V, idxTok t]

/-- The attention's output: row `r` of the block is token `512·(t mod 8) + r` of batch entry `t / 8`. -/
theorem op1 (c : Dev nD) (t : Fin cfg0.N) (r : Fin 512) (n : Fin 256) (b : Fin 8) (s : Fin 4096) (hb : b.val = t.val / 8) (hs : s.val = 512 * (t.val % 8) + r.val) :
    (iblk m c 1 t : Vec Ideal S512x256 .bf16) (ix2 r n) = (m ((c : Thread nD τ).loc main_arg1)) (ix3 b s n) := by
  have ht : t.val < 64 := t.isLt
  blk_point [iblk, V, idxTok t]

/-- The convolution input: row `r` of the block is token `512·(t mod 8) + r` of batch entry `t / 8`. -/
theorem op2 (c : Dev nD) (t : Fin cfg0.N) (r : Fin 512) (n : Fin 1024) (b : Fin 8) (s : Fin 4096) (hb : b.val = t.val / 8) (hs : s.val = 512 * (t.val % 8) + r.val) :
    (iblk m c 2 t : Vec Ideal S512x1024 .f32) (ix2 r n) = (m ((c : Thread nD τ).loc main_arg2)) (ix3 b s n) := by
  have ht : t.val < 64 := t.isLt
  blk_point [iblk, V, idxTok t]

/-- The gates: row `r` of the block is token `512·(t mod 8) + r` of batch entry `t / 8`. -/
theorem op4 (c : Dev nD) (t : Fin cfg0.N) (r : Fin 512) (n : Fin 2048) (b : Fin 8) (s : Fin 4096) (hb : b.val = t.val / 8) (hs : s.val = 512 * (t.val % 8) + r.val) :
    (iblk m c 4 t : Vec Ideal S512x2048 .bf16) (ix2 r n) = (m ((c : Thread nD τ).loc main_arg3)) (ix3 b s n) := by
  have ht : t.val < 64 := t.isLt
  blk_point [iblk, V, idxTok t]

/-- The 32 rows before the block's tokens, where the block is not the first of its batch entry. -/
theorem op3 (c : Dev nD) (t : Fin cfg0.N) (h : ¬ t.val % 8 = 0) (r : Fin 32) (n : Fin 1024) (b : Fin 8) (s : Fin 4096) (hb : b.val = t.val / 8) (hs : s.val + 32 = 512 * (t.val % 8) + r.val) :
    (iblk m c 3 t : Vec Ideal S32x1024 .f32) (ix2 r n) = (m ((c : Thread nD τ).loc main_arg2)) (ix3 b s n) := by
  have ht : t.val < 64 := t.isLt
  blk_point [iblk, V, idxTok t]

/-- Weight 4, whole. -/
theorem op5 (c : Dev nD) (t : Fin cfg0.N) (k : Fin 256) (n : Fin 1024) : (iblk m c 5 t : Vec Ideal S256x1024 .bf16) (ix2 k n) = (m ((c : Thread nD τ).loc main_arg4)) (ix3 0 k n) := by
  blk_point [iblk, V, idxWgt t]

/-- Weight 5, whole. -/
theorem op6 (c : Dev nD) (t : Fin cfg0.N) (k : Fin 31) (n : Fin 1024) : (iblk m c 6 t : Vec Ideal S31x1024 .f32) (ix2 k n) = (m ((c : Thread nD τ).loc main_arg5)) (ix3 0 k n) := by
  blk_point [iblk, V, idxWgt t]

/-- Weight 6, whole. -/
theorem op7 (c : Dev nD) (t : Fin cfg0.N) (n : Fin 1024) : (iblk m c 7 t : Vec Ideal S1x1024 .f32) (ix2 0 n) = (m ((c : Thread nD τ).loc main_arg6)) (ix2 0 n) := by
  blk_point [iblk, V, idxWgt t]

/-- Weight 7, whole. -/
theorem op8 (c : Dev nD) (t : Fin cfg0.N) (n : Fin 1024) : (iblk m c 8 t : Vec Ideal S1x1024 .f32) (ix2 0 n) = (m ((c : Thread nD τ).loc main_arg7)) (ix2 0 n) := by
  blk_point [iblk, V, idxWgt t]

/-- Weight 8, whole. -/
theorem op9 (c : Dev nD) (t : Fin cfg0.N) (n : Fin 1024) : (iblk m c 9 t : Vec Ideal S1x1024 .f32) (ix2 0 n) = (m ((c : Thread nD τ).loc main_arg8)) (ix2 0 n) := by
  blk_point [iblk, V, idxWgt t]

/-- Weight 9, whole. -/
theorem op10 (c : Dev nD) (t : Fin cfg0.N) (k : Fin 1024) (n : Fin 1024) : (iblk m c 10 t : Vec Ideal S1024x1024 .bf16) (ix2 k n) = (m ((c : Thread nD τ).loc main_arg9)) (ix3 0 k n) := by
  blk_point [iblk, V, idxWgt t]

/-- Weight 10, whole. -/
theorem op11 (c : Dev nD) (t : Fin cfg0.N) (k : Fin 1024) (n : Fin 1024) : (iblk m c 11 t : Vec Ideal S1024x1024 .bf16) (ix2 k n) = (m ((c : Thread nD τ).loc main_arg10)) (ix3 0 k n) := by
  blk_point [iblk, V, idxWgt t]

/-- Weight 11, whole. -/
theorem op12 (c : Dev nD) (t : Fin cfg0.N) (n : Fin 1024) : (iblk m c 12 t : Vec Ideal S1x1024 .f32) (ix2 0 n) = (m ((c : Thread nD τ).loc main_arg11)) (ix2 0 n) := by
  blk_point [iblk, V, idxWgt t]

/-- Weight 12, whole. -/
theorem op13 (c : Dev nD) (t : Fin cfg0.N) (k : Fin 1024) (n : Fin 5632) : (iblk m c 13 t : Vec Ideal S1024x5632 .bf16) (ix2 k n) = (m ((c : Thread nD τ).loc main_arg12)) (ix3 0 k n) := by
  blk_point [iblk, V, idxWgt t]

/-- Weight 13, whole. -/
theorem op14 (c : Dev nD) (t : Fin cfg0.N) (k : Fin 2816) (n : Fin 1024) : (iblk m c 14 t : Vec Ideal S2816x1024 .bf16) (ix2 k n) = (m ((c : Thread nD τ).loc main_arg13)) (ix3 0 k n) := by
  blk_point [iblk, V, idxWgt t]

end Cert.Kernel2Ideal.Block

end
-- ==== Proof.MergeArrays.lean ====
module

public import proofs.«01_k».proof.Proof.MergeBlock
public import proofs.«01_k».proof.Proof.MergeOperands

@[expose] public section

set_option maxRecDepth 16384

noncomputable section

namespace Cert.Merge
open Idealize.ShloMosaic

/-- One entry of the layer's output, by the argument arrays. -/
def entry (x0 : (⟨3, ![8, 4096, 1024]⟩ : Shape).Idx → EReal) (x1 : (⟨3, ![8, 4096, 256]⟩ : Shape).Idx → EReal) (x2 : (⟨3, ![8, 4096, 1024]⟩ : Shape).Idx → EReal) (x3 : (⟨3, ![8, 4096, 2048]⟩ : Shape).Idx → EReal) (x4 : (⟨3, ![1, 256, 1024]⟩ : Shape).Idx → EReal) (x5 : (⟨3, ![1, 31, 1024]⟩ : Shape).Idx → EReal) (x6 : (⟨2, ![1, 1024]⟩ : Shape).Idx → EReal) (x7 : (⟨2, ![1, 1024]⟩ : Shape).Idx → EReal) (x8 : (⟨2, ![1, 1024]⟩ : Shape).Idx → EReal) (x9 : (⟨3, ![1, 1024, 1024]⟩ : Shape).Idx → EReal) (x10 : (⟨3, ![1, 1024, 1024]⟩ : Shape).Idx → EReal) (x11 : (⟨2, ![1, 1024]⟩ : Shape).Idx → EReal) (x12 : (⟨3, ![1, 1024, 5632]⟩ : Shape).Idx → EReal) (x13 : (⟨3, ![1, 2816, 1024]⟩ : Shape).Idx → EReal) (b : Fin 8) (s : Fin 4096) (n : Fin 1024) : EReal :=
  ffn (resid (fun n => x0 (ix3 b s n)) (merged (fun k => x1 (ix3 b s k)) (conv (fun k => padded (fun t n => x2 (ix3 b t n)) (k.val + s.val)) (fun k n => x5 (ix3 0 k n)) (fun n => x6 (ix2 0 n)))
    (fun n => x7 (ix2 0 n)) (fun n => x8 (ix2 0 n)) (fun n => x3 (ix3 b s ⟨n.val, by omega⟩)) (fun n => x3 (ix3 b s ⟨1024 + n.val, by omega⟩)) (fun k n => x4 (ix3 0 k n)) (fun k n => x9 (ix3 0 k n)))
    (fun k n => x10 (ix3 0 k n))) (fun n => x11 (ix2 0 n)) (fun d n => x12 (ix3 0 d n)) (fun j n => x13 (ix3 0 j n)) n

/-- The layer's output, the tokens of all batch entries one after another. -/
def result (x0 : (⟨3, ![8, 4096, 1024]⟩ : Shape).Idx → EReal) (x1 : (⟨3, ![8, 4096, 256]⟩ : Shape).Idx → EReal) (x2 : (⟨3, ![8, 4096, 1024]⟩ : Shape).Idx → EReal) (x3 : (⟨3, ![8, 4096, 2048]⟩ : Shape).Idx → EReal) (x4 : (⟨3, ![1, 256, 1024]⟩ : Shape).Idx → EReal) (x5 : (⟨3, ![1, 31, 1024]⟩ : Shape).Idx → EReal) (x6 : (⟨2, ![1, 1024]⟩ : Shape).Idx → EReal) (x7 : (⟨2, ![1, 1024]⟩ : Shape).Idx → EReal) (x8 : (⟨2, ![1, 1024]⟩ : Shape).Idx → EReal) (x9 : (⟨3, ![1, 1024, 1024]⟩ : Shape).Idx → EReal) (x10 : (⟨3, ![1, 1024, 1024]⟩ : Shape).Idx → EReal) (x11 : (⟨2, ![1, 1024]⟩ : Shape).Idx → EReal) (x12 : (⟨3, ![1, 1024, 5632]⟩ : Shape).Idx → EReal) (x13 : (⟨3, ![1, 2816, 1024]⟩ : Shape).Idx → EReal) : (⟨2, ![32768, 1024]⟩ : Shape).Idx → EReal := fun i =>
  entry x0 x1 x2 x3 x4 x5 x6 x7 x8 x9 x10 x11 x12 x13 ⟨(i 0).val / 4096, by have h : (i 0).val < 32768 := (i 0).isLt; omega⟩ ⟨(i 0).val % 4096, by omega⟩ (i 1)

end Cert.Merge

namespace Cert.Kernel2Ideal.Block
open Cert.Kernel2Ideal Cert.Kernel2Ideal.Gen
open Idealize.ShloMosaic Idealize.ShloMosaic.TcCoe Idealize.SL.Sem

/-! The kernel's output array by its argument arrays. -/

variable (m : (ℓ : Loc nD τ sig) → Buf (Elt Ideal) ℓ)

/-- The grid has one axis. -/
theorem coord : ∀ t : Fin cfg0.N, (grid0.coords t 0).val = t.val :=
  (by decide +kernel : ∀ t : Fin grid0.N, _)

/-- The rows a token's convolution reads are those of the padded convolution input. -/
theorem win_at (c : Dev nD) (t : Fin cfg0.N) (r : Fin 512) (k : Fin 31) (n : Fin 1024) (b : Fin 8) (s : Fin 4096) (hb : b.val = t.val / 8) (hs : s.val = 512 * (t.val % 8) + r.val) :
    win (grid0.coords t) (iblk m c 2 t) (iblk m c 3 t) (k.val + (2 + r.val)) n = Merge.padded (fun t n => (m ((c : Thread nD τ).loc main_arg2)) (ix3 b t n)) (k.val + s.val) n := by
  have hk := k.isLt
  have hr := r.isLt
  have ht : t.val < 64 := t.isLt
  unfold win Merge.padded
  rw [coord t]
  by_cases h : k.val + (2 + r.val) < 32
  · rw [dif_pos h]
    by_cases h8 : t.val % 8 = 0
    · rw [if_pos h8, dif_neg (by omega)]
    · rw [if_neg h8, dif_pos ⟨by omega, by omega⟩]
      exact op3 m c t h8 _ n b _ hb (by show k.val + s.val - 30 + 32 = 512 * (t.val % 8) + (k.val + (2 + r.val)); omega)
  · rw [dif_neg h, dif_pos (by omega), dif_pos ⟨by omega, by omega⟩]
    exact op2 m c t _ n b _ hb (by show k.val + s.val - 30 = 512 * (t.val % 8) + (k.val + (2 + r.val) - 32); omega)

set_option maxHeartbeats 4000000 in
/-- What point `t` leaves in its block, at a row and a column. -/
theorem point_at (c : Dev nD) (t : Fin cfg0.N) (r : Fin 512) (n : Fin 1024) (b : Fin 8) (s : Fin 4096) (hb : b.val = t.val / 8) (hs : s.val = 512 * (t.val % 8) + r.val) :
    (outsAt0 m c t : Vec Ideal S512x1024 .f32) (ix2 r n) = Merge.entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s n := by
  unfold outsAt0
  rw [out_at, last_at]
  have e0 : ∀ k : Fin 1024, (iblk m c 0 t : Vec Ideal S512x1024 .f32) (ix2 r k) = (m ((c : Thread nD τ).loc main_arg0)) (ix3 b s k) := fun k => op0 m c t r k b s hb hs
  have e1 : ∀ k : Fin 256, (iblk m c 1 t : Vec Ideal S512x256 .bf16) (ix2 r k) = (m ((c : Thread nD τ).loc main_arg1)) (ix3 b s k) := fun k => op1 m c t r k b s hb hs
  have e4 : ∀ k : Fin 2048, (iblk m c 4 t : Vec Ideal S512x2048 .bf16) (ix2 r k) = (m ((c : Thread nD τ).loc main_arg3)) (ix3 b s k) := fun k => op4 m c t r k b s hb hs
  have ew : ∀ (k : Fin 31) (n : Fin 1024), win (grid0.coords t) (iblk m c 2 t) (iblk m c 3 t) (k.val + (2 + r.val)) n = _ := fun k n => win_at m c t r k n b s hb hs
  simp only [ew, e0, e1, e4, op5 m c t, op6 m c t, op7 m c t, op8 m c t, op9 m c t, op10 m c t, op11 m c t, op12 m c t, op13 m c t, op14 m c t]
  rfl

/-- What point `t` writes into its block, by the argument arrays. -/
theorem place15 (c : Dev nD) (t : Fin cfg0.N) (y : S512x1024.Idx) : (outsAt0 m c t : Vec Ideal S512x1024 .f32) y = Merge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (ix2 ⟨512 * t.val + (y 0).val, by have ht : t.val < 64 := t.isLt; have h0 : (y 0).val < 512 := (y 0).isLt; omega⟩ (y 1)) := by
  have ht : t.val < 64 := t.isLt
  have h0 : (y 0).val < 512 := (y 0).isLt
  have e : y = ix2 (y 0) (y 1) := by
    funext a
    match a with
    | 0 => rfl
    | 1 => rfl
  rw [e]
  exact point_at m c t (y 0) (y 1) _ _ (by show (512 * t.val + (y 0).val) / 4096 = t.val / 8; omega) (by show (512 * t.val + (y 0).val) % 4096 = 512 * (t.val % 8) + (y 0).val; omega)

/-- The output window's block index at a grid point. -/
theorem idx15 : ∀ t : Fin cfg0.N, win0_15.index t = ![t.val, 0] :=
  (by decide +kernel : ∀ t : Fin grid0.N, _)

/-- The output array. -/
theorem final15 (c : Dev nD) : (dats m 0 c).arrAt 15 (cfgs 0).N = Merge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t hf y => ?_
  have hi := idx15 t
  blk_simp
  rw [after0_15]
  have ht : t.val < 64 := t.isLt
  have h0 : (y 0).val < 512 := (y 0).isLt
  have h1 : (y 1).val < 1024 := (y 1).isLt
  have e : (win0_15.blk t).view.emb y = ix2 ⟨512 * t.val + (y 0).val, by omega⟩ (y 1) := by blk_ext [hi]
  rw [e]
  exact place15 m c t y

end Cert.Kernel2Ideal.Block

end
-- ==== Proof.MergeRef.lean ====
module

public import proofs.«01_k».proof.Proof.Gen.Reference2Ideal.Read
public import Idealize.ShloMosaic.Lib.Pipeline.ValueKit
public import proofs.«01_k».proof.Proof.MergeSpec

@[expose] public section

set_option maxRecDepth 16384

noncomputable section

namespace Cert.Reference2Ideal.Plain
open Cert.Reference2Ideal Cert.Reference2Ideal.Read
open Idealize.ShloMosaic Idealize.ShloMosaic.TcCoe Idealize.SL.Sem

/-! The second reference's result, entry by entry. -/

variable (x0 : (⟨S8x4096x1024, .f32⟩ : BufTy).Contents (Elt Ideal)) (x1 : (⟨S8x4096x256, .bf16⟩ : BufTy).Contents (Elt Ideal))
  (x2 : (⟨S8x4096x1024, .f32⟩ : BufTy).Contents (Elt Ideal)) (x3 : (⟨S8x4096x2048, .bf16⟩ : BufTy).Contents (Elt Ideal))
  (x4 : (⟨S1x256x1024, .f32⟩ : BufTy).Contents (Elt Ideal)) (x5 : (⟨S1x31x1024, .f32⟩ : BufTy).Contents (Elt Ideal))
  (x6 x7 x8 : (⟨S1x1024, .f32⟩ : BufTy).Contents (Elt Ideal)) (x9 x10 : (⟨S1x1024x1024, .f32⟩ : BufTy).Contents (Elt Ideal))
  (x11 : (⟨S1x1024, .f32⟩ : BufTy).Contents (Elt Ideal)) (x12 : (⟨S1x1024x5632, .f32⟩ : BufTy).Contents (Elt Ideal))
  (x13 : (⟨S1x2816x1024, .f32⟩ : BufTy).Contents (Elt Ideal))

/-- The padded convolution input. -/
theorem pad_at (i : S8x4126x1024.Idx) : val_main_v3 (F := Ideal) x2 i = Merge.padded (fun t n => x2 (ix3 (i 0) t n)) (i 1).val (i 2) := by
  have hz : (FloatOps.sitofp FTy.f32 0#32 : Ideal .f32) = (0 : EReal) := by
    show (((0#32 : BitVec 32).toInt : ℝ) : EReal) = 0
    simp
  pointwise [val_main_v3, val_main_call0_v0, val_main_c, Merge.padded]
  rw [hz]

set_option maxHeartbeats 4000000 in
/-- The convolution. -/
theorem conv_at (i : S8x4096x1024.Idx) : val_main_v224 (F := Ideal) x2 x5 x6 i =
    Merge.conv (fun k => Merge.padded (fun t n => x2 (ix3 (i 0) t n)) (k.val + (i 1).val)) (fun k n => x5 (ix3 0 k n)) (fun n => x6 (ix2 0 n)) (i 2) := by
  pointwise [val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  simp only [pad_at, Merge.conv]
  rw [← Merge.taps]
  simp only [show ((0 : Fin 31) : ℕ) = 0 from rfl, Nat.zero_add]
  rfl

/-- The row of the convolution's results of token `t` of batch entry `b`. -/
def zrow (b : Fin 8) (t : Fin 4096) (n : Fin 1024) : EReal :=
  Merge.conv (fun k => Merge.padded (fun t n => x2 (ix3 b t n)) (k.val + t.val)) (fun k n => x5 (ix3 0 k n)) (fun n => x6 (ix2 0 n)) n

/-- The layer normalisation. -/
theorem ln_at (i : S8x4096x1024.Idx) : val_main_v248 (F := Ideal) x2 x5 x6 x7 x8 i =
    Merge.lnorm (zrow x2 x5 x6 (i 0) (i 1)) (fun n => x7 (ix2 0 n)) (fun n => x8 (ix2 0 n)) (i 2) := by
  pointwise [val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_cst, val_main_cst_0, val_main_cst_1, val_main_cst_2, val_main_cst_3]
  simp only [conv_at, Merge.lnorm, Merge.mean]
  rfl

/-- The gated sum. -/
theorem merged_at (i : S8x4096x1024.Idx) : val_main_v258 (F := Ideal) x1 x2 x3 x4 x5 x6 x7 x8 x9 i =
    Merge.merged (fun k => x1 (ix3 (i 0) (i 1) k)) (zrow x2 x5 x6 (i 0) (i 1)) (fun n => x7 (ix2 0 n)) (fun n => x8 (ix2 0 n))
      (fun n => x3 (ix3 (i 0) (i 1) ⟨n.val, by omega⟩)) (fun n => x3 (ix3 (i 0) (i 1) ⟨1024 + n.val, by omega⟩))
      (fun k n => x4 (ix3 0 k n)) (fun k n => x9 (ix3 0 k n)) (i 2) := by
  pointwise [val_main_v258, val_main_v257, val_main_v256, val_main_v255, val_main_v254, val_main_v253, val_main_v252, val_main_v251, val_main_v250, val_main_v249, val_main_call1_v5, val_main_call1_v4, val_main_call1_cst_0, val_main_call1_v3, val_main_call1_v2, val_main_call1_cst, val_main_call1_v1, val_main_call1_v0, val_main_v2, val_main_v1, val_main_v0]
  simp only [ln_at, Merge.merged, Merge.silu]
  rfl

/-- The residual sum. -/
theorem resid_at (i : S8x4096x1024.Idx) : val_main_v261 (F := Ideal) x0 x1 x2 x3 x4 x5 x6 x7 x8 x9 x10 i =
    Merge.resid (fun n => x0 (ix3 (i 0) (i 1) n))
      (Merge.merged (fun k => x1 (ix3 (i 0) (i 1) k)) (zrow x2 x5 x6 (i 0) (i 1)) (fun n => x7 (ix2 0 n)) (fun n => x8 (ix2 0 n))
        (fun n => x3 (ix3 (i 0) (i 1) ⟨n.val, by omega⟩)) (fun n => x3 (ix3 (i 0) (i 1) ⟨1024 + n.val, by omega⟩))
        (fun k n => x4 (ix3 0 k n)) (fun k n => x9 (ix3 0 k n)))
      (fun k n => x10 (ix3 0 k n)) (i 2) := by
  pointwise [val_main_v261, val_main_v260, val_main_v259]
  simp only [merged_at, Merge.resid]
  have e : x0 i = x0 (ix3 (i 0) (i 1) (i 2)) := by blk_ext []
  rw [e]
  rfl

/-- The row after the residual sum, of token `t` of batch entry `b`. -/
def rrow (b : Fin 8) (t : Fin 4096) : Fin 1024 → EReal :=
  Merge.resid (fun n => x0 (ix3 b t n))
    (Merge.merged (fun k => x1 (ix3 b t k)) (zrow x2 x5 x6 b t) (fun n => x7 (ix2 0 n)) (fun n => x8 (ix2 0 n))
      (fun n => x3 (ix3 b t ⟨n.val, by omega⟩)) (fun n => x3 (ix3 b t ⟨1024 + n.val, by omega⟩))
      (fun k n => x4 (ix3 0 k n)) (fun k n => x9 (ix3 0 k n)))
    (fun k n => x10 (ix3 0 k n))

/-- The residual sum, by the row. -/
theorem resid_row (i : S8x4096x1024.Idx) : val_main_v261 (F := Ideal) x0 x1 x2 x3 x4 x5 x6 x7 x8 x9 x10 i = rrow x0 x1 x2 x3 x4 x5 x6 x7 x8 x9 x10 (i 0) (i 1) (i 2) :=
  resid_at x0 x1 x2 x3 x4 x5 x6 x7 x8 x9 x10 i

/-- The normalised row. -/
theorem rms_at (i : S8x4096x1024.Idx) : val_main_v275 (F := Ideal) x0 x1 x2 x3 x4 x5 x6 x7 x8 x9 x10 x11 i =
    Spec.rms (rrow x0 x1 x2 x3 x4 x5 x6 x7 x8 x9 x10 (i 0) (i 1)) (fun n => x11 (ix2 0 n)) (i 2) := by
  pointwise [val_main_v275, val_main_v274, val_main_v273, val_main_v272, val_main_v271, val_main_v270, val_main_v269, val_main_v268, val_main_v267, val_main_v266, val_main_v265, val_main_v264, val_main_v263, val_main_v262, val_main_cst_4, val_main_cst_5, val_main_cst_6]
  simp only [resid_row, Spec.rms]
  rfl

/-- Entry of the layer's result. -/
theorem out_at (i : S8x4096x1024.Idx) : val_main_v284 (F := Ideal) x0 x1 x2 x3 x4 x5 x6 x7 x8 x9 x10 x11 x12 x13 i =
    Merge.ffn (rrow x0 x1 x2 x3 x4 x5 x6 x7 x8 x9 x10 (i 0) (i 1)) (fun n => x11 (ix2 0 n)) (fun d n => x12 (ix3 0 d n)) (fun j n => x13 (ix3 0 j n)) (i 2) := by
  pointwise [val_main_v284, val_main_v283, val_main_v282, val_main_v281, val_main_v280, val_main_v279, val_main_v278, val_main_v277, val_main_v276, val_main_call2_v5, val_main_call2_v4, val_main_call2_cst_0, val_main_call2_v3, val_main_call2_v2, val_main_call2_cst, val_main_call2_v1, val_main_call2_v0]
  simp only [rms_at, resid_row, Merge.ffn, Merge.silu]
  rfl

/-- Entry of the result. -/
theorem res_at (i : S32768x1024.Idx) : val_main_v285 (F := Ideal) x0 x1 x2 x3 x4 x5 x6 x7 x8 x9 x10 x11 x12 x13 i =
    Merge.ffn (rrow x0 x1 x2 x3 x4 x5 x6 x7 x8 x9 x10 ⟨(i 0).val / 4096, by have h : (i 0).val < 32768 := (i 0).isLt; omega⟩ ⟨(i 0).val % 4096, by omega⟩)
      (fun n => x11 (ix2 0 n)) (fun d n => x12 (ix3 0 d n)) (fun j n => x13 (ix3 0 j n)) (i 1) := by
  have h0 : (i 0).val < 32768 := (i 0).isLt
  have h1 : (i 1).val < 1024 := (i 1).isLt
  rw [val_main_v285_apply, out_at]
  have e0 : idx_main_v285 i 0 = (⟨(i 0).val / 4096, by omega⟩ : Fin 8) := Fin.ext (by show ((i 0).val * 1024 + (i 1).val) / 4194304 = _; dsimp only; omega)
  have e1 : idx_main_v285 i 1 = (⟨(i 0).val % 4096, by omega⟩ : Fin 4096) := Fin.ext (by show ((i 0).val * 1024 + (i 1).val) / 1024 % 4096 = _; dsimp only; omega)
  have e2 : idx_main_v285 i 2 = i 1 := Fin.ext (by show ((i 0).val * 1024 + (i 1).val) % 1024 = _; omega)
  rw [e0, e1, e2]

end Cert.Reference2Ideal.Plain

end
-- ==== Proof.StepSpec.lean ====
module

public import proofs.«01_k».proof.Proof.MergeSpec
public import Idealize.ShloMosaic.Lib.Pointwise

@[expose] public section

noncomputable section

namespace Cert.Step
open Idealize.ShloMosaic

/-! What the fifth kernel leaves of the caches: each window moved on by four tokens, the new ones at its end. -/

/-- A row of a window with four new entries after it. -/
def ext {W : ℕ} (c : Fin W → EReal) (t : Fin 4 → EReal) (n : ℕ) : EReal :=
  if h : n < W then c ⟨n, h⟩ else if h : n - W < 4 then t ⟨n - W, h⟩ else 0

/-- The window of head group `g` (of width `W`) after the step: keys and values of each batch entry, the tokens along the last axis. -/
def window (W : ℕ) (g : Fin 3) (k v : (⟨2, ![128, 768]⟩ : Shape).Idx → EReal) (x : (⟨6, ![1, 32, W, 2, 4, 64]⟩ : Shape).Idx → EReal) : (⟨4, ![32, 2, 256, W]⟩ : Shape).Idx → EReal := fun i =>
  have h0 : (i 0).val < 32 := (i 0).isLt
  have h2 : (i 2).val < 256 := (i 2).isLt
  ext (fun n : Fin W => x (ix6 0 (i 0) n (i 1) ⟨(i 2).val / 64, by omega⟩ ⟨(i 2).val % 64, by omega⟩))
    (fun l => (if (i 1).val = 0 then k else v) (ix2 ⟨4 * (i 0).val + l.val, by omega⟩ ⟨256 * g.val + (i 2).val, by omega⟩)) ((i 3).val + 4)

end Cert.Step

end
-- ==== Proof.StepTiles.lean ====
module

public import proofs.«01_k».proof.Proof.Gen.Kernel5Ideal.Frame
public import Idealize.ShloMosaic.Lib.Pipeline.ValueKit
public import Idealize.ShloMosaic.Lib.Pipeline.ReadBack
public import Idealize.ShloMosaic.Lib.WholeRead
public import proofs.«01_k».proof.Proof.StepSpec

@[expose] public section

set_option maxRecDepth 16384
set_option maxHeartbeats 8000000

noncomputable section

namespace Cert.Kernel5Ideal.Block
open Cert.Kernel5Ideal Cert.Kernel5Ideal.Gen Cert.Step
open Idealize.ShloMosaic Idealize.ShloMosaic.TcCoe Idealize.SL.Sem

/-! The stored windows, from the tiles that the body turns by four lanes and joins. -/

/-- The mask of a lane below 124, on a lane number. -/
theorem select_lane (l : Fin 128) (a b : EReal) :
    Scalar.select (IntOp.cmpi CmpIPredicate.slt (BitVec.ofNat 32 l.val) 124#32) a b = if l.val < 124 then a else b := by
  have h : (IntOp.cmpi CmpIPredicate.slt (BitVec.ofNat 32 l.val) 124#32) = if l.val < 124 then 1#1 else 0#1 := by
    revert l; decide
  rw [h]
  split <;> rfl

/-- The same of the mask that the body builds. -/
theorem mask_at (r : Fin 256) (l : Fin 128) (a b : EReal) : Scalar.select (k0_pay55 (ix2 r l)) a b = if l.val < 124 then a else b := by
  refine Eq.trans ?_ (select_lane l a b)
  pointwise [k0_pay55]

/-- A turned tile, joined to the turned next one. -/
abbrev jn (a b : FVec Ideal S256x128 .f32) : FVec Ideal S256x128 .f32 :=
  select k0_pay55 (dynamicRotate 1 124#32 none a rotates_S256x128_d1) (dynamicRotate 1 124#32 none b rotates_S256x128_d1)

/-- Its entries, from a row `z` that both are cut from. -/
theorem join_at (z : ℕ → EReal) (o : ℕ) (r : Fin 256) (a b : FVec Ideal S256x128 .f32) (ha : ∀ l : Fin 128, a (ix2 r l) = z (o + l.val))
    (hb : ∀ l : Fin 128, l.val < 4 → b (ix2 r l) = z (o + 128 + l.val)) (l : Fin 128) :
    jn a b (ix2 r l) = z (o + l.val + 4) := by
  have hl : l.val < 128 := l.isLt
  pointwise [mask_at]
  split
  · exact (ha _).trans (congrArg z (by dsimp only; omega))
  · exact (hb _ (by dsimp only; omega)).trans (congrArg z (by dsimp only; omega))

/-- Joined tiles, side by side. -/
theorem cat_at {N W : ℕ} (f : Fin N → FVec Ideal S256x128 .f32) (h : _) (z : ℕ → EReal) (r : Fin 256)
    (hf : ∀ (j : Fin N) (l : Fin 128), f j (ix2 r l) = z (128 * j.val + l.val + 4)) (n : Fin W) (hn : n.val / 128 < N) :
    concatenate (⟨2, ![256, W]⟩ : Shape) 1 (List.ofFn fun j : Fin N => (⟨S256x128, f j⟩ : (s : Shape) × (s.Idx → Elt Ideal .f32))) h (ix2 r n) = z (n.val + 4) := by
  refine (concatenate_ofFn_apply (t := (⟨2, ![256, W]⟩ : Shape)) (s₁ := S256x128) 1 f h rfl 128 rfl (ix2 r n) ⟨n.val / 128, hn⟩ rfl (ix2 r ⟨n.val % 128, Nat.mod_lt _ (by decide)⟩) rfl ?_).trans ?_
  · intro b hb
    fin_cases b
    · rfl
    · exact absurd rfl hb
  · exact (hf _ _).trans (congrArg z (by dsimp only; omega))

/-- Tile `j` of a window of `N` tiles, the last one after it. -/
abbrev tile {W N : ℕ} (hW : 128 * N = W) (v : FVec Ideal (⟨2, ![256, W]⟩ : Shape) .f32) (tl : FVec Ideal S256x128 .f32) (j : ℕ) : FVec Ideal S256x128 .f32 :=
  if h : j < N then extractStridedSlice S256x128 ![0, 128 * j] v ⟨rfl, fun a => by fin_cases a; exacts [by show 0 + 256 ≤ 256; omega, by show 128 * j + 128 ≤ W; omega]⟩ else tl

variable (z : ℕ → EReal) (r : Fin 256) (tl : FVec Ideal S256x128 .f32)

/-- A row of the joined tiles is the row four places on. -/
theorem moved {W N : ℕ} (hW : 128 * N = W) (v : FVec Ideal (⟨2, ![256, W]⟩ : Shape) .f32) (hv : ∀ n : Fin W, v (ix2 r n) = z n.val) (ht : ∀ l : Fin 128, l.val < 4 → tl (ix2 r l) = z (W + l.val)) (h : _) (h' : _) (n : Fin W) :
    shapeCast (⟨4, ![1, 1, 256, W]⟩ : Shape) (concatenate (⟨2, ![256, W]⟩ : Shape) 1 (List.ofFn fun j : Fin N => (⟨S256x128, jn (tile hW v tl j.val) (tile hW v tl (j.val + 1))⟩ : (s : Shape) × (s.Idx → Elt Ideal .f32))) h) h' (ix4 0 0 r n) = z (n.val + 4) := by
  have c : ∀ (j : ℕ) (l : Fin 128), j < N → tile hW v tl j (ix2 r l) = z (128 * j + l.val) := fun j l hj => by
    rw [tile, dif_pos hj]
    refine (extractStridedSlice_apply _ v _ (ix2 r l) (ix2 r ⟨128 * j + l.val, by omega⟩) fun a => ?_).trans (hv _)
    fin_cases a
    · exact (Nat.zero_add _).symm
    · rfl
  refine (shapeCast_apply _ h' (ix4 0 0 r n) (ix2 r n) ?_).trans (cat_at _ h z r (fun j l => ?_) n (by omega))
  · rw [Shape.rowMajor_val_two, Shape.rowMajor_val_four]
    show r.val * W + n.val = ((0 * 1 + 0) * 256 + r.val) * W + n.val
    rw [Nat.zero_mul, Nat.zero_add]
  · refine join_at z (128 * j.val) r _ _ (fun l => c _ l j.isLt) (fun l hl => ?_) l
    by_cases hj : j.val + 1 < N
    · exact (c _ l hj).trans (congrArg z (by omega))
    · rw [tile, dif_neg hj, ht l hl]
      exact congrArg z (by have := j.isLt; omega)

/-- The narrow window. -/
theorem narrow (v : FVec Ideal S256x128 .f32) (hv : ∀ n : Fin 128, v (ix2 r n) = z n.val) (ht : ∀ l : Fin 128, l.val < 4 → tl (ix2 r l) = z (128 + l.val)) (n : Fin 128) :
    shapeCast S1x1x256x128 (jn v tl) shapeCasts_S256x128_S1x1x256x128 (ix4 0 0 r n) = z (n.val + 4) := by
  have e : shapeCast S1x1x256x128 (jn v tl) shapeCasts_S256x128_S1x1x256x128 (ix4 0 0 r n) = jn v tl (ix2 r n) := by
    generalize jn v tl = w
    pointwise []
  refine e.trans ((join_at z 0 r v tl (fun l => (hv l).trans (congrArg z (Nat.zero_add _).symm)) (fun l hl => (ht l hl).trans (congrArg z (by omega))) n).trans (congrArg z (by omega)))

/-! The six payloads: keys and values of the three windows. -/

/-- Keys, narrow. -/
theorem pay12_at (v : Vec Ideal S1x1x256x128 .f32) (hv : ∀ n : Fin 128, v (ix4 0 0 r n) = z n.val) (ht : ∀ l : Fin 128, l.val < 4 → tl (ix2 r l) = z (128 + l.val)) (n : Fin 128) :
    k0_pay12 v tl (ix4 0 0 r n) = z (n.val + 4) :=
  narrow z r tl (k0_pay9 v) (fun n => Eq.trans (by pointwise [k0_pay9]) (hv n)) ht n

/-- Values, narrow. -/
theorem pay14_at (v : Vec Ideal S1x1x256x128 .f32) (hv : ∀ n : Fin 128, v (ix4 0 0 r n) = z n.val) (ht : ∀ l : Fin 128, l.val < 4 → tl (ix2 r l) = z (128 + l.val)) (n : Fin 128) :
    k0_pay14 (k0_pay10 v) tl (ix4 0 0 r n) = z (n.val + 4) :=
  narrow z r tl (k0_pay10 v) (fun n => Eq.trans (by pointwise [k0_pay10]) (hv n)) ht n

/-- Keys, middle. -/
theorem pay36_at (v : Vec Ideal S1x1x256x512 .f32) (hv : ∀ n : Fin 512, v (ix4 0 0 r n) = z n.val) (ht : ∀ l : Fin 128, l.val < 4 → tl (ix2 r l) = z (512 + l.val)) (n : Fin 512) :
    k0_pay36 (k0_pay35 v tl) (ix4 0 0 r n) = z (n.val + 4) :=
  moved z r tl (N := 4) rfl (k0_pay32 v) (fun n => Eq.trans (by pointwise [k0_pay32]) (hv n)) ht concatenates_S256x128_S256x128_S256x128_S256x128_S256x512_d1 shapeCasts_S256x512_S1x1x256x512 n

/-- Values, middle. -/
theorem pay38_at (v : Vec Ideal S1x1x256x512 .f32) (hv : ∀ n : Fin 512, v (ix4 0 0 r n) = z n.val) (ht : ∀ l : Fin 128, l.val < 4 → tl (ix2 r l) = z (512 + l.val)) (n : Fin 512) :
    k0_pay38 (k0_pay33 v) tl (ix4 0 0 r n) = z (n.val + 4) :=
  moved z r tl (N := 4) rfl (k0_pay33 v) (fun n => Eq.trans (by pointwise [k0_pay33]) (hv n)) ht concatenates_S256x128_S256x128_S256x128_S256x128_S256x512_d1 shapeCasts_S256x512_S1x1x256x512 n

/-- Keys, wide. -/
theorem pay73_at (v : Vec Ideal S1x1x256x2048 .f32) (hv : ∀ n : Fin 2048, v (ix4 0 0 r n) = z n.val) (ht : ∀ l : Fin 128, l.val < 4 → tl (ix2 r l) = z (2048 + l.val)) (n : Fin 2048) :
    k0_pay73 (k0_pay54 tl) k0_pay55 (k0_pay57 (k0_pay51 v)) (k0_pay58 (k0_pay51 v)) (k0_pay59 (k0_pay51 v)) (k0_pay60 (k0_pay51 v)) (k0_pay61 (k0_pay51 v)) (k0_pay62 (k0_pay51 v)) (k0_pay63 (k0_pay51 v)) (k0_pay64 (k0_pay51 v)) (k0_pay65 (k0_pay51 v)) (k0_pay66 (k0_pay51 v)) (k0_pay67 (k0_pay51 v)) (k0_pay68 (k0_pay51 v)) (k0_pay69 (k0_pay51 v)) (k0_pay70 (k0_pay51 v)) (k0_pay71 (k0_pay51 v)) (k0_pay72 (k0_pay51 v)) (ix4 0 0 r n) = z (n.val + 4) :=
  moved z r tl (N := 16) rfl (k0_pay51 v) (fun n => Eq.trans (by pointwise [k0_pay51]) (hv n)) ht concatenates_S256x128_S256x128_S256x128_S256x128_S256x128_S256x128_S256x128_S256x128_S256x128_S256x128_S256x128_S256x128_S256x128_S256x128_S256x128_S256x128_S256x2048_d1 shapeCasts_S256x2048_S1x1x256x2048 n

/-- Values, wide. -/
theorem pay83_at (v : Vec Ideal S1x1x256x2048 .f32) (hv : ∀ n : Fin 2048, v (ix4 0 0 r n) = z n.val) (ht : ∀ l : Fin 128, l.val < 4 → tl (ix2 r l) = z (2048 + l.val)) (n : Fin 2048) :
    k0_pay83 (k0_pay52 v) (k0_pay75 tl) k0_pay76 (k0_pay77 (k0_pay52 v)) (k0_pay78 (k0_pay52 v)) (k0_pay79 (k0_pay52 v)) (k0_pay80 (k0_pay52 v)) (k0_pay81 (k0_pay52 v)) (k0_pay82 (k0_pay52 v)) (ix4 0 0 r n) = z (n.val + 4) :=
  moved z r tl (N := 16) rfl (k0_pay52 v) (fun n => Eq.trans (by pointwise [k0_pay52]) (hv n)) ht concatenates_S256x128_S256x128_S256x128_S256x128_S256x128_S256x128_S256x128_S256x128_S256x128_S256x128_S256x128_S256x128_S256x128_S256x128_S256x128_S256x128_S256x2048_d1 shapeCasts_S256x2048_S1x1x256x2048 n

end Cert.Kernel5Ideal.Block

end
-- ==== Proof.StepBlock.lean ====
module

public import proofs.«01_k».proof.Proof.StepTiles

@[expose] public section

set_option maxRecDepth 16384
set_option maxHeartbeats 2000000

noncomputable section

namespace Cert.Kernel5Ideal.Block
open Cert.Kernel5Ideal Cert.Kernel5Ideal.Gen Cert.Step
open Idealize.ShloMosaic Idealize.ShloMosaic.TcCoe Idealize.SL.Sem

/-! What the body leaves in its three window outputs. -/

/-- One batch entry's window of head group `g` after the step. -/
def bw {W : ℕ} (g : Fin 3) (k v : Vec Ideal S1x4x768 .f32) (x : (⟨4, ![1, 2, 256, W]⟩ : Shape).Idx → EReal) : (⟨4, ![1, 2, 256, W]⟩ : Shape).Idx → EReal := fun y =>
  ext (fun n : Fin W => x (ix4 0 (y 1) (y 2) n)) (fun l => (if (y 1).val = 0 then k else v) (ix3 0 l ⟨256 * g.val + (y 2).val, by have h2 : (y 2).val < 256 := (y 2).isLt; omega⟩)) ((y 3).val + 4)

theorem ext_lo {W : ℕ} (c : Fin W → EReal) (t : Fin 4 → EReal) (n : Fin W) : ext c t n.val = c n := dif_pos n.isLt

theorem ext_hi {W : ℕ} (c : Fin W → EReal) (t : Fin 4 → EReal) (l : ℕ) (hl : l < 4) : ext c t (W + l) = t ⟨l, hl⟩ := by
  unfold ext
  rw [dif_neg (by omega), dif_pos (by omega)]
  exact congrArg t (Fin.ext (Nat.add_sub_cancel_left W l))

/-- A stored half of a window. -/
theorem half_at {W : ℕ} (w : Fin 2) (P : (⟨4, ![1, 1, 256, W]⟩ : Shape).Idx → EReal) (G : (⟨4, ![1, 2, 256, W]⟩ : Shape).Idx → EReal) (h : ∀ (r : Fin 256) (n : Fin W), P (ix4 0 0 r n) = G (ix4 0 w r n))
    (inb : _) (x : (⟨4, ![1, 1, 256, W]⟩ : Shape).Idx) : P x = G ((Rect.unit (s := (⟨4, ![1, 2, 256, W]⟩ : Shape)) ![0, w.val, 0, 0] (⟨4, ![1, 1, 256, W]⟩ : Shape).size inb).emb x) := by
  have h0 : (x 0).val < 1 := (x 0).isLt
  have h1 : (x 1).val < 1 := (x 1).isLt
  have ex : x = ix4 0 0 (x 2) (x 3) := by
    funext a
    fin_cases a
    · exact Fin.ext (by show (x 0).val = 0; omega)
    · exact Fin.ext (by show (x 1).val = 0; omega)
    · rfl
    · rfl
  have ee : (Rect.unit (s := (⟨4, ![1, 2, 256, W]⟩ : Shape)) ![0, w.val, 0, 0] (⟨4, ![1, 1, 256, W]⟩ : Shape).size inb).emb x = ix4 0 w (x 2) (x 3) := by
    funext a
    fin_cases a
    · exact Fin.ext (by show 0 + 1 * (x 0).val = 0; omega)
    · exact Fin.ext (by show w.val + 1 * (x 1).val = w.val; omega)
    · exact Fin.ext (by show 0 + 1 * (x 2).val = (x 2).val; omega)
    · exact Fin.ext (by show 0 + 1 * (x 3).val = (x 3).val; omega)
  exact (congrArg P ex).trans ((h _ _).trans (congrArg G ee.symm))

/-- The place of a half that the body loads. -/
theorem half_idx {W : ℕ} (w : Fin 2) (r : Fin 256) (n : Fin W) (inb : _) :
    (Rect.unit (s := (⟨4, ![1, 2, 256, W]⟩ : Shape)) ![0, w.val, 0, 0] (⟨4, ![1, 1, 256, W]⟩ : Shape).size inb).toLoadRect.idx (ix4 0 0 r n) = ix4 0 w r n := by
  funext a
  fin_cases a
  · rfl
  · exact Fin.ext (by show w.val + 1 * 0 = w.val; omega)
  · exact Fin.ext (by show 0 + 1 * r.val = r.val; omega)
  · exact Fin.ext (by show 0 + 1 * n.val = n.val; omega)

variable (c : Dev nD) (i : grid0.Coords) (arg1 : Memref sig .tc .vmem S1x4x768 .f32) (harg1 : arg1.IsWhole) (arg2 : Memref sig .tc .vmem S1x4x768 .f32) (harg2 : arg2.IsWhole) (arg3 : Memref sig .tc .vmem S1x4x768 .f32) (harg3 : arg3.IsWhole) (arg4 : Memref sig .tc .vmem S1x2x256x128 .f32) (harg4 : arg4.IsWhole) (arg5 : Memref sig .tc .vmem S1x2x256x512 .f32) (harg5 : arg5.IsWhole) (arg6 : Memref sig .tc .vmem S1x2x256x2048 .f32) (harg6 : arg6.IsWhole) (arg7 : Memref sig .tc .vmem S1x4x256 .f32) (harg7 : arg7.IsWhole) (arg8 : Memref sig .tc .vmem S1x2x256x128 .f32) (harg8 : arg8.IsWhole) (arg9 : Memref sig .tc .vmem S1x2x256x512 .f32) (harg9 : arg9.IsWhole) (arg10 : Memref sig .tc .vmem S1x2x256x2048 .f32) (harg10 : arg10.IsWhole) (arg11 : Memref sig .tc .vmem S3x8x768 .f32) (harg11 : arg11.IsWhole) (arg12 : Memref sig .tc .vmem S256x128 .f32) (harg12 : arg12.IsWhole)
  (x0 x1 x2 : Vec Ideal S1x4x768 .f32) (x3 : Vec Ideal S1x2x256x128 .f32) (x4 : Vec Ideal S1x2x256x512 .f32) (x5 : Vec Ideal S1x2x256x2048 .f32)

/-- The place of a row in the first scratch buffer. -/
theorem row_emb (w : Fin 3) (l : Fin 8) (hl : l.val < 4) (n : Fin 768) (inb : _) : ix3 w l n = (Rect.unit (s := S3x8x768) ![w.val, 0, 0] S1x4x768.size inb).emb (ix3 0 ⟨l.val, hl⟩ n) := by
  funext a
  fin_cases a
  · exact Fin.ext (by show w.val = w.val + 1 * 0; omega)
  · exact Fin.ext (by show l.val = 0 + 1 * l.val; omega)
  · exact Fin.ext (by show n.val = 0 + 1 * n.val; omega)

theorem row_idx (l : Fin 4) (n : Fin 768) (inb : _) : (Rect.unit (s := S1x4x768) ![0, 0, 0] S1x4x768.size inb).toLoadRect.idx (ix3 0 l n) = ix3 0 l n := by
  funext a
  fin_cases a
  · rfl
  · exact Fin.ext (by show 0 + 1 * l.val = l.val; omega)
  · exact Fin.ext (by show 0 + 1 * n.val = n.val; omega)

/-- The rows of the new values in the first scratch buffer. -/
theorem rows2 (l : Fin 8) (hl : l.val < 4) (n : Fin 768) : View.canon (kernelRun0_A.sl.HS0_4 c arg1 harg1 arg2 harg2 arg3 harg3 x0 x1 x2) (ix3 2 l n) = x2 (ix3 0 ⟨l.val, hl⟩ n) := by
  unfold kernelRun0_A.sl.HS0_4
  rw [row_emb 2 l hl n inb_S3x8x768_S1x4x768_2_0_0]
  refine (View.canon_cons_emb _ _ _ _).trans ?_
  pointwise [k0_pay6]
  simp only [Memref.IsWhole.readAt_unread]
  exact congrArg x2 (row_idx _ _ _)

/-- The rows of the new keys. -/
theorem rows1 (l : Fin 8) (hl : l.val < 4) (n : Fin 768) : View.canon (kernelRun0_A.sl.HS0_4 c arg1 harg1 arg2 harg2 arg3 harg3 x0 x1 x2) (ix3 1 l n) = x1 (ix3 0 ⟨l.val, hl⟩ n) := by
  unfold kernelRun0_A.sl.HS0_4
  refine (View.canon_cons_of_not_mem _ _ ?_).trans ?_
  · intro hm
    have := (Rect.mem_set_unit.1 (show ix3 1 l n ∈ (Rect.unit (s := S3x8x768) ![2, 0, 0] S1x4x768.size inb_S3x8x768_S1x4x768_2_0_0).set from hm) 0).1
    exact absurd this (by show ¬(2 ≤ 1); decide)
  rw [row_emb 1 l hl n inb_S3x8x768_S1x4x768_1_0_0]
  refine (View.canon_cons_emb _ _ _ _).trans ?_
  pointwise [k0_pay5]
  simp only [Memref.IsWhole.readAt_unread]
  exact congrArg x1 (row_idx _ _ _)

/-- The second scratch buffer's lanes below four: the new rows, turned. -/
theorem tail_at (w : Fin 3) (o : ℕ) (ho : o + 256 ≤ 768) (inb : _) (inb' : _) (inb'' : _) (L : _) (r : Fin 256) (l : Fin 128) (hl : l.val < 4) :
    arg12.view.readCov ((⟨Rect.unit (s := S256x128) ![0, 0] S256x8.size inb, k0_pay11 (arg11.view.readCov (kernelRun0_A.sl.HS0_4 c arg1 harg1 arg2 harg2 arg3 harg3 x0 x1 x2) (Rect.unit (s := S3x8x768) ![w.val, 0, o] S1x8x256.size inb').toLoadRect)⟩ : View.Piece (Elt Ideal) S256x128 .f32) :: L)
      (Rect.unit (s := S256x128) ![0, 0] S256x128.size inb'').toLoadRect (ix2 r l) = View.canon (kernelRun0_A.sl.HS0_4 c arg1 harg1 arg2 harg2 arg3 harg3 x0 x1 x2) (ix3 w ⟨l.val, by omega⟩ ⟨o + r.val, by omega⟩) := by
  rw [View.readCov_eq_canon', View.readCov_eq_canon']
  have e : (Rect.unit (s := S256x128) ![0, 0] S256x128.size inb'').toLoadRect.idx (ix2 r l) = (Rect.unit (s := S256x128) ![0, 0] S256x8.size inb).emb (ix2 r ⟨l.val, by omega⟩) := by
    funext a
    fin_cases a <;> rfl
  refine (congrArg _ e).trans ((View.canon_cons_emb _ _ _ _).trans ?_)
  pointwise [k0_pay11]

/-- The narrow window. -/
theorem block7 : out0_A_7 c i arg1 harg1 arg2 harg2 arg3 harg3 arg4 harg4 arg5 harg5 arg6 harg6 arg7 harg7 arg8 harg8 arg9 harg9 arg10 harg10 arg11 harg11 arg12 harg12 x0 x1 x2 x3 x4 x5 = bw 0 x1 x2 x3 := by
  unfold out0_A_7
  rw [View.read_writes_junk_eq_canon]
  funext y
  refine View.canon_apply_of_pieces (bw 0 x1 x2 x3) _ ?_ y (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 y)
  refine List.forall_mem_cons.2 ⟨fun x => half_at 1 _ (bw 0 x1 x2 x3) (fun r n => pay14_at (ext (fun n : Fin 128 => x3 (ix4 0 1 r n)) (fun l => x2 (ix3 0 l ⟨256 * 0 + r.val, by omega⟩))) r _ _ (fun n => ?_) (fun l hl => ?_) n) inb_S1x2x256x128_S1x1x256x128_0_1_0_0 x, ?_⟩
  · rw [ext_lo]
    refine (Memref.IsWhole.readAt_unread _ _ _ _).trans (congrArg x3 (half_idx 1 r n _))
  · rw [ext_hi _ _ _ hl]
    exact (tail_at c arg1 harg1 arg2 harg2 arg3 harg3 arg11 arg12 x0 x1 x2 2 0 (by decide) _ _ _ _ r l hl).trans (rows2 c arg1 harg1 arg2 harg2 arg3 harg3 x0 x1 x2 _ hl _)
  refine List.forall_mem_cons.2 ⟨fun x => half_at 0 _ (bw 0 x1 x2 x3) (fun r n => pay12_at (ext (fun n : Fin 128 => x3 (ix4 0 0 r n)) (fun l => x1 (ix3 0 l ⟨256 * 0 + r.val, by omega⟩))) r _ _ (fun n => ?_) (fun l hl => ?_) n) inb_S1x2x256x128_S1x1x256x128_0_0_0_0 x, List.forall_mem_nil _⟩
  · rw [ext_lo]
    refine (Memref.IsWhole.readAt_unread _ _ _ _).trans (congrArg x3 (half_idx 0 r n _))
  · rw [ext_hi _ _ _ hl]
    exact (tail_at c arg1 harg1 arg2 harg2 arg3 harg3 arg11 arg12 x0 x1 x2 1 0 (by decide) _ _ _ _ r l hl).trans (rows1 c arg1 harg1 arg2 harg2 arg3 harg3 x0 x1 x2 _ hl _)

/-- The middle window. -/
theorem block8 : out0_A_8 c i arg1 harg1 arg2 harg2 arg3 harg3 arg4 harg4 arg5 harg5 arg6 harg6 arg7 harg7 arg8 harg8 arg9 harg9 arg10 harg10 arg11 harg11 arg12 harg12 x0 x1 x2 x3 x4 x5 = bw 1 x1 x2 x4 := by
  unfold out0_A_8
  rw [View.read_writes_junk_eq_canon]
  funext y
  refine View.canon_apply_of_pieces (bw 1 x1 x2 x4) _ ?_ y (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 y)
  refine List.forall_mem_cons.2 ⟨fun x => half_at 1 _ (bw 1 x1 x2 x4) (fun r n => pay38_at (ext (fun n : Fin 512 => x4 (ix4 0 1 r n)) (fun l => x2 (ix3 0 l ⟨256 * 1 + r.val, by omega⟩))) r _ _ (fun n => ?_) (fun l hl => ?_) n) inb_S1x2x256x512_S1x1x256x512_0_1_0_0 x, ?_⟩
  · rw [ext_lo]
    refine (Memref.IsWhole.readAt_unread _ _ _ _).trans (congrArg x4 (half_idx 1 r n _))
  · rw [ext_hi _ _ _ hl]
    exact (tail_at c arg1 harg1 arg2 harg2 arg3 harg3 arg11 arg12 x0 x1 x2 2 256 (by decide) _ _ _ _ r l hl).trans (rows2 c arg1 harg1 arg2 harg2 arg3 harg3 x0 x1 x2 _ hl _)
  refine List.forall_mem_cons.2 ⟨fun x => half_at 0 _ (bw 1 x1 x2 x4) (fun r n => pay36_at (ext (fun n : Fin 512 => x4 (ix4 0 0 r n)) (fun l => x1 (ix3 0 l ⟨256 * 1 + r.val, by omega⟩))) r _ _ (fun n => ?_) (fun l hl => ?_) n) inb_S1x2x256x512_S1x1x256x512_0_0_0_0 x, List.forall_mem_nil _⟩
  · rw [ext_lo]
    refine (Memref.IsWhole.readAt_unread _ _ _ _).trans (congrArg x4 (half_idx 0 r n _))
  · rw [ext_hi _ _ _ hl]
    exact (tail_at c arg1 harg1 arg2 harg2 arg3 harg3 arg11 arg12 x0 x1 x2 1 256 (by decide) _ _ _ _ r l hl).trans (rows1 c arg1 harg1 arg2 harg2 arg3 harg3 x0 x1 x2 _ hl _)

/-- The wide window. -/
theorem block9 : out0_A_9 c i arg1 harg1 arg2 harg2 arg3 harg3 arg4 harg4 arg5 harg5 arg6 harg6 arg7 harg7 arg8 harg8 arg9 harg9 arg10 harg10 arg11 harg11 arg12 harg12 x0 x1 x2 x3 x4 x5 = bw 2 x1 x2 x5 := by
  unfold out0_A_9
  rw [View.read_writes_junk_eq_canon]
  funext y
  refine View.canon_apply_of_pieces (bw 2 x1 x2 x5) _ ?_ y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 y)
  refine List.forall_mem_cons.2 ⟨fun x => half_at 1 _ (bw 2 x1 x2 x5) (fun r n => pay83_at (ext (fun n : Fin 2048 => x5 (ix4 0 1 r n)) (fun l => x2 (ix3 0 l ⟨256 * 2 + r.val, by omega⟩))) r _ _ (fun n => ?_) (fun l hl => ?_) n) inb_S1x2x256x2048_S1x1x256x2048_0_1_0_0 x, ?_⟩
  · rw [ext_lo]
    refine (Memref.IsWhole.readAt_unread _ _ _ _).trans (congrArg x5 (half_idx 1 r n _))
  · rw [ext_hi _ _ _ hl]
    exact (tail_at c arg1 harg1 arg2 harg2 arg3 harg3 arg11 arg12 x0 x1 x2 2 512 (by decide) _ _ _ _ r l hl).trans (rows2 c arg1 harg1 arg2 harg2 arg3 harg3 x0 x1 x2 _ hl _)
  refine List.forall_mem_cons.2 ⟨fun x => half_at 0 _ (bw 2 x1 x2 x5) (fun r n => pay73_at (ext (fun n : Fin 2048 => x5 (ix4 0 0 r n)) (fun l => x1 (ix3 0 l ⟨256 * 2 + r.val, by omega⟩))) r _ _ (fun n => ?_) (fun l hl => ?_) n) inb_S1x2x256x2048_S1x1x256x2048_0_0_0_0 x, List.forall_mem_nil _⟩
  · rw [ext_lo]
    refine (Memref.IsWhole.readAt_unread _ _ _ _).trans (congrArg x5 (half_idx 0 r n _))
  · rw [ext_hi _ _ _ hl]
    exact (tail_at c arg1 harg1 arg2 harg2 arg3 harg3 arg11 arg12 x0 x1 x2 1 512 (by decide) _ _ _ _ r l hl).trans (rows1 c arg1 harg1 arg2 harg2 arg3 harg3 x0 x1 x2 _ hl _)

end Cert.Kernel5Ideal.Block

end
-- ==== Proof.StepArrays.lean ====
module

public import proofs.«01_k».proof.Proof.StepBlock

@[expose] public section

set_option maxRecDepth 16384
set_option maxHeartbeats 2000000

noncomputable section

namespace Cert.Kernel5Ideal.Block
open Cert.Kernel5Ideal Cert.Kernel5Ideal.Gen Cert.Step
open Idealize.ShloMosaic Idealize.ShloMosaic.TcCoe Idealize.SL.Sem

/-! The three window arrays by the argument arrays. -/

variable (m : (ℓ : Loc nD τ sig) → Buf (Elt Ideal) ℓ)

/-- Point `t` works on batch entry `t`. -/
theorem idxAll : ∀ t : Fin cfg0.N, win0_1.index t = ![t.val, 0, 0] ∧ win0_2.index t = ![t.val, 0, 0] ∧ win0_3.index t = ![t.val, 0, 0, 0] ∧ win0_4.index t = ![t.val, 0, 0, 0] ∧ win0_5.index t = ![t.val, 0, 0, 0]
    ∧ win0_7.index t = ![t.val, 0, 0, 0] ∧ win0_8.index t = ![t.val, 0, 0, 0] ∧ win0_9.index t = ![t.val, 0, 0, 0] :=
  (by decide +kernel : ∀ t : Fin grid0.N, _)

/-- The new keys. -/
theorem op1 (c : Dev nD) (t : Fin cfg0.N) (ht : t.val < 32) (l : Fin 4) (n : Fin 768) :
    (iblk m c 1 t : Vec Ideal S1x4x768 .f32) (ix3 0 l n) = (m ((c : Thread nD τ).loc main_arg1)) (ix2 ⟨4 * t.val + l.val, by omega⟩ n) := by
  blk_point [iblk, V, idxAll t]

/-- The new values. -/
theorem op2 (c : Dev nD) (t : Fin cfg0.N) (ht : t.val < 32) (l : Fin 4) (n : Fin 768) :
    (iblk m c 2 t : Vec Ideal S1x4x768 .f32) (ix3 0 l n) = (m ((c : Thread nD τ).loc main_arg2)) (ix2 ⟨4 * t.val + l.val, by omega⟩ n) := by
  blk_point [iblk, V, idxAll t]

/-- The narrow cache. -/
theorem op3 (c : Dev nD) (t : Fin cfg0.N) (ht : t.val < 32) (w : Fin 2) (r : Fin 256) (n : Fin 128) :
    (iblk m c 3 t : Vec Ideal S1x2x256x128 .f32) (ix4 0 w r n) = (m ((c : Thread nD τ).loc main_arg3)) (ix6 0 ⟨t.val, ht⟩ n w ⟨r.val / 64, by omega⟩ ⟨r.val % 64, by omega⟩) := by
  blk_point [iblk, V, idxAll t]

/-- The middle cache. -/
theorem op4 (c : Dev nD) (t : Fin cfg0.N) (ht : t.val < 32) (w : Fin 2) (r : Fin 256) (n : Fin 512) :
    (iblk m c 4 t : Vec Ideal S1x2x256x512 .f32) (ix4 0 w r n) = (m ((c : Thread nD τ).loc main_arg4)) (ix6 0 ⟨t.val, ht⟩ n w ⟨r.val / 64, by omega⟩ ⟨r.val % 64, by omega⟩) := by
  blk_point [iblk, V, idxAll t]

/-- The wide cache. -/
theorem op5 (c : Dev nD) (t : Fin cfg0.N) (ht : t.val < 32) (w : Fin 2) (r : Fin 256) (n : Fin 2048) :
    (iblk m c 5 t : Vec Ideal S1x2x256x2048 .f32) (ix4 0 w r n) = (m ((c : Thread nD τ).loc main_arg5)) (ix6 0 ⟨t.val, ht⟩ n w ⟨r.val / 64, by omega⟩ ⟨r.val % 64, by omega⟩) := by
  blk_point [iblk, V, idxAll t]

/-- A block of a window array, by the argument arrays. -/
theorem bw_at {W : ℕ} (g : Fin 3) (k v : Vec Ideal S1x4x768 .f32) (x : (⟨4, ![1, 2, 256, W]⟩ : Shape).Idx → EReal)
    (K U : (⟨2, ![128, 768]⟩ : Shape).Idx → EReal) (X : (⟨6, ![1, 32, W, 2, 4, 64]⟩ : Shape).Idx → EReal) (t : Fin 32)
    (hk : ∀ l n, k (ix3 0 l n) = K (ix2 ⟨4 * t.val + l.val, by omega⟩ n)) (hv : ∀ l n, v (ix3 0 l n) = U (ix2 ⟨4 * t.val + l.val, by omega⟩ n))
    (hx : ∀ w r n, x (ix4 0 w r n) = X (ix6 0 t n w ⟨r.val / 64, by omega⟩ ⟨r.val % 64, by omega⟩)) (w : Fin 2) (r : Fin 256) (n : Fin W) :
    bw g k v x (ix4 0 w r n) = window W g K U X (ix4 t w r n) := by
  show ext (fun n : Fin W => x (ix4 0 w r n)) (fun l => (if w.val = 0 then k else v) (ix3 0 l ⟨256 * g.val + r.val, _⟩)) (n.val + 4)
    = ext (fun n : Fin W => X (ix6 0 t n w ⟨r.val / 64, _⟩ ⟨r.val % 64, _⟩)) (fun l => (if w.val = 0 then K else U) (ix2 ⟨4 * t.val + l.val, _⟩ ⟨256 * g.val + r.val, _⟩)) (n.val + 4)
  refine congrFun (congrArg₂ ext (funext fun n => hx w r n) (funext fun l => ?_)) _
  split
  · exact hk _ _
  · exact hv _ _

/-- The narrow window array. -/
theorem final7 (c : Dev nD) : (dats m 0 c).arrAt 7 (cfgs 0).N = window 128 0 (m ((c : Thread nD τ).loc main_arg1)) (m ((c : Thread nD τ).loc main_arg2)) (m ((c : Thread nD τ).loc main_arg3)) := by
  refine (dats m 0 c).arrAt_eq_of_covers 7 _ (by decide +kernel) fun t hf y => ?_
  have hi := idxAll t
  have ht : t.val < 32 := t.isLt
  blk_simp
  rw [after0_7]
  have h0 : (y 0).val < 1 := (y 0).isLt
  have h1 : (y 1).val < 2 := (y 1).isLt
  have h2 : (y 2).val < 256 := (y 2).isLt
  have h3 : (y 3).val < 128 := (y 3).isLt
  have e : (win0_7.blk t).view.emb y = ix4 (⟨t.val, ht⟩ : Fin 32) (y 1) (y 2) (y 3) := by blk_ext [hi]
  have ey : y = ix4 (0 : Fin 1) (y 1) (y 2) (y 3) := by blk_ext []
  rw [e]
  unfold outsAt0
  dsimp only
  rw [block7]
  exact (congrArg _ ey).trans (bw_at 0 _ _ _ _ _ _ ⟨t.val, ht⟩ (op1 m c t ht) (op2 m c t ht) (op3 m c t ht) (y 1) (y 2) (y 3))

/-- The middle window array. -/
theorem final8 (c : Dev nD) : (dats m 0 c).arrAt 8 (cfgs 0).N = window 512 1 (m ((c : Thread nD τ).loc main_arg1)) (m ((c : Thread nD τ).loc main_arg2)) (m ((c : Thread nD τ).loc main_arg4)) := by
  refine (dats m 0 c).arrAt_eq_of_covers 8 _ (by decide +kernel) fun t hf y => ?_
  have hi := idxAll t
  have ht : t.val < 32 := t.isLt
  blk_simp
  rw [after0_8]
  have h0 : (y 0).val < 1 := (y 0).isLt
  have h1 : (y 1).val < 2 := (y 1).isLt
  have h2 : (y 2).val < 256 := (y 2).isLt
  have h3 : (y 3).val < 512 := (y 3).isLt
  have e : (win0_8.blk t).view.emb y = ix4 (⟨t.val, ht⟩ : Fin 32) (y 1) (y 2) (y 3) := by blk_ext [hi]
  have ey : y = ix4 (0 : Fin 1) (y 1) (y 2) (y 3) := by blk_ext []
  rw [e]
  unfold outsAt0
  dsimp only
  rw [block8]
  exact (congrArg _ ey).trans (bw_at 1 _ _ _ _ _ _ ⟨t.val, ht⟩ (op1 m c t ht) (op2 m c t ht) (op4 m c t ht) (y 1) (y 2) (y 3))

/-- The wide window array. -/
theorem final9 (c : Dev nD) : (dats m 0 c).arrAt 9 (cfgs 0).N = window 2048 2 (m ((c : Thread nD τ).loc main_arg1)) (m ((c : Thread nD τ).loc main_arg2)) (m ((c : Thread nD τ).loc main_arg5)) := by
  refine (dats m 0 c).arrAt_eq_of_covers 9 _ (by decide +kernel) fun t hf y => ?_
  have hi := idxAll t
  have ht : t.val < 32 := t.isLt
  blk_simp
  rw [after0_9]
  have h0 : (y 0).val < 1 := (y 0).isLt
  have h1 : (y 1).val < 2 := (y 1).isLt
  have h2 : (y 2).val < 256 := (y 2).isLt
  have h3 : (y 3).val < 2048 := (y 3).isLt
  have e : (win0_9.blk t).view.emb y = ix4 (⟨t.val, ht⟩ : Fin 32) (y 1) (y 2) (y 3) := by blk_ext [hi]
  have ey : y = ix4 (0 : Fin 1) (y 1) (y 2) (y 3) := by blk_ext []
  rw [e]
  unfold outsAt0
  dsimp only
  rw [block9]
  exact (congrArg _ ey).trans (bw_at 2 _ _ _ _ _ _ ⟨t.val, ht⟩ (op1 m c t ht) (op2 m c t ht) (op5 m c t ht) (y 1) (y 2) (y 3))

end Cert.Kernel5Ideal.Block

end
-- ==== Proof.StepRef.lean ====
module

public import proofs.«01_k».proof.Proof.Gen.Reference5Ideal.Read
public import Idealize.ShloMosaic.Lib.Pipeline.ValueKit
public import proofs.«01_k».proof.Proof.StepSpec

@[expose] public section

set_option maxRecDepth 16384
set_option maxHeartbeats 1000000

noncomputable section

namespace Cert.Reference5Ideal.Plain
open Cert.Reference5Ideal Cert.Reference5Ideal.Read Cert.Step
open Idealize.ShloMosaic Idealize.ShloMosaic.TcCoe Idealize.SL.Sem

/-! The fifth reference's results, entry by entry. -/

variable (x1 x2 : (⟨S128x768, .f32⟩ : BufTy).Contents (Elt Ideal))

/-- The narrow window. -/
theorem res0 (x : (⟨S1x32x128x2x4x64, .f32⟩ : BufTy).Contents (Elt Ideal)) : val_main_v13 (F := Ideal) x1 x2 x = window 128 0 x1 x2 x := by
  funext i
  have h0 : (i 0).val < 32 := (i 0).isLt
  have h1 : (i 1).val < 2 := (i 1).isLt
  have h2 : (i 2).val < 256 := (i 2).isLt
  have h3 : (i 3).val < 128 := (i 3).isLt
  pointwise [val_main_v13, val_main_v12, val_main_v11, val_main_v10, val_main_v9, val_main_v8, val_main_v7, val_main_v6, val_main_v5, val_main_v4, val_main_v3, val_main_v2, val_main_v1, val_main_v0]
  dsimp only [window, ext]
  repeat' split
  all_goals first
    | (exfalso; omega)
    | (refine congrArg x ?_; blk_ext [])
    | (refine congrArg x1 (congrArg₂ _ (Fin.ext ?_) (Fin.ext ?_)) <;> dsimp only [Fin.val_zero, Fin.val_one, Fin.val_two] <;> omega)
    | (refine congrArg x2 (congrArg₂ _ (Fin.ext ?_) (Fin.ext ?_)) <;> dsimp only [Fin.val_zero, Fin.val_one, Fin.val_two] <;> omega)
    | skip

/-- The middle window. -/
theorem res1 (x : (⟨S1x32x512x2x4x64, .f32⟩ : BufTy).Contents (Elt Ideal)) : val_main_v25 (F := Ideal) x1 x2 x = window 512 1 x1 x2 x := by
  funext i
  have h0 : (i 0).val < 32 := (i 0).isLt
  have h1 : (i 1).val < 2 := (i 1).isLt
  have h2 : (i 2).val < 256 := (i 2).isLt
  have h3 : (i 3).val < 512 := (i 3).isLt
  pointwise [val_main_v25, val_main_v24, val_main_v23, val_main_v22, val_main_v21, val_main_v20, val_main_v19, val_main_v18, val_main_v17, val_main_v16, val_main_v15, val_main_v14, val_main_v1, val_main_v0]
  dsimp only [window, ext]
  repeat' split
  all_goals first
    | (exfalso; omega)
    | (refine congrArg x ?_; blk_ext [])
    | (refine congrArg x1 (congrArg₂ _ (Fin.ext ?_) (Fin.ext ?_)) <;> dsimp only [Fin.val_zero, Fin.val_one, Fin.val_two] <;> omega)
    | (refine congrArg x2 (congrArg₂ _ (Fin.ext ?_) (Fin.ext ?_)) <;> dsimp only [Fin.val_zero, Fin.val_one, Fin.val_two] <;> omega)
    | skip

/-- The wide window. -/
theorem res2 (x : (⟨S1x32x2048x2x4x64, .f32⟩ : BufTy).Contents (Elt Ideal)) : val_main_v37 (F := Ideal) x1 x2 x = window 2048 2 x1 x2 x := by
  funext i
  have h0 : (i 0).val < 32 := (i 0).isLt
  have h1 : (i 1).val < 2 := (i 1).isLt
  have h2 : (i 2).val < 256 := (i 2).isLt
  have h3 : (i 3).val < 2048 := (i 3).isLt
  pointwise [val_main_v37, val_main_v36, val_main_v35, val_main_v34, val_main_v33, val_main_v32, val_main_v31, val_main_v30, val_main_v29, val_main_v28, val_main_v27, val_main_v26, val_main_v1, val_main_v0]
  dsimp only [window, ext]
  repeat' split
  all_goals first
    | (exfalso; omega)
    | (refine congrArg x ?_; blk_ext [])
    | (refine congrArg x1 (congrArg₂ _ (Fin.ext ?_) (Fin.ext ?_)) <;> dsimp only [Fin.val_zero, Fin.val_one, Fin.val_two] <;> omega)
    | (refine congrArg x2 (congrArg₂ _ (Fin.ext ?_) (Fin.ext ?_)) <;> dsimp only [Fin.val_zero, Fin.val_one, Fin.val_two] <;> omega)
    | skip

end Cert.Reference5Ideal.Plain

end
-- ==== Proof.SampleFrame.lean ====
module

public import proofs.«01_k».proof.Defs
public import proofs.«01_k».proof.Kernel3
public import proofs.«01_k».proof.Proof.Gen.Kernel3Ideal.Frame

@[expose] public section

set_option maxRecDepth 65536

noncomputable section

namespace Cert.Kernel3.Same
open Idealize.ShloMosaic Idealize.ShloMosaic.TcCoe Idealize.SL.Sem

/-! The third kernel's own program and its idealized one have the same text, so its facts and its frame are those of the idealized one at the other float values. -/

theorem shapes : Cert.Kernel3.Facts₀ := by
  constructor
  case hrank0 => exact @Cert.Kernel3Ideal.Gen.hrank0
  case hstage0_0 => exact @Cert.Kernel3Ideal.Gen.hstage0_0
  case nbuf0_0 => exact @Cert.Kernel3Ideal.Gen.nbuf0_0
  case hreads0_0 => exact @Cert.Kernel3Ideal.Gen.hreads0_0
  case hinb0_0 => exact @Cert.Kernel3Ideal.Gen.hinb0_0
  case hwx0_0 => exact @Cert.Kernel3Ideal.Gen.hwx0_0
  case hstage0_1 => exact @Cert.Kernel3Ideal.Gen.hstage0_1
  case nbuf0_1 => exact @Cert.Kernel3Ideal.Gen.nbuf0_1
  case hreads0_1 => exact @Cert.Kernel3Ideal.Gen.hreads0_1
  case hinb0_1 => exact @Cert.Kernel3Ideal.Gen.hinb0_1
  case hwx0_1 => exact @Cert.Kernel3Ideal.Gen.hwx0_1
  case hstage0_2 => exact @Cert.Kernel3Ideal.Gen.hstage0_2
  case nbuf0_2 => exact @Cert.Kernel3Ideal.Gen.nbuf0_2
  case hreads0_2 => exact @Cert.Kernel3Ideal.Gen.hreads0_2
  case hinb0_2 => exact @Cert.Kernel3Ideal.Gen.hinb0_2
  case hwx0_2 => exact @Cert.Kernel3Ideal.Gen.hwx0_2
  case hstage0_3 => exact @Cert.Kernel3Ideal.Gen.hstage0_3
  case nbuf0_3 => exact @Cert.Kernel3Ideal.Gen.nbuf0_3
  case hreads0_3 => exact @Cert.Kernel3Ideal.Gen.hreads0_3
  case hinb0_3 => exact @Cert.Kernel3Ideal.Gen.hinb0_3
  case hwx0_3 => exact @Cert.Kernel3Ideal.Gen.hwx0_3
  case hstage0_4 => exact @Cert.Kernel3Ideal.Gen.hstage0_4
  case nbuf0_4 => exact @Cert.Kernel3Ideal.Gen.nbuf0_4
  case hreads0_4 => exact @Cert.Kernel3Ideal.Gen.hreads0_4
  case hinb0_4 => exact @Cert.Kernel3Ideal.Gen.hinb0_4
  case hwx0_4 => exact @Cert.Kernel3Ideal.Gen.hwx0_4
  case hstage0_5 => exact @Cert.Kernel3Ideal.Gen.hstage0_5
  case nbuf0_5 => exact @Cert.Kernel3Ideal.Gen.nbuf0_5
  case hreads0_5 => exact @Cert.Kernel3Ideal.Gen.hreads0_5
  case hinb0_5 => exact @Cert.Kernel3Ideal.Gen.hinb0_5
  case hwx0_5 => exact @Cert.Kernel3Ideal.Gen.hwx0_5
  case hstage0_6 => exact @Cert.Kernel3Ideal.Gen.hstage0_6
  case nbuf0_6 => exact @Cert.Kernel3Ideal.Gen.nbuf0_6
  case hreads0_6 => exact @Cert.Kernel3Ideal.Gen.hreads0_6
  case hinb0_6 => exact @Cert.Kernel3Ideal.Gen.hinb0_6
  case hwx0_6 => exact @Cert.Kernel3Ideal.Gen.hwx0_6
  case hstage0_7 => exact @Cert.Kernel3Ideal.Gen.hstage0_7
  case nbuf0_7 => exact @Cert.Kernel3Ideal.Gen.nbuf0_7
  case hreads0_7 => exact @Cert.Kernel3Ideal.Gen.hreads0_7
  case hinb0_7 => exact @Cert.Kernel3Ideal.Gen.hinb0_7
  case hwx0_7 => exact @Cert.Kernel3Ideal.Gen.hwx0_7
  case hstage0_8 => exact @Cert.Kernel3Ideal.Gen.hstage0_8
  case nbuf0_8 => exact @Cert.Kernel3Ideal.Gen.nbuf0_8
  case hreads0_8 => exact @Cert.Kernel3Ideal.Gen.hreads0_8
  case hinb0_8 => exact @Cert.Kernel3Ideal.Gen.hinb0_8
  case hwx0_8 => exact @Cert.Kernel3Ideal.Gen.hwx0_8
  case hstage0_9 => exact @Cert.Kernel3Ideal.Gen.hstage0_9
  case nbuf0_9 => exact @Cert.Kernel3Ideal.Gen.nbuf0_9
  case hreads0_9 => exact @Cert.Kernel3Ideal.Gen.hreads0_9
  case hinb0_9 => exact @Cert.Kernel3Ideal.Gen.hinb0_9
  case hwx0_9 => exact @Cert.Kernel3Ideal.Gen.hwx0_9
  case hstage0_10 => exact @Cert.Kernel3Ideal.Gen.hstage0_10
  case nbuf0_10 => exact @Cert.Kernel3Ideal.Gen.nbuf0_10
  case hreads0_10 => exact @Cert.Kernel3Ideal.Gen.hreads0_10
  case hinb0_10 => exact @Cert.Kernel3Ideal.Gen.hinb0_10
  case hwx0_10 => exact @Cert.Kernel3Ideal.Gen.hwx0_10
  case hstage0_11 => exact @Cert.Kernel3Ideal.Gen.hstage0_11
  case nbuf0_11 => exact @Cert.Kernel3Ideal.Gen.nbuf0_11
  case hreads0_11 => exact @Cert.Kernel3Ideal.Gen.hreads0_11
  case hinb0_11 => exact @Cert.Kernel3Ideal.Gen.hinb0_11
  case hwx0_11 => exact @Cert.Kernel3Ideal.Gen.hwx0_11
  case hstage0_12 => exact @Cert.Kernel3Ideal.Gen.hstage0_12
  case nbuf0_12 => exact @Cert.Kernel3Ideal.Gen.nbuf0_12
  case hreads0_12 => exact @Cert.Kernel3Ideal.Gen.hreads0_12
  case hinb0_12 => exact @Cert.Kernel3Ideal.Gen.hinb0_12
  case hwx0_12 => exact @Cert.Kernel3Ideal.Gen.hwx0_12
  case hstage0_13 => exact @Cert.Kernel3Ideal.Gen.hstage0_13
  case nbuf0_13 => exact @Cert.Kernel3Ideal.Gen.nbuf0_13
  case hreads0_13 => exact @Cert.Kernel3Ideal.Gen.hreads0_13
  case hinb0_13 => exact @Cert.Kernel3Ideal.Gen.hinb0_13
  case hwx0_13 => exact @Cert.Kernel3Ideal.Gen.hwx0_13
  case hstage0_14 => exact @Cert.Kernel3Ideal.Gen.hstage0_14
  case nbuf0_14 => exact @Cert.Kernel3Ideal.Gen.nbuf0_14
  case hreads0_14 => exact @Cert.Kernel3Ideal.Gen.hreads0_14
  case hinb0_14 => exact @Cert.Kernel3Ideal.Gen.hinb0_14
  case hwx0_14 => exact @Cert.Kernel3Ideal.Gen.hwx0_14
  case hstage0_15 => exact @Cert.Kernel3Ideal.Gen.hstage0_15
  case nbuf0_15 => exact @Cert.Kernel3Ideal.Gen.nbuf0_15
  case hreads0_15 => exact @Cert.Kernel3Ideal.Gen.hreads0_15
  case hinb0_15 => exact @Cert.Kernel3Ideal.Gen.hinb0_15
  case hwx0_15 => exact @Cert.Kernel3Ideal.Gen.hwx0_15
  case hstage0_16 => exact @Cert.Kernel3Ideal.Gen.hstage0_16
  case nbuf0_16 => exact @Cert.Kernel3Ideal.Gen.nbuf0_16
  case hreads0_16 => exact @Cert.Kernel3Ideal.Gen.hreads0_16
  case hinb0_16 => exact @Cert.Kernel3Ideal.Gen.hinb0_16
  case hwx0_16 => exact @Cert.Kernel3Ideal.Gen.hwx0_16
  case hstage0_17 => exact @Cert.Kernel3Ideal.Gen.hstage0_17
  case nbuf0_17 => exact @Cert.Kernel3Ideal.Gen.nbuf0_17
  case hreads0_17 => exact @Cert.Kernel3Ideal.Gen.hreads0_17
  case hinb0_17 => exact @Cert.Kernel3Ideal.Gen.hinb0_17
  case hwx0_17 => exact @Cert.Kernel3Ideal.Gen.hwx0_17
  all_goals decide

instance facts₀ : Cert.Kernel3.Facts₀ := shapes

instance facts : Cert.Kernel3.Facts where

variable {F : FTy → Type} [FloatOps F]
set_option maxHeartbeats 4000000

set_option maxRecDepth 1000000
theorem body_eq : Cert.Kernel3.cc0_merge_ffn_sample (F := F) = Cert.Kernel3Ideal.cc0_merge_ffn_sample (F := F) := rfl

theorem defs₀_eq : Cert.Kernel3.defs₀ (F := F) = Cert.Kernel3Ideal.defs₀ (F := F) := by
  unfold Cert.Kernel3.defs₀ Cert.Kernel3Ideal.defs₀
  refine congrArg _ ?_
  funext l a
  match l, a with
  | ⟨0, _⟩, a => exact rfl

theorem defs_eq : Cert.Kernel3.defs (F := F) = Cert.Kernel3Ideal.defs (F := F) := congrArg _ defs₀_eq

theorem main_eq : Cert.Kernel3.main (F := F) = Cert.Kernel3Ideal.main (F := F) := rfl

/-- The same run from the same state: what holds after the idealized program's holds after this one's. -/
theorem run_of (m : (ℓ : Loc nD τ sig) → Buf (Elt F) ℓ) (ρ : Dev nD → PrngReg) (post)
    (h : θ_run (Cert.Kernel3Ideal.defs (F := F)) (onTc (τ := Cert.Kernel3Ideal.τ) (Cert.Kernel3Ideal.main (F := F))) ⟨m, fun _ => 0, ρ⟩ post) :
    θ_run (Cert.Kernel3.defs (F := F)) (onTc (τ := τ) (Cert.Kernel3.main (F := F))) ⟨m, fun _ => 0, ρ⟩ post := by
  rw [defs_eq, main_eq]
  exact h

theorem frame : Cert.quiescent_Kernel3 (hKernel3 := facts) := fun m ρ _ =>
  run_of m ρ _ (Cert.Kernel3Ideal.Gen.frame (F := Bits) m ρ)

end Cert.Kernel3.Same

end
-- ==== Proof.SampleSpec.lean ====
module

public import proofs.«01_k».proof.Proof.MergeSpec

@[expose] public section

set_option maxRecDepth 16384

noncomputable section

namespace Cert.Sample
open Idealize.ShloMosaic Cert.Merge

/-! What the third kernel computes: four tokens of each of 32 batch entries, whose convolution reads the 30 rows kept from before and then the entry's own four. -/

/-- Row `s` of batch entry `b`: the kept rows first, and then the entry's own. -/
def erow (x2 : (⟨3, ![8, 128, 128]⟩ : Shape).Idx → EReal) (x3 : (⟨4, ![1, 32, 30, 1024]⟩ : Shape).Idx → EReal) (b : Fin 32) (s : ℕ) (n : Fin 1024) : EReal :=
  if h : s < 30 then x3 (ix4 0 b ⟨s, h⟩ n) else if h : s - 30 < 4 then x2 (ix3 ⟨n.val / 128, by omega⟩ ⟨4 * b.val + (s - 30), by omega⟩ ⟨n.val % 128, by omega⟩) else 0

/-- The convolution's results of token `t` of batch entry `b`. -/
def zrow (x2 : (⟨3, ![8, 128, 128]⟩ : Shape).Idx → EReal) (x3 : (⟨4, ![1, 32, 30, 1024]⟩ : Shape).Idx → EReal) (x7 : (⟨3, ![1, 31, 1024]⟩ : Shape).Idx → EReal) (x8 : (⟨2, ![1, 1024]⟩ : Shape).Idx → EReal) (b : Fin 32) (t : Fin 4) (n : Fin 1024) : EReal :=
  conv (fun k => erow x2 x3 b (k.val + t.val)) (fun k n => x7 (ix3 0 k n)) (fun n => x8 (ix2 0 n)) n

/-- The gated sum of token `t` of batch entry `b`. -/
def mrow (x1 : (⟨3, ![32, 4, 256]⟩ : Shape).Idx → EReal) (x2 : (⟨3, ![8, 128, 128]⟩ : Shape).Idx → EReal) (x3 : (⟨4, ![1, 32, 30, 1024]⟩ : Shape).Idx → EReal) (x4 : (⟨2, ![128, 1024]⟩ : Shape).Idx → EReal) (x5 : (⟨2, ![128, 1024]⟩ : Shape).Idx → EReal) (x6 : (⟨3, ![1, 256, 1024]⟩ : Shape).Idx → EReal) (x7 : (⟨3, ![1, 31, 1024]⟩ : Shape).Idx → EReal) (x8 : (⟨2, ![1, 1024]⟩ : Shape).Idx → EReal) (x9 : (⟨2, ![1, 1024]⟩ : Shape).Idx → EReal) (x10 : (⟨2, ![1, 1024]⟩ : Shape).Idx → EReal) (x11 : (⟨3, ![1, 1024, 1024]⟩ : Shape).Idx → EReal) (b : Fin 32) (t : Fin 4) : Fin 1024 → EReal :=
  merged (fun k => x1 (ix3 b t k)) (zrow x2 x3 x7 x8 b t) (fun n => x9 (ix2 0 n)) (fun n => x10 (ix2 0 n)) (fun n => x4 (ix2 ⟨b.val * 4 + t.val, by omega⟩ n)) (fun n => x5 (ix2 ⟨b.val * 4 + t.val, by omega⟩ n))
    (fun k n => x6 (ix3 0 k n)) (fun k n => x11 (ix3 0 k n))

/-- The row after the residual sum. -/
def rrow (x0 : (⟨3, ![32, 4, 1024]⟩ : Shape).Idx → EReal) (x1 : (⟨3, ![32, 4, 256]⟩ : Shape).Idx → EReal) (x2 : (⟨3, ![8, 128, 128]⟩ : Shape).Idx → EReal) (x3 : (⟨4, ![1, 32, 30, 1024]⟩ : Shape).Idx → EReal) (x4 : (⟨2, ![128, 1024]⟩ : Shape).Idx → EReal) (x5 : (⟨2, ![128, 1024]⟩ : Shape).Idx → EReal) (x6 : (⟨3, ![1, 256, 1024]⟩ : Shape).Idx → EReal) (x7 : (⟨3, ![1, 31, 1024]⟩ : Shape).Idx → EReal) (x8 : (⟨2, ![1, 1024]⟩ : Shape).Idx → EReal) (x9 : (⟨2, ![1, 1024]⟩ : Shape).Idx → EReal) (x10 : (⟨2, ![1, 1024]⟩ : Shape).Idx → EReal) (x11 : (⟨3, ![1, 1024, 1024]⟩ : Shape).Idx → EReal) (x12 : (⟨3, ![1, 1024, 1024]⟩ : Shape).Idx → EReal) (b : Fin 32) (t : Fin 4) : Fin 1024 → EReal :=
  resid (fun n => x0 (ix3 b t n)) (mrow x1 x2 x3 x4 x5 x6 x7 x8 x9 x10 x11 b t) (fun k n => x12 (ix3 0 k n))

/-- One entry of the layer's output, by the argument arrays. -/
def entry (x0 : (⟨3, ![32, 4, 1024]⟩ : Shape).Idx → EReal) (x1 : (⟨3, ![32, 4, 256]⟩ : Shape).Idx → EReal) (x2 : (⟨3, ![8, 128, 128]⟩ : Shape).Idx → EReal) (x3 : (⟨4, ![1, 32, 30, 1024]⟩ : Shape).Idx → EReal) (x4 : (⟨2, ![128, 1024]⟩ : Shape).Idx → EReal) (x5 : (⟨2, ![128, 1024]⟩ : Shape).Idx → EReal) (x6 : (⟨3, ![1, 256, 1024]⟩ : Shape).Idx → EReal) (x7 : (⟨3, ![1, 31, 1024]⟩ : Shape).Idx → EReal) (x8 : (⟨2, ![1, 1024]⟩ : Shape).Idx → EReal) (x9 : (⟨2, ![1, 1024]⟩ : Shape).Idx → EReal) (x10 : (⟨2, ![1, 1024]⟩ : Shape).Idx → EReal) (x11 : (⟨3, ![1, 1024, 1024]⟩ : Shape).Idx → EReal) (x12 : (⟨3, ![1, 1024, 1024]⟩ : Shape).Idx → EReal) (x13 : (⟨2, ![1, 1024]⟩ : Shape).Idx → EReal) (x14 : (⟨3, ![1, 1024, 5632]⟩ : Shape).Idx → EReal) (x15 : (⟨3, ![1, 2816, 1024]⟩ : Shape).Idx → EReal) (b : Fin 32) (t : Fin 4) (n : Fin 1024) : EReal :=
  ffn (rrow x0 x1 x2 x3 x4 x5 x6 x7 x8 x9 x10 x11 x12 b t) (fun n => x13 (ix2 0 n)) (fun d n => x14 (ix3 0 d n)) (fun j n => x15 (ix3 0 j n)) n

/-- The layer's output, the tokens of all batch entries one after another. -/
def result (x0 : (⟨3, ![32, 4, 1024]⟩ : Shape).Idx → EReal) (x1 : (⟨3, ![32, 4, 256]⟩ : Shape).Idx → EReal) (x2 : (⟨3, ![8, 128, 128]⟩ : Shape).Idx → EReal) (x3 : (⟨4, ![1, 32, 30, 1024]⟩ : Shape).Idx → EReal) (x4 : (⟨2, ![128, 1024]⟩ : Shape).Idx → EReal) (x5 : (⟨2, ![128, 1024]⟩ : Shape).Idx → EReal) (x6 : (⟨3, ![1, 256, 1024]⟩ : Shape).Idx → EReal) (x7 : (⟨3, ![1, 31, 1024]⟩ : Shape).Idx → EReal) (x8 : (⟨2, ![1, 1024]⟩ : Shape).Idx → EReal) (x9 : (⟨2, ![1, 1024]⟩ : Shape).Idx → EReal) (x10 : (⟨2, ![1, 1024]⟩ : Shape).Idx → EReal) (x11 : (⟨3, ![1, 1024, 1024]⟩ : Shape).Idx → EReal) (x12 : (⟨3, ![1, 1024, 1024]⟩ : Shape).Idx → EReal) (x13 : (⟨2, ![1, 1024]⟩ : Shape).Idx → EReal) (x14 : (⟨3, ![1, 1024, 5632]⟩ : Shape).Idx → EReal) (x15 : (⟨3, ![1, 2816, 1024]⟩ : Shape).Idx → EReal) : (⟨2, ![128, 1024]⟩ : Shape).Idx → EReal := fun i =>
  entry x0 x1 x2 x3 x4 x5 x6 x7 x8 x9 x10 x11 x12 x13 x14 x15 ⟨(i 0).val / 4, by have h : (i 0).val < 128 := (i 0).isLt; omega⟩ ⟨(i 0).val % 4, by omega⟩ (i 1)

/-- The rows kept for the next step: the last 30 of each batch entry. -/
def kept (x2 : (⟨3, ![8, 128, 128]⟩ : Shape).Idx → EReal) (x3 : (⟨4, ![1, 32, 30, 1024]⟩ : Shape).Idx → EReal) : (⟨3, ![30, 32, 1024]⟩ : Shape).Idx → EReal := fun i => erow x2 x3 (i 1) ((i 0).val + 4) (i 2)

end Cert.Sample

end
-- ==== Proof.SampleStage.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleSpec

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! What the body keeps in its staging buffer: the convolution, by tiles of 128 columns. -/

/-- Row `s` of batch entry `b`: the kept rows first, and then the entry's own. -/
def krow (x2 : Vec Ideal S8x128x128 .f32) (x3 : Vec Ideal S30x32x1024 .f32) (b : Fin 32) (s : ℕ) (n : Fin 1024) : EReal :=
  if h : s < 30 then x3 (ix3 ⟨s, h⟩ b n) else if h : s - 30 < 4 then x2 (ix3 ⟨n.val / 128, by omega⟩ ⟨4 * b.val + (s - 30), by omega⟩ ⟨n.val % 128, by omega⟩) else 0

/-- The convolution's results of row `r`, which is token `r mod 4` of batch entry `r / 4`. -/
def czrow (x2 : Vec Ideal S8x128x128 .f32) (x3 : Vec Ideal S30x32x1024 .f32) (x6 : Vec Ideal S31x1024 .f32) (x7 : Vec Ideal S1x1024 .f32) (r : Fin 128) (n : Fin 1024) : EReal :=
  Merge.conv (fun k => krow x2 x3 ⟨r.val / 4, by omega⟩ (k.val + r.val % 4)) (fun k n => x6 (ix2 k n)) (fun n => x7 (ix2 0 n)) n

/-- The staging buffer. -/
def cbuf (x2 : Vec Ideal S8x128x128 .f32) (x3 : Vec Ideal S30x32x1024 .f32) (x6 : Vec Ideal S31x1024 .f32) (x7 : Vec Ideal S1x1024 .f32) : Vec Ideal S8x128x128 .f32 :=
  fun j => czrow x2 x3 x6 x7 (j 1) ⟨128 * (j 0).val + (j 2).val, by have := (j 0).isLt; have := (j 2).isLt; simp at *; omega⟩

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

/-- A load of a kept row. -/
theorem st_at (B : LoadRect S30x32x1024) (z : B.shape.Idx) (b : Fin 32) (s : ℕ) (n : Fin 1024) (hs : s < 30) (h0 : B.off 0 + B.stride 0 * (z 0).val = s)
    (h1 : B.off 1 + B.stride 1 * (z 1).val = b.val) (h2 : B.off 2 + B.stride 2 * (z 2).val = n.val) : x3 (B.idx z) = krow x2 x3 b s n := by
  unfold krow
  rw [dif_pos hs]
  refine congrArg x3 ?_
  funext a
  match a with
  | 0 => exact Fin.ext h0
  | 1 => exact Fin.ext h1
  | 2 => exact Fin.ext h2

/-- A load of the entries' own rows. -/
theorem ut_at (B : LoadRect S8x128x128) (z : B.shape.Idx) (b : Fin 32) (s : ℕ) (n : Fin 1024) (hs : 30 ≤ s) (hs' : s - 30 < 4) (h0 : B.off 0 + B.stride 0 * (z 0).val = n.val / 128)
    (h1 : B.off 1 + B.stride 1 * (z 1).val = 4 * b.val + (s - 30)) (h2 : B.off 2 + B.stride 2 * (z 2).val = n.val % 128) : x2 (B.idx z) = krow x2 x3 b s n := by
  unfold krow
  rw [dif_neg (by omega), dif_pos hs']
  refine congrArg x2 ?_
  funext a
  match a with
  | 0 => exact Fin.ext h0
  | 1 => exact Fin.ext h1
  | 2 => exact Fin.ext h2

/-- A load of part of a row of the filter reads the filter's row. -/
theorem tap_at (B : LoadRect S31x1024) (z : B.shape.Idx) (k : Fin 31) (n : Fin 1024) (h0 : B.off 0 + B.stride 0 * (z 0).val = k.val) (h1 : B.off 1 + B.stride 1 * (z 1).val = n.val) :
    x6 (B.idx z) = x6 (ix2 k n) := by
  refine congrArg x6 ?_
  funext a
  match a with
  | 0 => exact Fin.ext h0
  | 1 => exact Fin.ext h1

/-- A load of part of the bias reads the bias. -/
theorem bias_at (B : LoadRect S1x1024) (z : B.shape.Idx) (n : Fin 1024) (h1 : B.off 1 + B.stride 1 * (z 1).val = n.val) :
    x7 (B.idx z) = x7 (ix2 0 n) := by
  refine congrArg x7 ?_
  funext a
  match a with
  | 0 => exact Fin.ext (by have h : (B.idx z 0).val < 1 := (B.idx z 0).isLt; show (B.idx z 0).val = 0; omega)
  | 1 => exact Fin.ext h1

end Cert.Kernel3Ideal.Block

end
-- ==== Proof.SampleTile0.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 0 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 0, rows 3, 7, … of the staging buffer. -/
theorem tile_0_3 (x : S1x32x128.Idx) (j : S8x128x128.Idx) (h0 : (j 0).val = 0) (h1 : (j 1).val = 3 + 4 * (x 1).val) (h2 : (j 2).val = (x 2).val) :
    (k0_pay54 (kernelRun0_A.sl.r_48 c arg3 harg3 arg4 harg4 arg7 harg7 arg8 harg8 x2 x3 x6 x7) (kernelRun0_A.sl.r_49 c arg3 harg3 x2) (View.readAt (Elt Ideal) arg7.view (Rect.unit (s := S31x1024) ![28, 0] S1x128.size inb_S31x1024_S1x128_28_0).toLoadRect (harg7.unread x6)) (View.readAt (Elt Ideal) arg3.view { off := ![0, 2, 0], size := S1x32x128.size, stride := ![1, 4, 1], inb := inb_S8x128x128_S1x32x128_0_2_0_s_1_4_1 } (harg3.unread x2)) (View.readAt (Elt Ideal) arg7.view (Rect.unit (s := S31x1024) ![29, 0] S1x128.size inb_S31x1024_S1x128_29_0).toLoadRect (harg7.unread x6)) (View.readAt (Elt Ideal) arg3.view { off := ![0, 3, 0], size := S1x32x128.size, stride := ![1, 4, 1], inb := inb_S8x128x128_S1x32x128_0_3_0_s_1_4_1 } (harg3.unread x2)) (View.readAt (Elt Ideal) arg7.view (Rect.unit (s := S31x1024) ![30, 0] S1x128.size inb_S31x1024_S1x128_30_0).toLoadRect (harg7.unread x6))) x = cbuf x2 x3 x6 x7 j := by
  have g1 : (x 1).val < 32 := (x 1).isLt
  have g2 : (x 2).val < 128 := (x 2).isLt
  simp only [kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38]
  pointwise [k0_pay42, k0_pay43, k0_pay44, k0_pay45, k0_pay46, k0_pay47, k0_pay48, k0_pay49, k0_pay50, k0_pay51, k0_pay52, k0_pay53, k0_pay54]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 0, rows 2, 6, … of the staging buffer. -/
theorem tile_0_2 (x : S1x32x128.Idx) (j : S8x128x128.Idx) (h0 : (j 0).val = 0) (h1 : (j 1).val = 2 + 4 * (x 1).val) (h2 : (j 2).val = (x 2).val) :
    (k0_pay41 (kernelRun0_A.sl.r_36 c arg3 harg3 arg4 harg4 arg7 harg7 arg8 harg8 x2 x3 x6 x7) (kernelRun0_A.sl.r_37 c arg3 harg3 x2) (View.readAt (Elt Ideal) arg7.view (Rect.unit (s := S31x1024) ![30, 0] S1x128.size inb_S31x1024_S1x128_30_0).toLoadRect (harg7.unread x6))) x = cbuf x2 x3 x6 x7 j := by
  have g1 : (x 1).val < 32 := (x 1).isLt
  have g2 : (x 2).val < 128 := (x 2).isLt
  simp only [kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24]
  pointwise [k0_pay27, k0_pay28, k0_pay29, k0_pay30, k0_pay31, k0_pay32, k0_pay33, k0_pay34, k0_pay35, k0_pay36, k0_pay37, k0_pay38, k0_pay39, k0_pay40, k0_pay41]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 0, rows 1, 5, … of the staging buffer. -/
theorem tile_0_1 (x : S1x32x128.Idx) (j : S8x128x128.Idx) (h0 : (j 0).val = 0) (h1 : (j 1).val = 1 + 4 * (x 1).val) (h2 : (j 2).val = (x 2).val) :
    (k0_pay26 (kernelRun0_A.sl.r_22 c arg4 harg4 arg7 harg7 arg8 harg8 x3 x6 x7) (kernelRun0_A.sl.r_23 c arg4 harg4 x3) (View.readAt (Elt Ideal) arg7.view (Rect.unit (s := S31x1024) ![27, 0] S1x128.size inb_S31x1024_S1x128_27_0).toLoadRect (harg7.unread x6)) (View.readAt (Elt Ideal) arg4.view (Rect.unit (s := S30x32x1024) ![29, 0, 0] S1x32x128.size inb_S30x32x1024_S1x32x128_29_0_0).toLoadRect (harg4.unread x3)) (View.readAt (Elt Ideal) arg7.view (Rect.unit (s := S31x1024) ![28, 0] S1x128.size inb_S31x1024_S1x128_28_0).toLoadRect (harg7.unread x6)) (View.readAt (Elt Ideal) arg3.view { off := ![0, 0, 0], size := S1x32x128.size, stride := ![1, 4, 1], inb := inb_S8x128x128_S1x32x128_0_0_0_s_1_4_1 } (harg3.unread x2)) (View.readAt (Elt Ideal) arg7.view (Rect.unit (s := S31x1024) ![29, 0] S1x128.size inb_S31x1024_S1x128_29_0).toLoadRect (harg7.unread x6)) (View.readAt (Elt Ideal) arg3.view { off := ![0, 1, 0], size := S1x32x128.size, stride := ![1, 4, 1], inb := inb_S8x128x128_S1x32x128_0_1_0_s_1_4_1 } (harg3.unread x2)) (View.readAt (Elt Ideal) arg7.view (Rect.unit (s := S31x1024) ![30, 0] S1x128.size inb_S31x1024_S1x128_30_0).toLoadRect (harg7.unread x6))) x = cbuf x2 x3 x6 x7 j := by
  have g1 : (x 1).val < 32 := (x 1).isLt
  have g2 : (x 2).val < 128 := (x 2).isLt
  simp only [kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12]
  pointwise [k0_pay14, k0_pay15, k0_pay16, k0_pay17, k0_pay18, k0_pay19, k0_pay20, k0_pay21, k0_pay22, k0_pay23, k0_pay24, k0_pay25, k0_pay26]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 0, rows 0, 4, … of the staging buffer. -/
theorem tile_0_0 (x : S1x32x128.Idx) (j : S8x128x128.Idx) (h0 : (j 0).val = 0) (h1 : (j 1).val = 0 + 4 * (x 1).val) (h2 : (j 2).val = (x 2).val) :
    (k0_pay13 (kernelRun0_A.sl.r_10 c arg4 harg4 arg7 harg7 arg8 harg8 x3 x6 x7) (kernelRun0_A.sl.r_11 c arg4 harg4 x3) (View.readAt (Elt Ideal) arg7.view (Rect.unit (s := S31x1024) ![29, 0] S1x128.size inb_S31x1024_S1x128_29_0).toLoadRect (harg7.unread x6)) (View.readAt (Elt Ideal) arg3.view { off := ![0, 0, 0], size := S1x32x128.size, stride := ![1, 4, 1], inb := inb_S8x128x128_S1x32x128_0_0_0_s_1_4_1 } (harg3.unread x2)) (View.readAt (Elt Ideal) arg7.view (Rect.unit (s := S31x1024) ![30, 0] S1x128.size inb_S31x1024_S1x128_30_0).toLoadRect (harg7.unread x6))) x = cbuf x2 x3 x6 x7 j := by
  have g1 : (x 1).val < 32 := (x 1).isLt
  have g2 : (x 2).val < 128 := (x 2).isLt
  simp only [kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  pointwise [k0_pay1, k0_pay2, k0_pay3, k0_pay4, k0_pay5, k0_pay6, k0_pay7, k0_pay8, k0_pay9, k0_pay10, k0_pay11, k0_pay12, k0_pay13]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile1.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 1 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 1, rows 3, 7, … of the staging buffer. -/
theorem tile_1_3 (x : S1x32x128.Idx) (j : S8x128x128.Idx) (h0 : (j 0).val = 1) (h1 : (j 1).val = 3 + 4 * (x 1).val) (h2 : (j 2).val = (x 2).val) :
    (k0_pay138 (kernelRun0_A.sl.r_100 c arg3 harg3 arg4 harg4 arg7 harg7 arg8 harg8 x2 x3 x6 x7) (kernelRun0_A.sl.r_101 c arg3 harg3 x2) (View.readAt (Elt Ideal) arg7.view (Rect.unit (s := S31x1024) ![30, 128] S1x128.size inb_S31x1024_S1x128_30_128).toLoadRect (harg7.unread x6))) x = cbuf x2 x3 x6 x7 j := by
  have g1 : (x 1).val < 32 := (x 1).isLt
  have g2 : (x 2).val < 128 := (x 2).isLt
  simp only [kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88]
  pointwise [k0_pay124, k0_pay125, k0_pay126, k0_pay127, k0_pay128, k0_pay129, k0_pay130, k0_pay131, k0_pay132, k0_pay133, k0_pay134, k0_pay135, k0_pay136, k0_pay137, k0_pay138]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 1, rows 2, 6, … of the staging buffer. -/
theorem tile_1_2 (x : S1x32x128.Idx) (j : S8x128x128.Idx) (h0 : (j 0).val = 1) (h1 : (j 1).val = 2 + 4 * (x 1).val) (h2 : (j 2).val = (x 2).val) :
    (k0_pay123 (kernelRun0_A.sl.r_86 c arg4 harg4 arg7 harg7 arg8 harg8 x3 x6 x7) (kernelRun0_A.sl.r_87 c arg4 harg4 x3) (View.readAt (Elt Ideal) arg7.view (Rect.unit (s := S31x1024) ![27, 128] S1x128.size inb_S31x1024_S1x128_27_128).toLoadRect (harg7.unread x6)) (View.readAt (Elt Ideal) arg3.view { off := ![1, 0, 0], size := S1x32x128.size, stride := ![1, 4, 1], inb := inb_S8x128x128_S1x32x128_1_0_0_s_1_4_1 } (harg3.unread x2)) (View.readAt (Elt Ideal) arg7.view (Rect.unit (s := S31x1024) ![28, 128] S1x128.size inb_S31x1024_S1x128_28_128).toLoadRect (harg7.unread x6)) (View.readAt (Elt Ideal) arg3.view { off := ![1, 1, 0], size := S1x32x128.size, stride := ![1, 4, 1], inb := inb_S8x128x128_S1x32x128_1_1_0_s_1_4_1 } (harg3.unread x2)) (View.readAt (Elt Ideal) arg7.view (Rect.unit (s := S31x1024) ![29, 128] S1x128.size inb_S31x1024_S1x128_29_128).toLoadRect (harg7.unread x6)) (View.readAt (Elt Ideal) arg3.view { off := ![1, 2, 0], size := S1x32x128.size, stride := ![1, 4, 1], inb := inb_S8x128x128_S1x32x128_1_2_0_s_1_4_1 } (harg3.unread x2)) (View.readAt (Elt Ideal) arg7.view (Rect.unit (s := S31x1024) ![30, 128] S1x128.size inb_S31x1024_S1x128_30_128).toLoadRect (harg7.unread x6))) x = cbuf x2 x3 x6 x7 j := by
  have g1 : (x 1).val < 32 := (x 1).isLt
  have g2 : (x 2).val < 128 := (x 2).isLt
  simp only [kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76]
  pointwise [k0_pay111, k0_pay112, k0_pay113, k0_pay114, k0_pay115, k0_pay116, k0_pay117, k0_pay118, k0_pay119, k0_pay120, k0_pay121, k0_pay122, k0_pay123]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 1, rows 1, 5, … of the staging buffer. -/
theorem tile_1_1 (x : S1x32x128.Idx) (j : S8x128x128.Idx) (h0 : (j 0).val = 1) (h1 : (j 1).val = 1 + 4 * (x 1).val) (h2 : (j 2).val = (x 2).val) :
    (k0_pay110 (kernelRun0_A.sl.r_74 c arg4 harg4 arg7 harg7 arg8 harg8 x3 x6 x7) (kernelRun0_A.sl.r_75 c arg3 harg3 x2) (View.readAt (Elt Ideal) arg7.view (Rect.unit (s := S31x1024) ![29, 128] S1x128.size inb_S31x1024_S1x128_29_128).toLoadRect (harg7.unread x6)) (View.readAt (Elt Ideal) arg3.view { off := ![1, 1, 0], size := S1x32x128.size, stride := ![1, 4, 1], inb := inb_S8x128x128_S1x32x128_1_1_0_s_1_4_1 } (harg3.unread x2)) (View.readAt (Elt Ideal) arg7.view (Rect.unit (s := S31x1024) ![30, 128] S1x128.size inb_S31x1024_S1x128_30_128).toLoadRect (harg7.unread x6))) x = cbuf x2 x3 x6 x7 j := by
  have g1 : (x 1).val < 32 := (x 1).isLt
  have g2 : (x 2).val < 128 := (x 2).isLt
  simp only [kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64]
  pointwise [k0_pay98, k0_pay99, k0_pay100, k0_pay101, k0_pay102, k0_pay103, k0_pay104, k0_pay105, k0_pay106, k0_pay107, k0_pay108, k0_pay109, k0_pay110]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 1, rows 0, 4, … of the staging buffer. -/
theorem tile_1_0 (x : S1x32x128.Idx) (j : S8x128x128.Idx) (h0 : (j 0).val = 1) (h1 : (j 1).val = 0 + 4 * (x 1).val) (h2 : (j 2).val = (x 2).val) :
    (kernelRun0_A.sl.r_63 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51]
  pointwise [k0_pay85, k0_pay86, k0_pay87, k0_pay88, k0_pay89, k0_pay90, k0_pay91, k0_pay92, k0_pay93, k0_pay94, k0_pay95, k0_pay96, k0_pay97]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile2.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 2 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 2, rows 3, 7, … of the staging buffer. -/
theorem tile_2_3 (x : S1x32x128.Idx) (j : S8x128x128.Idx) (h0 : (j 0).val = 2) (h1 : (j 1).val = 3 + 4 * (x 1).val) (h2 : (j 2).val = (x 2).val) :
    (k0_pay220 (kernelRun0_A.sl.r_150 c arg4 harg4 arg7 harg7 arg8 harg8 x3 x6 x7) (kernelRun0_A.sl.r_151 c arg3 harg3 x2) (View.readAt (Elt Ideal) arg7.view (Rect.unit (s := S31x1024) ![27, 256] S1x128.size inb_S31x1024_S1x128_27_256).toLoadRect (harg7.unread x6)) (View.readAt (Elt Ideal) arg3.view { off := ![2, 1, 0], size := S1x32x128.size, stride := ![1, 4, 1], inb := inb_S8x128x128_S1x32x128_2_1_0_s_1_4_1 } (harg3.unread x2)) (View.readAt (Elt Ideal) arg7.view (Rect.unit (s := S31x1024) ![28, 256] S1x128.size inb_S31x1024_S1x128_28_256).toLoadRect (harg7.unread x6)) (View.readAt (Elt Ideal) arg3.view { off := ![2, 2, 0], size := S1x32x128.size, stride := ![1, 4, 1], inb := inb_S8x128x128_S1x32x128_2_2_0_s_1_4_1 } (harg3.unread x2)) (View.readAt (Elt Ideal) arg7.view (Rect.unit (s := S31x1024) ![29, 256] S1x128.size inb_S31x1024_S1x128_29_256).toLoadRect (harg7.unread x6)) (View.readAt (Elt Ideal) arg3.view { off := ![2, 3, 0], size := S1x32x128.size, stride := ![1, 4, 1], inb := inb_S8x128x128_S1x32x128_2_3_0_s_1_4_1 } (harg3.unread x2)) (View.readAt (Elt Ideal) arg7.view (Rect.unit (s := S31x1024) ![30, 256] S1x128.size inb_S31x1024_S1x128_30_256).toLoadRect (harg7.unread x6))) x = cbuf x2 x3 x6 x7 j := by
  have g1 : (x 1).val < 32 := (x 1).isLt
  have g2 : (x 2).val < 128 := (x 2).isLt
  simp only [kernelRun0_A.sl.r_151, kernelRun0_A.sl.r_150, kernelRun0_A.sl.r_149, kernelRun0_A.sl.r_148, kernelRun0_A.sl.r_147, kernelRun0_A.sl.r_146, kernelRun0_A.sl.r_145, kernelRun0_A.sl.r_144, kernelRun0_A.sl.r_143, kernelRun0_A.sl.r_142, kernelRun0_A.sl.r_141, kernelRun0_A.sl.r_140]
  pointwise [k0_pay208, k0_pay209, k0_pay210, k0_pay211, k0_pay212, k0_pay213, k0_pay214, k0_pay215, k0_pay216, k0_pay217, k0_pay218, k0_pay219, k0_pay220]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 2, rows 2, 6, … of the staging buffer. -/
theorem tile_2_2 (x : S1x32x128.Idx) (j : S8x128x128.Idx) (h0 : (j 0).val = 2) (h1 : (j 1).val = 2 + 4 * (x 1).val) (h2 : (j 2).val = (x 2).val) :
    (k0_pay207 (kernelRun0_A.sl.r_138 c arg3 harg3 arg4 harg4 arg7 harg7 arg8 harg8 x2 x3 x6 x7) (kernelRun0_A.sl.r_139 c arg3 harg3 x2) (View.readAt (Elt Ideal) arg7.view (Rect.unit (s := S31x1024) ![29, 256] S1x128.size inb_S31x1024_S1x128_29_256).toLoadRect (harg7.unread x6)) (View.readAt (Elt Ideal) arg3.view { off := ![2, 2, 0], size := S1x32x128.size, stride := ![1, 4, 1], inb := inb_S8x128x128_S1x32x128_2_2_0_s_1_4_1 } (harg3.unread x2)) (View.readAt (Elt Ideal) arg7.view (Rect.unit (s := S31x1024) ![30, 256] S1x128.size inb_S31x1024_S1x128_30_256).toLoadRect (harg7.unread x6))) x = cbuf x2 x3 x6 x7 j := by
  have g1 : (x 1).val < 32 := (x 1).isLt
  have g2 : (x 2).val < 128 := (x 2).isLt
  simp only [kernelRun0_A.sl.r_139, kernelRun0_A.sl.r_138, kernelRun0_A.sl.r_137, kernelRun0_A.sl.r_136, kernelRun0_A.sl.r_135, kernelRun0_A.sl.r_134, kernelRun0_A.sl.r_133, kernelRun0_A.sl.r_132, kernelRun0_A.sl.r_131, kernelRun0_A.sl.r_130, kernelRun0_A.sl.r_129, kernelRun0_A.sl.r_128]
  pointwise [k0_pay195, k0_pay196, k0_pay197, k0_pay198, k0_pay199, k0_pay200, k0_pay201, k0_pay202, k0_pay203, k0_pay204, k0_pay205, k0_pay206, k0_pay207]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 2, rows 1, 5, … of the staging buffer. -/
theorem tile_2_1 (x : S1x32x128.Idx) (j : S8x128x128.Idx) (h0 : (j 0).val = 2) (h1 : (j 1).val = 1 + 4 * (x 1).val) (h2 : (j 2).val = (x 2).val) :
    (kernelRun0_A.sl.r_127 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_127, kernelRun0_A.sl.r_126, kernelRun0_A.sl.r_125, kernelRun0_A.sl.r_124, kernelRun0_A.sl.r_123, kernelRun0_A.sl.r_122, kernelRun0_A.sl.r_121, kernelRun0_A.sl.r_120, kernelRun0_A.sl.r_119, kernelRun0_A.sl.r_118, kernelRun0_A.sl.r_117, kernelRun0_A.sl.r_116, kernelRun0_A.sl.r_115]
  pointwise [k0_pay182, k0_pay183, k0_pay184, k0_pay185, k0_pay186, k0_pay187, k0_pay188, k0_pay189, k0_pay190, k0_pay191, k0_pay192, k0_pay193, k0_pay194]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 2, rows 0, 4, … of the staging buffer. -/
theorem tile_2_0 (x : S1x32x128.Idx) (j : S8x128x128.Idx) (h0 : (j 0).val = 2) (h1 : (j 1).val = 0 + 4 * (x 1).val) (h2 : (j 2).val = (x 2).val) :
    (k0_pay181 (kernelRun0_A.sl.r_113 c arg4 harg4 arg7 harg7 arg8 harg8 x3 x6 x7) (kernelRun0_A.sl.r_114 c arg4 harg4 x3) (View.readAt (Elt Ideal) arg7.view (Rect.unit (s := S31x1024) ![28, 256] S1x128.size inb_S31x1024_S1x128_28_256).toLoadRect (harg7.unread x6)) (View.readAt (Elt Ideal) arg4.view (Rect.unit (s := S30x32x1024) ![29, 0, 256] S1x32x128.size inb_S30x32x1024_S1x32x128_29_0_256).toLoadRect (harg4.unread x3)) (View.readAt (Elt Ideal) arg7.view (Rect.unit (s := S31x1024) ![29, 256] S1x128.size inb_S31x1024_S1x128_29_256).toLoadRect (harg7.unread x6)) (View.readAt (Elt Ideal) arg3.view { off := ![2, 0, 0], size := S1x32x128.size, stride := ![1, 4, 1], inb := inb_S8x128x128_S1x32x128_2_0_0_s_1_4_1 } (harg3.unread x2)) (View.readAt (Elt Ideal) arg7.view (Rect.unit (s := S31x1024) ![30, 256] S1x128.size inb_S31x1024_S1x128_30_256).toLoadRect (harg7.unread x6))) x = cbuf x2 x3 x6 x7 j := by
  have g1 : (x 1).val < 32 := (x 1).isLt
  have g2 : (x 2).val < 128 := (x 2).isLt
  simp only [kernelRun0_A.sl.r_114, kernelRun0_A.sl.r_113, kernelRun0_A.sl.r_112, kernelRun0_A.sl.r_111, kernelRun0_A.sl.r_110, kernelRun0_A.sl.r_109, kernelRun0_A.sl.r_108, kernelRun0_A.sl.r_107, kernelRun0_A.sl.r_106, kernelRun0_A.sl.r_105, kernelRun0_A.sl.r_104, kernelRun0_A.sl.r_103]
  pointwise [k0_pay169, k0_pay170, k0_pay171, k0_pay172, k0_pay173, k0_pay174, k0_pay175, k0_pay176, k0_pay177, k0_pay178, k0_pay179, k0_pay180, k0_pay181]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile3.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 3 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 3, rows 3, 7, … of the staging buffer. -/
theorem tile_3_3 (x : S1x32x128.Idx) (j : S8x128x128.Idx) (h0 : (j 0).val = 3) (h1 : (j 1).val = 3 + 4 * (x 1).val) (h2 : (j 2).val = (x 2).val) :
    (k0_pay304 (kernelRun0_A.sl.r_200 c arg3 harg3 arg4 harg4 arg7 harg7 arg8 harg8 x2 x3 x6 x7) (kernelRun0_A.sl.r_201 c arg3 harg3 x2) (View.readAt (Elt Ideal) arg7.view (Rect.unit (s := S31x1024) ![29, 384] S1x128.size inb_S31x1024_S1x128_29_384).toLoadRect (harg7.unread x6)) (View.readAt (Elt Ideal) arg3.view { off := ![3, 3, 0], size := S1x32x128.size, stride := ![1, 4, 1], inb := inb_S8x128x128_S1x32x128_3_3_0_s_1_4_1 } (harg3.unread x2)) (View.readAt (Elt Ideal) arg7.view (Rect.unit (s := S31x1024) ![30, 384] S1x128.size inb_S31x1024_S1x128_30_384).toLoadRect (harg7.unread x6))) x = cbuf x2 x3 x6 x7 j := by
  have g1 : (x 1).val < 32 := (x 1).isLt
  have g2 : (x 2).val < 128 := (x 2).isLt
  simp only [kernelRun0_A.sl.r_201, kernelRun0_A.sl.r_200, kernelRun0_A.sl.r_199, kernelRun0_A.sl.r_198, kernelRun0_A.sl.r_197, kernelRun0_A.sl.r_196, kernelRun0_A.sl.r_195, kernelRun0_A.sl.r_194, kernelRun0_A.sl.r_193, kernelRun0_A.sl.r_192, kernelRun0_A.sl.r_191, kernelRun0_A.sl.r_190]
  pointwise [k0_pay292, k0_pay293, k0_pay294, k0_pay295, k0_pay296, k0_pay297, k0_pay298, k0_pay299, k0_pay300, k0_pay301, k0_pay302, k0_pay303, k0_pay304]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 3, rows 2, 6, … of the staging buffer. -/
theorem tile_3_2 (x : S1x32x128.Idx) (j : S8x128x128.Idx) (h0 : (j 0).val = 3) (h1 : (j 1).val = 2 + 4 * (x 1).val) (h2 : (j 2).val = (x 2).val) :
    (kernelRun0_A.sl.r_189 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_189, kernelRun0_A.sl.r_188, kernelRun0_A.sl.r_187, kernelRun0_A.sl.r_186, kernelRun0_A.sl.r_185, kernelRun0_A.sl.r_184, kernelRun0_A.sl.r_183, kernelRun0_A.sl.r_182, kernelRun0_A.sl.r_181, kernelRun0_A.sl.r_180, kernelRun0_A.sl.r_179, kernelRun0_A.sl.r_178, kernelRun0_A.sl.r_177]
  pointwise [k0_pay279, k0_pay280, k0_pay281, k0_pay282, k0_pay283, k0_pay284, k0_pay285, k0_pay286, k0_pay287, k0_pay288, k0_pay289, k0_pay290, k0_pay291]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 3, rows 1, 5, … of the staging buffer. -/
theorem tile_3_1 (x : S1x32x128.Idx) (j : S8x128x128.Idx) (h0 : (j 0).val = 3) (h1 : (j 1).val = 1 + 4 * (x 1).val) (h2 : (j 2).val = (x 2).val) :
    (k0_pay278 (kernelRun0_A.sl.r_175 c arg4 harg4 arg7 harg7 arg8 harg8 x3 x6 x7) (kernelRun0_A.sl.r_176 c arg4 harg4 x3) (View.readAt (Elt Ideal) arg7.view (Rect.unit (s := S31x1024) ![28, 384] S1x128.size inb_S31x1024_S1x128_28_384).toLoadRect (harg7.unread x6)) (View.readAt (Elt Ideal) arg3.view { off := ![3, 0, 0], size := S1x32x128.size, stride := ![1, 4, 1], inb := inb_S8x128x128_S1x32x128_3_0_0_s_1_4_1 } (harg3.unread x2)) (View.readAt (Elt Ideal) arg7.view (Rect.unit (s := S31x1024) ![29, 384] S1x128.size inb_S31x1024_S1x128_29_384).toLoadRect (harg7.unread x6)) (View.readAt (Elt Ideal) arg3.view { off := ![3, 1, 0], size := S1x32x128.size, stride := ![1, 4, 1], inb := inb_S8x128x128_S1x32x128_3_1_0_s_1_4_1 } (harg3.unread x2)) (View.readAt (Elt Ideal) arg7.view (Rect.unit (s := S31x1024) ![30, 384] S1x128.size inb_S31x1024_S1x128_30_384).toLoadRect (harg7.unread x6))) x = cbuf x2 x3 x6 x7 j := by
  have g1 : (x 1).val < 32 := (x 1).isLt
  have g2 : (x 2).val < 128 := (x 2).isLt
  simp only [kernelRun0_A.sl.r_176, kernelRun0_A.sl.r_175, kernelRun0_A.sl.r_174, kernelRun0_A.sl.r_173, kernelRun0_A.sl.r_172, kernelRun0_A.sl.r_171, kernelRun0_A.sl.r_170, kernelRun0_A.sl.r_169, kernelRun0_A.sl.r_168, kernelRun0_A.sl.r_167, kernelRun0_A.sl.r_166, kernelRun0_A.sl.r_165]
  pointwise [k0_pay266, k0_pay267, k0_pay268, k0_pay269, k0_pay270, k0_pay271, k0_pay272, k0_pay273, k0_pay274, k0_pay275, k0_pay276, k0_pay277, k0_pay278]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 3, rows 0, 4, … of the staging buffer. -/
theorem tile_3_0 (x : S1x32x128.Idx) (j : S8x128x128.Idx) (h0 : (j 0).val = 3) (h1 : (j 1).val = 0 + 4 * (x 1).val) (h2 : (j 2).val = (x 2).val) :
    (k0_pay265 (kernelRun0_A.sl.r_163 c arg4 harg4 arg7 harg7 arg8 harg8 x3 x6 x7) (kernelRun0_A.sl.r_164 c arg3 harg3 x2) (View.readAt (Elt Ideal) arg7.view (Rect.unit (s := S31x1024) ![30, 384] S1x128.size inb_S31x1024_S1x128_30_384).toLoadRect (harg7.unread x6))) x = cbuf x2 x3 x6 x7 j := by
  have g1 : (x 1).val < 32 := (x 1).isLt
  have g2 : (x 2).val < 128 := (x 2).isLt
  simp only [kernelRun0_A.sl.r_164, kernelRun0_A.sl.r_163, kernelRun0_A.sl.r_162, kernelRun0_A.sl.r_161, kernelRun0_A.sl.r_160, kernelRun0_A.sl.r_159, kernelRun0_A.sl.r_158, kernelRun0_A.sl.r_157, kernelRun0_A.sl.r_156, kernelRun0_A.sl.r_155, kernelRun0_A.sl.r_154, kernelRun0_A.sl.r_153, kernelRun0_A.sl.v3130, kernelRun0_A.sl.v3128, kernelRun0_A.sl.v3127]
  pointwise [k0_pay253, k0_pay254, k0_pay255, k0_pay256, k0_pay257, k0_pay258, k0_pay259, k0_pay260, k0_pay261, k0_pay262, k0_pay263, k0_pay264, k0_pay265]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile4.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 4 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 4, rows 3, 7, … of the staging buffer. -/
theorem tile_4_3 (x : S1x32x128.Idx) (j : S8x128x128.Idx) (h0 : (j 0).val = 4) (h1 : (j 1).val = 3 + 4 * (x 1).val) (h2 : (j 2).val = (x 2).val) :
    (kernelRun0_A.sl.r_253 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_253, kernelRun0_A.sl.r_252, kernelRun0_A.sl.r_251, kernelRun0_A.sl.r_250, kernelRun0_A.sl.r_249, kernelRun0_A.sl.r_248, kernelRun0_A.sl.r_247, kernelRun0_A.sl.r_246, kernelRun0_A.sl.r_245, kernelRun0_A.sl.r_244, kernelRun0_A.sl.r_243, kernelRun0_A.sl.r_242, kernelRun0_A.sl.r_241]
  pointwise [k0_pay376, k0_pay377, k0_pay378, k0_pay379, k0_pay380, k0_pay381, k0_pay382, k0_pay383, k0_pay384, k0_pay385, k0_pay386, k0_pay387, k0_pay388]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 4, rows 2, 6, … of the staging buffer. -/
theorem tile_4_2 (x : S1x32x128.Idx) (j : S8x128x128.Idx) (h0 : (j 0).val = 4) (h1 : (j 1).val = 2 + 4 * (x 1).val) (h2 : (j 2).val = (x 2).val) :
    (k0_pay375 (kernelRun0_A.sl.r_239 c arg4 harg4 arg7 harg7 arg8 harg8 x3 x6 x7) (kernelRun0_A.sl.r_240 c arg3 harg3 x2) (View.readAt (Elt Ideal) arg7.view (Rect.unit (s := S31x1024) ![28, 512] S1x128.size inb_S31x1024_S1x128_28_512).toLoadRect (harg7.unread x6)) (View.readAt (Elt Ideal) arg3.view { off := ![4, 1, 0], size := S1x32x128.size, stride := ![1, 4, 1], inb := inb_S8x128x128_S1x32x128_4_1_0_s_1_4_1 } (harg3.unread x2)) (View.readAt (Elt Ideal) arg7.view (Rect.unit (s := S31x1024) ![29, 512] S1x128.size inb_S31x1024_S1x128_29_512).toLoadRect (harg7.unread x6)) (View.readAt (Elt Ideal) arg3.view { off := ![4, 2, 0], size := S1x32x128.size, stride := ![1, 4, 1], inb := inb_S8x128x128_S1x32x128_4_2_0_s_1_4_1 } (harg3.unread x2)) (View.readAt (Elt Ideal) arg7.view (Rect.unit (s := S31x1024) ![30, 512] S1x128.size inb_S31x1024_S1x128_30_512).toLoadRect (harg7.unread x6))) x = cbuf x2 x3 x6 x7 j := by
  have g1 : (x 1).val < 32 := (x 1).isLt
  have g2 : (x 2).val < 128 := (x 2).isLt
  simp only [kernelRun0_A.sl.r_240, kernelRun0_A.sl.r_239, kernelRun0_A.sl.r_238, kernelRun0_A.sl.r_237, kernelRun0_A.sl.r_236, kernelRun0_A.sl.r_235, kernelRun0_A.sl.r_234, kernelRun0_A.sl.r_233, kernelRun0_A.sl.r_232, kernelRun0_A.sl.r_231, kernelRun0_A.sl.r_230, kernelRun0_A.sl.r_229]
  pointwise [k0_pay363, k0_pay364, k0_pay365, k0_pay366, k0_pay367, k0_pay368, k0_pay369, k0_pay370, k0_pay371, k0_pay372, k0_pay373, k0_pay374, k0_pay375]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 4, rows 1, 5, … of the staging buffer. -/
theorem tile_4_1 (x : S1x32x128.Idx) (j : S8x128x128.Idx) (h0 : (j 0).val = 4) (h1 : (j 1).val = 1 + 4 * (x 1).val) (h2 : (j 2).val = (x 2).val) :
    (k0_pay362 (kernelRun0_A.sl.r_227 c arg3 harg3 arg4 harg4 arg7 harg7 arg8 harg8 x2 x3 x6 x7) (kernelRun0_A.sl.r_228 c arg3 harg3 x2) (View.readAt (Elt Ideal) arg7.view (Rect.unit (s := S31x1024) ![30, 512] S1x128.size inb_S31x1024_S1x128_30_512).toLoadRect (harg7.unread x6))) x = cbuf x2 x3 x6 x7 j := by
  have g1 : (x 1).val < 32 := (x 1).isLt
  have g2 : (x 2).val < 128 := (x 2).isLt
  simp only [kernelRun0_A.sl.r_228, kernelRun0_A.sl.r_227, kernelRun0_A.sl.r_226, kernelRun0_A.sl.r_225, kernelRun0_A.sl.r_224, kernelRun0_A.sl.r_223, kernelRun0_A.sl.r_222, kernelRun0_A.sl.r_221, kernelRun0_A.sl.r_220, kernelRun0_A.sl.r_219, kernelRun0_A.sl.r_218, kernelRun0_A.sl.r_217, kernelRun0_A.sl.r_216, kernelRun0_A.sl.r_215]
  pointwise [k0_pay348, k0_pay349, k0_pay350, k0_pay351, k0_pay352, k0_pay353, k0_pay354, k0_pay355, k0_pay356, k0_pay357, k0_pay358, k0_pay359, k0_pay360, k0_pay361, k0_pay362]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 4, rows 0, 4, … of the staging buffer. -/
theorem tile_4_0 (x : S1x32x128.Idx) (j : S8x128x128.Idx) (h0 : (j 0).val = 4) (h1 : (j 1).val = 0 + 4 * (x 1).val) (h2 : (j 2).val = (x 2).val) :
    (k0_pay347 (kernelRun0_A.sl.r_213 c arg4 harg4 arg7 harg7 arg8 harg8 x3 x6 x7) (kernelRun0_A.sl.r_214 c arg4 harg4 x3) (View.readAt (Elt Ideal) arg7.view (Rect.unit (s := S31x1024) ![27, 512] S1x128.size inb_S31x1024_S1x128_27_512).toLoadRect (harg7.unread x6)) (View.readAt (Elt Ideal) arg4.view (Rect.unit (s := S30x32x1024) ![28, 0, 512] S1x32x128.size inb_S30x32x1024_S1x32x128_28_0_512).toLoadRect (harg4.unread x3)) (View.readAt (Elt Ideal) arg7.view (Rect.unit (s := S31x1024) ![28, 512] S1x128.size inb_S31x1024_S1x128_28_512).toLoadRect (harg7.unread x6)) (View.readAt (Elt Ideal) arg4.view (Rect.unit (s := S30x32x1024) ![29, 0, 512] S1x32x128.size inb_S30x32x1024_S1x32x128_29_0_512).toLoadRect (harg4.unread x3)) (View.readAt (Elt Ideal) arg7.view (Rect.unit (s := S31x1024) ![29, 512] S1x128.size inb_S31x1024_S1x128_29_512).toLoadRect (harg7.unread x6)) (View.readAt (Elt Ideal) arg3.view { off := ![4, 0, 0], size := S1x32x128.size, stride := ![1, 4, 1], inb := inb_S8x128x128_S1x32x128_4_0_0_s_1_4_1 } (harg3.unread x2)) (View.readAt (Elt Ideal) arg7.view (Rect.unit (s := S31x1024) ![30, 512] S1x128.size inb_S31x1024_S1x128_30_512).toLoadRect (harg7.unread x6))) x = cbuf x2 x3 x6 x7 j := by
  have g1 : (x 1).val < 32 := (x 1).isLt
  have g2 : (x 2).val < 128 := (x 2).isLt
  simp only [kernelRun0_A.sl.r_214, kernelRun0_A.sl.r_213, kernelRun0_A.sl.r_212, kernelRun0_A.sl.r_211, kernelRun0_A.sl.r_210, kernelRun0_A.sl.r_209, kernelRun0_A.sl.r_208, kernelRun0_A.sl.r_207, kernelRun0_A.sl.r_206, kernelRun0_A.sl.r_205, kernelRun0_A.sl.r_204, kernelRun0_A.sl.r_203]
  pointwise [k0_pay335, k0_pay336, k0_pay337, k0_pay338, k0_pay339, k0_pay340, k0_pay341, k0_pay342, k0_pay343, k0_pay344, k0_pay345, k0_pay346, k0_pay347]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile5.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 5 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 5, rows 3, 7, … of the staging buffer. -/
theorem tile_5_3 (x : S1x32x128.Idx) (j : S8x128x128.Idx) (h0 : (j 0).val = 5) (h1 : (j 1).val = 3 + 4 * (x 1).val) (h2 : (j 2).val = (x 2).val) :
    (k0_pay472 (kernelRun0_A.sl.r_302 c arg3 harg3 arg4 harg4 arg7 harg7 arg8 harg8 x2 x3 x6 x7) (kernelRun0_A.sl.r_303 c arg3 harg3 x2) (View.readAt (Elt Ideal) arg7.view (Rect.unit (s := S31x1024) ![28, 640] S1x128.size inb_S31x1024_S1x128_28_640).toLoadRect (harg7.unread x6)) (View.readAt (Elt Ideal) arg3.view { off := ![5, 2, 0], size := S1x32x128.size, stride := ![1, 4, 1], inb := inb_S8x128x128_S1x32x128_5_2_0_s_1_4_1 } (harg3.unread x2)) (View.readAt (Elt Ideal) arg7.view (Rect.unit (s := S31x1024) ![29, 640] S1x128.size inb_S31x1024_S1x128_29_640).toLoadRect (harg7.unread x6)) (View.readAt (Elt Ideal) arg3.view { off := ![5, 3, 0], size := S1x32x128.size, stride := ![1, 4, 1], inb := inb_S8x128x128_S1x32x128_5_3_0_s_1_4_1 } (harg3.unread x2)) (View.readAt (Elt Ideal) arg7.view (Rect.unit (s := S31x1024) ![30, 640] S1x128.size inb_S31x1024_S1x128_30_640).toLoadRect (harg7.unread x6))) x = cbuf x2 x3 x6 x7 j := by
  have g1 : (x 1).val < 32 := (x 1).isLt
  have g2 : (x 2).val < 128 := (x 2).isLt
  simp only [kernelRun0_A.sl.r_303, kernelRun0_A.sl.r_302, kernelRun0_A.sl.r_301, kernelRun0_A.sl.r_300, kernelRun0_A.sl.r_299, kernelRun0_A.sl.r_298, kernelRun0_A.sl.r_297, kernelRun0_A.sl.r_296, kernelRun0_A.sl.r_295, kernelRun0_A.sl.r_294, kernelRun0_A.sl.r_293, kernelRun0_A.sl.r_292]
  pointwise [k0_pay460, k0_pay461, k0_pay462, k0_pay463, k0_pay464, k0_pay465, k0_pay466, k0_pay467, k0_pay468, k0_pay469, k0_pay470, k0_pay471, k0_pay472]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 5, rows 2, 6, … of the staging buffer. -/
theorem tile_5_2 (x : S1x32x128.Idx) (j : S8x128x128.Idx) (h0 : (j 0).val = 5) (h1 : (j 1).val = 2 + 4 * (x 1).val) (h2 : (j 2).val = (x 2).val) :
    (k0_pay459 (kernelRun0_A.sl.r_290 c arg3 harg3 arg4 harg4 arg7 harg7 arg8 harg8 x2 x3 x6 x7) (kernelRun0_A.sl.r_291 c arg3 harg3 x2) (View.readAt (Elt Ideal) arg7.view (Rect.unit (s := S31x1024) ![30, 640] S1x128.size inb_S31x1024_S1x128_30_640).toLoadRect (harg7.unread x6))) x = cbuf x2 x3 x6 x7 j := by
  have g1 : (x 1).val < 32 := (x 1).isLt
  have g2 : (x 2).val < 128 := (x 2).isLt
  simp only [kernelRun0_A.sl.r_291, kernelRun0_A.sl.r_290, kernelRun0_A.sl.r_289, kernelRun0_A.sl.r_288, kernelRun0_A.sl.r_287, kernelRun0_A.sl.r_286, kernelRun0_A.sl.r_285, kernelRun0_A.sl.r_284, kernelRun0_A.sl.r_283, kernelRun0_A.sl.r_282, kernelRun0_A.sl.r_281, kernelRun0_A.sl.r_280, kernelRun0_A.sl.r_279, kernelRun0_A.sl.r_278]
  pointwise [k0_pay445, k0_pay446, k0_pay447, k0_pay448, k0_pay449, k0_pay450, k0_pay451, k0_pay452, k0_pay453, k0_pay454, k0_pay455, k0_pay456, k0_pay457, k0_pay458, k0_pay459]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 5, rows 1, 5, … of the staging buffer. -/
theorem tile_5_1 (x : S1x32x128.Idx) (j : S8x128x128.Idx) (h0 : (j 0).val = 5) (h1 : (j 1).val = 1 + 4 * (x 1).val) (h2 : (j 2).val = (x 2).val) :
    (k0_pay444 (kernelRun0_A.sl.r_276 c arg4 harg4 arg7 harg7 arg8 harg8 x3 x6 x7) (kernelRun0_A.sl.r_277 c arg4 harg4 x3) (View.readAt (Elt Ideal) arg7.view (Rect.unit (s := S31x1024) ![27, 640] S1x128.size inb_S31x1024_S1x128_27_640).toLoadRect (harg7.unread x6)) (View.readAt (Elt Ideal) arg4.view (Rect.unit (s := S30x32x1024) ![29, 0, 640] S1x32x128.size inb_S30x32x1024_S1x32x128_29_0_640).toLoadRect (harg4.unread x3)) (View.readAt (Elt Ideal) arg7.view (Rect.unit (s := S31x1024) ![28, 640] S1x128.size inb_S31x1024_S1x128_28_640).toLoadRect (harg7.unread x6)) (View.readAt (Elt Ideal) arg3.view { off := ![5, 0, 0], size := S1x32x128.size, stride := ![1, 4, 1], inb := inb_S8x128x128_S1x32x128_5_0_0_s_1_4_1 } (harg3.unread x2)) (View.readAt (Elt Ideal) arg7.view (Rect.unit (s := S31x1024) ![29, 640] S1x128.size inb_S31x1024_S1x128_29_640).toLoadRect (harg7.unread x6)) (View.readAt (Elt Ideal) arg3.view { off := ![5, 1, 0], size := S1x32x128.size, stride := ![1, 4, 1], inb := inb_S8x128x128_S1x32x128_5_1_0_s_1_4_1 } (harg3.unread x2)) (View.readAt (Elt Ideal) arg7.view (Rect.unit (s := S31x1024) ![30, 640] S1x128.size inb_S31x1024_S1x128_30_640).toLoadRect (harg7.unread x6))) x = cbuf x2 x3 x6 x7 j := by
  have g1 : (x 1).val < 32 := (x 1).isLt
  have g2 : (x 2).val < 128 := (x 2).isLt
  simp only [kernelRun0_A.sl.r_277, kernelRun0_A.sl.r_276, kernelRun0_A.sl.r_275, kernelRun0_A.sl.r_274, kernelRun0_A.sl.r_273, kernelRun0_A.sl.r_272, kernelRun0_A.sl.r_271, kernelRun0_A.sl.r_270, kernelRun0_A.sl.r_269, kernelRun0_A.sl.r_268, kernelRun0_A.sl.r_267, kernelRun0_A.sl.r_266]
  pointwise [k0_pay432, k0_pay433, k0_pay434, k0_pay435, k0_pay436, k0_pay437, k0_pay438, k0_pay439, k0_pay440, k0_pay441, k0_pay442, k0_pay443, k0_pay444]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 5, rows 0, 4, … of the staging buffer. -/
theorem tile_5_0 (x : S1x32x128.Idx) (j : S8x128x128.Idx) (h0 : (j 0).val = 5) (h1 : (j 1).val = 0 + 4 * (x 1).val) (h2 : (j 2).val = (x 2).val) :
    (k0_pay431 (kernelRun0_A.sl.r_264 c arg4 harg4 arg7 harg7 arg8 harg8 x3 x6 x7) (kernelRun0_A.sl.r_265 c arg4 harg4 x3) (View.readAt (Elt Ideal) arg7.view (Rect.unit (s := S31x1024) ![29, 640] S1x128.size inb_S31x1024_S1x128_29_640).toLoadRect (harg7.unread x6)) (View.readAt (Elt Ideal) arg3.view { off := ![5, 0, 0], size := S1x32x128.size, stride := ![1, 4, 1], inb := inb_S8x128x128_S1x32x128_5_0_0_s_1_4_1 } (harg3.unread x2)) (View.readAt (Elt Ideal) arg7.view (Rect.unit (s := S31x1024) ![30, 640] S1x128.size inb_S31x1024_S1x128_30_640).toLoadRect (harg7.unread x6))) x = cbuf x2 x3 x6 x7 j := by
  have g1 : (x 1).val < 32 := (x 1).isLt
  have g2 : (x 2).val < 128 := (x 2).isLt
  simp only [kernelRun0_A.sl.r_265, kernelRun0_A.sl.r_264, kernelRun0_A.sl.r_263, kernelRun0_A.sl.r_262, kernelRun0_A.sl.r_261, kernelRun0_A.sl.r_260, kernelRun0_A.sl.r_259, kernelRun0_A.sl.r_258, kernelRun0_A.sl.r_257, kernelRun0_A.sl.r_256, kernelRun0_A.sl.r_255, kernelRun0_A.sl.r_254]
  pointwise [k0_pay419, k0_pay420, k0_pay421, k0_pay422, k0_pay423, k0_pay424, k0_pay425, k0_pay426, k0_pay427, k0_pay428, k0_pay429, k0_pay430, k0_pay431]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile6.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 6 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 6, rows 3, 7, … of the staging buffer. -/
theorem tile_6_3 (x : S1x32x128.Idx) (j : S8x128x128.Idx) (h0 : (j 0).val = 6) (h1 : (j 1).val = 3 + 4 * (x 1).val) (h2 : (j 2).val = (x 2).val) :
    (k0_pay556 (kernelRun0_A.sl.r_354 c arg3 harg3 arg4 harg4 arg7 harg7 arg8 harg8 x2 x3 x6 x7) (kernelRun0_A.sl.r_355 c arg3 harg3 x2) (View.readAt (Elt Ideal) arg7.view (Rect.unit (s := S31x1024) ![30, 768] S1x128.size inb_S31x1024_S1x128_30_768).toLoadRect (harg7.unread x6))) x = cbuf x2 x3 x6 x7 j := by
  have g1 : (x 1).val < 32 := (x 1).isLt
  have g2 : (x 2).val < 128 := (x 2).isLt
  simp only [kernelRun0_A.sl.r_355, kernelRun0_A.sl.r_354, kernelRun0_A.sl.r_353, kernelRun0_A.sl.r_352, kernelRun0_A.sl.r_351, kernelRun0_A.sl.r_350, kernelRun0_A.sl.r_349, kernelRun0_A.sl.r_348, kernelRun0_A.sl.r_347, kernelRun0_A.sl.r_346, kernelRun0_A.sl.r_345, kernelRun0_A.sl.r_344, kernelRun0_A.sl.r_343, kernelRun0_A.sl.r_342]
  pointwise [k0_pay542, k0_pay543, k0_pay544, k0_pay545, k0_pay546, k0_pay547, k0_pay548, k0_pay549, k0_pay550, k0_pay551, k0_pay552, k0_pay553, k0_pay554, k0_pay555, k0_pay556]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 6, rows 2, 6, … of the staging buffer. -/
theorem tile_6_2 (x : S1x32x128.Idx) (j : S8x128x128.Idx) (h0 : (j 0).val = 6) (h1 : (j 1).val = 2 + 4 * (x 1).val) (h2 : (j 2).val = (x 2).val) :
    (k0_pay541 (kernelRun0_A.sl.r_340 c arg4 harg4 arg7 harg7 arg8 harg8 x3 x6 x7) (kernelRun0_A.sl.r_341 c arg4 harg4 x3) (View.readAt (Elt Ideal) arg7.view (Rect.unit (s := S31x1024) ![27, 768] S1x128.size inb_S31x1024_S1x128_27_768).toLoadRect (harg7.unread x6)) (View.readAt (Elt Ideal) arg3.view { off := ![6, 0, 0], size := S1x32x128.size, stride := ![1, 4, 1], inb := inb_S8x128x128_S1x32x128_6_0_0_s_1_4_1 } (harg3.unread x2)) (View.readAt (Elt Ideal) arg7.view (Rect.unit (s := S31x1024) ![28, 768] S1x128.size inb_S31x1024_S1x128_28_768).toLoadRect (harg7.unread x6)) (View.readAt (Elt Ideal) arg3.view { off := ![6, 1, 0], size := S1x32x128.size, stride := ![1, 4, 1], inb := inb_S8x128x128_S1x32x128_6_1_0_s_1_4_1 } (harg3.unread x2)) (View.readAt (Elt Ideal) arg7.view (Rect.unit (s := S31x1024) ![29, 768] S1x128.size inb_S31x1024_S1x128_29_768).toLoadRect (harg7.unread x6)) (View.readAt (Elt Ideal) arg3.view { off := ![6, 2, 0], size := S1x32x128.size, stride := ![1, 4, 1], inb := inb_S8x128x128_S1x32x128_6_2_0_s_1_4_1 } (harg3.unread x2)) (View.readAt (Elt Ideal) arg7.view (Rect.unit (s := S31x1024) ![30, 768] S1x128.size inb_S31x1024_S1x128_30_768).toLoadRect (harg7.unread x6))) x = cbuf x2 x3 x6 x7 j := by
  have g1 : (x 1).val < 32 := (x 1).isLt
  have g2 : (x 2).val < 128 := (x 2).isLt
  simp only [kernelRun0_A.sl.r_341, kernelRun0_A.sl.r_340, kernelRun0_A.sl.r_339, kernelRun0_A.sl.r_338, kernelRun0_A.sl.r_337, kernelRun0_A.sl.r_336, kernelRun0_A.sl.r_335, kernelRun0_A.sl.r_334, kernelRun0_A.sl.r_333, kernelRun0_A.sl.r_332, kernelRun0_A.sl.r_331, kernelRun0_A.sl.r_330]
  pointwise [k0_pay529, k0_pay530, k0_pay531, k0_pay532, k0_pay533, k0_pay534, k0_pay535, k0_pay536, k0_pay537, k0_pay538, k0_pay539, k0_pay540, k0_pay541]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 6, rows 1, 5, … of the staging buffer. -/
theorem tile_6_1 (x : S1x32x128.Idx) (j : S8x128x128.Idx) (h0 : (j 0).val = 6) (h1 : (j 1).val = 1 + 4 * (x 1).val) (h2 : (j 2).val = (x 2).val) :
    (k0_pay528 (kernelRun0_A.sl.r_328 c arg4 harg4 arg7 harg7 arg8 harg8 x3 x6 x7) (kernelRun0_A.sl.r_329 c arg3 harg3 x2) (View.readAt (Elt Ideal) arg7.view (Rect.unit (s := S31x1024) ![29, 768] S1x128.size inb_S31x1024_S1x128_29_768).toLoadRect (harg7.unread x6)) (View.readAt (Elt Ideal) arg3.view { off := ![6, 1, 0], size := S1x32x128.size, stride := ![1, 4, 1], inb := inb_S8x128x128_S1x32x128_6_1_0_s_1_4_1 } (harg3.unread x2)) (View.readAt (Elt Ideal) arg7.view (Rect.unit (s := S31x1024) ![30, 768] S1x128.size inb_S31x1024_S1x128_30_768).toLoadRect (harg7.unread x6))) x = cbuf x2 x3 x6 x7 j := by
  have g1 : (x 1).val < 32 := (x 1).isLt
  have g2 : (x 2).val < 128 := (x 2).isLt
  simp only [kernelRun0_A.sl.r_329, kernelRun0_A.sl.r_328, kernelRun0_A.sl.r_327, kernelRun0_A.sl.r_326, kernelRun0_A.sl.r_325, kernelRun0_A.sl.r_324, kernelRun0_A.sl.r_323, kernelRun0_A.sl.r_322, kernelRun0_A.sl.r_321, kernelRun0_A.sl.r_320, kernelRun0_A.sl.r_319, kernelRun0_A.sl.r_318]
  pointwise [k0_pay516, k0_pay517, k0_pay518, k0_pay519, k0_pay520, k0_pay521, k0_pay522, k0_pay523, k0_pay524, k0_pay525, k0_pay526, k0_pay527, k0_pay528]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 6, rows 0, 4, … of the staging buffer. -/
theorem tile_6_0 (x : S1x32x128.Idx) (j : S8x128x128.Idx) (h0 : (j 0).val = 6) (h1 : (j 1).val = 0 + 4 * (x 1).val) (h2 : (j 2).val = (x 2).val) :
    (kernelRun0_A.sl.r_317 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_317, kernelRun0_A.sl.r_316, kernelRun0_A.sl.r_315, kernelRun0_A.sl.r_314, kernelRun0_A.sl.r_313, kernelRun0_A.sl.r_312, kernelRun0_A.sl.r_311, kernelRun0_A.sl.r_310, kernelRun0_A.sl.r_309, kernelRun0_A.sl.r_308, kernelRun0_A.sl.r_307, kernelRun0_A.sl.r_306, kernelRun0_A.sl.r_305]
  pointwise [k0_pay503, k0_pay504, k0_pay505, k0_pay506, k0_pay507, k0_pay508, k0_pay509, k0_pay510, k0_pay511, k0_pay512, k0_pay513, k0_pay514, k0_pay515]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleTile7.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The four stores of column tile 7 into the staging buffer, each the convolution at the rows it stores. -/

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- Column tile 7, rows 3, 7, … of the staging buffer. -/
theorem tile_7_3 (x : S1x32x128.Idx) (j : S8x128x128.Idx) (h0 : (j 0).val = 7) (h1 : (j 1).val = 3 + 4 * (x 1).val) (h2 : (j 2).val = (x 2).val) :
    (k0_pay638 (kernelRun0_A.sl.r_404 c arg4 harg4 arg7 harg7 arg8 harg8 x3 x6 x7) (kernelRun0_A.sl.r_405 c arg3 harg3 x2) (View.readAt (Elt Ideal) arg7.view (Rect.unit (s := S31x1024) ![27, 896] S1x128.size inb_S31x1024_S1x128_27_896).toLoadRect (harg7.unread x6)) (View.readAt (Elt Ideal) arg3.view { off := ![7, 1, 0], size := S1x32x128.size, stride := ![1, 4, 1], inb := inb_S8x128x128_S1x32x128_7_1_0_s_1_4_1 } (harg3.unread x2)) (View.readAt (Elt Ideal) arg7.view (Rect.unit (s := S31x1024) ![28, 896] S1x128.size inb_S31x1024_S1x128_28_896).toLoadRect (harg7.unread x6)) (View.readAt (Elt Ideal) arg3.view { off := ![7, 2, 0], size := S1x32x128.size, stride := ![1, 4, 1], inb := inb_S8x128x128_S1x32x128_7_2_0_s_1_4_1 } (harg3.unread x2)) (View.readAt (Elt Ideal) arg7.view (Rect.unit (s := S31x1024) ![29, 896] S1x128.size inb_S31x1024_S1x128_29_896).toLoadRect (harg7.unread x6)) (View.readAt (Elt Ideal) arg3.view { off := ![7, 3, 0], size := S1x32x128.size, stride := ![1, 4, 1], inb := inb_S8x128x128_S1x32x128_7_3_0_s_1_4_1 } (harg3.unread x2)) (View.readAt (Elt Ideal) arg7.view (Rect.unit (s := S31x1024) ![30, 896] S1x128.size inb_S31x1024_S1x128_30_896).toLoadRect (harg7.unread x6))) x = cbuf x2 x3 x6 x7 j := by
  have g1 : (x 1).val < 32 := (x 1).isLt
  have g2 : (x 2).val < 128 := (x 2).isLt
  simp only [kernelRun0_A.sl.r_405, kernelRun0_A.sl.r_404, kernelRun0_A.sl.r_403, kernelRun0_A.sl.r_402, kernelRun0_A.sl.r_401, kernelRun0_A.sl.r_400, kernelRun0_A.sl.r_399, kernelRun0_A.sl.r_398, kernelRun0_A.sl.r_397, kernelRun0_A.sl.r_396, kernelRun0_A.sl.r_395, kernelRun0_A.sl.r_394]
  pointwise [k0_pay626, k0_pay627, k0_pay628, k0_pay629, k0_pay630, k0_pay631, k0_pay632, k0_pay633, k0_pay634, k0_pay635, k0_pay636, k0_pay637, k0_pay638]
  simp only [Memref.IsWhole.readAt_unread]
  refine Eq.trans ?_ (Merge.taps_from _ _)
  iterate 4 refine congrArg₂ (· + ·) ?_ (congrArg₂ (· * ·) (ut_at x2 x3 _ _ _ _ _ ?_ ?_ ?_ ?_ ?_) (tap_at x6 _ _ _ _ ?_ ?_))
  iterate 27 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 7, rows 2, 6, … of the staging buffer. -/
theorem tile_7_2 (x : S1x32x128.Idx) (j : S8x128x128.Idx) (h0 : (j 0).val = 7) (h1 : (j 1).val = 2 + 4 * (x 1).val) (h2 : (j 2).val = (x 2).val) :
    (k0_pay625 (kernelRun0_A.sl.r_392 c arg3 harg3 arg4 harg4 arg7 harg7 arg8 harg8 x2 x3 x6 x7) (kernelRun0_A.sl.r_393 c arg3 harg3 x2) (View.readAt (Elt Ideal) arg7.view (Rect.unit (s := S31x1024) ![29, 896] S1x128.size inb_S31x1024_S1x128_29_896).toLoadRect (harg7.unread x6)) (View.readAt (Elt Ideal) arg3.view { off := ![7, 2, 0], size := S1x32x128.size, stride := ![1, 4, 1], inb := inb_S8x128x128_S1x32x128_7_2_0_s_1_4_1 } (harg3.unread x2)) (View.readAt (Elt Ideal) arg7.view (Rect.unit (s := S31x1024) ![30, 896] S1x128.size inb_S31x1024_S1x128_30_896).toLoadRect (harg7.unread x6))) x = cbuf x2 x3 x6 x7 j := by
  have g1 : (x 1).val < 32 := (x 1).isLt
  have g2 : (x 2).val < 128 := (x 2).isLt
  simp only [kernelRun0_A.sl.r_393, kernelRun0_A.sl.r_392, kernelRun0_A.sl.r_391, kernelRun0_A.sl.r_390, kernelRun0_A.sl.r_389, kernelRun0_A.sl.r_388, kernelRun0_A.sl.r_387, kernelRun0_A.sl.r_386, kernelRun0_A.sl.r_385, kernelRun0_A.sl.r_384, kernelRun0_A.sl.r_383, kernelRun0_A.sl.r_382]
  pointwise [k0_pay613, k0_pay614, k0_pay615, k0_pay616, k0_pay617, k0_pay618, k0_pay619, k0_pay620, k0_pay621, k0_pay622, k0_pay623, k0_pay624, k0_pay625]
  simp only [Memref.IsWhole.readAt_unread]
  refine Eq.trans ?_ (Merge.taps_from _ _)
  iterate 3 refine congrArg₂ (· + ·) ?_ (congrArg₂ (· * ·) (ut_at x2 x3 _ _ _ _ _ ?_ ?_ ?_ ?_ ?_) (tap_at x6 _ _ _ _ ?_ ?_))
  iterate 28 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 7, rows 1, 5, … of the staging buffer. -/
theorem tile_7_1 (x : S1x32x128.Idx) (j : S8x128x128.Idx) (h0 : (j 0).val = 7) (h1 : (j 1).val = 1 + 4 * (x 1).val) (h2 : (j 2).val = (x 2).val) :
    (kernelRun0_A.sl.r_381 c arg3 harg3 arg4 harg4 arg7 harg7 arg8 harg8 x2 x3 x6 x7) x = cbuf x2 x3 x6 x7 j := by
  have g1 : (x 1).val < 32 := (x 1).isLt
  have g2 : (x 2).val < 128 := (x 2).isLt
  simp only [kernelRun0_A.sl.r_381, kernelRun0_A.sl.r_380, kernelRun0_A.sl.r_379, kernelRun0_A.sl.r_378, kernelRun0_A.sl.r_377, kernelRun0_A.sl.r_376, kernelRun0_A.sl.r_375, kernelRun0_A.sl.r_374, kernelRun0_A.sl.r_373, kernelRun0_A.sl.r_372, kernelRun0_A.sl.r_371, kernelRun0_A.sl.r_370, kernelRun0_A.sl.r_369]
  pointwise [k0_pay600, k0_pay601, k0_pay602, k0_pay603, k0_pay604, k0_pay605, k0_pay606, k0_pay607, k0_pay608, k0_pay609, k0_pay610, k0_pay611, k0_pay612]
  simp only [Memref.IsWhole.readAt_unread]
  refine Eq.trans ?_ (Merge.taps_from _ _)
  iterate 2 refine congrArg₂ (· + ·) ?_ (congrArg₂ (· * ·) (ut_at x2 x3 _ _ _ _ _ ?_ ?_ ?_ ?_ ?_) (tap_at x6 _ _ _ _ ?_ ?_))
  iterate 29 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

/-- Column tile 7, rows 0, 4, … of the staging buffer. -/
theorem tile_7_0 (x : S1x32x128.Idx) (j : S8x128x128.Idx) (h0 : (j 0).val = 7) (h1 : (j 1).val = 0 + 4 * (x 1).val) (h2 : (j 2).val = (x 2).val) :
    (k0_pay599 (kernelRun0_A.sl.r_367 c arg4 harg4 arg7 harg7 arg8 harg8 x3 x6 x7) (kernelRun0_A.sl.r_368 c arg4 harg4 x3) (View.readAt (Elt Ideal) arg7.view (Rect.unit (s := S31x1024) ![28, 896] S1x128.size inb_S31x1024_S1x128_28_896).toLoadRect (harg7.unread x6)) (View.readAt (Elt Ideal) arg4.view (Rect.unit (s := S30x32x1024) ![29, 0, 896] S1x32x128.size inb_S30x32x1024_S1x32x128_29_0_896).toLoadRect (harg4.unread x3)) (View.readAt (Elt Ideal) arg7.view (Rect.unit (s := S31x1024) ![29, 896] S1x128.size inb_S31x1024_S1x128_29_896).toLoadRect (harg7.unread x6)) (View.readAt (Elt Ideal) arg3.view { off := ![7, 0, 0], size := S1x32x128.size, stride := ![1, 4, 1], inb := inb_S8x128x128_S1x32x128_7_0_0_s_1_4_1 } (harg3.unread x2)) (View.readAt (Elt Ideal) arg7.view (Rect.unit (s := S31x1024) ![30, 896] S1x128.size inb_S31x1024_S1x128_30_896).toLoadRect (harg7.unread x6))) x = cbuf x2 x3 x6 x7 j := by
  have g1 : (x 1).val < 32 := (x 1).isLt
  have g2 : (x 2).val < 128 := (x 2).isLt
  simp only [kernelRun0_A.sl.r_368, kernelRun0_A.sl.r_367, kernelRun0_A.sl.r_366, kernelRun0_A.sl.r_365, kernelRun0_A.sl.r_364, kernelRun0_A.sl.r_363, kernelRun0_A.sl.r_362, kernelRun0_A.sl.r_361, kernelRun0_A.sl.r_360, kernelRun0_A.sl.r_359, kernelRun0_A.sl.r_358, kernelRun0_A.sl.r_357]
  pointwise [k0_pay587, k0_pay588, k0_pay589, k0_pay590, k0_pay591, k0_pay592, k0_pay593, k0_pay594, k0_pay595, k0_pay596, k0_pay597, k0_pay598, k0_pay599]
  simp only [Memref.IsWhole.readAt_unread]
  refine Eq.trans ?_ (Merge.taps_from _ _)
  iterate 1 refine congrArg₂ (· + ·) ?_ (congrArg₂ (· * ·) (ut_at x2 x3 _ _ _ _ _ ?_ ?_ ?_ ?_ ?_) (tap_at x6 _ _ _ _ ?_ ?_))
  iterate 30 refine congrArg₂ (· + ·) ?_ (congrArg₂ (· * ·) (st_at x2 x3 _ _ _ _ _ ?_ ?_ ?_ ?_) (tap_at x6 _ _ _ _ ?_ ?_))
  refine bias_at x7 _ _ _ ?_
  all_goals simp [h0, h1, h2]
  all_goals omega

end Cert.Kernel3Ideal.Block

end
-- ==== Proof.SampleConv.lean ====
module

public import proofs.«01_k».proof.Proof.Gen.Kernel3Ideal.Frame.RunA
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleTile0
public import proofs.«01_k».proof.Proof.SampleTile1
public import proofs.«01_k».proof.Proof.SampleTile2
public import proofs.«01_k».proof.Proof.SampleTile3
public import proofs.«01_k».proof.Proof.SampleTile4
public import proofs.«01_k».proof.Proof.SampleTile5
public import proofs.«01_k».proof.Proof.SampleTile6
public import proofs.«01_k».proof.Proof.SampleTile7

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The staging buffer holds the convolution. -/

/-- A place of the staging buffer lies in a store of every fourth row from `o` on. -/
theorem mem_tile (R : Rect S8x128x128) (y : S8x128x128.Idx) (l o : ℕ) (hoff : R.off = ![l, o, 0]) (hsz : R.size = ![1, 32, 128]) (hst : R.stride = ![1, 4, 1])
    (h0 : (y 0).val = l) (hp : (y 1).val % 4 = o) : y ∈ R.set := by
  have h1 : (y 1).val < 128 := (y 1).isLt
  refine R.mem_set.2 fun a => ?_
  rw [hoff, hsz, hst]
  match a with
  | 0 => exact ⟨0, by show (0 : ℕ) < 1; omega, by show (y 0).val = l + 1 * 0; omega⟩
  | 1 => exact ⟨(y 1).val / 4, by show (y 1).val / 4 < 32; omega, by show (y 1).val = o + 4 * ((y 1).val / 4); omega⟩
  | 2 => exact ⟨(y 2).val, (y 2).isLt, by show (y 2).val = 0 + 1 * (y 2).val; omega⟩

/-- The place of an element of a store of every fourth row, by coordinate. -/
theorem emb0 (R : Rect S8x128x128) (x : R.shape.Idx) (l : ℕ) (hoff : R.off 0 = l) (hsz : R.size 0 = 1) : (R.emb x 0).val = l := by
  have h : (x 0).val < 1 := hsz ▸ (x 0).isLt
  show R.off 0 + R.stride 0 * (x 0).val = l
  rw [hoff, Nat.lt_one_iff.1 h, Nat.mul_zero, Nat.add_zero]

theorem emb1 (R : Rect S8x128x128) (x : R.shape.Idx) (o : ℕ) (hoff : R.off 1 = o) (hst : R.stride 1 = 4) : (R.emb x 1).val = o + 4 * (x 1).val := by
  show R.off 1 + R.stride 1 * (x 1).val = _
  rw [hoff, hst]

theorem emb2 (R : Rect S8x128x128) (x : R.shape.Idx) (hoff : R.off 2 = 0) (hst : R.stride 2 = 1) : (R.emb x 2).val = (x 2).val := by
  show R.off 2 + R.stride 2 * (x 2).val = _
  rw [hoff, hst, Nat.zero_add, Nat.one_mul]

variable (c : Dev nD) (arg3 : Memref sig .tc .vmem S8x128x128 .f32) (harg3 : arg3.IsWhole) (arg4 : Memref sig .tc .vmem S30x32x1024 .f32) (harg4 : arg4.IsWhole)
  (arg7 : Memref sig .tc .vmem S31x1024 .f32) (harg7 : arg7.IsWhole) (arg8 : Memref sig .tc .vmem S1x1024 .f32) (harg8 : arg8.IsWhole)
  (x2 : Vec Ideal S8x128x128 .f32) (x3 : Vec Ideal S30x32x1024 .f32) (x6 : Vec Ideal S31x1024 .f32) (x7 : Vec Ideal S1x1024 .f32)

set_option maxHeartbeats 4000000

/-- The stores are 32. -/
theorem lenC : (kernelRun0_A.sl.HS0_32 c arg3 harg3 arg4 harg4 arg7 harg7 arg8 harg8 x2 x3 x6 x7).length = 32 := rfl

/-- Every place of the staging buffer is in one of its stores. -/
theorem coverC (y : S8x128x128.Idx) : ∃ p ∈ kernelRun0_A.sl.HS0_32 c arg3 harg3 arg4 harg4 arg7 harg7 arg8 harg8 x2 x3 x6 x7, y ∈ p.1.set := by
  have h0 : (y 0).val < 8 := (y 0).isLt
  have h1 : (y 1).val < 128 := (y 1).isLt
  rcases (by omega : (y 0).val = 0 ∨ (y 0).val = 1 ∨ (y 0).val = 2 ∨ (y 0).val = 3 ∨ (y 0).val = 4 ∨ (y 0).val = 5 ∨ (y 0).val = 6 ∨ (y 0).val = 7) with e0 | e0 | e0 | e0 | e0 | e0 | e0 | e0 <;>
    rcases (by omega : (y 1).val % 4 = 0 ∨ (y 1).val % 4 = 1 ∨ (y 1).val % 4 = 2 ∨ (y 1).val % 4 = 3) with e1 | e1 | e1 | e1
  · exact ⟨(kernelRun0_A.sl.HS0_32 c arg3 harg3 arg4 harg4 arg7 harg7 arg8 harg8 x2 x3 x6 x7)[31]'(by rw [lenC]; decide), List.getElem_mem _, mem_tile _ y 0 0 rfl rfl rfl e0 e1⟩
  · exact ⟨(kernelRun0_A.sl.HS0_32 c arg3 harg3 arg4 harg4 arg7 harg7 arg8 harg8 x2 x3 x6 x7)[30]'(by rw [lenC]; decide), List.getElem_mem _, mem_tile _ y 0 1 rfl rfl rfl e0 e1⟩
  · exact ⟨(kernelRun0_A.sl.HS0_32 c arg3 harg3 arg4 harg4 arg7 harg7 arg8 harg8 x2 x3 x6 x7)[29]'(by rw [lenC]; decide), List.getElem_mem _, mem_tile _ y 0 2 rfl rfl rfl e0 e1⟩
  · exact ⟨(kernelRun0_A.sl.HS0_32 c arg3 harg3 arg4 harg4 arg7 harg7 arg8 harg8 x2 x3 x6 x7)[28]'(by rw [lenC]; decide), List.getElem_mem _, mem_tile _ y 0 3 rfl rfl rfl e0 e1⟩
  · exact ⟨(kernelRun0_A.sl.HS0_32 c arg3 harg3 arg4 harg4 arg7 harg7 arg8 harg8 x2 x3 x6 x7)[27]'(by rw [lenC]; decide), List.getElem_mem _, mem_tile _ y 1 0 rfl rfl rfl e0 e1⟩
  · exact ⟨(kernelRun0_A.sl.HS0_32 c arg3 harg3 arg4 harg4 arg7 harg7 arg8 harg8 x2 x3 x6 x7)[26]'(by rw [lenC]; decide), List.getElem_mem _, mem_tile _ y 1 1 rfl rfl rfl e0 e1⟩
  · exact ⟨(kernelRun0_A.sl.HS0_32 c arg3 harg3 arg4 harg4 arg7 harg7 arg8 harg8 x2 x3 x6 x7)[25]'(by rw [lenC]; decide), List.getElem_mem _, mem_tile _ y 1 2 rfl rfl rfl e0 e1⟩
  · exact ⟨(kernelRun0_A.sl.HS0_32 c arg3 harg3 arg4 harg4 arg7 harg7 arg8 harg8 x2 x3 x6 x7)[24]'(by rw [lenC]; decide), List.getElem_mem _, mem_tile _ y 1 3 rfl rfl rfl e0 e1⟩
  · exact ⟨(kernelRun0_A.sl.HS0_32 c arg3 harg3 arg4 harg4 arg7 harg7 arg8 harg8 x2 x3 x6 x7)[23]'(by rw [lenC]; decide), List.getElem_mem _, mem_tile _ y 2 0 rfl rfl rfl e0 e1⟩
  · exact ⟨(kernelRun0_A.sl.HS0_32 c arg3 harg3 arg4 harg4 arg7 harg7 arg8 harg8 x2 x3 x6 x7)[22]'(by rw [lenC]; decide), List.getElem_mem _, mem_tile _ y 2 1 rfl rfl rfl e0 e1⟩
  · exact ⟨(kernelRun0_A.sl.HS0_32 c arg3 harg3 arg4 harg4 arg7 harg7 arg8 harg8 x2 x3 x6 x7)[21]'(by rw [lenC]; decide), List.getElem_mem _, mem_tile _ y 2 2 rfl rfl rfl e0 e1⟩
  · exact ⟨(kernelRun0_A.sl.HS0_32 c arg3 harg3 arg4 harg4 arg7 harg7 arg8 harg8 x2 x3 x6 x7)[20]'(by rw [lenC]; decide), List.getElem_mem _, mem_tile _ y 2 3 rfl rfl rfl e0 e1⟩
  · exact ⟨(kernelRun0_A.sl.HS0_32 c arg3 harg3 arg4 harg4 arg7 harg7 arg8 harg8 x2 x3 x6 x7)[19]'(by rw [lenC]; decide), List.getElem_mem _, mem_tile _ y 3 0 rfl rfl rfl e0 e1⟩
  · exact ⟨(kernelRun0_A.sl.HS0_32 c arg3 harg3 arg4 harg4 arg7 harg7 arg8 harg8 x2 x3 x6 x7)[18]'(by rw [lenC]; decide), List.getElem_mem _, mem_tile _ y 3 1 rfl rfl rfl e0 e1⟩
  · exact ⟨(kernelRun0_A.sl.HS0_32 c arg3 harg3 arg4 harg4 arg7 harg7 arg8 harg8 x2 x3 x6 x7)[17]'(by rw [lenC]; decide), List.getElem_mem _, mem_tile _ y 3 2 rfl rfl rfl e0 e1⟩
  · exact ⟨(kernelRun0_A.sl.HS0_32 c arg3 harg3 arg4 harg4 arg7 harg7 arg8 harg8 x2 x3 x6 x7)[16]'(by rw [lenC]; decide), List.getElem_mem _, mem_tile _ y 3 3 rfl rfl rfl e0 e1⟩
  · exact ⟨(kernelRun0_A.sl.HS0_32 c arg3 harg3 arg4 harg4 arg7 harg7 arg8 harg8 x2 x3 x6 x7)[15]'(by rw [lenC]; decide), List.getElem_mem _, mem_tile _ y 4 0 rfl rfl rfl e0 e1⟩
  · exact ⟨(kernelRun0_A.sl.HS0_32 c arg3 harg3 arg4 harg4 arg7 harg7 arg8 harg8 x2 x3 x6 x7)[14]'(by rw [lenC]; decide), List.getElem_mem _, mem_tile _ y 4 1 rfl rfl rfl e0 e1⟩
  · exact ⟨(kernelRun0_A.sl.HS0_32 c arg3 harg3 arg4 harg4 arg7 harg7 arg8 harg8 x2 x3 x6 x7)[13]'(by rw [lenC]; decide), List.getElem_mem _, mem_tile _ y 4 2 rfl rfl rfl e0 e1⟩
  · exact ⟨(kernelRun0_A.sl.HS0_32 c arg3 harg3 arg4 harg4 arg7 harg7 arg8 harg8 x2 x3 x6 x7)[12]'(by rw [lenC]; decide), List.getElem_mem _, mem_tile _ y 4 3 rfl rfl rfl e0 e1⟩
  · exact ⟨(kernelRun0_A.sl.HS0_32 c arg3 harg3 arg4 harg4 arg7 harg7 arg8 harg8 x2 x3 x6 x7)[11]'(by rw [lenC]; decide), List.getElem_mem _, mem_tile _ y 5 0 rfl rfl rfl e0 e1⟩
  · exact ⟨(kernelRun0_A.sl.HS0_32 c arg3 harg3 arg4 harg4 arg7 harg7 arg8 harg8 x2 x3 x6 x7)[10]'(by rw [lenC]; decide), List.getElem_mem _, mem_tile _ y 5 1 rfl rfl rfl e0 e1⟩
  · exact ⟨(kernelRun0_A.sl.HS0_32 c arg3 harg3 arg4 harg4 arg7 harg7 arg8 harg8 x2 x3 x6 x7)[9]'(by rw [lenC]; decide), List.getElem_mem _, mem_tile _ y 5 2 rfl rfl rfl e0 e1⟩
  · exact ⟨(kernelRun0_A.sl.HS0_32 c arg3 harg3 arg4 harg4 arg7 harg7 arg8 harg8 x2 x3 x6 x7)[8]'(by rw [lenC]; decide), List.getElem_mem _, mem_tile _ y 5 3 rfl rfl rfl e0 e1⟩
  · exact ⟨(kernelRun0_A.sl.HS0_32 c arg3 harg3 arg4 harg4 arg7 harg7 arg8 harg8 x2 x3 x6 x7)[7]'(by rw [lenC]; decide), List.getElem_mem _, mem_tile _ y 6 0 rfl rfl rfl e0 e1⟩
  · exact ⟨(kernelRun0_A.sl.HS0_32 c arg3 harg3 arg4 harg4 arg7 harg7 arg8 harg8 x2 x3 x6 x7)[6]'(by rw [lenC]; decide), List.getElem_mem _, mem_tile _ y 6 1 rfl rfl rfl e0 e1⟩
  · exact ⟨(kernelRun0_A.sl.HS0_32 c arg3 harg3 arg4 harg4 arg7 harg7 arg8 harg8 x2 x3 x6 x7)[5]'(by rw [lenC]; decide), List.getElem_mem _, mem_tile _ y 6 2 rfl rfl rfl e0 e1⟩
  · exact ⟨(kernelRun0_A.sl.HS0_32 c arg3 harg3 arg4 harg4 arg7 harg7 arg8 harg8 x2 x3 x6 x7)[4]'(by rw [lenC]; decide), List.getElem_mem _, mem_tile _ y 6 3 rfl rfl rfl e0 e1⟩
  · exact ⟨(kernelRun0_A.sl.HS0_32 c arg3 harg3 arg4 harg4 arg7 harg7 arg8 harg8 x2 x3 x6 x7)[3]'(by rw [lenC]; decide), List.getElem_mem _, mem_tile _ y 7 0 rfl rfl rfl e0 e1⟩
  · exact ⟨(kernelRun0_A.sl.HS0_32 c arg3 harg3 arg4 harg4 arg7 harg7 arg8 harg8 x2 x3 x6 x7)[2]'(by rw [lenC]; decide), List.getElem_mem _, mem_tile _ y 7 1 rfl rfl rfl e0 e1⟩
  · exact ⟨(kernelRun0_A.sl.HS0_32 c arg3 harg3 arg4 harg4 arg7 harg7 arg8 harg8 x2 x3 x6 x7)[1]'(by rw [lenC]; decide), List.getElem_mem _, mem_tile _ y 7 2 rfl rfl rfl e0 e1⟩
  · exact ⟨(kernelRun0_A.sl.HS0_32 c arg3 harg3 arg4 harg4 arg7 harg7 arg8 harg8 x2 x3 x6 x7)[0]'(by rw [lenC]; decide), List.getElem_mem _, mem_tile _ y 7 3 rfl rfl rfl e0 e1⟩

/-- The staging buffer holds the convolution. -/
theorem canonC : View.canon (kernelRun0_A.sl.HS0_32 c arg3 harg3 arg4 harg4 arg7 harg7 arg8 harg8 x2 x3 x6 x7) = cbuf x2 x3 x6 x7 := by
  funext y
  refine View.canon_apply_of_pieces (cbuf x2 x3 x6 x7) _ ?_ y (coverC c arg3 harg3 arg4 harg4 arg7 harg7 arg8 harg8 x2 x3 x6 x7 y)
  unfold kernelRun0_A.sl.HS0_32
  refine List.forall_mem_cons.2 ⟨fun x => tile_7_3 (x := x) (j := _) (h0 := emb0 _ x _ rfl rfl) (h1 := emb1 _ x _ rfl rfl) (h2 := emb2 _ x rfl rfl) .., ?_⟩
  refine List.forall_mem_cons.2 ⟨fun x => tile_7_2 (x := x) (j := _) (h0 := emb0 _ x _ rfl rfl) (h1 := emb1 _ x _ rfl rfl) (h2 := emb2 _ x rfl rfl) .., ?_⟩
  refine List.forall_mem_cons.2 ⟨fun x => tile_7_1 (x := x) (j := _) (h0 := emb0 _ x _ rfl rfl) (h1 := emb1 _ x _ rfl rfl) (h2 := emb2 _ x rfl rfl) .., ?_⟩
  refine List.forall_mem_cons.2 ⟨fun x => tile_7_0 (x := x) (j := _) (h0 := emb0 _ x _ rfl rfl) (h1 := emb1 _ x _ rfl rfl) (h2 := emb2 _ x rfl rfl) .., ?_⟩
  refine List.forall_mem_cons.2 ⟨fun x => tile_6_3 (x := x) (j := _) (h0 := emb0 _ x _ rfl rfl) (h1 := emb1 _ x _ rfl rfl) (h2 := emb2 _ x rfl rfl) .., ?_⟩
  refine List.forall_mem_cons.2 ⟨fun x => tile_6_2 (x := x) (j := _) (h0 := emb0 _ x _ rfl rfl) (h1 := emb1 _ x _ rfl rfl) (h2 := emb2 _ x rfl rfl) .., ?_⟩
  refine List.forall_mem_cons.2 ⟨fun x => tile_6_1 (x := x) (j := _) (h0 := emb0 _ x _ rfl rfl) (h1 := emb1 _ x _ rfl rfl) (h2 := emb2 _ x rfl rfl) .., ?_⟩
  refine List.forall_mem_cons.2 ⟨fun x => tile_6_0 (x := x) (j := _) (h0 := emb0 _ x _ rfl rfl) (h1 := emb1 _ x _ rfl rfl) (h2 := emb2 _ x rfl rfl) .., ?_⟩
  refine List.forall_mem_cons.2 ⟨fun x => tile_5_3 (x := x) (j := _) (h0 := emb0 _ x _ rfl rfl) (h1 := emb1 _ x _ rfl rfl) (h2 := emb2 _ x rfl rfl) .., ?_⟩
  refine List.forall_mem_cons.2 ⟨fun x => tile_5_2 (x := x) (j := _) (h0 := emb0 _ x _ rfl rfl) (h1 := emb1 _ x _ rfl rfl) (h2 := emb2 _ x rfl rfl) .., ?_⟩
  refine List.forall_mem_cons.2 ⟨fun x => tile_5_1 (x := x) (j := _) (h0 := emb0 _ x _ rfl rfl) (h1 := emb1 _ x _ rfl rfl) (h2 := emb2 _ x rfl rfl) .., ?_⟩
  refine List.forall_mem_cons.2 ⟨fun x => tile_5_0 (x := x) (j := _) (h0 := emb0 _ x _ rfl rfl) (h1 := emb1 _ x _ rfl rfl) (h2 := emb2 _ x rfl rfl) .., ?_⟩
  refine List.forall_mem_cons.2 ⟨fun x => tile_4_3 (x := x) (j := _) (h0 := emb0 _ x _ rfl rfl) (h1 := emb1 _ x _ rfl rfl) (h2 := emb2 _ x rfl rfl) .., ?_⟩
  refine List.forall_mem_cons.2 ⟨fun x => tile_4_2 (x := x) (j := _) (h0 := emb0 _ x _ rfl rfl) (h1 := emb1 _ x _ rfl rfl) (h2 := emb2 _ x rfl rfl) .., ?_⟩
  refine List.forall_mem_cons.2 ⟨fun x => tile_4_1 (x := x) (j := _) (h0 := emb0 _ x _ rfl rfl) (h1 := emb1 _ x _ rfl rfl) (h2 := emb2 _ x rfl rfl) .., ?_⟩
  refine List.forall_mem_cons.2 ⟨fun x => tile_4_0 (x := x) (j := _) (h0 := emb0 _ x _ rfl rfl) (h1 := emb1 _ x _ rfl rfl) (h2 := emb2 _ x rfl rfl) .., ?_⟩
  refine List.forall_mem_cons.2 ⟨fun x => tile_3_3 (x := x) (j := _) (h0 := emb0 _ x _ rfl rfl) (h1 := emb1 _ x _ rfl rfl) (h2 := emb2 _ x rfl rfl) .., ?_⟩
  refine List.forall_mem_cons.2 ⟨fun x => tile_3_2 (x := x) (j := _) (h0 := emb0 _ x _ rfl rfl) (h1 := emb1 _ x _ rfl rfl) (h2 := emb2 _ x rfl rfl) .., ?_⟩
  refine List.forall_mem_cons.2 ⟨fun x => tile_3_1 (x := x) (j := _) (h0 := emb0 _ x _ rfl rfl) (h1 := emb1 _ x _ rfl rfl) (h2 := emb2 _ x rfl rfl) .., ?_⟩
  refine List.forall_mem_cons.2 ⟨fun x => tile_3_0 (x := x) (j := _) (h0 := emb0 _ x _ rfl rfl) (h1 := emb1 _ x _ rfl rfl) (h2 := emb2 _ x rfl rfl) .., ?_⟩
  refine List.forall_mem_cons.2 ⟨fun x => tile_2_3 (x := x) (j := _) (h0 := emb0 _ x _ rfl rfl) (h1 := emb1 _ x _ rfl rfl) (h2 := emb2 _ x rfl rfl) .., ?_⟩
  refine List.forall_mem_cons.2 ⟨fun x => tile_2_2 (x := x) (j := _) (h0 := emb0 _ x _ rfl rfl) (h1 := emb1 _ x _ rfl rfl) (h2 := emb2 _ x rfl rfl) .., ?_⟩
  refine List.forall_mem_cons.2 ⟨fun x => tile_2_1 (x := x) (j := _) (h0 := emb0 _ x _ rfl rfl) (h1 := emb1 _ x _ rfl rfl) (h2 := emb2 _ x rfl rfl) .., ?_⟩
  refine List.forall_mem_cons.2 ⟨fun x => tile_2_0 (x := x) (j := _) (h0 := emb0 _ x _ rfl rfl) (h1 := emb1 _ x _ rfl rfl) (h2 := emb2 _ x rfl rfl) .., ?_⟩
  refine List.forall_mem_cons.2 ⟨fun x => tile_1_3 (x := x) (j := _) (h0 := emb0 _ x _ rfl rfl) (h1 := emb1 _ x _ rfl rfl) (h2 := emb2 _ x rfl rfl) .., ?_⟩
  refine List.forall_mem_cons.2 ⟨fun x => tile_1_2 (x := x) (j := _) (h0 := emb0 _ x _ rfl rfl) (h1 := emb1 _ x _ rfl rfl) (h2 := emb2 _ x rfl rfl) .., ?_⟩
  refine List.forall_mem_cons.2 ⟨fun x => tile_1_1 (x := x) (j := _) (h0 := emb0 _ x _ rfl rfl) (h1 := emb1 _ x _ rfl rfl) (h2 := emb2 _ x rfl rfl) .., ?_⟩
  refine List.forall_mem_cons.2 ⟨fun x => tile_1_0 (x := x) (j := _) (h0 := emb0 _ x _ rfl rfl) (h1 := emb1 _ x _ rfl rfl) (h2 := emb2 _ x rfl rfl) .., ?_⟩
  refine List.forall_mem_cons.2 ⟨fun x => tile_0_3 (x := x) (j := _) (h0 := emb0 _ x _ rfl rfl) (h1 := emb1 _ x _ rfl rfl) (h2 := emb2 _ x rfl rfl) .., ?_⟩
  refine List.forall_mem_cons.2 ⟨fun x => tile_0_2 (x := x) (j := _) (h0 := emb0 _ x _ rfl rfl) (h1 := emb1 _ x _ rfl rfl) (h2 := emb2 _ x rfl rfl) .., ?_⟩
  refine List.forall_mem_cons.2 ⟨fun x => tile_0_1 (x := x) (j := _) (h0 := emb0 _ x _ rfl rfl) (h1 := emb1 _ x _ rfl rfl) (h2 := emb2 _ x rfl rfl) .., ?_⟩
  refine List.forall_mem_cons.2 ⟨fun x => tile_0_0 (x := x) (j := _) (h0 := emb0 _ x _ rfl rfl) (h1 := emb1 _ x _ rfl rfl) (h2 := emb2 _ x rfl rfl) .., ?_⟩
  exact List.forall_mem_nil _

/-- A load from the staging buffer reads the convolution. -/
theorem readC {κ : Kind} {sp : Space} (v : View sig κ sp S8x128x128 .f32) (B : LoadRect S8x128x128) :
    v.readCov (kernelRun0_A.sl.HS0_32 c arg3 harg3 arg4 harg4 arg7 harg7 arg8 harg8 x2 x3 x6 x7) B = fun z => cbuf x2 x3 x6 x7 (B.idx z) := by
  rw [View.readCov_eq_canon', canonC]

end Cert.Kernel3Ideal.Block

end
-- ==== Proof.SampleOut.lean ====
module

public import proofs.«01_k».proof.Proof.Gen.Kernel3Ideal.Skeleton
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleSpec

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! The payloads after the convolution, at one row and column. -/

set_option maxHeartbeats 4000000

/-- The eight column tiles side by side. -/
theorem cat_at (v0 v1 : FVec Ideal S128x128 .f32) (v2 v3 v4 v5 v6 v7 : Vec Ideal S1x128x128 .f32) (z : Fin 128 → Fin 1024 → EReal)
    (h0 : ∀ (r : Fin 128) (l : Fin 128), v0 (ix2 r l) = z r ⟨0 + l.val, by omega⟩)
    (h1 : ∀ (r : Fin 128) (l : Fin 128), v1 (ix2 r l) = z r ⟨128 + l.val, by omega⟩)
    (h2 : ∀ (r : Fin 128) (l : Fin 128), v2 (ix3 0 r l) = z r ⟨256 + l.val, by omega⟩)
    (h3 : ∀ (r : Fin 128) (l : Fin 128), v3 (ix3 0 r l) = z r ⟨384 + l.val, by omega⟩)
    (h4 : ∀ (r : Fin 128) (l : Fin 128), v4 (ix3 0 r l) = z r ⟨512 + l.val, by omega⟩)
    (h5 : ∀ (r : Fin 128) (l : Fin 128), v5 (ix3 0 r l) = z r ⟨640 + l.val, by omega⟩)
    (h6 : ∀ (r : Fin 128) (l : Fin 128), v6 (ix3 0 r l) = z r ⟨768 + l.val, by omega⟩)
    (h7 : ∀ (r : Fin 128) (l : Fin 128), v7 (ix3 0 r l) = z r ⟨896 + l.val, by omega⟩) :
    concatenate S128x1024 1 [⟨S128x128, v0⟩, ⟨S128x128, v1⟩, ⟨S128x128, shapeCast S128x128 v2 shapeCasts_S1x128x128_S128x128⟩, ⟨S128x128, shapeCast S128x128 v3 shapeCasts_S1x128x128_S128x128⟩, ⟨S128x128, shapeCast S128x128 v4 shapeCasts_S1x128x128_S128x128⟩, ⟨S128x128, shapeCast S128x128 v5 shapeCasts_S1x128x128_S128x128⟩, ⟨S128x128, shapeCast S128x128 v6 shapeCasts_S1x128x128_S128x128⟩, ⟨S128x128, shapeCast S128x128 v7 shapeCasts_S1x128x128_S128x128⟩] concatenates_S128x128_S128x128_S128x128_S128x128_S128x128_S128x128_S128x128_S128x128_S128x1024_d1 = fun j => z (j 0) (j 1) := by
  funext j
  pointwise []
  have hn : (j 1).val < 1024 := (j 1).isLt
  repeat' split
  all_goals first
    | (refine (h0 _ _).trans (congrArg (z _) (Fin.ext ?_)); simp; done)
    | (refine (h1 _ _).trans (congrArg (z _) (Fin.ext ?_)); simp; omega)
    | (refine (h2 _ _).trans (congrArg (z _) (Fin.ext ?_)); simp; omega)
    | (refine (h3 _ _).trans (congrArg (z _) (Fin.ext ?_)); simp; omega)
    | (refine (h4 _ _).trans (congrArg (z _) (Fin.ext ?_)); simp; omega)
    | (refine (h5 _ _).trans (congrArg (z _) (Fin.ext ?_)); simp; omega)
    | (refine (h6 _ _).trans (congrArg (z _) (Fin.ext ?_)); simp; omega)
    | (refine (h7 _ _).trans (congrArg (z _) (Fin.ext ?_)); simp; omega)

/-- The rows less their means. -/
theorem pay673_at (v0 v1 : FVec Ideal S128x128 .f32) (v2 v3 v4 v5 v6 v7 : Vec Ideal S1x128x128 .f32) (z : Fin 128 → Fin 1024 → EReal)
    (h0 : ∀ (r : Fin 128) (l : Fin 128), v0 (ix2 r l) = z r ⟨0 + l.val, by omega⟩)
    (h1 : ∀ (r : Fin 128) (l : Fin 128), v1 (ix2 r l) = z r ⟨128 + l.val, by omega⟩)
    (h2 : ∀ (r : Fin 128) (l : Fin 128), v2 (ix3 0 r l) = z r ⟨256 + l.val, by omega⟩)
    (h3 : ∀ (r : Fin 128) (l : Fin 128), v3 (ix3 0 r l) = z r ⟨384 + l.val, by omega⟩)
    (h4 : ∀ (r : Fin 128) (l : Fin 128), v4 (ix3 0 r l) = z r ⟨512 + l.val, by omega⟩)
    (h5 : ∀ (r : Fin 128) (l : Fin 128), v5 (ix3 0 r l) = z r ⟨640 + l.val, by omega⟩)
    (h6 : ∀ (r : Fin 128) (l : Fin 128), v6 (ix3 0 r l) = z r ⟨768 + l.val, by omega⟩)
    (h7 : ∀ (r : Fin 128) (l : Fin 128), v7 (ix3 0 r l) = z r ⟨896 + l.val, by omega⟩) (r : Fin 128) (n : Fin 1024) :
    k0_pay673 v0 v1 v2 v3 v4 v5 v6 v7 (ix2 r n) = z r n - Merge.mean (z r) := by
  simp only [k0_pay673]
  rw [cat_at v0 v1 v2 v3 v4 v5 v6 v7 z h0 h1 h2 h3 h4 h5 h6 h7]
  pointwise []
  rfl

/-- The same, squared. -/
theorem pay674_at (v0 v1 : FVec Ideal S128x128 .f32) (v2 v3 v4 v5 v6 v7 : Vec Ideal S1x128x128 .f32) (z : Fin 128 → Fin 1024 → EReal)
    (h0 : ∀ (r : Fin 128) (l : Fin 128), v0 (ix2 r l) = z r ⟨0 + l.val, by omega⟩)
    (h1 : ∀ (r : Fin 128) (l : Fin 128), v1 (ix2 r l) = z r ⟨128 + l.val, by omega⟩)
    (h2 : ∀ (r : Fin 128) (l : Fin 128), v2 (ix3 0 r l) = z r ⟨256 + l.val, by omega⟩)
    (h3 : ∀ (r : Fin 128) (l : Fin 128), v3 (ix3 0 r l) = z r ⟨384 + l.val, by omega⟩)
    (h4 : ∀ (r : Fin 128) (l : Fin 128), v4 (ix3 0 r l) = z r ⟨512 + l.val, by omega⟩)
    (h5 : ∀ (r : Fin 128) (l : Fin 128), v5 (ix3 0 r l) = z r ⟨640 + l.val, by omega⟩)
    (h6 : ∀ (r : Fin 128) (l : Fin 128), v6 (ix3 0 r l) = z r ⟨768 + l.val, by omega⟩)
    (h7 : ∀ (r : Fin 128) (l : Fin 128), v7 (ix3 0 r l) = z r ⟨896 + l.val, by omega⟩) (r : Fin 128) (n : Fin 1024) :
    k0_pay674 v0 v1 v2 v3 v4 v5 v6 v7 (ix2 r n) = (z r n - Merge.mean (z r)) * (z r n - Merge.mean (z r)) := by
  pointwise [k0_pay674]
  simp only [pay673_at v0 v1 v2 v3 v4 v5 v6 v7 z h0 h1 h2 h3 h4 h5 h6 h7]

/-- The attention's projection. -/
theorem pay672_at (oa : Vec Ideal S128x256 .f32) (wa : Vec Ideal S256x1024 .bf16) (r : Fin 128) (n : Fin 1024) : k0_pay672 oa wa (ix2 r n) = ∑ k : Fin 256, oa (ix2 r k) * wa (ix2 k n) := by
  pointwise [k0_pay672]

/-- The tokens. -/
theorem pay671_at (x : Vec Ideal S128x1024 .f32) (r : Fin 128) (n : Fin 1024) : k0_pay671 x (ix2 r n) = x (ix2 r n) := by
  pointwise [k0_pay671]

variable (x : FVec Ideal S128x1024 .f32) (ga gb : Vec Ideal S128x1024 .bf16) (p d dd : FVec Ideal S128x1024 .f32) (lw lb : Vec Ideal S1x1024 .f32) (wc wo : Vec Ideal S1024x1024 .bf16)
  (oa : Fin 128 → Fin 256 → EReal) (wa : Fin 256 → Fin 1024 → EReal) (z : Fin 128 → Fin 1024 → EReal)
  (hp : ∀ r n, p (ix2 r n) = ∑ k : Fin 256, oa r k * wa k n) (hd : ∀ r n, d (ix2 r n) = z r n - Merge.mean (z r)) (hdd : ∀ r n, dd (ix2 r n) = (z r n - Merge.mean (z r)) * (z r n - Merge.mean (z r)))

/-- The row after the residual sum, by the vectors the body reads. -/
def brow (r : Fin 128) : Fin 1024 → EReal :=
  Merge.resid (fun k => x (ix2 r k)) (Merge.merged (oa r) (z r) (fun k => lw (ix2 0 k)) (fun k => lb (ix2 0 k)) (fun k => ga (ix2 r k)) (fun k => gb (ix2 r k)) wa (fun k n => wc (ix2 k n)))
    (fun k n => wo (ix2 k n))

include hp hd hdd in
/-- The residual sum. -/
theorem pay675_at (r : Fin 128) (n : Fin 1024) : k0_pay675 x ga gb p d dd lw lb wc wo (ix2 r n) = brow x ga gb lw lb wc wo oa wa z r n := by
  pointwise [k0_pay675]
  simp only [hp, hd, hdd, brow, Merge.resid, Merge.merged, Merge.lnorm, Merge.silu, zero_sub]

include hp hd hdd in
/-- The sum of its squares. -/
theorem pay676_at (r : Fin 128) (o : Fin 1) : k0_pay676 x ga gb p d dd lw lb wc wo (ix2 r o) = ∑ k, brow x ga gb lw lb wc wo oa wa z r k * brow x ga gb lw lb wc wo oa wa z r k := by
  pointwise [k0_pay676]
  simp only [pay675_at x ga gb p d dd lw lb wc wo oa wa z hp hd hdd]

/-- The output row: the feed-forward layer. -/
theorem pay677_at (y : FVec Ideal S128x1024 .f32) (nw : Vec Ideal S1x1024 .f32) (q : FVec Ideal S128x1 .f32) (wg wu : Vec Ideal S1024x2816 .bf16) (wd : Vec Ideal S2816x1024 .bf16)
    (w : Fin 1024 → Fin 5632 → EReal) (hg : ∀ k (j : Fin 2816), wg (ix2 k j) = w k ⟨j.val, by omega⟩) (hu : ∀ k (j : Fin 2816), wu (ix2 k j) = w k ⟨2816 + j.val, by omega⟩)
    (b : Fin 128 → Fin 1024 → EReal) (hy : ∀ r n, y (ix2 r n) = b r n) (hq : ∀ r o, q (ix2 r o) = ∑ k, b r k * b r k) (r : Fin 128) (n : Fin 1024) :
    k0_pay677 y nw q wg wu wd (ix2 r n) = Merge.ffn (b r) (fun k => nw (ix2 0 k)) w (fun j n => wd (ix2 j n)) n := by
  pointwise [k0_pay677]
  simp only [hy, hq, Merge.ffn, Merge.silu, Spec.rms, zero_sub, ← hg, ← hu]

end Cert.Kernel3Ideal.Block

end
-- ==== Proof.SampleBlock.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleConv
public import proofs.«01_k».proof.Proof.SampleOut

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! What the body leaves in its first output, by row and column. -/

set_option maxHeartbeats 4000000

variable (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S8x128x128 .f32) (harg3 : arg3.IsWhole) (arg4 : Memref sig .tc .vmem S30x32x1024 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S128x1024 .f32) (harg17 : arg17.IsWhole) (arg18 : Memref sig .tc .vmem S30x32x1024 .f32) (harg18 : arg18.IsWhole) (arg19 : Memref sig .tc .vmem S8x128x128 .f32) (harg19 : arg19.IsWhole)
  (x0 : Vec Ideal S128x1024 .f32) (x1 : Vec Ideal S128x256 .f32) (x2 : Vec Ideal S8x128x128 .f32) (x3 : Vec Ideal S30x32x1024 .f32) (x4 : Vec Ideal S128x1024 .bf16) (x5 : Vec Ideal S128x1024 .bf16) (x6 : Vec Ideal S31x1024 .f32) (x7 : Vec Ideal S1x1024 .f32) (x8 : Vec Ideal S256x1024 .bf16) (x9 : Vec Ideal S1x1024 .f32) (x10 : Vec Ideal S1x1024 .f32) (x11 : Vec Ideal S1024x1024 .bf16) (x12 : Vec Ideal S1024x1024 .bf16) (x13 : Vec Ideal S1x1024 .f32) (x14 : Vec Ideal S1024x5632 .bf16) (x15 : Vec Ideal S2816x1024 .bf16)

/-- A load of a whole operand. -/
theorem read_all {s : Shape} {e : EltTy} (M : Memref sig .tc .vmem s e) (h : M.IsWhole) (X : Vec Ideal s e) (off : Fin s.rank → ℕ) (hoff : ∀ a, off a = 0)
    (inb : ∀ a, off a + s.size a ≤ s.size a) : View.readAt (Elt Ideal) M.view (Rect.unit (s := s) off s.size inb).toLoadRect (h.unread X) = X := by
  funext x
  rw [Memref.IsWhole.readAt_unread]
  refine congrArg X (funext fun a => Fin.ext ?_)
  show off a + 1 * (x a).val = (x a).val
  rw [hoff, Nat.zero_add, Nat.one_mul]

/-- A load of part of an operand of two axes, at a row and a column. -/
theorem read_part {A B a b : ℕ} {e : EltTy} (M : Memref sig .tc .vmem ⟨2, ![A, B]⟩ e) (h : M.IsWhole) (X : Vec Ideal ⟨2, ![A, B]⟩ e) (o : ℕ)
    (inb : ∀ k, (![0, o] : Fin 2 → ℕ) k + (⟨2, ![a, b]⟩ : Shape).size k ≤ (⟨2, ![A, B]⟩ : Shape).size k) (r : Fin a) (n : Fin b) (r' : Fin A) (n' : Fin B) (hr : r.val = r'.val) (hn : o + n.val = n'.val) :
    View.readAt (Elt Ideal) M.view (Rect.unit (s := ⟨2, ![A, B]⟩) ![0, o] (⟨2, ![a, b]⟩ : Shape).size inb).toLoadRect (h.unread X) (ix2 r n) = X (ix2 r' n') := by
  rw [Memref.IsWhole.readAt_unread]
  refine congrArg X (funext fun k => ?_)
  match k with
  | 0 => exact Fin.ext (by show 0 + 1 * r.val = r'.val; omega)
  | 1 => exact Fin.ext (by show o + 1 * n.val = n'.val; omega)

/-- The offsets of a whole load. -/
theorem zero2 : ∀ a : Fin 2, (![0, 0] : Fin 2 → ℕ) a = 0 := by decide

/-- The staging buffer at a place given by its row and its column. -/
theorem cbuf_at (j : S8x128x128.Idx) (r : Fin 128) (n : Fin 1024) (h1 : (j 1).val = r.val) (h2 : 128 * (j 0).val + (j 2).val = n.val) :
    cbuf x2 x3 x6 x7 j = czrow x2 x3 x6 x7 r n := by
  unfold cbuf
  exact congr (congrArg (czrow x2 x3 x6 x7) (Fin.ext h1)) (Fin.ext h2)

theorem z_0 (r l : Fin 128) : kernelRun0_A.sl.v8337 c arg3 harg3 arg4 harg4 arg7 harg7 arg8 harg8 arg19 x2 x3 x6 x7 (ix2 r l) = czrow x2 x3 x6 x7 r ⟨0 + l.val, by omega⟩ := by
  simp only [kernelRun0_A.sl.v8337, kernelRun0_A.sl.v8336, readC]
  pointwise []
  refine cbuf_at x2 x3 x6 x7 _ _ _ ?_ ?_
  all_goals simp

theorem z_1 (r l : Fin 128) : kernelRun0_A.sl.v8339 c arg3 harg3 arg4 harg4 arg7 harg7 arg8 harg8 arg19 x2 x3 x6 x7 (ix2 r l) = czrow x2 x3 x6 x7 r ⟨128 + l.val, by omega⟩ := by
  simp only [kernelRun0_A.sl.v8339, kernelRun0_A.sl.v8338, readC]
  pointwise []
  refine cbuf_at x2 x3 x6 x7 _ _ _ ?_ ?_
  all_goals simp

theorem z_2 (r l : Fin 128) : kernelRun0_A.sl.v8340 c arg3 harg3 arg4 harg4 arg7 harg7 arg8 harg8 arg19 x2 x3 x6 x7 (ix3 0 r l) = czrow x2 x3 x6 x7 r ⟨256 + l.val, by omega⟩ := by
  simp only [kernelRun0_A.sl.v8340, readC]
  refine cbuf_at x2 x3 x6 x7 _ _ _ ?_ ?_
  all_goals simp

theorem z_3 (r l : Fin 128) : kernelRun0_A.sl.v8342 c arg3 harg3 arg4 harg4 arg7 harg7 arg8 harg8 arg19 x2 x3 x6 x7 (ix3 0 r l) = czrow x2 x3 x6 x7 r ⟨384 + l.val, by omega⟩ := by
  simp only [kernelRun0_A.sl.v8342, readC]
  refine cbuf_at x2 x3 x6 x7 _ _ _ ?_ ?_
  all_goals simp

theorem z_4 (r l : Fin 128) : kernelRun0_A.sl.v8344 c arg3 harg3 arg4 harg4 arg7 harg7 arg8 harg8 arg19 x2 x3 x6 x7 (ix3 0 r l) = czrow x2 x3 x6 x7 r ⟨512 + l.val, by omega⟩ := by
  simp only [kernelRun0_A.sl.v8344, readC]
  refine cbuf_at x2 x3 x6 x7 _ _ _ ?_ ?_
  all_goals simp

theorem z_5 (r l : Fin 128) : kernelRun0_A.sl.v8346 c arg3 harg3 arg4 harg4 arg7 harg7 arg8 harg8 arg19 x2 x3 x6 x7 (ix3 0 r l) = czrow x2 x3 x6 x7 r ⟨640 + l.val, by omega⟩ := by
  simp only [kernelRun0_A.sl.v8346, readC]
  refine cbuf_at x2 x3 x6 x7 _ _ _ ?_ ?_
  all_goals simp

theorem z_6 (r l : Fin 128) : kernelRun0_A.sl.v8348 c arg3 harg3 arg4 harg4 arg7 harg7 arg8 harg8 arg19 x2 x3 x6 x7 (ix3 0 r l) = czrow x2 x3 x6 x7 r ⟨768 + l.val, by omega⟩ := by
  simp only [kernelRun0_A.sl.v8348, readC]
  refine cbuf_at x2 x3 x6 x7 _ _ _ ?_ ?_
  all_goals simp

theorem z_7 (r l : Fin 128) : kernelRun0_A.sl.v8350 c arg3 harg3 arg4 harg4 arg7 harg7 arg8 harg8 arg19 x2 x3 x6 x7 (ix3 0 r l) = czrow x2 x3 x6 x7 r ⟨896 + l.val, by omega⟩ := by
  simp only [kernelRun0_A.sl.v8350, readC]
  refine cbuf_at x2 x3 x6 x7 _ _ _ ?_ ?_
  all_goals simp

theorem hp (r : Fin 128) (n : Fin 1024) : kernelRun0_A.sl.r_410 c arg2 harg2 arg9 harg9 x1 x8 (ix2 r n) = ∑ k : Fin 256, x1 (ix2 r k) * x8 (ix2 k n) := by
  unfold kernelRun0_A.sl.r_410
  rw [read_all arg2 harg2 x1 _ zero2, read_all arg9 harg9 x8 _ zero2]
  exact pay672_at x1 x8 r n

theorem hd (r : Fin 128) (n : Fin 1024) : kernelRun0_A.sl.r_411 c arg3 harg3 arg4 harg4 arg7 harg7 arg8 harg8 arg19 x2 x3 x6 x7 (ix2 r n) = czrow x2 x3 x6 x7 r n - Merge.mean (czrow x2 x3 x6 x7 r) := by
  unfold kernelRun0_A.sl.r_411
  exact pay673_at _ _ _ _ _ _ _ _ (czrow x2 x3 x6 x7) (z_0 c arg3 harg3 arg4 harg4 arg7 harg7 arg8 harg8 arg19 x2 x3 x6 x7) (z_1 c arg3 harg3 arg4 harg4 arg7 harg7 arg8 harg8 arg19 x2 x3 x6 x7) (z_2 c arg3 harg3 arg4 harg4 arg7 harg7 arg8 harg8 arg19 x2 x3 x6 x7) (z_3 c arg3 harg3 arg4 harg4 arg7 harg7 arg8 harg8 arg19 x2 x3 x6 x7) (z_4 c arg3 harg3 arg4 harg4 arg7 harg7 arg8 harg8 arg19 x2 x3 x6 x7) (z_5 c arg3 harg3 arg4 harg4 arg7 harg7 arg8 harg8 arg19 x2 x3 x6 x7) (z_6 c arg3 harg3 arg4 harg4 arg7 harg7 arg8 harg8 arg19 x2 x3 x6 x7) (z_7 c arg3 harg3 arg4 harg4 arg7 harg7 arg8 harg8 arg19 x2 x3 x6 x7) r n

theorem hdd (r : Fin 128) (n : Fin 1024) : kernelRun0_A.sl.r_412 c arg3 harg3 arg4 harg4 arg7 harg7 arg8 harg8 arg19 x2 x3 x6 x7 (ix2 r n) =
    (czrow x2 x3 x6 x7 r n - Merge.mean (czrow x2 x3 x6 x7 r)) * (czrow x2 x3 x6 x7 r n - Merge.mean (czrow x2 x3 x6 x7 r)) := by
  unfold kernelRun0_A.sl.r_412
  exact pay674_at _ _ _ _ _ _ _ _ (czrow x2 x3 x6 x7) (z_0 c arg3 harg3 arg4 harg4 arg7 harg7 arg8 harg8 arg19 x2 x3 x6 x7) (z_1 c arg3 harg3 arg4 harg4 arg7 harg7 arg8 harg8 arg19 x2 x3 x6 x7) (z_2 c arg3 harg3 arg4 harg4 arg7 harg7 arg8 harg8 arg19 x2 x3 x6 x7) (z_3 c arg3 harg3 arg4 harg4 arg7 harg7 arg8 harg8 arg19 x2 x3 x6 x7) (z_4 c arg3 harg3 arg4 harg4 arg7 harg7 arg8 harg8 arg19 x2 x3 x6 x7) (z_5 c arg3 harg3 arg4 harg4 arg7 harg7 arg8 harg8 arg19 x2 x3 x6 x7) (z_6 c arg3 harg3 arg4 harg4 arg7 harg7 arg8 harg8 arg19 x2 x3 x6 x7) (z_7 c arg3 harg3 arg4 harg4 arg7 harg7 arg8 harg8 arg19 x2 x3 x6 x7) r n

/-- The residual sum. -/
theorem y_at (r : Fin 128) (n : Fin 1024) : kernelRun0_A.sl.r_413 c arg1 harg1 arg2 harg2 arg3 harg3 arg4 harg4 arg5 harg5 arg6 harg6 arg7 harg7 arg8 harg8 arg9 harg9 arg10 harg10 arg11 harg11 arg12 harg12 arg13 harg13 arg19 x0 x1 x2 x3 x4 x5 x6 x7 x8 x9 x10 x11 x12 (ix2 r n) = brow (k0_pay671 x0) x4 x5 x9 x10 x11 x12 (fun r k => x1 (ix2 r k)) (fun k n => x8 (ix2 k n)) (czrow x2 x3 x6 x7) r n := by
  simp only [kernelRun0_A.sl.r_413, kernelRun0_A.sl.r_407, kernelRun0_A.sl.r_408, kernelRun0_A.sl.r_409]
  rw [read_all arg1 harg1 x0 _ zero2, read_all arg5 harg5 x4 _ zero2, read_all arg6 harg6 x5 _ zero2, read_all arg10 harg10 x9 _ zero2, read_all arg11 harg11 x10 _ zero2,
    read_all arg12 harg12 x11 _ zero2, read_all arg13 harg13 x12 _ zero2]
  exact pay675_at _ _ _ _ _ _ _ _ _ _ _ _ _ (hp c arg2 harg2 arg9 harg9 x1 x8) (hd c arg3 harg3 arg4 harg4 arg7 harg7 arg8 harg8 arg19 x2 x3 x6 x7) (hdd c arg3 harg3 arg4 harg4 arg7 harg7 arg8 harg8 arg19 x2 x3 x6 x7) r n

/-- The sum of its squares. -/
theorem q_at (r : Fin 128) (o : Fin 1) : kernelRun0_A.sl.r_415 c arg1 harg1 arg2 harg2 arg3 harg3 arg4 harg4 arg5 harg5 arg6 harg6 arg7 harg7 arg8 harg8 arg9 harg9 arg10 harg10 arg11 harg11 arg12 harg12 arg13 harg13 arg19 x0 x1 x2 x3 x4 x5 x6 x7 x8 x9 x10 x11 x12 (ix2 r o) = ∑ k, brow (k0_pay671 x0) x4 x5 x9 x10 x11 x12 (fun r k => x1 (ix2 r k)) (fun k n => x8 (ix2 k n)) (czrow x2 x3 x6 x7) r k * brow (k0_pay671 x0) x4 x5 x9 x10 x11 x12 (fun r k => x1 (ix2 r k)) (fun k n => x8 (ix2 k n)) (czrow x2 x3 x6 x7) r k := by
  simp only [kernelRun0_A.sl.r_415, kernelRun0_A.sl.r_407, kernelRun0_A.sl.r_408, kernelRun0_A.sl.r_409]
  rw [read_all arg1 harg1 x0 _ zero2, read_all arg5 harg5 x4 _ zero2, read_all arg6 harg6 x5 _ zero2, read_all arg10 harg10 x9 _ zero2, read_all arg11 harg11 x10 _ zero2,
    read_all arg12 harg12 x11 _ zero2, read_all arg13 harg13 x12 _ zero2]
  exact pay676_at _ _ _ _ _ _ _ _ _ _ _ _ _ (hp c arg2 harg2 arg9 harg9 x1 x8) (hd c arg3 harg3 arg4 harg4 arg7 harg7 arg8 harg8 arg19 x2 x3 x6 x7) (hdd c arg3 harg3 arg4 harg4 arg7 harg7 arg8 harg8 arg19 x2 x3 x6 x7) r o

/-- The run's last value at a row and a column. -/
theorem last_at (r : Fin 128) (n : Fin 1024) : kernelRun0_A.sl.r_416 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13 x14 x15 (ix2 r n) =
    Merge.ffn (Merge.resid (fun k => x0 (ix2 r k)) (Merge.merged (fun k => x1 (ix2 r k)) (czrow x2 x3 x6 x7 r)
      (fun k => x9 (ix2 0 k)) (fun k => x10 (ix2 0 k)) (fun k => x4 (ix2 r k)) (fun k => x5 (ix2 r k))
      (fun k n => x8 (ix2 k n)) (fun k n => x11 (ix2 k n))) (fun k n => x12 (ix2 k n))) (fun k => x13 (ix2 0 k)) (fun k n => x14 (ix2 k n)) (fun j n => x15 (ix2 j n)) n := by
  unfold kernelRun0_A.sl.r_416 kernelRun0_A.sl.r_414
  refine (pay677_at _ _ _ _ _ _ (fun k n => x14 (ix2 k n)) ?_ ?_ (brow (k0_pay671 x0) x4 x5 x9 x10 x11 x12 (fun r k => x1 (ix2 r k)) (fun k n => x8 (ix2 k n)) (czrow x2 x3 x6 x7)) (y_at c arg1 harg1 arg2 harg2 arg3 harg3 arg4 harg4 arg5 harg5 arg6 harg6 arg7 harg7 arg8 harg8 arg9 harg9 arg10 harg10 arg11 harg11 arg12 harg12 arg13 harg13 arg19 x0 x1 x2 x3 x4 x5 x6 x7 x8 x9 x10 x11 x12) (q_at c arg1 harg1 arg2 harg2 arg3 harg3 arg4 harg4 arg5 harg5 arg6 harg6 arg7 harg7 arg8 harg8 arg9 harg9 arg10 harg10 arg11 harg11 arg12 harg12 arg13 harg13 arg19 x0 x1 x2 x3 x4 x5 x6 x7 x8 x9 x10 x11 x12) r n).trans ?_
  · exact fun k j => read_part arg15 harg15 x14 0 _ _ _ _ _ rfl (Nat.zero_add _)
  · exact fun k j => read_part arg15 harg15 x14 2816 _ _ _ _ _ rfl rfl
  rw [read_all arg14 harg14 x13 _ zero2, read_all arg16 harg16 x15 _ zero2]
  unfold brow
  simp only [pay671_at]

/-- What the run leaves in the first output's block. -/
theorem out_at (r : Fin 128) (n : Fin 1024) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 (ix2 r n) = kernelRun0_A.sl.r_416 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13 x14 x15 (ix2 r n) := by
  unfold out0_A_16
  rw [View.read_writes_junk_eq_canon]
  show View.canon [(⟨Rect.unit (s := S128x1024) ![0, 0] S128x1024.size inb_S128x1024_S128x1024_0_0, kernelRun0_A.sl.r_416 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13 x14 x15⟩ : View.Piece (Elt Ideal) S128x1024 .f32)] (ix2 r n) = _
  canon_tiles x h
  refine congrArg _ (funext fun a => Fin.ext ?_)
  match a with
  | 0 => exact h0.symm
  | 1 => exact h1.symm

end Cert.Kernel3Ideal.Block

end
-- ==== Proof.SampleOperands.lean ====
module

public import proofs.«01_k».proof.Proof.Gen.Kernel3Ideal.Frame.Runs
public import Idealize.ShloMosaic.Lib.Pipeline.ValueKit
public import Idealize.ShloMosaic.Lib.Claim
public import proofs.«01_k».proof.Proof.SampleSpec

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! What the input blocks of the one grid point hold, by the argument arrays. -/

variable (m : (ℓ : Loc nD τ sig) → Buf (Elt Ideal) ℓ)

/-- Every window's block is its whole array. -/
theorem idxAll : ∀ t : Fin cfg0.N, win0_0.index t = ![0, 0] ∧ win0_1.index t = ![0, 0] ∧ win0_2.index t = ![0, 0, 0] ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- The outputs' too. -/
theorem idxOut : ∀ t : Fin cfg0.N, win0_16.index t = ![0, 0] ∧ win0_17.index t = ![0, 0, 0] :=
  (by decide +kernel : ∀ t : Fin grid0.N, _)

/-- The tokens: row `4·b + s` is token `s` of batch entry `b`. -/
theorem op0 (c : Dev nD) (t : Fin cfg0.N) (r : Fin 128) (n : Fin 1024) (b : Fin 32) (s : Fin 4) (hr : r.val = 4 * b.val + s.val) :
    (iblk m c 0 t : Vec Ideal S128x1024 .f32) (ix2 r n) = (m ((c : Thread nD τ).loc main_arg0)) (ix3 b s n) := by
  blk_point [iblk, V, idxAll t]

/-- The attention's output: row `4·b + s` is token `s` of batch entry `b`. -/
theorem op1 (c : Dev nD) (t : Fin cfg0.N) (r : Fin 128) (n : Fin 256) (b : Fin 32) (s : Fin 4) (hr : r.val = 4 * b.val + s.val) :
    (iblk m c 1 t : Vec Ideal S128x256 .f32) (ix2 r n) = (m ((c : Thread nD τ).loc main_arg1)) (ix3 b s n) := by
  blk_point [iblk, V, idxAll t]

/-- The convolution input, as it lies. -/
theorem op2 (c : Dev nD) (t : Fin cfg0.N) (a : Fin 8) (r : Fin 128) (l : Fin 128) : (iblk m c 2 t : Vec Ideal S8x128x128 .f32) (ix3 a r l) = (m ((c : Thread nD τ).loc main_arg2)) (ix3 a r l) := by
  blk_point [iblk, V, idxAll t]

/-- The kept rows, the row before the batch entry. -/
theorem op3 (c : Dev nD) (t : Fin cfg0.N) (k : Fin 30) (b : Fin 32) (n : Fin 1024) : (iblk m c 3 t : Vec Ideal S30x32x1024 .f32) (ix3 k b n) = (m ((c : Thread nD τ).loc main_arg3)) (ix4 0 b k n) := by
  blk_point [iblk, V, idxAll t]

/-- Argument 4, whole. -/
theorem op4 (c : Dev nD) (t : Fin cfg0.N) (k : Fin 128) (n : Fin 1024) : (iblk m c 4 t : Vec Ideal S128x1024 .bf16) (ix2 k n) = (m ((c : Thread nD τ).loc main_arg4)) (ix2 k n) := by
  blk_point [iblk, V, idxAll t]

/-- Argument 5, whole. -/
theorem op5 (c : Dev nD) (t : Fin cfg0.N) (k : Fin 128) (n : Fin 1024) : (iblk m c 5 t : Vec Ideal S128x1024 .bf16) (ix2 k n) = (m ((c : Thread nD τ).loc main_arg5)) (ix2 k n) := by
  blk_point [iblk, V, idxAll t]

/-- Argument 7, whole. -/
theorem op6 (c : Dev nD) (t : Fin cfg0.N) (k : Fin 31) (n : Fin 1024) : (iblk m c 6 t : Vec Ideal S31x1024 .f32) (ix2 k n) = (m ((c : Thread nD τ).loc main_arg7)) (ix3 0 k n) := by
  blk_point [iblk, V, idxAll t]

/-- Argument 8, whole. -/
theorem op7 (c : Dev nD) (t : Fin cfg0.N) (n : Fin 1024) : (iblk m c 7 t : Vec Ideal S1x1024 .f32) (ix2 0 n) = (m ((c : Thread nD τ).loc main_arg8)) (ix2 0 n) := by
  blk_point [iblk, V, idxAll t]

/-- Argument 6, whole. -/
theorem op8 (c : Dev nD) (t : Fin cfg0.N) (k : Fin 256) (n : Fin 1024) : (iblk m c 8 t : Vec Ideal S256x1024 .bf16) (ix2 k n) = (m ((c : Thread nD τ).loc main_arg6)) (ix3 0 k n) := by
  blk_point [iblk, V, idxAll t]

/-- Argument 9, whole. -/
theorem op9 (c : Dev nD) (t : Fin cfg0.N) (n : Fin 1024) : (iblk m c 9 t : Vec Ideal S1x1024 .f32) (ix2 0 n) = (m ((c : Thread nD τ).loc main_arg9)) (ix2 0 n) := by
  blk_point [iblk, V, idxAll t]

/-- Argument 10, whole. -/
theorem op10 (c : Dev nD) (t : Fin cfg0.N) (n : Fin 1024) : (iblk m c 10 t : Vec Ideal S1x1024 .f32) (ix2 0 n) = (m ((c : Thread nD τ).loc main_arg10)) (ix2 0 n) := by
  blk_point [iblk, V, idxAll t]

/-- Argument 11, whole. -/
theorem op11 (c : Dev nD) (t : Fin cfg0.N) (k : Fin 1024) (n : Fin 1024) : (iblk m c 11 t : Vec Ideal S1024x1024 .bf16) (ix2 k n) = (m ((c : Thread nD τ).loc main_arg11)) (ix3 0 k n) := by
  blk_point [iblk, V, idxAll t]

/-- Argument 12, whole. -/
theorem op12 (c : Dev nD) (t : Fin cfg0.N) (k : Fin 1024) (n : Fin 1024) : (iblk m c 12 t : Vec Ideal S1024x1024 .bf16) (ix2 k n) = (m ((c : Thread nD τ).loc main_arg12)) (ix3 0 k n) := by
  blk_point [iblk, V, idxAll t]

/-- Argument 13, whole. -/
theorem op13 (c : Dev nD) (t : Fin cfg0.N) (n : Fin 1024) : (iblk m c 13 t : Vec Ideal S1x1024 .f32) (ix2 0 n) = (m ((c : Thread nD τ).loc main_arg13)) (ix2 0 n) := by
  blk_point [iblk, V, idxAll t]

/-- Argument 14, whole. -/
theorem op14 (c : Dev nD) (t : Fin cfg0.N) (k : Fin 1024) (n : Fin 5632) : (iblk m c 14 t : Vec Ideal S1024x5632 .bf16) (ix2 k n) = (m ((c : Thread nD τ).loc main_arg14)) (ix3 0 k n) := by
  blk_point [iblk, V, idxAll t]

/-- Argument 15, whole. -/
theorem op15 (c : Dev nD) (t : Fin cfg0.N) (k : Fin 2816) (n : Fin 1024) : (iblk m c 15 t : Vec Ideal S2816x1024 .bf16) (ix2 k n) = (m ((c : Thread nD τ).loc main_arg15)) (ix3 0 k n) := by
  blk_point [iblk, V, idxAll t]

end Cert.Kernel3Ideal.Block

end
-- ==== Proof.SampleArrays.lean ====
module

public import proofs.«01_k».proof.Proof.SampleBlock
public import proofs.«01_k».proof.Proof.SampleOperands

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

variable (m : (ℓ : Loc nD τ sig) → Buf (Elt Ideal) ℓ)

/-! The kernel's first output array by its argument arrays. -/

/-- A batch entry's rows by the argument arrays. -/
theorem krow_at (c : Dev nD) (t : Fin cfg0.N) (b : Fin 32) (s : ℕ) (n : Fin 1024) : krow (iblk m c 2 t) (iblk m c 3 t) b s n = Sample.erow (m ((c : Thread nD τ).loc main_arg2)) (m ((c : Thread nD τ).loc main_arg3)) b s n := by
  unfold krow Sample.erow
  by_cases h : s < 30
  · rw [dif_pos h, dif_pos h]
    exact op3 m c t _ _ _
  · rw [dif_neg h, dif_neg h]
    by_cases h' : s - 30 < 4
    · rw [dif_pos h', dif_pos h']
      exact op2 m c t _ _ _
    · rw [dif_neg h', dif_neg h']

/-- The convolution's results by the argument arrays. -/
theorem czrow_at (c : Dev nD) (t : Fin cfg0.N) (r : Fin 128) (b : Fin 32) (s : Fin 4) (hr : r.val = 4 * b.val + s.val) :
    czrow (iblk m c 2 t) (iblk m c 3 t) (iblk m c 6 t) (iblk m c 7 t) r = Sample.zrow (m ((c : Thread nD τ).loc main_arg2)) (m ((c : Thread nD τ).loc main_arg3)) (m ((c : Thread nD τ).loc main_arg7)) (m ((c : Thread nD τ).loc main_arg8)) b s := by
  have hb : (⟨r.val / 4, by omega⟩ : Fin 32) = b := Fin.ext (by show r.val / 4 = b.val; omega)
  have hs : r.val % 4 = s.val := by omega
  funext n
  unfold czrow Sample.zrow
  have ek : ∀ s, krow (iblk m c 2 t) (iblk m c 3 t) b s = Sample.erow (m ((c : Thread nD τ).loc main_arg2)) (m ((c : Thread nD τ).loc main_arg3)) b s := fun s => funext (krow_at m c t b s)
  simp only [hb, hs, ek, op6 m c t, op7 m c t]

set_option maxHeartbeats 4000000 in
/-- What point `t` leaves in its first block, at a row and a column. -/
theorem point_at (c : Dev nD) (t : Fin cfg0.N) (r : Fin 128) (n : Fin 1024) (b : Fin 32) (s : Fin 4) (hr : r.val = 4 * b.val + s.val) :
    ((outsAt0 m c t).1 : Vec Ideal S128x1024 .f32) (ix2 r n) = Sample.entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b s n := by
  have er : (⟨b.val * 4 + s.val, by omega⟩ : Fin 128) = r := Fin.ext (by show b.val * 4 + s.val = r.val; omega)
  unfold outsAt0
  dsimp only
  rw [out_at, last_at]
  have e0 : ∀ k : Fin 1024, (iblk m c 0 t : Vec Ideal S128x1024 .f32) (ix2 r k) = (m ((c : Thread nD τ).loc main_arg0)) (ix3 b s k) := fun k => op0 m c t r k b s hr
  have e1 : ∀ k : Fin 256, (iblk m c 1 t : Vec Ideal S128x256 .f32) (ix2 r k) = (m ((c : Thread nD τ).loc main_arg1)) (ix3 b s k) := fun k => op1 m c t r k b s hr
  unfold Sample.entry Sample.rrow Sample.mrow
  simp only [czrow_at m c t r b s hr, e0, e1, er, op4 m c t, op5 m c t, op8 m c t, op9 m c t, op10 m c t, op11 m c t, op12 m c t, op13 m c t, op14 m c t, op15 m c t]

/-- What point `t` writes into its first block, by the argument arrays. -/
theorem place16 (c : Dev nD) (t : Fin cfg0.N) (y : S128x1024.Idx) : ((outsAt0 m c t).1 : Vec Ideal S128x1024 .f32) y = Sample.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 (y 0) (y 1)) := by
  have h0 : (y 0).val < 128 := (y 0).isLt
  have e : y = ix2 (y 0) (y 1) := by
    funext a
    match a with
    | 0 => rfl
    | 1 => rfl
  rw [e]
  exact point_at m c t (y 0) (y 1) _ _ (by show (y 0).val = 4 * ((y 0).val / 4) + (y 0).val % 4; omega)

/-- The first output array. -/
theorem final16 (c : Dev nD) : (dats m 0 c).arrAt 16 (cfgs 0).N = Sample.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t hf y => ?_
  have hi := (idxOut t).1
  blk_simp
  rw [after0_16]
  have h0 : (y 0).val < 128 := (y 0).isLt
  have h1 : (y 1).val < 1024 := (y 1).isLt
  have e : (win0_16.blk t).view.emb y = ix2 (y 0) (y 1) := by blk_ext [hi]
  rw [e]
  exact place16 m c t y

end Cert.Kernel3Ideal.Block

end
-- ==== Proof.SampleKept.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Ring
public import Idealize.ShloMosaic.Lib.WholeRead
public import proofs.«01_k».proof.Proof.SampleStage

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

/-! What the body leaves in its second output: the kept rows, moved on by four. -/

/-- The kept rows after the call. -/
def keptRows (x2 : Vec Ideal S8x128x128 .f32) (x3 : Vec Ideal S30x32x1024 .f32) : Vec Ideal S30x32x1024 .f32 :=
  fun y => krow x2 x3 (y 1) ((y 0).val + 4) (y 2)

theorem emb0k (R : Rect S30x32x1024) (x : R.shape.Idx) (l : ℕ) (hoff : R.off 0 = l) (hsz : R.size 0 = 1) : (R.emb x 0).val = l := by
  have h : (x 0).val < 1 := hsz ▸ (x 0).isLt
  show R.off 0 + R.stride 0 * (x 0).val = l
  rw [hoff, Nat.lt_one_iff.1 h, Nat.mul_zero, Nat.add_zero]

theorem emb1k (R : Rect S30x32x1024) (x : R.shape.Idx) (hoff : R.off 1 = 0) (hst : R.stride 1 = 1) : (R.emb x 1).val = (x 1).val := by
  show R.off 1 + R.stride 1 * (x 1).val = _
  rw [hoff, hst, Nat.zero_add, Nat.one_mul]

theorem emb2k (R : Rect S30x32x1024) (x : R.shape.Idx) (o : ℕ) (hoff : R.off 2 = o) (hst : R.stride 2 = 1) : (R.emb x 2).val = o + (x 2).val := by
  show R.off 2 + R.stride 2 * (x 2).val = _
  rw [hoff, hst, Nat.one_mul]

/-- A stored row that was kept before. -/
theorem keep_st (arg4 : Memref sig .tc .vmem S30x32x1024 .f32) (harg4 : arg4.IsWhole) (x2 : Vec Ideal S8x128x128 .f32) (x3 : Vec Ideal S30x32x1024 .f32) (o k : ℕ) (ho : o < 30)
    (inb : ∀ a, (![o, 0, k] : Fin 3 → ℕ) a + S1x32x128.size a ≤ S30x32x1024.size a) (x : S1x32x128.Idx) (y : S30x32x1024.Idx)
    {l : ℕ} (e0 : (y 0).val = l) (e1 : (y 1).val = (x 1).val) (e2 : (y 2).val = k + (x 2).val) (hl : l + 4 = o := by rfl) :
    shapeCast S1x32x128 (shapeCast S32x128 (View.readAt (Elt Ideal) arg4.view (Rect.unit (s := S30x32x1024) ![o, 0, k] S1x32x128.size inb).toLoadRect (harg4.unread x3)) shapeCasts_S1x32x128_S32x128) shapeCasts_S32x128_S1x32x128 x = keptRows x2 x3 y := by
  pointwise []
  simp only [Memref.IsWhole.readAt_unread]
  refine st_at x2 x3 _ _ _ _ _ ?_ ?_ ?_ ?_
  all_goals simp [e0, e1, e2]
  all_goals omega

/-- A stored row that is one of the entry's own. -/
theorem keep_ut (arg3 : Memref sig .tc .vmem S8x128x128 .f32) (harg3 : arg3.IsWhole) (x2 : Vec Ideal S8x128x128 .f32) (x3 : Vec Ideal S30x32x1024 .f32) (s t : ℕ) (hs : s < 4)
    (inb : _) (x : S1x32x128.Idx) (y : S30x32x1024.Idx)
    {l k : ℕ} (e0 : (y 0).val = l) (e1 : (y 1).val = (x 1).val) (e2 : (y 2).val = k + (x 2).val) (hl : l + 4 = 30 + s := by rfl) (hk : k = 128 * t := by rfl) :
    shapeCast S1x32x128 (shapeCast S32x128 (View.readAt (Elt Ideal) arg3.view (LoadRect.mk (s := S8x128x128) ![t, s, 0] S1x32x128.size ![1, 4, 1] inb) (harg3.unread x2)) shapeCasts_S1x32x128_S32x128) shapeCasts_S32x128_S1x32x128 x = keptRows x2 x3 y := by
  have g2 : (x 2).val < 128 := (x 2).isLt
  pointwise []
  simp only [Memref.IsWhole.readAt_unread]
  refine ut_at x2 x3 _ _ _ _ _ ?_ ?_ ?_ ?_ ?_
  all_goals simp [e0, e1, e2]
  all_goals omega

variable (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S8x128x128 .f32) (harg3 : arg3.IsWhole) (arg4 : Memref sig .tc .vmem S30x32x1024 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S31x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S128x1024 .f32) (harg17 : arg17.IsWhole) (arg18 : Memref sig .tc .vmem S30x32x1024 .f32) (harg18 : arg18.IsWhole) (arg19 : Memref sig .tc .vmem S8x128x128 .f32) (harg19 : arg19.IsWhole)
  (x0 : Vec Ideal S128x1024 .f32) (x1 : Vec Ideal S128x256 .f32) (x2 : Vec Ideal S8x128x128 .f32) (x3 : Vec Ideal S30x32x1024 .f32) (x4 : Vec Ideal S128x1024 .bf16) (x5 : Vec Ideal S128x1024 .bf16) (x6 : Vec Ideal S31x1024 .f32) (x7 : Vec Ideal S1x1024 .f32) (x8 : Vec Ideal S256x1024 .bf16) (x9 : Vec Ideal S1x1024 .f32) (x10 : Vec Ideal S1x1024 .f32) (x11 : Vec Ideal S1024x1024 .bf16) (x12 : Vec Ideal S1024x1024 .bf16) (x13 : Vec Ideal S1x1024 .f32) (x14 : Vec Ideal S1024x5632 .bf16) (x15 : Vec Ideal S2816x1024 .bf16)

set_option maxHeartbeats 8000000

/-- The kept rows by the run's stores. -/
theorem kept_at : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 = keptRows x2 x3 := by
  unfold out0_A_17
  rw [View.read_writes_junk_eq_canon]
  funext y
  refine View.canon_apply_of_pieces (keptRows x2 x3) _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 y)
  refine List.forall_mem_cons.2 ⟨fun x => keep_ut arg3 harg3 x2 x3 3 7 (by decide) _ x _ (emb0k _ x 29 rfl rfl) (emb1k _ x rfl rfl) (emb2k _ x 896 rfl rfl), ?_⟩
  refine List.forall_mem_cons.2 ⟨fun x => keep_ut arg3 harg3 x2 x3 2 7 (by decide) _ x _ (emb0k _ x 28 rfl rfl) (emb1k _ x rfl rfl) (emb2k _ x 896 rfl rfl), ?_⟩
  refine List.forall_mem_cons.2 ⟨fun x => keep_ut arg3 harg3 x2 x3 1 7 (by decide) _ x _ (emb0k _ x 27 rfl rfl) (emb1k _ x rfl rfl) (emb2k _ x 896 rfl rfl), ?_⟩
  refine List.forall_mem_cons.2 ⟨fun x => keep_ut arg3 harg3 x2 x3 0 7 (by decide) _ x _ (emb0k _ x 26 rfl rfl) (emb1k _ x rfl rfl) (emb2k _ x 896 rfl rfl), ?_⟩
  refine List.forall_mem_cons.2 ⟨fun x => keep_st arg4 harg4 x2 x3 29 896 (by decide) _ x _ (emb0k _ x 25 rfl rfl) (emb1k _ x rfl rfl) (emb2k _ x 896 rfl rfl), ?_⟩
  refine List.forall_mem_cons.2 ⟨fun x => keep_st arg4 harg4 x2 x3 28 896 (by decide) _ x _ (emb0k _ x 24 rfl rfl) (emb1k _ x rfl rfl) (emb2k _ x 896 rfl rfl), ?_⟩
  refine List.forall_mem_cons.2 ⟨fun x => keep_st arg4 harg4 x2 x3 27 896 (by decide) _ x _ (emb0k _ x 23 rfl rfl) (emb1k _ x rfl rfl) (emb2k _ x 896 rfl rfl), ?_⟩
  refine List.forall_mem_cons.2 ⟨fun x => keep_st arg4 harg4 x2 x3 26 896 (by decide) _ x _ (emb0k _ x 22 rfl rfl) (emb1k _ x rfl rfl) (emb2k _ x 896 rfl rfl), ?_⟩
  refine List.forall_mem_cons.2 ⟨fun x => keep_st arg4 harg4 x2 x3 25 896 (by decide) _ x _ (emb0k _ x 21 rfl rfl) (emb1k _ x rfl rfl) (emb2k _ x 896 rfl rfl), ?_⟩
  refine List.forall_mem_cons.2 ⟨fun x => keep_st arg4 harg4 x2 x3 24 896 (by decide) _ x _ (emb0k _ x 20 rfl rfl) (emb1k _ x rfl rfl) (emb2k _ x 896 rfl rfl), ?_⟩
  refine List.forall_mem_cons.2 ⟨fun x => keep_st arg4 harg4 x2 x3 23 896 (by decide) _ x _ (emb0k _ x 19 rfl rfl) (emb1k _ x rfl rfl) (emb2k _ x 896 rfl rfl), ?_⟩
  refine List.forall_mem_cons.2 ⟨fun x => keep_st arg4 harg4 x2 x3 22 896 (by decide) _ x _ (emb0k _ x 18 rfl rfl) (emb1k _ x rfl rfl) (emb2k _ x 896 rfl rfl), ?_⟩
  refine List.forall_mem_cons.2 ⟨fun x => keep_st arg4 harg4 x2 x3 21 896 (by decide) _ x _ (emb0k _ x 17 rfl rfl) (emb1k _ x rfl rfl) (emb2k _ x 896 rfl rfl), ?_⟩
  refine List.forall_mem_cons.2 ⟨fun x => keep_st arg4 harg4 x2 x3 20 896 (by decide) _ x _ (emb0k _ x 16 rfl rfl) (emb1k _ x rfl rfl) (emb2k _ x 896 rfl rfl), ?_⟩
  refine List.forall_mem_cons.2 ⟨fun x => keep_st arg4 harg4 x2 x3 19 896 (by decide) _ x _ (emb0k _ x 15 rfl rfl) (emb1k _ x rfl rfl) (emb2k _ x 896 rfl rfl), ?_⟩
  refine List.forall_mem_cons.2 ⟨fun x => keep_st arg4 harg4 x2 x3 18 896 (by decide) _ x _ (emb0k _ x 14 rfl rfl) (emb1k _ x rfl rfl) (emb2k _ x 896 rfl rfl), ?_⟩
  refine List.forall_mem_cons.2 ⟨fun x => keep_st arg4 harg4 x2 x3 17 896 (by decide) _ x _ (emb0k _ x 13 rfl rfl) (emb1k _ x rfl rfl) (emb2k _ x 896 rfl rfl), ?_⟩
  refine List.forall_mem_cons.2 ⟨fun x => keep_st arg4 harg4 x2 x3 16 896 (by decide) _ x _ (emb0k _ x 12 rfl rfl) (emb1k _ x rfl rfl) (emb2k _ x 896 rfl rfl), ?_⟩
  refine List.forall_mem_cons.2 ⟨fun x => keep_st arg4 harg4 x2 x3 15 896 (by decide) _ x _ (emb0k _ x 11 rfl rfl) (emb1k _ x rfl rfl) (emb2k _ x 896 rfl rfl), ?_⟩
  refine List.forall_mem_cons.2 ⟨fun x => keep_st arg4 harg4 x2 x3 14 896 (by decide) _ x _ (emb0k _ x 10 rfl rfl) (emb1k _ x rfl rfl) (emb2k _ x 896 rfl rfl), ?_⟩
  refine List.forall_mem_cons.2 ⟨fun x => keep_st arg4 harg4 x2 x3 13 896 (by decide) _ x _ (emb0k _ x 9 rfl rfl) (emb1k _ x rfl rfl) (emb2k _ x 896 rfl rfl), ?_⟩
  refine List.forall_mem_cons.2 ⟨fun x => keep_st arg4 harg4 x2 x3 12 896 (by decide) _ x _ (emb0k _ x 8 rfl rfl) (emb1k _ x rfl rfl) (emb2k _ x 896 rfl rfl), ?_⟩
  refine List.forall_mem_cons.2 ⟨fun x => keep_st arg4 harg4 x2 x3 11 896 (by decide) _ x _ (emb0k _ x 7 rfl rfl) (emb1k _ x rfl rfl) (emb2k _ x 896 rfl rfl), ?_⟩
  refine List.forall_mem_cons.2 ⟨fun x => keep_st arg4 harg4 x2 x3 10 896 (by decide) _ x _ (emb0k _ x 6 rfl rfl) (emb1k _ x rfl rfl) (emb2k _ x 896 rfl rfl), ?_⟩
  refine List.forall_mem_cons.2 ⟨fun x => keep_st arg4 harg4 x2 x3 9 896 (by decide) _ x _ (emb0k _ x 5 rfl rfl) (emb1k _ x rfl rfl) (emb2k _ x 896 rfl rfl), ?_⟩
  refine List.forall_mem_cons.2 ⟨fun x => keep_st arg4 harg4 x2 x3 8 896 (by decide) _ x _ (emb0k _ x 4 rfl rfl) (emb1k _ x rfl rfl) (emb2k _ x 896 rfl rfl), ?_⟩
  refine List.forall_mem_cons.2 ⟨fun x => keep_st arg4 harg4 x2 x3 7 896 (by decide) _ x _ (emb0k _ x 3 rfl rfl) (emb1k _ x rfl rfl) (emb2k _ x 896 rfl rfl), ?_⟩
  refine List.forall_mem_cons.2 ⟨fun x => keep_st arg4 harg4 x2 x3 6 896 (by decide) _ x _ (emb0k _ x 2 rfl rfl) (emb1k _ x rfl rfl) (emb2k _ x 896 rfl rfl), ?_⟩
  refine List.forall_mem_cons.2 ⟨fun x => keep_st arg4 harg4 x2 x3 5 896 (by decide) _ x _ (emb0k _ x 1 rfl rfl) (emb1k _ x rfl rfl) (emb2k _ x 896 rfl rfl), ?_⟩
  refine List.forall_mem_cons.2 ⟨fun x => keep_st arg4 harg4 x2 x3 4 896 (by decide) _ x _ (emb0k _ x 0 rfl rfl) (emb1k _ x rfl rfl) (emb2k _ x 896 rfl rfl), ?_⟩
  refine List.forall_mem_cons.2 ⟨fun x => keep_ut arg3 harg3 x2 x3 3 6 (by decide) _ x _ (emb0k _ x 29 rfl rfl) (emb1k _ x rfl rfl) (emb2k _ x 768 rfl rfl), ?_⟩
  refine List.forall_mem_cons.2 ⟨fun x => keep_ut arg3 harg3 x2 x3 2 6 (by decide) _ x _ (emb0k _ x 28 rfl rfl) (emb1k _ x rfl rfl) (emb2k _ x 768 rfl rfl), ?_⟩
  refine List.forall_mem_cons.2 ⟨fun x => keep_ut arg3 harg3 x2 x3 1 6 (by decide) _ x _ (emb0k _ x 27 rfl rfl) (emb1k _ x rfl rfl) (emb2k _ x 768 rfl rfl), ?_⟩
  refine List.forall_mem_cons.2 ⟨fun x => keep_ut arg3 harg3 x2 x3 0 6 (by decide) _ x _ (emb0k _ x 26 rfl rfl) (emb1k _ x rfl rfl) (emb2k _ x 768 rfl rfl), ?_⟩
  refine List.forall_mem_cons.2 ⟨fun x => keep_st arg4 harg4 x2 x3 29 768 (by decide) _ x _ (emb0k _ x 25 rfl rfl) (emb1k _ x rfl rfl) (emb2k _ x 768 rfl rfl), ?_⟩
  refine List.forall_mem_cons.2 ⟨fun x => keep_st arg4 harg4 x2 x3 28 768 (by decide) _ x _ (emb0k _ x 24 rfl rfl) (emb1k _ x rfl rfl) (emb2k _ x 768 rfl rfl), ?_⟩
  refine List.forall_mem_cons.2 ⟨fun x => keep_st arg4 harg4 x2 x3 27 768 (by decide) _ x _ (emb0k _ x 23 rfl rfl) (emb1k _ x rfl rfl) (emb2k _ x 768 rfl rfl), ?_⟩
  refine List.forall_mem_cons.2 ⟨fun x => keep_st arg4 harg4 x2 x3 26 768 (by decide) _ x _ (emb0k _ x 22 rfl rfl) (emb1k _ x rfl rfl) (emb2k _ x 768 rfl rfl), ?_⟩
  refine List.forall_mem_cons.2 ⟨fun x => keep_st arg4 harg4 x2 x3 25 768 (by decide) _ x _ (emb0k _ x 21 rfl rfl) (emb1k _ x rfl rfl) (emb2k _ x 768 rfl rfl), ?_⟩
  refine List.forall_mem_cons.2 ⟨fun x => keep_st arg4 harg4 x2 x3 24 768 (by decide) _ x _ (emb0k _ x 20 rfl rfl) (emb1k _ x rfl rfl) (emb2k _ x 768 rfl rfl), ?_⟩
  refine List.forall_mem_cons.2 ⟨fun x => keep_st arg4 harg4 x2 x3 23 768 (by decide) _ x _ (emb0k _ x 19 rfl rfl) (emb1k _ x rfl rfl) (emb2k _ x 768 rfl rfl), ?_⟩
  refine List.forall_mem_cons.2 ⟨fun x => keep_st arg4 harg4 x2 x3 22 768 (by decide) _ x _ (emb0k _ x 18 rfl rfl) (emb1k _ x rfl rfl) (emb2k _ x 768 rfl rfl), ?_⟩
  refine List.forall_mem_cons.2 ⟨fun x => keep_st arg4 harg4 x2 x3 21 768 (by decide) _ x _ (emb0k _ x 17 rfl rfl) (emb1k _ x rfl rfl) (emb2k _ x 768 rfl rfl), ?_⟩
  refine List.forall_mem_cons.2 ⟨fun x => keep_st arg4 harg4 x2 x3 20 768 (by decide) _ x _ (emb0k _ x 16 rfl rfl) (emb1k _ x rfl rfl) (emb2k _ x 768 rfl rfl), ?_⟩
  refine List.forall_mem_cons.2 ⟨fun x => keep_st arg4 harg4 x2 x3 19 768 (by decide) _ x _ (emb0k _ x 15 rfl rfl) (emb1k _ x rfl rfl) (emb2k _ x 768 rfl rfl), ?_⟩
  refine List.forall_mem_cons.2 ⟨fun x => keep_st arg4 harg4 x2 x3 18 768 (by decide) _ x _ (emb0k _ x 14 rfl rfl) (emb1k _ x rfl rfl) (emb2k _ x 768 rfl rfl), ?_⟩
  refine List.forall_mem_cons.2 ⟨fun x => keep_st arg4 harg4 x2 x3 17 768 (by decide) _ x _ (emb0k _ x 13 rfl rfl) (emb1k _ x rfl rfl) (emb2k _ x 768 rfl rfl), ?_⟩
  refine List.forall_mem_cons.2 ⟨fun x => keep_st arg4 harg4 x2 x3 16 768 (by decide) _ x _ (emb0k _ x 12 rfl rfl) (emb1k _ x rfl rfl) (emb2k _ x 768 rfl rfl), ?_⟩
  refine List.forall_mem_cons.2 ⟨fun x => keep_st arg4 harg4 x2 x3 15 768 (by decide) _ x _ (emb0k _ x 11 rfl rfl) (emb1k _ x rfl rfl) (emb2k _ x 768 rfl rfl), ?_⟩
  refine List.forall_mem_cons.2 ⟨fun x => keep_st arg4 harg4 x2 x3 14 768 (by decide) _ x _ (emb0k _ x 10 rfl rfl) (emb1k _ x rfl rfl) (emb2k _ x 768 rfl rfl), ?_⟩
  refine List.forall_mem_cons.2 ⟨fun x => keep_st arg4 harg4 x2 x3 13 768 (by decide) _ x _ (emb0k _ x 9 rfl rfl) (emb1k _ x rfl rfl) (emb2k _ x 768 rfl rfl), ?_⟩
  refine List.forall_mem_cons.2 ⟨fun x => keep_st arg4 harg4 x2 x3 12 768 (by decide) _ x _ (emb0k _ x 8 rfl rfl) (emb1k _ x rfl rfl) (emb2k _ x 768 rfl rfl), ?_⟩
  refine List.forall_mem_cons.2 ⟨fun x => keep_st arg4 harg4 x2 x3 11 768 (by decide) _ x _ (emb0k _ x 7 rfl rfl) (emb1k _ x rfl rfl) (emb2k _ x 768 rfl rfl), ?_⟩
  refine List.forall_mem_cons.2 ⟨fun x => keep_st arg4 harg4 x2 x3 10 768 (by decide) _ x _ (emb0k _ x 6 rfl rfl) (emb1k _ x rfl rfl) (emb2k _ x 768 rfl rfl), ?_⟩
  refine List.forall_mem_cons.2 ⟨fun x => keep_st arg4 harg4 x2 x3 9 768 (by decide) _ x _ (emb0k _ x 5 rfl rfl) (emb1k _ x rfl rfl) (emb2k _ x 768 rfl rfl), ?_⟩
  refine List.forall_mem_cons.2 ⟨fun x => keep_st arg4 harg4 x2 x3 8 768 (by decide) _ x _ (emb0k _ x 4 rfl rfl) (emb1k _ x rfl rfl) (emb2k _ x 768 rfl rfl), ?_⟩
  refine List.forall_mem_cons.2 ⟨fun x => keep_st arg4 harg4 x2 x3 7 768 (by decide) _ x _ (emb0k _ x 3 rfl rfl) (emb1k _ x rfl rfl) (emb2k _ x 768 rfl rfl), ?_⟩
  refine List.forall_mem_cons.2 ⟨fun x => keep_st arg4 harg4 x2 x3 6 768 (by decide) _ x _ (emb0k _ x 2 rfl rfl) (emb1k _ x rfl rfl) (emb2k _ x 768 rfl rfl), ?_⟩
  refine List.forall_mem_cons.2 ⟨fun x => keep_st arg4 harg4 x2 x3 5 768 (by decide) _ x _ (emb0k _ x 1 rfl rfl) (emb1k _ x rfl rfl) (emb2k _ x 768 rfl rfl), ?_⟩
  refine List.forall_mem_cons.2 ⟨fun x => keep_st arg4 harg4 x2 x3 4 768 (by decide) _ x _ (emb0k _ x 0 rfl rfl) (emb1k _ x rfl rfl) (emb2k _ x 768 rfl rfl), ?_⟩
  refine List.forall_mem_cons.2 ⟨fun x => keep_ut arg3 harg3 x2 x3 3 5 (by decide) _ x _ (emb0k _ x 29 rfl rfl) (emb1k _ x rfl rfl) (emb2k _ x 640 rfl rfl), ?_⟩
  refine List.forall_mem_cons.2 ⟨fun x => keep_ut arg3 harg3 x2 x3 2 5 (by decide) _ x _ (emb0k _ x 28 rfl rfl) (emb1k _ x rfl rfl) (emb2k _ x 640 rfl rfl), ?_⟩
  refine List.forall_mem_cons.2 ⟨fun x => keep_ut arg3 harg3 x2 x3 1 5 (by decide) _ x _ (emb0k _ x 27 rfl rfl) (emb1k _ x rfl rfl) (emb2k _ x 640 rfl rfl), ?_⟩
  refine List.forall_mem_cons.2 ⟨fun x => keep_ut arg3 harg3 x2 x3 0 5 (by decide) _ x _ (emb0k _ x 26 rfl rfl) (emb1k _ x rfl rfl) (emb2k _ x 640 rfl rfl), ?_⟩
  refine List.forall_mem_cons.2 ⟨fun x => keep_st arg4 harg4 x2 x3 29 640 (by decide) _ x _ (emb0k _ x 25 rfl rfl) (emb1k _ x rfl rfl) (emb2k _ x 640 rfl rfl), ?_⟩
  refine List.forall_mem_cons.2 ⟨fun x => keep_st arg4 harg4 x2 x3 28 640 (by decide) _ x _ (emb0k _ x 24 rfl rfl) (emb1k _ x rfl rfl) (emb2k _ x 640 rfl rfl), ?_⟩
  refine List.forall_mem_cons.2 ⟨fun x => keep_st arg4 harg4 x2 x3 27 640 (by decide) _ x _ (emb0k _ x 23 rfl rfl) (emb1k _ x rfl rfl) (emb2k _ x 640 rfl rfl), ?_⟩
  refine List.forall_mem_cons.2 ⟨fun x => keep_st arg4 harg4 x2 x3 26 640 (by decide) _ x _ (emb0k _ x 22 rfl rfl) (emb1k _ x rfl rfl) (emb2k _ x 640 rfl rfl), ?_⟩
  refine List.forall_mem_cons.2 ⟨fun x => keep_st arg4 harg4 x2 x3 25 640 (by decide) _ x _ (emb0k _ x 21 rfl rfl) (emb1k _ x rfl rfl) (emb2k _ x 640 rfl rfl), ?_⟩
  refine List.forall_mem_cons.2 ⟨fun x => keep_st arg4 harg4 x2 x3 24 640 (by decide) _ x _ (emb0k _ x 20 rfl rfl) (emb1k _ x rfl rfl) (emb2k _ x 640 rfl rfl), ?_⟩
  refine List.forall_mem_cons.2 ⟨fun x => keep_st arg4 harg4 x2 x3 23 640 (by decide) _ x _ (emb0k _ x 19 rfl rfl) (emb1k _ x rfl rfl) (emb2k _ x 640 rfl rfl), ?_⟩
  refine List.forall_mem_cons.2 ⟨fun x => keep_st arg4 harg4 x2 x3 22 640 (by decide) _ x _ (emb0k _ x 18 rfl rfl) (emb1k _ x rfl rfl) (emb2k _ x 640 rfl rfl), ?_⟩
  refine List.forall_mem_cons.2 ⟨fun x => keep_st arg4 harg4 x2 x3 21 640 (by decide) _ x _ (emb0k _ x 17 rfl rfl) (emb1k _ x rfl rfl) (emb2k _ x 640 rfl rfl), ?_⟩
  refine List.forall_mem_cons.2 ⟨fun x => keep_st arg4 harg4 x2 x3 20 640 (by decide) _ x _ (emb0k _ x 16 rfl rfl) (emb1k _ x rfl rfl) (emb2k _ x 640 rfl rfl), ?_⟩
  refine List.forall_mem_cons.2 ⟨fun x => keep_st arg4 harg4 x2 x3 19 640 (by decide) _ x _ (emb0k _ x 15 rfl rfl) (emb1k _ x rfl rfl) (emb2k _ x 640 rfl rfl), ?_⟩
  refine List.forall_mem_cons.2 ⟨fun x => keep_st arg4 harg4 x2 x3 18 640 (by decide) _ x _ (emb0k _ x 14 rfl rfl) (emb1k _ x rfl rfl) (emb2k _ x 640 rfl rfl), ?_⟩
  refine List.forall_mem_cons.2 ⟨fun x => keep_st arg4 harg4 x2 x3 17 640 (by decide) _ x _ (emb0k _ x 13 rfl rfl) (emb1k _ x rfl rfl) (emb2k _ x 640 rfl rfl), ?_⟩
  refine List.forall_mem_cons.2 ⟨fun x => keep_st arg4 harg4 x2 x3 16 640 (by decide) _ x _ (emb0k _ x 12 rfl rfl) (emb1k _ x rfl rfl) (emb2k _ x 640 rfl rfl), ?_⟩
  refine List.forall_mem_cons.2 ⟨fun x => keep_st arg4 harg4 x2 x3 15 640 (by decide) _ x _ (emb0k _ x 11 rfl rfl) (emb1k _ x rfl rfl) (emb2k _ x 640 rfl rfl), ?_⟩
  refine List.forall_mem_cons.2 ⟨fun x => keep_st arg4 harg4 x2 x3 14 640 (by decide) _ x _ (emb0k _ x 10 rfl rfl) (emb1k _ x rfl rfl) (emb2k _ x 640 rfl rfl), ?_⟩
  refine List.forall_mem_cons.2 ⟨fun x => keep_st arg4 harg4 x2 x3 13 640 (by decide) _ x _ (emb0k _ x 9 rfl rfl) (emb1k _ x rfl rfl) (emb2k _ x 640 rfl rfl), ?_⟩
  refine List.forall_mem_cons.2 ⟨fun x => keep_st arg4 harg4 x2 x3 12 640 (by decide) _ x _ (emb0k _ x 8 rfl rfl) (emb1k _ x rfl rfl) (emb2k _ x 640 rfl rfl), ?_⟩
  refine List.forall_mem_cons.2 ⟨fun x => keep_st arg4 harg4 x2 x3 11 640 (by decide) _ x _ (emb0k _ x 7 rfl rfl) (emb1k _ x rfl rfl) (emb2k _ x 640 rfl rfl), ?_⟩
  refine List.forall_mem_cons.2 ⟨fun x => keep_st arg4 harg4 x2 x3 10 640 (by decide) _ x _ (emb0k _ x 6 rfl rfl) (emb1k _ x rfl rfl) (emb2k _ x 640 rfl rfl), ?_⟩
  refine List.forall_mem_cons.2 ⟨fun x => keep_st arg4 harg4 x2 x3 9 640 (by decide) _ x _ (emb0k _ x 5 rfl rfl) (emb1k _ x rfl rfl) (emb2k _ x 640 rfl rfl), ?_⟩
  refine List.forall_mem_cons.2 ⟨fun x => keep_st arg4 harg4 x2 x3 8 640 (by decide) _ x _ (emb0k _ x 4 rfl rfl) (emb1k _ x rfl rfl) (emb2k _ x 640 rfl rfl), ?_⟩
  refine List.forall_mem_cons.2 ⟨fun x => keep_st arg4 harg4 x2 x3 7 640 (by decide) _ x _ (emb0k _ x 3 rfl rfl) (emb1k _ x rfl rfl) (emb2k _ x 640 rfl rfl), ?_⟩
  refine List.forall_mem_cons.2 ⟨fun x => keep_st arg4 harg4 x2 x3 6 640 (by decide) _ x _ (emb0k _ x 2 rfl rfl) (emb1k _ x rfl rfl) (emb2k _ x 640 rfl rfl), ?_⟩
  refine List.forall_mem_cons.2 ⟨fun x => keep_st arg4 harg4 x2 x3 5 640 (by decide) _ x _ (emb0k _ x 1 rfl rfl) (emb1k _ x rfl rfl) (emb2k _ x 640 rfl rfl), ?_⟩
  refine List.forall_mem_cons.2 ⟨fun x => keep_st arg4 harg4 x2 x3 4 640 (by decide) _ x _ (emb0k _ x 0 rfl rfl) (emb1k _ x rfl rfl) (emb2k _ x 640 rfl rfl), ?_⟩
  refine List.forall_mem_cons.2 ⟨fun x => keep_ut arg3 harg3 x2 x3 3 4 (by decide) _ x _ (emb0k _ x 29 rfl rfl) (emb1k _ x rfl rfl) (emb2k _ x 512 rfl rfl), ?_⟩
  refine List.forall_mem_cons.2 ⟨fun x => keep_ut arg3 harg3 x2 x3 2 4 (by decide) _ x _ (emb0k _ x 28 rfl rfl) (emb1k _ x rfl rfl) (emb2k _ x 512 rfl rfl), ?_⟩
  refine List.forall_mem_cons.2 ⟨fun x => keep_ut arg3 harg3 x2 x3 1 4 (by decide) _ x _ (emb0k _ x 27 rfl rfl) (emb1k _ x rfl rfl) (emb2k _ x 512 rfl rfl), ?_⟩
  refine List.forall_mem_cons.2 ⟨fun x => keep_ut arg3 harg3 x2 x3 0 4 (by decide) _ x _ (emb0k _ x 26 rfl rfl) (emb1k _ x rfl rfl) (emb2k _ x 512 rfl rfl), ?_⟩
  refine List.forall_mem_cons.2 ⟨fun x => keep_st arg4 harg4 x2 x3 29 512 (by decide) _ x _ (emb0k _ x 25 rfl rfl) (emb1k _ x rfl rfl) (emb2k _ x 512 rfl rfl), ?_⟩
  refine List.forall_mem_cons.2 ⟨fun x => keep_st arg4 harg4 x2 x3 28 512 (by decide) _ x _ (emb0k _ x 24 rfl rfl) (emb1k _ x rfl rfl) (emb2k _ x 512 rfl rfl), ?_⟩
  refine List.forall_mem_cons.2 ⟨fun x => keep_st arg4 harg4 x2 x3 27 512 (by decide) _ x _ (emb0k _ x 23 rfl rfl) (emb1k _ x rfl rfl) (emb2k _ x 512 rfl rfl), ?_⟩
  refine List.forall_mem_cons.2 ⟨fun x => keep_st arg4 harg4 x2 x3 26 512 (by decide) _ x _ (emb0k _ x 22 rfl rfl) (emb1k _ x rfl rfl) (emb2k _ x 512 rfl rfl), ?_⟩
  refine List.forall_mem_cons.2 ⟨fun x => keep_st arg4 harg4 x2 x3 25 512 (by decide) _ x _ (emb0k _ x 21 rfl rfl) (emb1k _ x rfl rfl) (emb2k _ x 512 rfl rfl), ?_⟩
  refine List.forall_mem_cons.2 ⟨fun x => keep_st arg4 harg4 x2 x3 24 512 (by decide) _ x _ (emb0k _ x 20 rfl rfl) (emb1k _ x rfl rfl) (emb2k _ x 512 rfl rfl), ?_⟩
  refine List.forall_mem_cons.2 ⟨fun x => keep_st arg4 harg4 x2 x3 23 512 (by decide) _ x _ (emb0k _ x 19 rfl rfl) (emb1k _ x rfl rfl) (emb2k _ x 512 rfl rfl), ?_⟩
  refine List.forall_mem_cons.2 ⟨fun x => keep_st arg4 harg4 x2 x3 22 512 (by decide) _ x _ (emb0k _ x 18 rfl rfl) (emb1k _ x rfl rfl) (emb2k _ x 512 rfl rfl), ?_⟩
  refine List.forall_mem_cons.2 ⟨fun x => keep_st arg4 harg4 x2 x3 21 512 (by decide) _ x _ (emb0k _ x 17 rfl rfl) (emb1k _ x rfl rfl) (emb2k _ x 512 rfl rfl), ?_⟩
  refine List.forall_mem_cons.2 ⟨fun x => keep_st arg4 harg4 x2 x3 20 512 (by decide) _ x _ (emb0k _ x 16 rfl rfl) (emb1k _ x rfl rfl) (emb2k _ x 512 rfl rfl), ?_⟩
  refine List.forall_mem_cons.2 ⟨fun x => keep_st arg4 harg4 x2 x3 19 512 (by decide) _ x _ (emb0k _ x 15 rfl rfl) (emb1k _ x rfl rfl) (emb2k _ x 512 rfl rfl), ?_⟩
  refine List.forall_mem_cons.2 ⟨fun x => keep_st arg4 harg4 x2 x3 18 512 (by decide) _ x _ (emb0k _ x 14 rfl rfl) (emb1k _ x rfl rfl) (emb2k _ x 512 rfl rfl), ?_⟩
  refine List.forall_mem_cons.2 ⟨fun x => keep_st arg4 harg4 x2 x3 17 512 (by decide) _ x _ (emb0k _ x 13 rfl rfl) (emb1k _ x rfl rfl) (emb2k _ x 512 rfl rfl), ?_⟩
  refine List.forall_mem_cons.2 ⟨fun x => keep_st arg4 harg4 x2 x3 16 512 (by decide) _ x _ (emb0k _ x 12 rfl rfl) (emb1k _ x rfl rfl) (emb2k _ x 512 rfl rfl), ?_⟩
  refine List.forall_mem_cons.2 ⟨fun x => keep_st arg4 harg4 x2 x3 15 512 (by decide) _ x _ (emb0k _ x 11 rfl rfl) (emb1k _ x rfl rfl) (emb2k _ x 512 rfl rfl), ?_⟩
  refine List.forall_mem_cons.2 ⟨fun x => keep_st arg4 harg4 x2 x3 14 512 (by decide) _ x _ (emb0k _ x 10 rfl rfl) (emb1k _ x rfl rfl) (emb2k _ x 512 rfl rfl), ?_⟩
  refine List.forall_mem_cons.2 ⟨fun x => keep_st arg4 harg4 x2 x3 13 512 (by decide) _ x _ (emb0k _ x 9 rfl rfl) (emb1k _ x rfl rfl) (emb2k _ x 512 rfl rfl), ?_⟩
  refine List.forall_mem_cons.2 ⟨fun x => keep_st arg4 harg4 x2 x3 12 512 (by decide) _ x _ (emb0k _ x 8 rfl rfl) (emb1k _ x rfl rfl) (emb2k _ x 512 rfl rfl), ?_⟩
  refine List.forall_mem_cons.2 ⟨fun x => keep_st arg4 harg4 x2 x3 11 512 (by decide) _ x _ (emb0k _ x 7 rfl rfl) (emb1k _ x rfl rfl) (emb2k _ x 512 rfl rfl), ?_⟩
  refine List.forall_mem_cons.2 ⟨fun x => keep_st arg4 harg4 x2 x3 10 512 (by decide) _ x _ (emb0k _ x 6 rfl rfl) (emb1k _ x rfl rfl) (emb2k _ x 512 rfl rfl), ?_⟩
  refine List.forall_mem_cons.2 ⟨fun x => keep_st arg4 harg4 x2 x3 9 512 (by decide) _ x _ (emb0k _ x 5 rfl rfl) (emb1k _ x rfl rfl) (emb2k _ x 512 rfl rfl), ?_⟩
  refine List.forall_mem_cons.2 ⟨fun x => keep_st arg4 harg4 x2 x3 8 512 (by decide) _ x _ (emb0k _ x 4 rfl rfl) (emb1k _ x rfl rfl) (emb2k _ x 512 rfl rfl), ?_⟩
  refine List.forall_mem_cons.2 ⟨fun x => keep_st arg4 harg4 x2 x3 7 512 (by decide) _ x _ (emb0k _ x 3 rfl rfl) (emb1k _ x rfl rfl) (emb2k _ x 512 rfl rfl), ?_⟩
  refine List.forall_mem_cons.2 ⟨fun x => keep_st arg4 harg4 x2 x3 6 512 (by decide) _ x _ (emb0k _ x 2 rfl rfl) (emb1k _ x rfl rfl) (emb2k _ x 512 rfl rfl), ?_⟩
  refine List.forall_mem_cons.2 ⟨fun x => keep_st arg4 harg4 x2 x3 5 512 (by decide) _ x _ (emb0k _ x 1 rfl rfl) (emb1k _ x rfl rfl) (emb2k _ x 512 rfl rfl), ?_⟩
  refine List.forall_mem_cons.2 ⟨fun x => keep_st arg4 harg4 x2 x3 4 512 (by decide) _ x _ (emb0k _ x 0 rfl rfl) (emb1k _ x rfl rfl) (emb2k _ x 512 rfl rfl), ?_⟩
  refine List.forall_mem_cons.2 ⟨fun x => keep_ut arg3 harg3 x2 x3 3 3 (by decide) _ x _ (emb0k _ x 29 rfl rfl) (emb1k _ x rfl rfl) (emb2k _ x 384 rfl rfl), ?_⟩
  refine List.forall_mem_cons.2 ⟨fun x => keep_ut arg3 harg3 x2 x3 2 3 (by decide) _ x _ (emb0k _ x 28 rfl rfl) (emb1k _ x rfl rfl) (emb2k _ x 384 rfl rfl), ?_⟩
  refine List.forall_mem_cons.2 ⟨fun x => keep_ut arg3 harg3 x2 x3 1 3 (by decide) _ x _ (emb0k _ x 27 rfl rfl) (emb1k _ x rfl rfl) (emb2k _ x 384 rfl rfl), ?_⟩
  refine List.forall_mem_cons.2 ⟨fun x => keep_ut arg3 harg3 x2 x3 0 3 (by decide) _ x _ (emb0k _ x 26 rfl rfl) (emb1k _ x rfl rfl) (emb2k _ x 384 rfl rfl), ?_⟩
  refine List.forall_mem_cons.2 ⟨fun x => keep_st arg4 harg4 x2 x3 29 384 (by decide) _ x _ (emb0k _ x 25 rfl rfl) (emb1k _ x rfl rfl) (emb2k _ x 384 rfl rfl), ?_⟩
  refine List.forall_mem_cons.2 ⟨fun x => keep_st arg4 harg4 x2 x3 28 384 (by decide) _ x _ (emb0k _ x 24 rfl rfl) (emb1k _ x rfl rfl) (emb2k _ x 384 rfl rfl), ?_⟩
  refine List.forall_mem_cons.2 ⟨fun x => keep_st arg4 harg4 x2 x3 27 384 (by decide) _ x _ (emb0k _ x 23 rfl rfl) (emb1k _ x rfl rfl) (emb2k _ x 384 rfl rfl), ?_⟩
  refine List.forall_mem_cons.2 ⟨fun x => keep_st arg4 harg4 x2 x3 26 384 (by decide) _ x _ (emb0k _ x 22 rfl rfl) (emb1k _ x rfl rfl) (emb2k _ x 384 rfl rfl), ?_⟩
  refine List.forall_mem_cons.2 ⟨fun x => keep_st arg4 harg4 x2 x3 25 384 (by decide) _ x _ (emb0k _ x 21 rfl rfl) (emb1k _ x rfl rfl) (emb2k _ x 384 rfl rfl), ?_⟩
  refine List.forall_mem_cons.2 ⟨fun x => keep_st arg4 harg4 x2 x3 24 384 (by decide) _ x _ (emb0k _ x 20 rfl rfl) (emb1k _ x rfl rfl) (emb2k _ x 384 rfl rfl), ?_⟩
  refine List.forall_mem_cons.2 ⟨fun x => keep_st arg4 harg4 x2 x3 23 384 (by decide) _ x _ (emb0k _ x 19 rfl rfl) (emb1k _ x rfl rfl) (emb2k _ x 384 rfl rfl), ?_⟩
  refine List.forall_mem_cons.2 ⟨fun x => keep_st arg4 harg4 x2 x3 22 384 (by decide) _ x _ (emb0k _ x 18 rfl rfl) (emb1k _ x rfl rfl) (emb2k _ x 384 rfl rfl), ?_⟩
  refine List.forall_mem_cons.2 ⟨fun x => keep_st arg4 harg4 x2 x3 21 384 (by decide) _ x _ (emb0k _ x 17 rfl rfl) (emb1k _ x rfl rfl) (emb2k _ x 384 rfl rfl), ?_⟩
  refine List.forall_mem_cons.2 ⟨fun x => keep_st arg4 harg4 x2 x3 20 384 (by decide) _ x _ (emb0k _ x 16 rfl rfl) (emb1k _ x rfl rfl) (emb2k _ x 384 rfl rfl), ?_⟩
  refine List.forall_mem_cons.2 ⟨fun x => keep_st arg4 harg4 x2 x3 19 384 (by decide) _ x _ (emb0k _ x 15 rfl rfl) (emb1k _ x rfl rfl) (emb2k _ x 384 rfl rfl), ?_⟩
  refine List.forall_mem_cons.2 ⟨fun x => keep_st arg4 harg4 x2 x3 18 384 (by decide) _ x _ (emb0k _ x 14 rfl rfl) (emb1k _ x rfl rfl) (emb2k _ x 384 rfl rfl), ?_⟩
  refine List.forall_mem_cons.2 ⟨fun x => keep_st arg4 harg4 x2 x3 17 384 (by decide) _ x _ (emb0k _ x 13 rfl rfl) (emb1k _ x rfl rfl) (emb2k _ x 384 rfl rfl), ?_⟩
  refine List.forall_mem_cons.2 ⟨fun x => keep_st arg4 harg4 x2 x3 16 384 (by decide) _ x _ (emb0k _ x 12 rfl rfl) (emb1k _ x rfl rfl) (emb2k _ x 384 rfl rfl), ?_⟩
  refine List.forall_mem_cons.2 ⟨fun x => keep_st arg4 harg4 x2 x3 15 384 (by decide) _ x _ (emb0k _ x 11 rfl rfl) (emb1k _ x rfl rfl) (emb2k _ x 384 rfl rfl), ?_⟩
  refine List.forall_mem_cons.2 ⟨fun x => keep_st arg4 harg4 x2 x3 14 384 (by decide) _ x _ (emb0k _ x 10 rfl rfl) (emb1k _ x rfl rfl) (emb2k _ x 384 rfl rfl), ?_⟩
  refine List.forall_mem_cons.2 ⟨fun x => keep_st arg4 harg4 x2 x3 13 384 (by decide) _ x _ (emb0k _ x 9 rfl rfl) (emb1k _ x rfl rfl) (emb2k _ x 384 rfl rfl), ?_⟩
  refine List.forall_mem_cons.2 ⟨fun x => keep_st arg4 harg4 x2 x3 12 384 (by decide) _ x _ (emb0k _ x 8 rfl rfl) (emb1k _ x rfl rfl) (emb2k _ x 384 rfl rfl), ?_⟩
  refine List.forall_mem_cons.2 ⟨fun x => keep_st arg4 harg4 x2 x3 11 384 (by decide) _ x _ (emb0k _ x 7 rfl rfl) (emb1k _ x rfl rfl) (emb2k _ x 384 rfl rfl), ?_⟩
  refine List.forall_mem_cons.2 ⟨fun x => keep_st arg4 harg4 x2 x3 10 384 (by decide) _ x _ (emb0k _ x 6 rfl rfl) (emb1k _ x rfl rfl) (emb2k _ x 384 rfl rfl), ?_⟩
  refine List.forall_mem_cons.2 ⟨fun x => keep_st arg4 harg4 x2 x3 9 384 (by decide) _ x _ (emb0k _ x 5 rfl rfl) (emb1k _ x rfl rfl) (emb2k _ x 384 rfl rfl), ?_⟩
  refine List.forall_mem_cons.2 ⟨fun x => keep_st arg4 harg4 x2 x3 8 384 (by decide) _ x _ (emb0k _ x 4 rfl rfl) (emb1k _ x rfl rfl) (emb2k _ x 384 rfl rfl), ?_⟩
  refine List.forall_mem_cons.2 ⟨fun x => keep_st arg4 harg4 x2 x3 7 384 (by decide) _ x _ (emb0k _ x 3 rfl rfl) (emb1k _ x rfl rfl) (emb2k _ x 384 rfl rfl), ?_⟩
  refine List.forall_mem_cons.2 ⟨fun x => keep_st arg4 harg4 x2 x3 6 384 (by decide) _ x _ (emb0k _ x 2 rfl rfl) (emb1k _ x rfl rfl) (emb2k _ x 384 rfl rfl), ?_⟩
  refine List.forall_mem_cons.2 ⟨fun x => keep_st arg4 harg4 x2 x3 5 384 (by decide) _ x _ (emb0k _ x 1 rfl rfl) (emb1k _ x rfl rfl) (emb2k _ x 384 rfl rfl), ?_⟩
  refine List.forall_mem_cons.2 ⟨fun x => keep_st arg4 harg4 x2 x3 4 384 (by decide) _ x _ (emb0k _ x 0 rfl rfl) (emb1k _ x rfl rfl) (emb2k _ x 384 rfl rfl), ?_⟩
  refine List.forall_mem_cons.2 ⟨fun x => keep_ut arg3 harg3 x2 x3 3 2 (by decide) _ x _ (emb0k _ x 29 rfl rfl) (emb1k _ x rfl rfl) (emb2k _ x 256 rfl rfl), ?_⟩
  refine List.forall_mem_cons.2 ⟨fun x => keep_ut arg3 harg3 x2 x3 2 2 (by decide) _ x _ (emb0k _ x 28 rfl rfl) (emb1k _ x rfl rfl) (emb2k _ x 256 rfl rfl), ?_⟩
  refine List.forall_mem_cons.2 ⟨fun x => keep_ut arg3 harg3 x2 x3 1 2 (by decide) _ x _ (emb0k _ x 27 rfl rfl) (emb1k _ x rfl rfl) (emb2k _ x 256 rfl rfl), ?_⟩
  refine List.forall_mem_cons.2 ⟨fun x => keep_ut arg3 harg3 x2 x3 0 2 (by decide) _ x _ (emb0k _ x 26 rfl rfl) (emb1k _ x rfl rfl) (emb2k _ x 256 rfl rfl), ?_⟩
  refine List.forall_mem_cons.2 ⟨fun x => keep_st arg4 harg4 x2 x3 29 256 (by decide) _ x _ (emb0k _ x 25 rfl rfl) (emb1k _ x rfl rfl) (emb2k _ x 256 rfl rfl), ?_⟩
  refine List.forall_mem_cons.2 ⟨fun x => keep_st arg4 harg4 x2 x3 28 256 (by decide) _ x _ (emb0k _ x 24 rfl rfl) (emb1k _ x rfl rfl) (emb2k _ x 256 rfl rfl), ?_⟩
  refine List.forall_mem_cons.2 ⟨fun x => keep_st arg4 harg4 x2 x3 27 256 (by decide) _ x _ (emb0k _ x 23 rfl rfl) (emb1k _ x rfl rfl) (emb2k _ x 256 rfl rfl), ?_⟩
  refine List.forall_mem_cons.2 ⟨fun x => keep_st arg4 harg4 x2 x3 26 256 (by decide) _ x _ (emb0k _ x 22 rfl rfl) (emb1k _ x rfl rfl) (emb2k _ x 256 rfl rfl), ?_⟩
  refine List.forall_mem_cons.2 ⟨fun x => keep_st arg4 harg4 x2 x3 25 256 (by decide) _ x _ (emb0k _ x 21 rfl rfl) (emb1k _ x rfl rfl) (emb2k _ x 256 rfl rfl), ?_⟩
  refine List.forall_mem_cons.2 ⟨fun x => keep_st arg4 harg4 x2 x3 24 256 (by decide) _ x _ (emb0k _ x 20 rfl rfl) (emb1k _ x rfl rfl) (emb2k _ x 256 rfl rfl), ?_⟩
  refine List.forall_mem_cons.2 ⟨fun x => keep_st arg4 harg4 x2 x3 23 256 (by decide) _ x _ (emb0k _ x 19 rfl rfl) (emb1k _ x rfl rfl) (emb2k _ x 256 rfl rfl), ?_⟩
  refine List.forall_mem_cons.2 ⟨fun x => keep_st arg4 harg4 x2 x3 22 256 (by decide) _ x _ (emb0k _ x 18 rfl rfl) (emb1k _ x rfl rfl) (emb2k _ x 256 rfl rfl), ?_⟩
  refine List.forall_mem_cons.2 ⟨fun x => keep_st arg4 harg4 x2 x3 21 256 (by decide) _ x _ (emb0k _ x 17 rfl rfl) (emb1k _ x rfl rfl) (emb2k _ x 256 rfl rfl), ?_⟩
  refine List.forall_mem_cons.2 ⟨fun x => keep_st arg4 harg4 x2 x3 20 256 (by decide) _ x _ (emb0k _ x 16 rfl rfl) (emb1k _ x rfl rfl) (emb2k _ x 256 rfl rfl), ?_⟩
  refine List.forall_mem_cons.2 ⟨fun x => keep_st arg4 harg4 x2 x3 19 256 (by decide) _ x _ (emb0k _ x 15 rfl rfl) (emb1k _ x rfl rfl) (emb2k _ x 256 rfl rfl), ?_⟩
  refine List.forall_mem_cons.2 ⟨fun x => keep_st arg4 harg4 x2 x3 18 256 (by decide) _ x _ (emb0k _ x 14 rfl rfl) (emb1k _ x rfl rfl) (emb2k _ x 256 rfl rfl), ?_⟩
  refine List.forall_mem_cons.2 ⟨fun x => keep_st arg4 harg4 x2 x3 17 256 (by decide) _ x _ (emb0k _ x 13 rfl rfl) (emb1k _ x rfl rfl) (emb2k _ x 256 rfl rfl), ?_⟩
  refine List.forall_mem_cons.2 ⟨fun x => keep_st arg4 harg4 x2 x3 16 256 (by decide) _ x _ (emb0k _ x 12 rfl rfl) (emb1k _ x rfl rfl) (emb2k _ x 256 rfl rfl), ?_⟩
  refine List.forall_mem_cons.2 ⟨fun x => keep_st arg4 harg4 x2 x3 15 256 (by decide) _ x _ (emb0k _ x 11 rfl rfl) (emb1k _ x rfl rfl) (emb2k _ x 256 rfl rfl), ?_⟩
  refine List.forall_mem_cons.2 ⟨fun x => keep_st arg4 harg4 x2 x3 14 256 (by decide) _ x _ (emb0k _ x 10 rfl rfl) (emb1k _ x rfl rfl) (emb2k _ x 256 rfl rfl), ?_⟩
  refine List.forall_mem_cons.2 ⟨fun x => keep_st arg4 harg4 x2 x3 13 256 (by decide) _ x _ (emb0k _ x 9 rfl rfl) (emb1k _ x rfl rfl) (emb2k _ x 256 rfl rfl), ?_⟩
  refine List.forall_mem_cons.2 ⟨fun x => keep_st arg4 harg4 x2 x3 12 256 (by decide) _ x _ (emb0k _ x 8 rfl rfl) (emb1k _ x rfl rfl) (emb2k _ x 256 rfl rfl), ?_⟩
  refine List.forall_mem_cons.2 ⟨fun x => keep_st arg4 harg4 x2 x3 11 256 (by decide) _ x _ (emb0k _ x 7 rfl rfl) (emb1k _ x rfl rfl) (emb2k _ x 256 rfl rfl), ?_⟩
  refine List.forall_mem_cons.2 ⟨fun x => keep_st arg4 harg4 x2 x3 10 256 (by decide) _ x _ (emb0k _ x 6 rfl rfl) (emb1k _ x rfl rfl) (emb2k _ x 256 rfl rfl), ?_⟩
  refine List.forall_mem_cons.2 ⟨fun x => keep_st arg4 harg4 x2 x3 9 256 (by decide) _ x _ (emb0k _ x 5 rfl rfl) (emb1k _ x rfl rfl) (emb2k _ x 256 rfl rfl), ?_⟩
  refine List.forall_mem_cons.2 ⟨fun x => keep_st arg4 harg4 x2 x3 8 256 (by decide) _ x _ (emb0k _ x 4 rfl rfl) (emb1k _ x rfl rfl) (emb2k _ x 256 rfl rfl), ?_⟩
  refine List.forall_mem_cons.2 ⟨fun x => keep_st arg4 harg4 x2 x3 7 256 (by decide) _ x _ (emb0k _ x 3 rfl rfl) (emb1k _ x rfl rfl) (emb2k _ x 256 rfl rfl), ?_⟩
  refine List.forall_mem_cons.2 ⟨fun x => keep_st arg4 harg4 x2 x3 6 256 (by decide) _ x _ (emb0k _ x 2 rfl rfl) (emb1k _ x rfl rfl) (emb2k _ x 256 rfl rfl), ?_⟩
  refine List.forall_mem_cons.2 ⟨fun x => keep_st arg4 harg4 x2 x3 5 256 (by decide) _ x _ (emb0k _ x 1 rfl rfl) (emb1k _ x rfl rfl) (emb2k _ x 256 rfl rfl), ?_⟩
  refine List.forall_mem_cons.2 ⟨fun x => keep_st arg4 harg4 x2 x3 4 256 (by decide) _ x _ (emb0k _ x 0 rfl rfl) (emb1k _ x rfl rfl) (emb2k _ x 256 rfl rfl), ?_⟩
  refine List.forall_mem_cons.2 ⟨fun x => keep_ut arg3 harg3 x2 x3 3 1 (by decide) _ x _ (emb0k _ x 29 rfl rfl) (emb1k _ x rfl rfl) (emb2k _ x 128 rfl rfl), ?_⟩
  refine List.forall_mem_cons.2 ⟨fun x => keep_ut arg3 harg3 x2 x3 2 1 (by decide) _ x _ (emb0k _ x 28 rfl rfl) (emb1k _ x rfl rfl) (emb2k _ x 128 rfl rfl), ?_⟩
  refine List.forall_mem_cons.2 ⟨fun x => keep_ut arg3 harg3 x2 x3 1 1 (by decide) _ x _ (emb0k _ x 27 rfl rfl) (emb1k _ x rfl rfl) (emb2k _ x 128 rfl rfl), ?_⟩
  refine List.forall_mem_cons.2 ⟨fun x => keep_ut arg3 harg3 x2 x3 0 1 (by decide) _ x _ (emb0k _ x 26 rfl rfl) (emb1k _ x rfl rfl) (emb2k _ x 128 rfl rfl), ?_⟩
  refine List.forall_mem_cons.2 ⟨fun x => keep_st arg4 harg4 x2 x3 29 128 (by decide) _ x _ (emb0k _ x 25 rfl rfl) (emb1k _ x rfl rfl) (emb2k _ x 128 rfl rfl), ?_⟩
  refine List.forall_mem_cons.2 ⟨fun x => keep_st arg4 harg4 x2 x3 28 128 (by decide) _ x _ (emb0k _ x 24 rfl rfl) (emb1k _ x rfl rfl) (emb2k _ x 128 rfl rfl), ?_⟩
  refine List.forall_mem_cons.2 ⟨fun x => keep_st arg4 harg4 x2 x3 27 128 (by decide) _ x _ (emb0k _ x 23 rfl rfl) (emb1k _ x rfl rfl) (emb2k _ x 128 rfl rfl), ?_⟩
  refine List.forall_mem_cons.2 ⟨fun x => keep_st arg4 harg4 x2 x3 26 128 (by decide) _ x _ (emb0k _ x 22 rfl rfl) (emb1k _ x rfl rfl) (emb2k _ x 128 rfl rfl), ?_⟩
  refine List.forall_mem_cons.2 ⟨fun x => keep_st arg4 harg4 x2 x3 25 128 (by decide) _ x _ (emb0k _ x 21 rfl rfl) (emb1k _ x rfl rfl) (emb2k _ x 128 rfl rfl), ?_⟩
  refine List.forall_mem_cons.2 ⟨fun x => keep_st arg4 harg4 x2 x3 24 128 (by decide) _ x _ (emb0k _ x 20 rfl rfl) (emb1k _ x rfl rfl) (emb2k _ x 128 rfl rfl), ?_⟩
  refine List.forall_mem_cons.2 ⟨fun x => keep_st arg4 harg4 x2 x3 23 128 (by decide) _ x _ (emb0k _ x 19 rfl rfl) (emb1k _ x rfl rfl) (emb2k _ x 128 rfl rfl), ?_⟩
  refine List.forall_mem_cons.2 ⟨fun x => keep_st arg4 harg4 x2 x3 22 128 (by decide) _ x _ (emb0k _ x 18 rfl rfl) (emb1k _ x rfl rfl) (emb2k _ x 128 rfl rfl), ?_⟩
  refine List.forall_mem_cons.2 ⟨fun x => keep_st arg4 harg4 x2 x3 21 128 (by decide) _ x _ (emb0k _ x 17 rfl rfl) (emb1k _ x rfl rfl) (emb2k _ x 128 rfl rfl), ?_⟩
  refine List.forall_mem_cons.2 ⟨fun x => keep_st arg4 harg4 x2 x3 20 128 (by decide) _ x _ (emb0k _ x 16 rfl rfl) (emb1k _ x rfl rfl) (emb2k _ x 128 rfl rfl), ?_⟩
  refine List.forall_mem_cons.2 ⟨fun x => keep_st arg4 harg4 x2 x3 19 128 (by decide) _ x _ (emb0k _ x 15 rfl rfl) (emb1k _ x rfl rfl) (emb2k _ x 128 rfl rfl), ?_⟩
  refine List.forall_mem_cons.2 ⟨fun x => keep_st arg4 harg4 x2 x3 18 128 (by decide) _ x _ (emb0k _ x 14 rfl rfl) (emb1k _ x rfl rfl) (emb2k _ x 128 rfl rfl), ?_⟩
  refine List.forall_mem_cons.2 ⟨fun x => keep_st arg4 harg4 x2 x3 17 128 (by decide) _ x _ (emb0k _ x 13 rfl rfl) (emb1k _ x rfl rfl) (emb2k _ x 128 rfl rfl), ?_⟩
  refine List.forall_mem_cons.2 ⟨fun x => keep_st arg4 harg4 x2 x3 16 128 (by decide) _ x _ (emb0k _ x 12 rfl rfl) (emb1k _ x rfl rfl) (emb2k _ x 128 rfl rfl), ?_⟩
  refine List.forall_mem_cons.2 ⟨fun x => keep_st arg4 harg4 x2 x3 15 128 (by decide) _ x _ (emb0k _ x 11 rfl rfl) (emb1k _ x rfl rfl) (emb2k _ x 128 rfl rfl), ?_⟩
  refine List.forall_mem_cons.2 ⟨fun x => keep_st arg4 harg4 x2 x3 14 128 (by decide) _ x _ (emb0k _ x 10 rfl rfl) (emb1k _ x rfl rfl) (emb2k _ x 128 rfl rfl), ?_⟩
  refine List.forall_mem_cons.2 ⟨fun x => keep_st arg4 harg4 x2 x3 13 128 (by decide) _ x _ (emb0k _ x 9 rfl rfl) (emb1k _ x rfl rfl) (emb2k _ x 128 rfl rfl), ?_⟩
  refine List.forall_mem_cons.2 ⟨fun x => keep_st arg4 harg4 x2 x3 12 128 (by decide) _ x _ (emb0k _ x 8 rfl rfl) (emb1k _ x rfl rfl) (emb2k _ x 128 rfl rfl), ?_⟩
  refine List.forall_mem_cons.2 ⟨fun x => keep_st arg4 harg4 x2 x3 11 128 (by decide) _ x _ (emb0k _ x 7 rfl rfl) (emb1k _ x rfl rfl) (emb2k _ x 128 rfl rfl), ?_⟩
  refine List.forall_mem_cons.2 ⟨fun x => keep_st arg4 harg4 x2 x3 10 128 (by decide) _ x _ (emb0k _ x 6 rfl rfl) (emb1k _ x rfl rfl) (emb2k _ x 128 rfl rfl), ?_⟩
  refine List.forall_mem_cons.2 ⟨fun x => keep_st arg4 harg4 x2 x3 9 128 (by decide) _ x _ (emb0k _ x 5 rfl rfl) (emb1k _ x rfl rfl) (emb2k _ x 128 rfl rfl), ?_⟩
  refine List.forall_mem_cons.2 ⟨fun x => keep_st arg4 harg4 x2 x3 8 128 (by decide) _ x _ (emb0k _ x 4 rfl rfl) (emb1k _ x rfl rfl) (emb2k _ x 128 rfl rfl), ?_⟩
  refine List.forall_mem_cons.2 ⟨fun x => keep_st arg4 harg4 x2 x3 7 128 (by decide) _ x _ (emb0k _ x 3 rfl rfl) (emb1k _ x rfl rfl) (emb2k _ x 128 rfl rfl), ?_⟩
  refine List.forall_mem_cons.2 ⟨fun x => keep_st arg4 harg4 x2 x3 6 128 (by decide) _ x _ (emb0k _ x 2 rfl rfl) (emb1k _ x rfl rfl) (emb2k _ x 128 rfl rfl), ?_⟩
  refine List.forall_mem_cons.2 ⟨fun x => keep_st arg4 harg4 x2 x3 5 128 (by decide) _ x _ (emb0k _ x 1 rfl rfl) (emb1k _ x rfl rfl) (emb2k _ x 128 rfl rfl), ?_⟩
  refine List.forall_mem_cons.2 ⟨fun x => keep_st arg4 harg4 x2 x3 4 128 (by decide) _ x _ (emb0k _ x 0 rfl rfl) (emb1k _ x rfl rfl) (emb2k _ x 128 rfl rfl), ?_⟩
  refine List.forall_mem_cons.2 ⟨fun x => keep_ut arg3 harg3 x2 x3 3 0 (by decide) _ x _ (emb0k _ x 29 rfl rfl) (emb1k _ x rfl rfl) (emb2k _ x 0 rfl rfl), ?_⟩
  refine List.forall_mem_cons.2 ⟨fun x => keep_ut arg3 harg3 x2 x3 2 0 (by decide) _ x _ (emb0k _ x 28 rfl rfl) (emb1k _ x rfl rfl) (emb2k _ x 0 rfl rfl), ?_⟩
  refine List.forall_mem_cons.2 ⟨fun x => keep_ut arg3 harg3 x2 x3 1 0 (by decide) _ x _ (emb0k _ x 27 rfl rfl) (emb1k _ x rfl rfl) (emb2k _ x 0 rfl rfl), ?_⟩
  refine List.forall_mem_cons.2 ⟨fun x => keep_ut arg3 harg3 x2 x3 0 0 (by decide) _ x _ (emb0k _ x 26 rfl rfl) (emb1k _ x rfl rfl) (emb2k _ x 0 rfl rfl), ?_⟩
  refine List.forall_mem_cons.2 ⟨fun x => keep_st arg4 harg4 x2 x3 29 0 (by decide) _ x _ (emb0k _ x 25 rfl rfl) (emb1k _ x rfl rfl) (emb2k _ x 0 rfl rfl), ?_⟩
  refine List.forall_mem_cons.2 ⟨fun x => keep_st arg4 harg4 x2 x3 28 0 (by decide) _ x _ (emb0k _ x 24 rfl rfl) (emb1k _ x rfl rfl) (emb2k _ x 0 rfl rfl), ?_⟩
  refine List.forall_mem_cons.2 ⟨fun x => keep_st arg4 harg4 x2 x3 27 0 (by decide) _ x _ (emb0k _ x 23 rfl rfl) (emb1k _ x rfl rfl) (emb2k _ x 0 rfl rfl), ?_⟩
  refine List.forall_mem_cons.2 ⟨fun x => keep_st arg4 harg4 x2 x3 26 0 (by decide) _ x _ (emb0k _ x 22 rfl rfl) (emb1k _ x rfl rfl) (emb2k _ x 0 rfl rfl), ?_⟩
  refine List.forall_mem_cons.2 ⟨fun x => keep_st arg4 harg4 x2 x3 25 0 (by decide) _ x _ (emb0k _ x 21 rfl rfl) (emb1k _ x rfl rfl) (emb2k _ x 0 rfl rfl), ?_⟩
  refine List.forall_mem_cons.2 ⟨fun x => keep_st arg4 harg4 x2 x3 24 0 (by decide) _ x _ (emb0k _ x 20 rfl rfl) (emb1k _ x rfl rfl) (emb2k _ x 0 rfl rfl), ?_⟩
  refine List.forall_mem_cons.2 ⟨fun x => keep_st arg4 harg4 x2 x3 23 0 (by decide) _ x _ (emb0k _ x 19 rfl rfl) (emb1k _ x rfl rfl) (emb2k _ x 0 rfl rfl), ?_⟩
  refine List.forall_mem_cons.2 ⟨fun x => keep_st arg4 harg4 x2 x3 22 0 (by decide) _ x _ (emb0k _ x 18 rfl rfl) (emb1k _ x rfl rfl) (emb2k _ x 0 rfl rfl), ?_⟩
  refine List.forall_mem_cons.2 ⟨fun x => keep_st arg4 harg4 x2 x3 21 0 (by decide) _ x _ (emb0k _ x 17 rfl rfl) (emb1k _ x rfl rfl) (emb2k _ x 0 rfl rfl), ?_⟩
  refine List.forall_mem_cons.2 ⟨fun x => keep_st arg4 harg4 x2 x3 20 0 (by decide) _ x _ (emb0k _ x 16 rfl rfl) (emb1k _ x rfl rfl) (emb2k _ x 0 rfl rfl), ?_⟩
  refine List.forall_mem_cons.2 ⟨fun x => keep_st arg4 harg4 x2 x3 19 0 (by decide) _ x _ (emb0k _ x 15 rfl rfl) (emb1k _ x rfl rfl) (emb2k _ x 0 rfl rfl), ?_⟩
  refine List.forall_mem_cons.2 ⟨fun x => keep_st arg4 harg4 x2 x3 18 0 (by decide) _ x _ (emb0k _ x 14 rfl rfl) (emb1k _ x rfl rfl) (emb2k _ x 0 rfl rfl), ?_⟩
  refine List.forall_mem_cons.2 ⟨fun x => keep_st arg4 harg4 x2 x3 17 0 (by decide) _ x _ (emb0k _ x 13 rfl rfl) (emb1k _ x rfl rfl) (emb2k _ x 0 rfl rfl), ?_⟩
  refine List.forall_mem_cons.2 ⟨fun x => keep_st arg4 harg4 x2 x3 16 0 (by decide) _ x _ (emb0k _ x 12 rfl rfl) (emb1k _ x rfl rfl) (emb2k _ x 0 rfl rfl), ?_⟩
  refine List.forall_mem_cons.2 ⟨fun x => keep_st arg4 harg4 x2 x3 15 0 (by decide) _ x _ (emb0k _ x 11 rfl rfl) (emb1k _ x rfl rfl) (emb2k _ x 0 rfl rfl), ?_⟩
  refine List.forall_mem_cons.2 ⟨fun x => keep_st arg4 harg4 x2 x3 14 0 (by decide) _ x _ (emb0k _ x 10 rfl rfl) (emb1k _ x rfl rfl) (emb2k _ x 0 rfl rfl), ?_⟩
  refine List.forall_mem_cons.2 ⟨fun x => keep_st arg4 harg4 x2 x3 13 0 (by decide) _ x _ (emb0k _ x 9 rfl rfl) (emb1k _ x rfl rfl) (emb2k _ x 0 rfl rfl), ?_⟩
  refine List.forall_mem_cons.2 ⟨fun x => keep_st arg4 harg4 x2 x3 12 0 (by decide) _ x _ (emb0k _ x 8 rfl rfl) (emb1k _ x rfl rfl) (emb2k _ x 0 rfl rfl), ?_⟩
  refine List.forall_mem_cons.2 ⟨fun x => keep_st arg4 harg4 x2 x3 11 0 (by decide) _ x _ (emb0k _ x 7 rfl rfl) (emb1k _ x rfl rfl) (emb2k _ x 0 rfl rfl), ?_⟩
  refine List.forall_mem_cons.2 ⟨fun x => keep_st arg4 harg4 x2 x3 10 0 (by decide) _ x _ (emb0k _ x 6 rfl rfl) (emb1k _ x rfl rfl) (emb2k _ x 0 rfl rfl), ?_⟩
  refine List.forall_mem_cons.2 ⟨fun x => keep_st arg4 harg4 x2 x3 9 0 (by decide) _ x _ (emb0k _ x 5 rfl rfl) (emb1k _ x rfl rfl) (emb2k _ x 0 rfl rfl), ?_⟩
  refine List.forall_mem_cons.2 ⟨fun x => keep_st arg4 harg4 x2 x3 8 0 (by decide) _ x _ (emb0k _ x 4 rfl rfl) (emb1k _ x rfl rfl) (emb2k _ x 0 rfl rfl), ?_⟩
  refine List.forall_mem_cons.2 ⟨fun x => keep_st arg4 harg4 x2 x3 7 0 (by decide) _ x _ (emb0k _ x 3 rfl rfl) (emb1k _ x rfl rfl) (emb2k _ x 0 rfl rfl), ?_⟩
  refine List.forall_mem_cons.2 ⟨fun x => keep_st arg4 harg4 x2 x3 6 0 (by decide) _ x _ (emb0k _ x 2 rfl rfl) (emb1k _ x rfl rfl) (emb2k _ x 0 rfl rfl), ?_⟩
  refine List.forall_mem_cons.2 ⟨fun x => keep_st arg4 harg4 x2 x3 5 0 (by decide) _ x _ (emb0k _ x 1 rfl rfl) (emb1k _ x rfl rfl) (emb2k _ x 0 rfl rfl), ?_⟩
  refine List.forall_mem_cons.2 ⟨fun x => keep_st arg4 harg4 x2 x3 4 0 (by decide) _ x _ (emb0k _ x 0 rfl rfl) (emb1k _ x rfl rfl) (emb2k _ x 0 rfl rfl), ?_⟩
  exact List.forall_mem_nil _

end Cert.Kernel3Ideal.Block

end
-- ==== Proof.SampleKeptArray.lean ====
module

public import proofs.«01_k».proof.Proof.SampleKept
public import proofs.«01_k».proof.Proof.SampleOperands
public import proofs.«01_k».proof.Proof.SampleArrays

@[expose] public section

set_option maxRecDepth 16384

noncomputable section

namespace Cert.Kernel3Ideal.Block
open Cert.Kernel3Ideal Cert.Kernel3Ideal.Gen
open Idealize.ShloMosaic Idealize.ShloMosaic.TcCoe Idealize.SL.Sem

variable (m : (ℓ : Loc nD τ sig) → Buf (Elt Ideal) ℓ)

/-! The kernel's second output array by its argument arrays. -/

/-- What point `t` writes into its second block, by the argument arrays. -/
theorem place17 (c : Dev nD) (t : Fin cfg0.N) (y : S30x32x1024.Idx) : ((outsAt0 m c t).2 : Vec Ideal S30x32x1024 .f32) y = Sample.kept (m ((c : Thread nD τ).loc main_arg2)) (m ((c : Thread nD τ).loc main_arg3)) (ix3 (y 0) (y 1) (y 2)) := by
  unfold outsAt0
  dsimp only
  rw [kept_at]
  exact krow_at m c t (y 1) ((y 0).val + 4) (y 2)

/-- The second output array. -/
theorem final17 (c : Dev nD) : (dats m 0 c).arrAt 17 (cfgs 0).N = Sample.kept (m ((c : Thread nD τ).loc main_arg2)) (m ((c : Thread nD τ).loc main_arg3)) := by
  refine (dats m 0 c).arrAt_eq_of_covers 17 _ (by decide +kernel) fun t hf y => ?_
  have hi := (idxOut t).2
  blk_simp
  rw [after0_17]
  have h0 : (y 0).val < 30 := (y 0).isLt
  have h1 : (y 1).val < 32 := (y 1).isLt
  have h2 : (y 2).val < 1024 := (y 2).isLt
  have e : (win0_17.blk t).view.emb y = ix3 (y 0) (y 1) (y 2) := by blk_ext [hi]
  rw [e]
  exact place17 m c t y

end Cert.Kernel3Ideal.Block

end
-- ==== Proof.SampleRef.lean ====
module

public import proofs.«01_k».proof.Proof.Gen.Reference3Ideal.Read
public import Idealize.ShloMosaic.Lib.Pipeline.ValueKit
public import proofs.«01_k».proof.Proof.SampleSpec

@[expose] public section

set_option maxRecDepth 16384

noncomputable section

namespace Cert.Reference3Ideal.Plain
open Cert.Reference3Ideal Cert.Reference3Ideal.Read
open Idealize.ShloMosaic Idealize.ShloMosaic.TcCoe Idealize.SL.Sem

/-! The third reference's results, entry by entry. -/

variable (x0 : (⟨S32x4x1024, .f32⟩ : BufTy).Contents (Elt Ideal))
  (x1 : (⟨S32x4x256, .f32⟩ : BufTy).Contents (Elt Ideal))
  (x2 : (⟨S8x128x128, .f32⟩ : BufTy).Contents (Elt Ideal))
  (x3 : (⟨S1x32x30x1024, .f32⟩ : BufTy).Contents (Elt Ideal))
  (x4 : (⟨S128x1024, .bf16⟩ : BufTy).Contents (Elt Ideal))
  (x5 : (⟨S128x1024, .bf16⟩ : BufTy).Contents (Elt Ideal))
  (x6 : (⟨S1x256x1024, .f32⟩ : BufTy).Contents (Elt Ideal))
  (x7 : (⟨S1x31x1024, .f32⟩ : BufTy).Contents (Elt Ideal))
  (x8 : (⟨S1x1024, .f32⟩ : BufTy).Contents (Elt Ideal))
  (x9 : (⟨S1x1024, .f32⟩ : BufTy).Contents (Elt Ideal))
  (x10 : (⟨S1x1024, .f32⟩ : BufTy).Contents (Elt Ideal))
  (x11 : (⟨S1x1024x1024, .f32⟩ : BufTy).Contents (Elt Ideal))
  (x12 : (⟨S1x1024x1024, .f32⟩ : BufTy).Contents (Elt Ideal))
  (x13 : (⟨S1x1024, .f32⟩ : BufTy).Contents (Elt Ideal))
  (x14 : (⟨S1x1024x5632, .f32⟩ : BufTy).Contents (Elt Ideal))
  (x15 : (⟨S1x2816x1024, .f32⟩ : BufTy).Contents (Elt Ideal))

set_option maxHeartbeats 4000000

/-- The kept rows and the entry's own, in a row. -/
theorem ext_at (i : S32x34x1024.Idx) : val_main_v5 (F := Ideal) x2 x3 i = Sample.erow x2 x3 (i 0) (i 1).val (i 2) := by
  have h0 : (i 0).val < 32 := (i 0).isLt
  have h1 : (i 1).val < 34 := (i 1).isLt
  have h2 : (i 2).val < 1024 := (i 2).isLt
  pointwise [val_main_v5, val_main_v4, val_main_v1, val_main_v0]
  unfold Sample.erow
  by_cases h : (i 1).val < 30
  · simp only [dif_pos h]
  · rw [dif_neg h, dif_neg h, dif_pos (by omega)]
    refine congrArg x2 ?_
    blk_ext []

/-- The convolution. -/
theorem conv_at (i : S32x4x1024.Idx) : val_main_v226 (F := Ideal) x2 x3 x7 x8 i = Sample.zrow x2 x3 x7 x8 (i 0) (i 1) (i 2) := by
  pointwise [val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  simp only [ext_at, Sample.zrow, Merge.conv]
  rw [← Merge.taps]
  simp only [show ((0 : Fin 31) : ℕ) = 0 from rfl, Nat.zero_add]
  rfl

/-- The layer normalisation. -/
theorem ln_at (i : S32x4x1024.Idx) : val_main_v250 (F := Ideal) x2 x3 x7 x8 x9 x10 i = Merge.lnorm (Sample.zrow x2 x3 x7 x8 (i 0) (i 1)) (fun n => x9 (ix2 0 n)) (fun n => x10 (ix2 0 n)) (i 2) := by
  pointwise [val_main_v250, val_main_v249, val_main_v248, val_main_v247, val_main_v246, val_main_v245, val_main_v244, val_main_v243, val_main_v242, val_main_v241, val_main_v240, val_main_cst_3, val_main_v239, val_main_v238, val_main_cst_2, val_main_v237, val_main_v236, val_main_cst_1, val_main_v235, val_main_v234, val_main_v233, val_main_v232, val_main_v231, val_main_cst_0, val_main_v230, val_main_v229, val_main_cst, val_main_v228, val_main_v227]
  simp only [conv_at, Merge.lnorm, Merge.mean]
  rfl

/-- The gated sum. -/
theorem merged_at (i : S32x4x1024.Idx) : val_main_v260 (F := Ideal) x1 x2 x3 x4 x5 x6 x7 x8 x9 x10 x11 i = Sample.mrow x1 x2 x3 x4 x5 x6 x7 x8 x9 x10 x11 (i 0) (i 1) (i 2) := by
  have h0 : (i 0).val < 32 := (i 0).isLt
  have h1 : (i 1).val < 4 := (i 1).isLt
  have h2 : (i 2).val < 1024 := (i 2).isLt
  pointwise [val_main_v260, val_main_v259, val_main_v258, val_main_v257, val_main_v256, val_main_v255, val_main_v254, val_main_v253, val_main_v252, val_main_v251, val_main_call0_v5, val_main_call0_v4, val_main_call0_cst_0, val_main_call0_v3, val_main_call0_v2, val_main_call0_cst, val_main_call0_v1, val_main_call0_v0, val_main_v3, val_main_v2]
  simp only [ln_at, Sample.mrow, Merge.merged, Merge.silu]
  rfl

/-- The residual sum. -/
theorem resid_at (i : S32x4x1024.Idx) : val_main_v263 (F := Ideal) x0 x1 x2 x3 x4 x5 x6 x7 x8 x9 x10 x11 x12 i = Sample.rrow x0 x1 x2 x3 x4 x5 x6 x7 x8 x9 x10 x11 x12 (i 0) (i 1) (i 2) := by
  pointwise [val_main_v263, val_main_v262, val_main_v261]
  simp only [merged_at, Sample.rrow, Merge.resid]
  have e : x0 i = x0 (ix3 (i 0) (i 1) (i 2)) := by blk_ext []
  rw [e]
  rfl

/-- The normalised row. -/
theorem rms_at (i : S32x4x1024.Idx) : val_main_v277 (F := Ideal) x0 x1 x2 x3 x4 x5 x6 x7 x8 x9 x10 x11 x12 x13 i = Spec.rms (Sample.rrow x0 x1 x2 x3 x4 x5 x6 x7 x8 x9 x10 x11 x12 (i 0) (i 1)) (fun n => x13 (ix2 0 n)) (i 2) := by
  pointwise [val_main_v277, val_main_v276, val_main_v275, val_main_v274, val_main_v273, val_main_v272, val_main_v271, val_main_v270, val_main_cst_6, val_main_v269, val_main_v268, val_main_cst_5, val_main_v267, val_main_v266, val_main_cst_4, val_main_v265, val_main_v264]
  simp only [resid_at, Spec.rms]
  rfl

/-- Entry of the layer's result. -/
theorem out_at (i : S32x4x1024.Idx) : val_main_v286 (F := Ideal) x0 x1 x2 x3 x4 x5 x6 x7 x8 x9 x10 x11 x12 x13 x14 x15 i = Sample.entry x0 x1 x2 x3 x4 x5 x6 x7 x8 x9 x10 x11 x12 x13 x14 x15 (i 0) (i 1) (i 2) := by
  pointwise [val_main_v286, val_main_v285, val_main_v284, val_main_v283, val_main_v282, val_main_call1_v5, val_main_call1_v4, val_main_call1_cst_0, val_main_call1_v3, val_main_call1_v2, val_main_call1_cst, val_main_call1_v1, val_main_call1_v0, val_main_v281, val_main_v280, val_main_v279, val_main_v278]
  simp only [rms_at, resid_at, Sample.entry, Merge.ffn, Merge.silu]
  rfl

/-- The first result. -/
theorem res0 : val_main_v287 (F := Ideal) x0 x1 x2 x3 x4 x5 x6 x7 x8 x9 x10 x11 x12 x13 x14 x15 = Sample.result x0 x1 x2 x3 x4 x5 x6 x7 x8 x9 x10 x11 x12 x13 x14 x15 := by
  funext i
  have h0 : (i 0).val < 128 := (i 0).isLt
  have h1 : (i 1).val < 1024 := (i 1).isLt
  rw [val_main_v287_apply, out_at]
  have e0 : idx_main_v287 i 0 = (⟨(i 0).val / 4, by omega⟩ : Fin 32) := Fin.ext (by show ((i 0).val * 1024 + (i 1).val) / 4096 = _; dsimp only; omega)
  have e1 : idx_main_v287 i 1 = (⟨(i 0).val % 4, by omega⟩ : Fin 4) := Fin.ext (by show ((i 0).val * 1024 + (i 1).val) / 1024 % 4 = _; dsimp only; omega)
  have e2 : idx_main_v287 i 2 = i 1 := Fin.ext (by show ((i 0).val * 1024 + (i 1).val) % 1024 = _; omega)
  rw [e0, e1, e2]
  rfl

/-- The second result. -/
theorem res1 : val_main_v289 (F := Ideal) x2 x3 = Sample.kept x2 x3 := by
  funext i
  pointwise [val_main_v289, val_main_v288]
  simp only [ext_at, Sample.kept]
  exact congrArg (fun s => Sample.erow x2 x3 (i 1) s (i 2)) (Nat.add_comm 4 (i 0).val)

end Cert.Reference3Ideal.Plain

end
-- ==== Proof.NewSpec.lean ====
module

public import proofs.«01_k».proof.Proof.Layer

@[expose] public section

set_option maxRecDepth 16384

noncomputable section

namespace Cert.New
open Idealize.ShloMosaic

/-! The six results of the input projection of the new tokens (four of each of the 32 sequences) as functions of the argument arrays. -/

/-- The activations of the new tokens. -/
abbrev NewT := Vec Ideal ⟨3, ![32, 4, 1024]⟩ .f32

/-- The row of token `s` of sequence `b`. -/
def tok (x : NewT) (b : Fin 32) (s : Fin 4) : Fin 1024 → EReal := fun d => x (ix3 b s d)
/-- Row `r` of the tokens in order: token `r mod 4` of sequence `r / 4`. -/
def row (x : NewT) (r : Fin 128) : Fin 1024 → EReal := tok x ⟨r.val / 4, by omega⟩ ⟨r.val % 4, by omega⟩

variable (x : NewT) (nw : Spec.NormT) (w : Spec.ProjT) (qw kw : Spec.HeadT)

/-- The queries. -/
def out0 : Vec Ideal ⟨2, ![128, 768]⟩ .f32 := fun y => Spec.query (row x (y 0)) (Spec.nrm nw) (Spec.mat w) (Spec.hds qw) (y 1)
/-- The keys. -/
def out1 : Vec Ideal ⟨2, ![128, 768]⟩ .f32 := fun y => Spec.key (row x (y 0)) (Spec.nrm nw) (Spec.mat w) (Spec.hds kw) (y 1)
/-- The values. -/
def out2 : Vec Ideal ⟨2, ![128, 768]⟩ .f32 := fun y => Spec.value (row x (y 0)) (Spec.nrm nw) (Spec.mat w) (y 1)
/-- The gated convolution input, by tiles of 128 columns. -/
def out3 : Vec Ideal ⟨3, ![8, 128, 128]⟩ .f32 := fun y => Spec.conv (row x (y 1)) (Spec.nrm nw) (Spec.mat w)
  ⟨128 * (y 0).val + (y 2).val, by have h0 : (y 0).val < 8 := (y 0).isLt; have h2 : (y 2).val < 128 := (y 2).isLt; omega⟩
/-- The first merge gate. -/
def out4 : Vec Ideal ⟨2, ![128, 1024]⟩ .bf16 := fun y => Spec.gate (row x (y 0)) (Spec.nrm nw) (Spec.mat w)
  ⟨(y 1).val, by have h1 : (y 1).val < 1024 := (y 1).isLt; omega⟩
/-- The second merge gate. -/
def out5 : Vec Ideal ⟨2, ![128, 1024]⟩ .bf16 := fun y => Spec.gate (row x (y 0)) (Spec.nrm nw) (Spec.mat w)
  ⟨1024 + (y 1).val, by have h1 : (y 1).val < 1024 := (y 1).isLt; omega⟩

end Cert.New

end
-- ==== Proof.NewBlock.lean ====
module

public import proofs.«01_k».proof.Proof.Gen.Kernel4Ideal.Frame
public import Idealize.ShloMosaic.Lib.Pipeline.ValueKit
public import Idealize.ShloMosaic.Lib.Pipeline.ReadBack
public import proofs.«01_k».proof.Proof.Stage
public import proofs.«01_k».proof.Proof.NewSpec

@[expose] public section

set_option maxRecDepth 16384

noncomputable section

namespace Cert.Kernel4Ideal.Block
open Cert.Kernel4Ideal Cert.Kernel4Ideal.Gen
open Idealize.ShloMosaic Idealize.ShloMosaic.TcCoe Idealize.SL.Sem

/-! What the one grid point leaves in its six output blocks, by its input blocks. -/

/-- Row `r` of the block of tokens. -/
def row (x0 : Vec Ideal S128x1024 .f32) (r : Fin 128) : Fin 1024 → EReal := fun d => x0 (ix2 r d)
/-- The normalisation weight as a row. -/
def wrow (x1 : Vec Ideal S1x1024 .f32) : Fin 1024 → EReal := fun d => x1 (ix2 0 d)
/-- The projection matrix by coordinates. -/
def wmat (x2 : Vec Ideal S1024x6400 .bf16) : Fin 1024 → Fin 6400 → EReal := fun d n => x2 (ix2 d n)
/-- A spread head weight as a row. -/
def hrow (x3 : Vec Ideal S1x768 .f32) : Fin 768 → EReal := fun n => x3 (ix2 0 n)

variable (x0 : Vec Ideal S128x1024 .f32) (x1 : Vec Ideal S1x1024 .f32) (x2 : Vec Ideal S1024x6400 .bf16) (x3 : Vec Ideal S1x768 .f32) (x4 : Vec Ideal S1x768 .f32)

/-- The named scale at the ideal values. -/
theorem named_qScale : (Named.named κ "q_scale" 1043900987#32 : Ideal .f32) = Spec.qScale :=
  IdealRules.named_const.ideal_named_scalar _ _ _ _ rfl

set_option maxHeartbeats 4000000 in
/-- The queries. -/
theorem block5 (y : S128x768.Idx) : out0_5 x0 x1 x2 x3 x4 y = Spec.query (row x0 (y 0)) (wrow x1) (wmat x2) (hrow x3) (y 1) := by
  unfold_out out0_5
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [named_qScale, Spec.query, Spec.headNorm, Spec.proj, Spec.rms, row, wrow, wmat, hrow]
    blk_point []
  all_goals
    refine (congrArg (· * _) (Cert.KernelIdeal.Block.half_sum (x 1) _)).trans ?_
    blk_point []

set_option maxHeartbeats 4000000 in
/-- The keys. -/
theorem block6 (y : S128x768.Idx) : out0_6 x0 x1 x2 x3 x4 y = Spec.key (row x0 (y 0)) (wrow x1) (wmat x2) (hrow x4) (y 1) := by
  unfold_out out0_6
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [Spec.key, Spec.headNorm, Spec.proj, Spec.rms, row, wrow, wmat, hrow]
    blk_point []
  all_goals
    refine (congrArg (· * _) (Cert.KernelIdeal.Block.half_sum (x 1) _)).trans ?_
    blk_point []

set_option maxHeartbeats 4000000 in
/-- The values. -/
theorem block7 (y : S128x768.Idx) : out0_7 x0 x1 x2 x3 x4 y = Spec.value (row x0 (y 0)) (wrow x1) (wmat x2) (y 1) := by
  unfold_out out0_7
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [Spec.value, Spec.headNorm, Spec.proj, Spec.rms, row, wrow, wmat, hrow]
    blk_point []

set_option maxHeartbeats 4000000 in
/-- The gated convolution input, by tiles of 128 columns. -/
theorem block8 (y : S8x128x128.Idx) : out0_8 x0 x1 x2 x3 x4 y = Spec.conv (row x0 (y 1)) (wrow x1) (wmat x2)
    ⟨128 * (y 0).val + (y 2).val, by have h0 : (y 0).val < 8 := (y 0).isLt; have h2 : (y 2).val < 128 := (y 2).isLt; omega⟩ := by
  unfold_out out0_8
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [Spec.conv, Spec.proj, Spec.rms, row, wrow, wmat, zero_sub]
    blk_point []

set_option maxHeartbeats 4000000 in
/-- The first merge gate. -/
theorem block9 (y : S128x1024.Idx) : out0_9 x0 x1 x2 x3 x4 y = Spec.gate (row x0 (y 0)) (wrow x1) (wmat x2)
    ⟨(y 1).val, by have h1 : (y 1).val < 1024 := (y 1).isLt; omega⟩ := by
  unfold_out out0_9
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [Spec.gate, Spec.proj, Spec.rms, row, wrow, wmat, zero_sub]
    blk_point []

set_option maxHeartbeats 4000000 in
/-- The second merge gate. -/
theorem block10 (y : S128x1024.Idx) : out0_10 x0 x1 x2 x3 x4 y = Spec.gate (row x0 (y 0)) (wrow x1) (wmat x2)
    ⟨1024 + (y 1).val, by have h1 : (y 1).val < 1024 := (y 1).isLt; omega⟩ := by
  unfold_out out0_10
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [Spec.gate, Spec.proj, Spec.rms, row, wrow, wmat, zero_sub]
    blk_point []

end Cert.Kernel4Ideal.Block

end
-- ==== Proof.NewArrays.lean ====
module

public import proofs.«01_k».proof.Proof.NewBlock
public import Idealize.ShloMosaic.Lib.Claim

@[expose] public section

set_option maxRecDepth 16384

noncomputable section

namespace Cert.Kernel4Ideal.Block
open Cert.Kernel4Ideal Cert.Kernel4Ideal.Gen
open Idealize.ShloMosaic Idealize.ShloMosaic.TcCoe Idealize.SL.Sem

/-! The kernel's six output arrays by its argument arrays. -/

variable (m : (ℓ : Loc nD τ sig) → Buf (Elt Ideal) ℓ)

/-- The windows' block indices at the grid point. -/
theorem idxAll : ∀ t : Fin cfg0.N, (win0_0.index t = ![0, 0] ∧ win0_1.index t = ![0, 0] ∧ win0_2.index t = ![0, 0] ∧ win0_3.index t = ![0, 0] ∧ win0_4.index t = ![0, 0])
    ∧ win0_5.index t = ![0, 0] ∧ win0_6.index t = ![0, 0] ∧ win0_7.index t = ![0, 0] ∧ win0_8.index t = ![0, 0, 0] ∧ win0_9.index t = ![0, 0] ∧ win0_10.index t = ![0, 0] :=
  (by decide +kernel : ∀ t : Fin grid0.N, _)

/-- The tokens: row `4·b + s` is token `s` of sequence `b`. -/
theorem op0 (c : Dev nD) (t : Fin cfg0.N) (r : Fin 128) (n : Fin 1024) (b : Fin 32) (s : Fin 4) (hr : r.val = 4 * b.val + s.val) :
    (iblk m c 0 t : Vec Ideal S128x1024 .f32) (ix2 r n) = (m ((c : Thread nD τ).loc main_arg0)) (ix3 b s n) := by
  blk_point [iblk, V, (idxAll t).1]

/-- The block of tokens. -/
theorem row_iblk (c : Dev nD) (t : Fin cfg0.N) (r : Fin 128) : row (iblk m c 0 t) r = New.row (m ((c : Thread nD τ).loc main_arg0)) r := by
  have hr : r.val < 128 := r.isLt
  funext d
  exact op0 m c t r d _ _ (by show r.val = 4 * (r.val / 4) + r.val % 4; omega)

/-- The normalisation weight's block. -/
theorem wrow_iblk (c : Dev nD) (t : Fin cfg0.N) : wrow (iblk m c 1 t) = Spec.nrm (m ((c : Thread nD τ).loc main_arg1)) := by
  funext d
  simp only [wrow, Spec.nrm]
  blk_point [iblk, V, (idxAll t).1]

/-- The projection matrix's block. -/
theorem wmat_iblk (c : Dev nD) (t : Fin cfg0.N) : wmat (iblk m c 2 t) = Spec.mat (m ((c : Thread nD τ).loc main_arg2)) := by
  funext d n
  simp only [wmat, Spec.mat]
  blk_point [iblk, V, (idxAll t).1]

/-- The query weight's block. -/
theorem hrow_iblk3 (c : Dev nD) (t : Fin cfg0.N) : hrow (iblk m c 3 t) = Spec.hds (m ((c : Thread nD τ).loc main_arg3)) := by
  funext n
  simp only [hrow, Spec.hds]
  blk_point [iblk, V, (idxAll t).1]

/-- The key weight's block. -/
theorem hrow_iblk4 (c : Dev nD) (t : Fin cfg0.N) : hrow (iblk m c 4 t) = Spec.hds (m ((c : Thread nD τ).loc main_arg4)) := by
  funext n
  simp only [hrow, Spec.hds]
  blk_point [iblk, V, (idxAll t).1]

/-- The block of the queries, by the argument arrays. -/
theorem place5 (c : Dev nD) (t : Fin cfg0.N) (y : S128x768.Idx) : out0_5 (iblk m c 0 t) (iblk m c 1 t) (iblk m c 2 t) (iblk m c 3 t) (iblk m c 4 t) y = New.out0 (m ((c : Thread nD τ).loc main_arg0)) (m ((c : Thread nD τ).loc main_arg1)) (m ((c : Thread nD τ).loc main_arg2)) (m ((c : Thread nD τ).loc main_arg3)) (ix2 (y 0) (y 1)) := by
  rw [block5, show row (iblk m c 0 t) = New.row (m ((c : Thread nD τ).loc main_arg0)) from funext (row_iblk m c t), wrow_iblk, wmat_iblk, hrow_iblk3]
  rfl

/-- The array of the queries. -/
theorem final5 (c : Dev nD) : (dats m 0 c).arrAt 5 (cfgs 0).N = New.out0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hi := (idxAll t).2
  have h0 : (y 0).val < 128 := (y 0).isLt
  have h1 : (y 1).val < 768 := (y 1).isLt
  blk_simp
  rw [after0_5]
  have e : (win0_5.blk t).view.emb y = ix2 (y 0) (y 1) := by blk_ext [hi]
  rw [e]
  exact place5 m c t y

/-- The block of the keys, by the argument arrays. -/
theorem place6 (c : Dev nD) (t : Fin cfg0.N) (y : S128x768.Idx) : out0_6 (iblk m c 0 t) (iblk m c 1 t) (iblk m c 2 t) (iblk m c 3 t) (iblk m c 4 t) y = New.out1 (m ((c : Thread nD τ).loc main_arg0)) (m ((c : Thread nD τ).loc main_arg1)) (m ((c : Thread nD τ).loc main_arg2)) (m ((c : Thread nD τ).loc main_arg4)) (ix2 (y 0) (y 1)) := by
  rw [block6, show row (iblk m c 0 t) = New.row (m ((c : Thread nD τ).loc main_arg0)) from funext (row_iblk m c t), wrow_iblk, wmat_iblk, hrow_iblk4]
  rfl

/-- The array of the keys. -/
theorem final6 (c : Dev nD) : (dats m 0 c).arrAt 6 (cfgs 0).N = New.out1 (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  have hi := (idxAll t).2
  have h0 : (y 0).val < 128 := (y 0).isLt
  have h1 : (y 1).val < 768 := (y 1).isLt
  blk_simp
  rw [after0_6]
  have e : (win0_6.blk t).view.emb y = ix2 (y 0) (y 1) := by blk_ext [hi]
  rw [e]
  exact place6 m c t y

/-- The block of the values, by the argument arrays. -/
theorem place7 (c : Dev nD) (t : Fin cfg0.N) (y : S128x768.Idx) : out0_7 (iblk m c 0 t) (iblk m c 1 t) (iblk m c 2 t) (iblk m c 3 t) (iblk m c 4 t) y = New.out2 (m ((c : Thread nD τ).loc main_arg0)) (m ((c : Thread nD τ).loc main_arg1)) (m ((c : Thread nD τ).loc main_arg2)) (ix2 (y 0) (y 1)) := by
  rw [block7, show row (iblk m c 0 t) = New.row (m ((c : Thread nD τ).loc main_arg0)) from funext (row_iblk m c t), wrow_iblk, wmat_iblk]
  rfl

/-- The array of the values. -/
theorem final7 (c : Dev nD) : (dats m 0 c).arrAt 7 (cfgs 0).N = New.out2 (m ((c : Thread nD τ).loc main_arg0)) (m ((c : Thread nD τ).loc main_arg1)) (m ((c : Thread nD τ).loc main_arg2)) := by
  refine (dats m 0 c).arrAt_eq_of_covers 7 _ (by decide +kernel) fun t hf y => ?_
  have hi := (idxAll t).2
  have h0 : (y 0).val < 128 := (y 0).isLt
  have h1 : (y 1).val < 768 := (y 1).isLt
  blk_simp
  rw [after0_7]
  have e : (win0_7.blk t).view.emb y = ix2 (y 0) (y 1) := by blk_ext [hi]
  rw [e]
  exact place7 m c t y

/-- The block of the gated convolution input, by the argument arrays. -/
theorem place8 (c : Dev nD) (t : Fin cfg0.N) (y : S8x128x128.Idx) : out0_8 (iblk m c 0 t) (iblk m c 1 t) (iblk m c 2 t) (iblk m c 3 t) (iblk m c 4 t) y = New.out3 (m ((c : Thread nD τ).loc main_arg0)) (m ((c : Thread nD τ).loc main_arg1)) (m ((c : Thread nD τ).loc main_arg2)) (ix3 (y 0) (y 1) (y 2)) := by
  rw [block8, show row (iblk m c 0 t) = New.row (m ((c : Thread nD τ).loc main_arg0)) from funext (row_iblk m c t), wrow_iblk, wmat_iblk]
  rfl

/-- The array of the gated convolution input. -/
theorem final8 (c : Dev nD) : (dats m 0 c).arrAt 8 (cfgs 0).N = New.out3 (m ((c : Thread nD τ).loc main_arg0)) (m ((c : Thread nD τ).loc main_arg1)) (m ((c : Thread nD τ).loc main_arg2)) := by
  refine (dats m 0 c).arrAt_eq_of_covers 8 _ (by decide +kernel) fun t hf y => ?_
  have hi := (idxAll t).2
  have h0 : (y 0).val < 8 := (y 0).isLt
  have h1 : (y 1).val < 128 := (y 1).isLt
  have h2 : (y 2).val < 128 := (y 2).isLt
  blk_simp
  rw [after0_8]
  have e : (win0_8.blk t).view.emb y = ix3 (y 0) (y 1) (y 2) := by blk_ext [hi]
  rw [e]
  exact place8 m c t y

/-- The block of the first merge gate, by the argument arrays. -/
theorem place9 (c : Dev nD) (t : Fin cfg0.N) (y : S128x1024.Idx) : out0_9 (iblk m c 0 t) (iblk m c 1 t) (iblk m c 2 t) (iblk m c 3 t) (iblk m c 4 t) y = New.out4 (m ((c : Thread nD τ).loc main_arg0)) (m ((c : Thread nD τ).loc main_arg1)) (m ((c : Thread nD τ).loc main_arg2)) (ix2 (y 0) (y 1)) := by
  rw [block9, show row (iblk m c 0 t) = New.row (m ((c : Thread nD τ).loc main_arg0)) from funext (row_iblk m c t), wrow_iblk, wmat_iblk]
  rfl

/-- The array of the first merge gate. -/
theorem final9 (c : Dev nD) : (dats m 0 c).arrAt 9 (cfgs 0).N = New.out4 (m ((c : Thread nD τ).loc main_arg0)) (m ((c : Thread nD τ).loc main_arg1)) (m ((c : Thread nD τ).loc main_arg2)) := by
  refine (dats m 0 c).arrAt_eq_of_covers 9 _ (by decide +kernel) fun t hf y => ?_
  have hi := (idxAll t).2
  have h0 : (y 0).val < 128 := (y 0).isLt
  have h1 : (y 1).val < 1024 := (y 1).isLt
  blk_simp
  rw [after0_9]
  have e : (win0_9.blk t).view.emb y = ix2 (y 0) (y 1) := by blk_ext [hi]
  rw [e]
  exact place9 m c t y

/-- The block of the second merge gate, by the argument arrays. -/
theorem place10 (c : Dev nD) (t : Fin cfg0.N) (y : S128x1024.Idx) : out0_10 (iblk m c 0 t) (iblk m c 1 t) (iblk m c 2 t) (iblk m c 3 t) (iblk m c 4 t) y = New.out5 (m ((c : Thread nD τ).loc main_arg0)) (m ((c : Thread nD τ).loc main_arg1)) (m ((c : Thread nD τ).loc main_arg2)) (ix2 (y 0) (y 1)) := by
  rw [block10, show row (iblk m c 0 t) = New.row (m ((c : Thread nD τ).loc main_arg0)) from funext (row_iblk m c t), wrow_iblk, wmat_iblk]
  rfl

/-- The array of the second merge gate. -/
theorem final10 (c : Dev nD) : (dats m 0 c).arrAt 10 (cfgs 0).N = New.out5 (m ((c : Thread nD τ).loc main_arg0)) (m ((c : Thread nD τ).loc main_arg1)) (m ((c : Thread nD τ).loc main_arg2)) := by
  refine (dats m 0 c).arrAt_eq_of_covers 10 _ (by decide +kernel) fun t hf y => ?_
  have hi := (idxAll t).2
  have h0 : (y 0).val < 128 := (y 0).isLt
  have h1 : (y 1).val < 1024 := (y 1).isLt
  blk_simp
  rw [after0_10]
  have e : (win0_10.blk t).view.emb y = ix2 (y 0) (y 1) := by blk_ext [hi]
  rw [e]
  exact place10 m c t y

end Cert.Kernel4Ideal.Block

end
-- ==== Proof.NewRef.lean ====
module

public import proofs.«01_k».proof.Proof.Gen.Reference4Ideal.Read
public import Idealize.ShloMosaic.Lib.Pipeline.ValueKit
public import proofs.«01_k».proof.Proof.Consts
public import proofs.«01_k».proof.Proof.NewSpec

@[expose] public section

set_option maxRecDepth 16384

noncomputable section

namespace Cert.Reference4Ideal.Plain
open Cert.Reference4Ideal Cert.Reference4Ideal.Read
open Idealize.ShloMosaic Idealize.ShloMosaic.TcCoe Idealize.SL.Sem

/-! The fourth reference's results, entry by entry. -/

variable (x0 : (⟨S32x4x1024, .f32⟩ : BufTy).Contents (Elt Ideal)) (x1 : (⟨S1x1024, .f32⟩ : BufTy).Contents (Elt Ideal))
  (x2 : (⟨S1x1024x6400, .f32⟩ : BufTy).Contents (Elt Ideal)) (x3 x4 : (⟨S1x64, .f32⟩ : BufTy).Contents (Elt Ideal))

/-- Entry of the projection. -/
theorem proj_at (i : S32x4x6400.Idx) : val_main_v17 (F := Ideal) x0 x1 x2 i = Spec.proj (New.tok x0 (i 0) (i 1)) (Spec.nrm x1) (Spec.mat x2) (i 2) := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_v0, val_main_v1, Spec.proj, Spec.rms, New.tok, Spec.nrm, Spec.mat]

/-- Entry of the query columns by group, head and column. -/
theorem zq_at (i : S32x4x3x4x64.Idx) : val_main_v19 (F := Ideal) x0 x1 x2 i = Spec.proj (New.tok x0 (i 0) (i 1)) (Spec.nrm x1) (Spec.mat x2)
    ⟨(256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 32 := (i 0).isLt
  have h1 : (i 1).val < 4 := (i 1).isLt
  have h2 : (i 2).val < 3 := (i 2).isLt
  have h3 : (i 3).val < 4 := (i 3).isLt
  have h4 : (i 4).val < 64 := (i 4).isLt
  rw [val_main_v19_apply, val_main_v18_apply, proj_at]
  have e0 : idx_main_v18 (idx_main_v19 i) 0 = i 0 := Fin.ext (by show (((((i 0).val * 4 + (i 1).val) * 3 + (i 2).val) * 4 + (i 3).val) * 64 + (i 4).val) / 3072 = (i 0).val; omega)
  have e1 : idx_main_v18 (idx_main_v19 i) 1 = i 1 := Fin.ext (by show (((((i 0).val * 4 + (i 1).val) * 3 + (i 2).val) * 4 + (i 3).val) * 64 + (i 4).val) / 768 % 4 = (i 1).val; omega)
  have e2 : idx_main_v18 (idx_main_v19 i) 2 = (⟨(256 * (i 2).val + 64 * (i 3).val + (i 4).val), by omega⟩ : Fin 6400) :=
    Fin.ext (by show (((((i 0).val * 4 + (i 1).val) * 3 + (i 2).val) * 4 + (i 3).val) * 64 + (i 4).val) % 768 = (256 * (i 2).val + 64 * (i 3).val + (i 4).val); omega)
  rw [e0, e1, e2]

/-- Entry of the key columns by group, head and column. -/
theorem zk_at (i : S32x4x3x4x64.Idx) : val_main_v21 (F := Ideal) x0 x1 x2 i = Spec.proj (New.tok x0 (i 0) (i 1)) (Spec.nrm x1) (Spec.mat x2)
    ⟨768 + (256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 32 := (i 0).isLt
  have h1 : (i 1).val < 4 := (i 1).isLt
  have h2 : (i 2).val < 3 := (i 2).isLt
  have h3 : (i 3).val < 4 := (i 3).isLt
  have h4 : (i 4).val < 64 := (i 4).isLt
  rw [val_main_v21_apply, val_main_v20_apply, proj_at]
  have e0 : idx_main_v20 (idx_main_v21 i) 0 = i 0 := Fin.ext (by show (((((i 0).val * 4 + (i 1).val) * 3 + (i 2).val) * 4 + (i 3).val) * 64 + (i 4).val) / 3072 = (i 0).val; omega)
  have e1 : idx_main_v20 (idx_main_v21 i) 1 = i 1 := Fin.ext (by show (((((i 0).val * 4 + (i 1).val) * 3 + (i 2).val) * 4 + (i 3).val) * 64 + (i 4).val) / 768 % 4 = (i 1).val; omega)
  have e2 : idx_main_v20 (idx_main_v21 i) 2 = (⟨768 + (256 * (i 2).val + 64 * (i 3).val + (i 4).val), by omega⟩ : Fin 6400) :=
    Fin.ext (by show 768 + (((((i 0).val * 4 + (i 1).val) * 3 + (i 2).val) * 4 + (i 3).val) * 64 + (i 4).val) % 768 = 768 + (256 * (i 2).val + 64 * (i 3).val + (i 4).val); omega)
  rw [e0, e1, e2]

/-- Entry of the value columns by group, head and column. -/
theorem zv_at (i : S32x4x3x4x64.Idx) : val_main_v23 (F := Ideal) x0 x1 x2 i = Spec.proj (New.tok x0 (i 0) (i 1)) (Spec.nrm x1) (Spec.mat x2)
    ⟨1536 + (256 * (i 2).val + 64 * (i 3).val + (i 4).val), by have h2 : (i 2).val < 3 := (i 2).isLt; have h3 : (i 3).val < 4 := (i 3).isLt; have h4 : (i 4).val < 64 := (i 4).isLt; omega⟩ := by
  have h0 : (i 0).val < 32 := (i 0).isLt
  have h1 : (i 1).val < 4 := (i 1).isLt
  have h2 : (i 2).val < 3 := (i 2).isLt
  have h3 : (i 3).val < 4 := (i 3).isLt
  have h4 : (i 4).val < 64 := (i 4).isLt
  rw [val_main_v23_apply, val_main_v22_apply, proj_at]
  have e0 : idx_main_v22 (idx_main_v23 i) 0 = i 0 := Fin.ext (by show (((((i 0).val * 4 + (i 1).val) * 3 + (i 2).val) * 4 + (i 3).val) * 64 + (i 4).val) / 3072 = (i 0).val; omega)
  have e1 : idx_main_v22 (idx_main_v23 i) 1 = i 1 := Fin.ext (by show (((((i 0).val * 4 + (i 1).val) * 3 + (i 2).val) * 4 + (i 3).val) * 64 + (i 4).val) / 768 % 4 = (i 1).val; omega)
  have e2 : idx_main_v22 (idx_main_v23 i) 2 = (⟨1536 + (256 * (i 2).val + 64 * (i 3).val + (i 4).val), by omega⟩ : Fin 6400) :=
    Fin.ext (by show 1536 + (((((i 0).val * 4 + (i 1).val) * 3 + (i 2).val) * 4 + (i 3).val) * 64 + (i 4).val) % 768 = 1536 + (256 * (i 2).val + 64 * (i 3).val + (i 4).val); omega)
  rw [e0, e1, e2]

/-- Entry of the scaled queries. -/
theorem q_at (i : S32x4x3x4x64.Idx) : val_main_v65 (F := Ideal) x0 x1 x2 x3 i = Spec.query (New.tok x0 (i 0) (i 1)) (Spec.nrm x1) (Spec.mat x2) (Spec.hds x3)
    ⟨256 * (i 2).val + 64 * (i 3).val + (i 4).val, by have h2 : (i 2).val < 3 := (i 2).isLt; have h3 : (i 3).val < 4 := (i 3).isLt; have h4 : (i 4).val < 64 := (i 4).isLt; omega⟩ := by
  pointwise [val_main_v65, val_main_v64, val_main_v63, val_main_v62, val_main_v61, val_main_v40, val_main_v39, val_main_v38, val_main_v37, val_main_v36, val_main_v35, val_main_v34, val_main_v33, val_main_v32, val_main_v31, val_main_v30, val_main_v29, val_main_v28, val_main_v2, val_main_cst_2, val_main_cst_3, val_main_cst_4, val_main_cst_10, val_main_cst_11]
  have hB : ∀ k : Fin 64, 256 * (i 2).val + 64 * (i 3).val + k.val = 64 * ((256 * (i 2).val + 64 * (i 3).val + (i 4).val) / 64) + k.val := fun k => by
    have h4 : (i 4).val < 64 := (i 4).isLt
    omega
  have hM : (256 * (i 2).val + 64 * (i 3).val + (i 4).val) % 64 = (i 4).val := by
    have h4 : (i 4).val < 64 := (i 4).isLt
    omega
  simp only [zq_at]
  rw [Spec.scaled, Spec.mean64]
  simp only [Spec.query, Spec.headNorm, Spec.hds, hM, ← hB]
  rfl

/-- Entry of the normalised keys. -/
theorem k_at (i : S32x4x3x4x64.Idx) : val_main_v53 (F := Ideal) x0 x1 x2 x4 i = Spec.key (New.tok x0 (i 0) (i 1)) (Spec.nrm x1) (Spec.mat x2) (Spec.hds x4)
    ⟨256 * (i 2).val + 64 * (i 3).val + (i 4).val, by have h2 : (i 2).val < 3 := (i 2).isLt; have h3 : (i 3).val < 4 := (i 3).isLt; have h4 : (i 4).val < 64 := (i 4).isLt; omega⟩ := by
  pointwise [val_main_v53, val_main_v52, val_main_v51, val_main_v50, val_main_v49, val_main_v48, val_main_v47, val_main_v46, val_main_v45, val_main_v44, val_main_v43, val_main_v42, val_main_v41, val_main_v3, val_main_cst_5, val_main_cst_6, val_main_cst_7]
  have hB : ∀ k : Fin 64, 256 * (i 2).val + 64 * (i 3).val + k.val = 64 * ((256 * (i 2).val + 64 * (i 3).val + (i 4).val) / 64) + k.val := fun k => by
    have h4 : (i 4).val < 64 := (i 4).isLt
    omega
  have hM : (256 * (i 2).val + 64 * (i 3).val + (i 4).val) % 64 = (i 4).val := by
    have h4 : (i 4).val < 64 := (i 4).isLt
    omega
  simp only [zk_at]
  rw [Spec.mean64]
  simp only [Spec.key, Spec.headNorm, Spec.hds, hM, ← hB]
  rfl

/-- Entry of the gated convolution input. -/
theorem u_at (i : S32x4x1024.Idx) : val_main_v60 (F := Ideal) x0 x1 x2 i = Spec.conv (New.tok x0 (i 0) (i 1)) (Spec.nrm x1) (Spec.mat x2) (i 2) := by
  pointwise [val_main_v60, val_main_v59, val_main_v58, val_main_v57, val_main_v56, val_main_v55, val_main_v54, val_main_v25, val_main_v24, val_main_cst_8, val_main_cst_9]
  simp only [proj_at]
  rfl

/-- Entry of the first merge gate. -/
theorem ga_at (i : S32x4x1024.Idx) : val_main_v71 (F := Ideal) x0 x1 x2 i = Spec.gate (New.tok x0 (i 0) (i 1)) (Spec.nrm x1) (Spec.mat x2)
    ⟨(i 2).val, by have h2 : (i 2).val < 1024 := (i 2).isLt; omega⟩ := by
  pointwise [val_main_v71, val_main_v70, val_main_v69, val_main_v68, val_main_v67, val_main_v66, val_main_v26, val_main_cst_12, val_main_cst_13]
  simp only [proj_at]
  rfl

/-- Entry of the second merge gate. -/
theorem gb_at (i : S32x4x1024.Idx) : val_main_v79 (F := Ideal) x0 x1 x2 i = Spec.gate (New.tok x0 (i 0) (i 1)) (Spec.nrm x1) (Spec.mat x2)
    ⟨1024 + (i 2).val, by have h2 : (i 2).val < 1024 := (i 2).isLt; omega⟩ := by
  pointwise [val_main_v79, val_main_v78, val_main_v77, val_main_v76, val_main_v75, val_main_v74, val_main_v27, val_main_cst_14, val_main_cst_15]
  simp only [proj_at, Spec.gate, ← Nat.add_assoc]
  rfl

/-- The queries. -/
theorem ref0 : val_main_v82 (F := Ideal) x0 x1 x2 x3 = New.out0 x0 x1 x2 x3 := by
  funext i
  have h0 : (i 0).val < 128 := (i 0).isLt
  have h1 : (i 1).val < 768 := (i 1).isLt
  rw [val_main_v82_apply, q_at]
  have e0 : idx_main_v82 i 0 = (⟨(i 0).val / 4, by omega⟩ : Fin 32) := Fin.ext (by show ((i 0).val * 768 + (i 1).val) / 3072 = (i 0).val / 4; omega)
  have e1 : idx_main_v82 i 1 = (⟨(i 0).val % 4, by omega⟩ : Fin 4) := Fin.ext (by show ((i 0).val * 768 + (i 1).val) / 768 % 4 = (i 0).val % 4; omega)
  rw [e0, e1]
  refine congrArg (Spec.query (New.row x0 (i 0)) (Spec.nrm x1) (Spec.mat x2) (Spec.hds x3)) (Fin.ext ?_)
  show 256 * (((i 0).val * 768 + (i 1).val) / 256 % 3) + 64 * (((i 0).val * 768 + (i 1).val) / 64 % 4) + ((i 0).val * 768 + (i 1).val) % 64 = (i 1).val
  omega

/-- The keys. -/
theorem ref1 : val_main_v83 (F := Ideal) x0 x1 x2 x4 = New.out1 x0 x1 x2 x4 := by
  funext i
  have h0 : (i 0).val < 128 := (i 0).isLt
  have h1 : (i 1).val < 768 := (i 1).isLt
  rw [val_main_v83_apply, k_at]
  have e0 : idx_main_v83 i 0 = (⟨(i 0).val / 4, by omega⟩ : Fin 32) := Fin.ext (by show ((i 0).val * 768 + (i 1).val) / 3072 = (i 0).val / 4; omega)
  have e1 : idx_main_v83 i 1 = (⟨(i 0).val % 4, by omega⟩ : Fin 4) := Fin.ext (by show ((i 0).val * 768 + (i 1).val) / 768 % 4 = (i 0).val % 4; omega)
  rw [e0, e1]
  refine congrArg (Spec.key (New.row x0 (i 0)) (Spec.nrm x1) (Spec.mat x2) (Spec.hds x4)) (Fin.ext ?_)
  show 256 * (((i 0).val * 768 + (i 1).val) / 256 % 3) + 64 * (((i 0).val * 768 + (i 1).val) / 64 % 4) + ((i 0).val * 768 + (i 1).val) % 64 = (i 1).val
  omega

/-- The values. -/
theorem ref2 : val_main_v84 (F := Ideal) x0 x1 x2 = New.out2 x0 x1 x2 := by
  funext i
  have h0 : (i 0).val < 128 := (i 0).isLt
  have h1 : (i 1).val < 768 := (i 1).isLt
  rw [val_main_v84_apply, zv_at]
  have e0 : idx_main_v84 i 0 = (⟨(i 0).val / 4, by omega⟩ : Fin 32) := Fin.ext (by show ((i 0).val * 768 + (i 1).val) / 3072 = (i 0).val / 4; omega)
  have e1 : idx_main_v84 i 1 = (⟨(i 0).val % 4, by omega⟩ : Fin 4) := Fin.ext (by show ((i 0).val * 768 + (i 1).val) / 768 % 4 = (i 0).val % 4; omega)
  rw [e0, e1]
  refine congrArg (Spec.proj (New.row x0 (i 0)) (Spec.nrm x1) (Spec.mat x2)) (Fin.ext ?_)
  show 1536 + (256 * (((i 0).val * 768 + (i 1).val) / 256 % 3) + 64 * (((i 0).val * 768 + (i 1).val) / 64 % 4) + ((i 0).val * 768 + (i 1).val) % 64) = 1536 + (i 1).val
  omega

/-- The gated convolution input. -/
theorem ref3 : val_main_v86 (F := Ideal) x0 x1 x2 = New.out3 x0 x1 x2 := by
  funext i
  have h0 : (i 0).val < 8 := (i 0).isLt
  have h1 : (i 1).val < 128 := (i 1).isLt
  have h2 : (i 2).val < 128 := (i 2).isLt
  rw [val_main_v86_apply, val_main_v85_apply, u_at]
  have e0 : idx_main_v85 (idx_main_v86 i) 0 = (⟨(i 1).val / 4, by omega⟩ : Fin 32) := Fin.ext (by show (((i 1).val * 8 + (i 0).val) * 128 + (i 2).val) / 4096 = (i 1).val / 4; omega)
  have e1 : idx_main_v85 (idx_main_v86 i) 1 = (⟨(i 1).val % 4, by omega⟩ : Fin 4) := Fin.ext (by show (((i 1).val * 8 + (i 0).val) * 128 + (i 2).val) / 1024 % 4 = (i 1).val % 4; omega)
  have e2 : idx_main_v85 (idx_main_v86 i) 2 = (⟨128 * (i 0).val + (i 2).val, by omega⟩ : Fin 1024) := Fin.ext (by show (((i 1).val * 8 + (i 0).val) * 128 + (i 2).val) % 1024 = 128 * (i 0).val + (i 2).val; omega)
  rw [e0, e1, e2]
  rfl

/-- The first merge gate. -/
theorem ref4 : val_main_v73 (F := Ideal) x0 x1 x2 = New.out4 x0 x1 x2 := by
  funext i
  have h0 : (i 0).val < 128 := (i 0).isLt
  have h1 : (i 1).val < 1024 := (i 1).isLt
  rw [val_main_v73_apply]
  refine (val_main_v72_apply x0 x1 x2 i).trans ?_
  rw [ga_at]
  have e0 : idx_main_v72 i 0 = (⟨(i 0).val / 4, by omega⟩ : Fin 32) := Fin.ext (by show ((i 0).val * 1024 + (i 1).val) / 4096 = (i 0).val / 4; omega)
  have e1 : idx_main_v72 i 1 = (⟨(i 0).val % 4, by omega⟩ : Fin 4) := Fin.ext (by show ((i 0).val * 1024 + (i 1).val) / 1024 % 4 = (i 0).val % 4; omega)
  rw [e0, e1]
  refine congrArg (Spec.gate (New.row x0 (i 0)) (Spec.nrm x1) (Spec.mat x2)) (Fin.ext ?_)
  show ((i 0).val * 1024 + (i 1).val) % 1024 = (i 1).val
  omega

/-- The second merge gate. -/
theorem ref5 : val_main_v81 (F := Ideal) x0 x1 x2 = New.out5 x0 x1 x2 := by
  funext i
  have h0 : (i 0).val < 128 := (i 0).isLt
  have h1 : (i 1).val < 1024 := (i 1).isLt
  rw [val_main_v81_apply]
  refine (val_main_v80_apply x0 x1 x2 i).trans ?_
  rw [gb_at]
  have e0 : idx_main_v80 i 0 = (⟨(i 0).val / 4, by omega⟩ : Fin 32) := Fin.ext (by show ((i 0).val * 1024 + (i 1).val) / 4096 = (i 0).val / 4; omega)
  have e1 : idx_main_v80 i 1 = (⟨(i 0).val % 4, by omega⟩ : Fin 4) := Fin.ext (by show ((i 0).val * 1024 + (i 1).val) / 1024 % 4 = (i 0).val % 4; omega)
  rw [e0, e1]
  refine congrArg (Spec.gate (New.row x0 (i 0)) (Spec.nrm x1) (Spec.mat x2)) (Fin.ext ?_)
  show 1024 + ((i 0).val * 1024 + (i 1).val) % 1024 = 1024 + (i 1).val
  omega

end Cert.Reference4Ideal.Plain

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import proofs.«01_k».proof.Proof.Arrays1
public import proofs.«01_k».proof.Proof.RefVal
public import proofs.«01_k».proof.Proof.Gen.Kernel2Ideal.Value
public import proofs.«01_k».proof.Proof.Gen.Reference2Ideal.Run
public import proofs.«01_k».proof.Proof.Gen.Reference2Ideal.Read
public import proofs.«01_k».proof.Proof.MergeFrame
public import proofs.«01_k».proof.Proof.MergeArrays
public import proofs.«01_k».proof.Proof.MergeRef
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.StepArrays
public import proofs.«01_k».proof.Proof.StepRef
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.SampleFrame
public import proofs.«01_k».proof.Proof.SampleArrays
public import proofs.«01_k».proof.Proof.SampleKeptArray
public import proofs.«01_k».proof.Proof.SampleRef
public import proofs.«01_k».proof.Proof.NewArrays
public import proofs.«01_k».proof.Proof.NewRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

open Cert.KernelIdeal in
/-- The idealized kernel runs and leaves the nine arrays of the specification. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v12_0) = Spec.out0 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v12_1) = Spec.out1 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v12_2) = Spec.out2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v12_3) = Spec.out3 (m ((c : Thread nD τ).loc main_arg0)) (m ((c : Thread nD τ).loc main_arg1)) (m ((c : Thread nD τ).loc main_arg2))
      ∧ r.2.mem ((c : Thread nD τ).loc main_v12_4) = Spec.out4 (m ((c : Thread nD τ).loc main_arg0)) (m ((c : Thread nD τ).loc main_arg1)) (m ((c : Thread nD τ).loc main_arg2))
      ∧ r.2.mem ((c : Thread nD τ).loc main_v12_5) = Spec.out5 (m ((c : Thread nD τ).loc main_arg0)) (m ((c : Thread nD τ).loc main_arg1)) (m ((c : Thread nD τ).loc main_arg2)) (m ((c : Thread nD τ).loc main_arg4))
      ∧ r.2.mem ((c : Thread nD τ).loc main_v12_6) = Spec.out6 (m ((c : Thread nD τ).loc main_arg0)) (m ((c : Thread nD τ).loc main_arg1)) (m ((c : Thread nD τ).loc main_arg2)) (m ((c : Thread nD τ).loc main_arg4))
      ∧ r.2.mem ((c : Thread nD τ).loc main_v12_7) = Spec.out7 (m ((c : Thread nD τ).loc main_arg0)) (m ((c : Thread nD τ).loc main_arg1)) (m ((c : Thread nD τ).loc main_arg2)) (m ((c : Thread nD τ).loc main_arg4))
      ∧ r.2.mem ((c : Thread nD τ).loc main_v12_8) = Spec.out8 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ h c => ⟨(h c).1.trans (Cert.KernelIdeal.Block.final5 m c),
      (h c).2.1.trans (Cert.KernelIdeal.Block.final6 m c),
      (h c).2.2.1.trans (Cert.KernelIdeal.Block.final7 m c),
      (h c).2.2.2.1.trans (Cert.KernelIdeal.Block.final8 m c),
      (h c).2.2.2.2.1.trans (Cert.KernelIdeal.Block.final9 m c),
      (h c).2.2.2.2.2.1.trans (Cert.KernelIdeal.Block.final10 m c),
      (h c).2.2.2.2.2.2.1.trans (Cert.KernelIdeal.Block.final11 m c),
      (h c).2.2.2.2.2.2.2.1.trans (Cert.KernelIdeal.Block.final12 m c),
      (h c).2.2.2.2.2.2.2.2.1.trans (Cert.KernelIdeal.Block.final13 m c),
      (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩)
    (Cert.KernelIdeal.Value.run_blocks (F := Ideal) m g)

open Cert.ReferenceIdeal in
/-- The reference runs and leaves the nine arrays of the specification. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v79) = Spec.out0 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v102) = Spec.out1 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v125) = Spec.out2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v60) = Spec.out3 (m ((c : Thread nD τ).loc main_arg0)) (m ((c : Thread nD τ).loc main_arg1)) (m ((c : Thread nD τ).loc main_arg2))
      ∧ r.2.mem ((c : Thread nD τ).loc main_v148) = Spec.out4 (m ((c : Thread nD τ).loc main_arg0)) (m ((c : Thread nD τ).loc main_arg1)) (m ((c : Thread nD τ).loc main_arg2))
      ∧ r.2.mem ((c : Thread nD τ).loc main_v88) = Spec.out5 (m ((c : Thread nD τ).loc main_arg0)) (m ((c : Thread nD τ).loc main_arg1)) (m ((c : Thread nD τ).loc main_arg2)) (m ((c : Thread nD τ).loc main_arg4))
      ∧ r.2.mem ((c : Thread nD τ).loc main_v111) = Spec.out6 (m ((c : Thread nD τ).loc main_arg0)) (m ((c : Thread nD τ).loc main_arg1)) (m ((c : Thread nD τ).loc main_arg2)) (m ((c : Thread nD τ).loc main_arg4))
      ∧ r.2.mem ((c : Thread nD τ).loc main_v134) = Spec.out7 (m ((c : Thread nD τ).loc main_arg0)) (m ((c : Thread nD τ).loc main_arg1)) (m ((c : Thread nD τ).loc main_arg2)) (m ((c : Thread nD τ).loc main_arg4))
      ∧ r.2.mem ((c : Thread nD τ).loc main_v149) = Spec.out8 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ h c => ⟨((h c).1.trans (Cert.ReferenceIdeal.Read.val_main_v79_eq m c)).trans (Cert.ReferenceIdeal.Plain.ref0 _ _ _ _ _),
      ((h c).2.1.trans (Cert.ReferenceIdeal.Read.val_main_v102_eq m c)).trans (Cert.ReferenceIdeal.Plain.ref1 _ _ _ _ _),
      ((h c).2.2.1.trans (Cert.ReferenceIdeal.Read.val_main_v125_eq m c)).trans (Cert.ReferenceIdeal.Plain.ref2 _ _ _ _ _),
      ((h c).2.2.2.1.trans (Cert.ReferenceIdeal.Read.val_main_v60_eq _ _ _)).trans (Cert.ReferenceIdeal.Plain.ref3 _ _ _),
      ((h c).2.2.2.2.1.trans (Cert.ReferenceIdeal.Read.val_main_v148_eq _ _ _)).trans (Cert.ReferenceIdeal.Plain.ref4 _ _ _),
      ((h c).2.2.2.2.2.1.trans (Cert.ReferenceIdeal.Read.val_main_v88_eq m c)).trans (Cert.ReferenceIdeal.Plain.ref5 _ _ _ _),
      ((h c).2.2.2.2.2.2.1.trans (Cert.ReferenceIdeal.Read.val_main_v111_eq m c)).trans (Cert.ReferenceIdeal.Plain.ref6 _ _ _ _),
      ((h c).2.2.2.2.2.2.2.1.trans (Cert.ReferenceIdeal.Read.val_main_v134_eq m c)).trans (Cert.ReferenceIdeal.Plain.ref7 _ _ _ _),
      ((h c).2.2.2.2.2.2.2.2.1.trans (Cert.ReferenceIdeal.Read.val_main_v149_eq _ _ _)).trans (Cert.ReferenceIdeal.Plain.ref8 _ _ _),
      (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩)
    (Cert.ReferenceIdeal.Value.run (F := Ideal) m g)

/-- The reference leaves its arguments and, having no semaphore, every counter at zero. -/
theorem reference_frame : Cert.quiescent_ReferenceIdeal (hReferenceIdeal := Cert.ReferenceIdeal.Gen.facts) := fun m g _ =>
  (θ_run _ _ _).mono (fun _ h => ⟨fun c => (h c).2.2.2.2.2.2.2.2.2, sem_eq_zero_of_no_sems rfl _⟩) (reference_run m g)

open Cert.KernelIdeal in
/-- The equation: from memories agreeing on the arguments both programs leave the same nine arrays. -/
theorem equal : Cert.algebraic_KernelIdeal_ReferenceIdeal (hKernelIdeal := Cert.KernelIdeal.Gen.facts) (hReferenceIdeal := Cert.ReferenceIdeal.Gen.facts) := by
  intro m g m' g' _ ha
  refine ⟨fun c => Spec.out0 (m ((c : Thread nD τ).loc main_arg0)) (m ((c : Thread nD τ).loc main_arg1)) (m ((c : Thread nD τ).loc main_arg2)) (m ((c : Thread nD τ).loc main_arg3)) (m ((c : Thread nD τ).loc main_arg4)),
    fun c => Spec.out1 (m ((c : Thread nD τ).loc main_arg0)) (m ((c : Thread nD τ).loc main_arg1)) (m ((c : Thread nD τ).loc main_arg2)) (m ((c : Thread nD τ).loc main_arg3)) (m ((c : Thread nD τ).loc main_arg4)),
    fun c => Spec.out2 (m ((c : Thread nD τ).loc main_arg0)) (m ((c : Thread nD τ).loc main_arg1)) (m ((c : Thread nD τ).loc main_arg2)) (m ((c : Thread nD τ).loc main_arg3)) (m ((c : Thread nD τ).loc main_arg4)),
    fun c => Spec.out3 (m ((c : Thread nD τ).loc main_arg0)) (m ((c : Thread nD τ).loc main_arg1)) (m ((c : Thread nD τ).loc main_arg2)),
    fun c => Spec.out4 (m ((c : Thread nD τ).loc main_arg0)) (m ((c : Thread nD τ).loc main_arg1)) (m ((c : Thread nD τ).loc main_arg2)),
    fun c => Spec.out5 (m ((c : Thread nD τ).loc main_arg0)) (m ((c : Thread nD τ).loc main_arg1)) (m ((c : Thread nD τ).loc main_arg2)) (m ((c : Thread nD τ).loc main_arg4)),
    fun c => Spec.out6 (m ((c : Thread nD τ).loc main_arg0)) (m ((c : Thread nD τ).loc main_arg1)) (m ((c : Thread nD τ).loc main_arg2)) (m ((c : Thread nD τ).loc main_arg4)),
    fun c => Spec.out7 (m ((c : Thread nD τ).loc main_arg0)) (m ((c : Thread nD τ).loc main_arg1)) (m ((c : Thread nD τ).loc main_arg2)) (m ((c : Thread nD τ).loc main_arg4)),
    fun c => Spec.out8 (m ((c : Thread nD τ).loc main_arg0)) (m ((c : Thread nD τ).loc main_arg1)) (m ((c : Thread nD τ).loc main_arg2)), kernel_run m g, ?_⟩
  refine (θ_run _ _ _).mono (fun r h c => ?_) (reference_run m' g')
  obtain ⟨a0, a1, a2, a3, a4⟩ := ha c
  have hc := h c
  rw [a0, a1, a2, a3, a4] at hc
  rw [a0, a1, a2, a3, a4]
  exact hc

open Cert.Kernel2Ideal in
/-- The second kernel runs and leaves the layer output of the specification. -/
theorem kernel2_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v15) = Merge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run _ _ _).mono (fun _ h c => ⟨(h c).1.trans (Cert.Kernel2Ideal.Block.final15 m c), (h c).2⟩)
    (Cert.Kernel2Ideal.Value.run_blocks (F := Ideal) m g)

/-- The second reference's result array is the layer output of the specification. -/
theorem reference2_result (x0 : (⟨3, ![8, 4096, 1024]⟩ : Shape).Idx → EReal) (x1 : (⟨3, ![8, 4096, 256]⟩ : Shape).Idx → EReal) (x2 : (⟨3, ![8, 4096, 1024]⟩ : Shape).Idx → EReal) (x3 : (⟨3, ![8, 4096, 2048]⟩ : Shape).Idx → EReal) (x4 : (⟨3, ![1, 256, 1024]⟩ : Shape).Idx → EReal) (x5 : (⟨3, ![1, 31, 1024]⟩ : Shape).Idx → EReal) (x6 : (⟨2, ![1, 1024]⟩ : Shape).Idx → EReal) (x7 : (⟨2, ![1, 1024]⟩ : Shape).Idx → EReal) (x8 : (⟨2, ![1, 1024]⟩ : Shape).Idx → EReal) (x9 : (⟨3, ![1, 1024, 1024]⟩ : Shape).Idx → EReal) (x10 : (⟨3, ![1, 1024, 1024]⟩ : Shape).Idx → EReal) (x11 : (⟨2, ![1, 1024]⟩ : Shape).Idx → EReal) (x12 : (⟨3, ![1, 1024, 5632]⟩ : Shape).Idx → EReal) (x13 : (⟨3, ![1, 2816, 1024]⟩ : Shape).Idx → EReal) :
    Cert.Reference2Ideal.Read.val_main_v285 (F := Ideal) x0 x1 x2 x3 x4 x5 x6 x7 x8 x9 x10 x11 x12 x13 = Merge.result x0 x1 x2 x3 x4 x5 x6 x7 x8 x9 x10 x11 x12 x13 :=
  funext fun i => (Cert.Reference2Ideal.Plain.res_at x0 x1 x2 x3 x4 x5 x6 x7 x8 x9 x10 x11 x12 x13 i).trans rfl

open Cert.Reference2Ideal in
/-- The second reference runs and leaves the layer output of the specification. -/
theorem reference2_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v285) = Merge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run _ _ _).mono (fun _ h c => ⟨((h c).1.trans (Cert.Reference2Ideal.Read.val_main_v285_eq _)).trans (reference2_result _ _ _ _ _ _ _ _ _ _ _ _ _ _), (h c).2⟩)
    (Cert.Reference2Ideal.Value.run (F := Ideal) m g)

/-- The second reference leaves its arguments and, having no semaphore, every counter at zero. -/
theorem reference2_frame : Cert.quiescent_Reference2Ideal (hReference2Ideal := Cert.Reference2Ideal.Gen.facts) := fun m g _ =>
  (θ_run _ _ _).mono (fun _ h => ⟨fun c => (h c).2, sem_eq_zero_of_no_sems rfl _⟩) (reference2_run m g)

open Cert.Kernel2Ideal in
/-- The second equation: from memories agreeing on the arguments both programs leave the same layer output. -/
theorem equal2 : Cert.algebraic_Kernel2Ideal_Reference2Ideal (hKernel2Ideal := Cert.Kernel2Ideal.Gen.facts) (hReference2Ideal := Cert.Reference2Ideal.Gen.facts) := by
  intro m g m' g' _ ha
  refine ⟨fun c => Merge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)), kernel2_run m g, ?_⟩
  refine (θ_run _ _ _).mono (fun r h c => ?_) (reference2_run m' g')
  obtain ⟨a0, a1, a2, a3, a4, a5, a6, a7, a8, a9, a10, a11, a12, a13⟩ := ha c
  have hc := h c
  rw [a0, a1, a2, a3, a4, a5, a6, a7, a8, a9, a10, a11, a12, a13] at hc
  rw [a0, a1, a2, a3, a4, a5, a6, a7, a8, a9, a10, a11, a12, a13]
  exact hc

open Cert.Kernel3Ideal in
/-- The third kernel runs and leaves the layer output and the kept rows of the specification. -/
theorem kernel3_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v15_0) = Sample.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v15_1) = Sample.kept (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run _ _ _).mono (fun _ h c => ⟨(h c).1.trans (Cert.Kernel3Ideal.Block.final16 m c), (h c).2.1.trans (Cert.Kernel3Ideal.Block.final17 m c), (h c).2.2⟩)
    (Cert.Kernel3Ideal.Value.run_blocks (F := Ideal) m g)

open Cert.Reference3Ideal in
/-- The third reference runs and leaves the layer output and the kept rows of the specification. -/
theorem reference3_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v287) = Sample.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_v289) = Sample.kept (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run _ _ _).mono (fun _ h c => ⟨((h c).1.trans (Cert.Reference3Ideal.Read.val_main_v287_eq _)).trans (Cert.Reference3Ideal.Plain.res0 _ _ _ _ _ _ _ _ _ _ _ _ _ _ _ _),
      ((h c).2.1.trans (Cert.Reference3Ideal.Read.val_main_v289_eq _)).trans (Cert.Reference3Ideal.Plain.res1 _ _), (h c).2.2⟩)
    (Cert.Reference3Ideal.Value.run (F := Ideal) m g)

/-- The third reference leaves its arguments and, having no semaphore, every counter at zero. -/
theorem reference3_frame : Cert.quiescent_Reference3Ideal (hReference3Ideal := Cert.Reference3Ideal.Gen.facts) := fun m g _ =>
  (θ_run _ _ _).mono (fun _ h => ⟨fun c => (h c).2.2, sem_eq_zero_of_no_sems rfl _⟩) (reference3_run m g)

open Cert.Kernel3Ideal in
/-- The third equation: from memories agreeing on the arguments both programs leave the same layer output and the same kept rows. -/
theorem equal3 : Cert.algebraic_Kernel3Ideal_Reference3Ideal (hKernel3Ideal := Cert.Kernel3Ideal.Gen.facts) (hReference3Ideal := Cert.Reference3Ideal.Gen.facts) := by
  intro m g m' g' _ ha
  refine ⟨fun c => Sample.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)),
    fun c => Sample.kept (m ((c : Thread nD τ).loc main_arg2)) (m ((c : Thread nD τ).loc main_arg3)), kernel3_run m g, ?_⟩
  refine (θ_run _ _ _).mono (fun r h c => ?_) (reference3_run m' g')
  obtain ⟨a0, a1, a2, a3, a4, a5, a6, a7, a8, a9, a10, a11, a12, a13, a14, a15⟩ := ha c
  have hc := h c
  rw [a0, a1, a2, a3, a4, a5, a6, a7, a8, a9, a10, a11, a12, a13, a14, a15] at hc
  rw [a0, a1, a2, a3, a4, a5, a6, a7, a8, a9, a10, a11, a12, a13, a14, a15]
  exact hc

open Cert.Kernel4Ideal in
/-- The fourth kernel runs and leaves the six arrays of the specification. -/
theorem kernel4_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v13_0) = New.out0 (m ((c : Thread nD τ).loc main_arg0)) (m ((c : Thread nD τ).loc main_arg1)) (m ((c : Thread nD τ).loc main_arg2)) (m ((c : Thread nD τ).loc main_arg3))
      ∧ r.2.mem ((c : Thread nD τ).loc main_v13_1) = New.out1 (m ((c : Thread nD τ).loc main_arg0)) (m ((c : Thread nD τ).loc main_arg1)) (m ((c : Thread nD τ).loc main_arg2)) (m ((c : Thread nD τ).loc main_arg4))
      ∧ r.2.mem ((c : Thread nD τ).loc main_v13_2) = New.out2 (m ((c : Thread nD τ).loc main_arg0)) (m ((c : Thread nD τ).loc main_arg1)) (m ((c : Thread nD τ).loc main_arg2))
      ∧ r.2.mem ((c : Thread nD τ).loc main_v13_3) = New.out3 (m ((c : Thread nD τ).loc main_arg0)) (m ((c : Thread nD τ).loc main_arg1)) (m ((c : Thread nD τ).loc main_arg2))
      ∧ r.2.mem ((c : Thread nD τ).loc main_v13_4) = New.out4 (m ((c : Thread nD τ).loc main_arg0)) (m ((c : Thread nD τ).loc main_arg1)) (m ((c : Thread nD τ).loc main_arg2))
      ∧ r.2.mem ((c : Thread nD τ).loc main_v13_5) = New.out5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ h c => ⟨(h c).1.trans (Cert.Kernel4Ideal.Block.final5 m c),
      (h c).2.1.trans (Cert.Kernel4Ideal.Block.final6 m c),
      (h c).2.2.1.trans (Cert.Kernel4Ideal.Block.final7 m c),
      (h c).2.2.2.1.trans (Cert.Kernel4Ideal.Block.final8 m c),
      (h c).2.2.2.2.1.trans (Cert.Kernel4Ideal.Block.final9 m c),
      (h c).2.2.2.2.2.1.trans (Cert.Kernel4Ideal.Block.final10 m c),
      (h c).2.2.2.2.2.2⟩)
    (Cert.Kernel4Ideal.Value.run_blocks (F := Ideal) m g)

open Cert.Reference4Ideal in
/-- The fourth reference runs and leaves the six arrays of the specification. -/
theorem reference4_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v82) = New.out0 (m ((c : Thread nD τ).loc main_arg0)) (m ((c : Thread nD τ).loc main_arg1)) (m ((c : Thread nD τ).loc main_arg2)) (m ((c : Thread nD τ).loc main_arg3))
      ∧ r.2.mem ((c : Thread nD τ).loc main_v83) = New.out1 (m ((c : Thread nD τ).loc main_arg0)) (m ((c : Thread nD τ).loc main_arg1)) (m ((c : Thread nD τ).loc main_arg2)) (m ((c : Thread nD τ).loc main_arg4))
      ∧ r.2.mem ((c : Thread nD τ).loc main_v84) = New.out2 (m ((c : Thread nD τ).loc main_arg0)) (m ((c : Thread nD τ).loc main_arg1)) (m ((c : Thread nD τ).loc main_arg2))
      ∧ r.2.mem ((c : Thread nD τ).loc main_v86) = New.out3 (m ((c : Thread nD τ).loc main_arg0)) (m ((c : Thread nD τ).loc main_arg1)) (m ((c : Thread nD τ).loc main_arg2))
      ∧ r.2.mem ((c : Thread nD τ).loc main_v73) = New.out4 (m ((c : Thread nD τ).loc main_arg0)) (m ((c : Thread nD τ).loc main_arg1)) (m ((c : Thread nD τ).loc main_arg2))
      ∧ r.2.mem ((c : Thread nD τ).loc main_v81) = New.out5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ h c => ⟨((h c).1.trans (Cert.Reference4Ideal.Read.val_main_v82_eq _ _)).trans (Cert.Reference4Ideal.Plain.ref0 _ _ _ _),
      ((h c).2.1.trans (Cert.Reference4Ideal.Read.val_main_v83_eq _ _ _ _)).trans (Cert.Reference4Ideal.Plain.ref1 _ _ _ _),
      ((h c).2.2.1.trans (Cert.Reference4Ideal.Read.val_main_v84_eq _ _ _)).trans (Cert.Reference4Ideal.Plain.ref2 _ _ _),
      ((h c).2.2.2.1.trans (Cert.Reference4Ideal.Read.val_main_v86_eq _ _ _)).trans (Cert.Reference4Ideal.Plain.ref3 _ _ _),
      ((h c).2.2.2.2.1.trans (Cert.Reference4Ideal.Read.val_main_v73_eq _ _ _)).trans (Cert.Reference4Ideal.Plain.ref4 _ _ _),
      ((h c).2.2.2.2.2.1.trans (Cert.Reference4Ideal.Read.val_main_v81_eq _ _ _)).trans (Cert.Reference4Ideal.Plain.ref5 _ _ _),
      (h c).2.2.2.2.2.2⟩)
    (Cert.Reference4Ideal.Value.run (F := Ideal) m g)

/-- The fourth reference leaves its arguments and, having no semaphore, every counter at zero. -/
theorem reference4_frame : Cert.quiescent_Reference4Ideal (hReference4Ideal := Cert.Reference4Ideal.Gen.facts) := fun m g _ =>
  (θ_run _ _ _).mono (fun _ h => ⟨fun c => (h c).2.2.2.2.2.2, sem_eq_zero_of_no_sems rfl _⟩) (reference4_run m g)

open Cert.Kernel4Ideal in
/-- The fourth equation: from memories agreeing on the arguments both programs leave the same six arrays. -/
theorem equal4 : Cert.algebraic_Kernel4Ideal_Reference4Ideal (hKernel4Ideal := Cert.Kernel4Ideal.Gen.facts) (hReference4Ideal := Cert.Reference4Ideal.Gen.facts) := by
  intro m g m' g' _ ha
  refine ⟨fun c => New.out0 (m ((c : Thread nD τ).loc main_arg0)) (m ((c : Thread nD τ).loc main_arg1)) (m ((c : Thread nD τ).loc main_arg2)) (m ((c : Thread nD τ).loc main_arg3)), fun c => New.out1 (m ((c : Thread nD τ).loc main_arg0)) (m ((c : Thread nD τ).loc main_arg1)) (m ((c : Thread nD τ).loc main_arg2)) (m ((c : Thread nD τ).loc main_arg4)), fun c => New.out2 (m ((c : Thread nD τ).loc main_arg0)) (m ((c : Thread nD τ).loc main_arg1)) (m ((c : Thread nD τ).loc main_arg2)), fun c => New.out3 (m ((c : Thread nD τ).loc main_arg0)) (m ((c : Thread nD τ).loc main_arg1)) (m ((c : Thread nD τ).loc main_arg2)), fun c => New.out4 (m ((c : Thread nD τ).loc main_arg0)) (m ((c : Thread nD τ).loc main_arg1)) (m ((c : Thread nD τ).loc main_arg2)), fun c => New.out5 (m ((c : Thread nD τ).loc main_arg0)) (m ((c : Thread nD τ).loc main_arg1)) (m ((c : Thread nD τ).loc main_arg2)), kernel4_run m g, ?_⟩
  refine (θ_run _ _ _).mono (fun r h c => ?_) (reference4_run m' g')
  obtain ⟨a0, a1, a2, a3, a4⟩ := ha c
  have hc := h c
  rw [a0, a1, a2, a3, a4] at hc
  rw [a0, a1, a2, a3, a4]
  exact hc

open Cert.Kernel5Ideal in
/-- The fifth kernel runs and leaves the three windows of the specification. -/
theorem kernel5_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v12_1) = Step.window 128 0 (m ((c : Thread nD τ).loc main_arg1)) (m ((c : Thread nD τ).loc main_arg2)) (m ((c : Thread nD τ).loc main_arg3))
      ∧ r.2.mem ((c : Thread nD τ).loc main_v12_2) = Step.window 512 1 (m ((c : Thread nD τ).loc main_arg1)) (m ((c : Thread nD τ).loc main_arg2)) (m ((c : Thread nD τ).loc main_arg4))
      ∧ r.2.mem ((c : Thread nD τ).loc main_v12_3) = Step.window 2048 2 (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ h c => ⟨(h c).2.1.trans (Cert.Kernel5Ideal.Block.final7 m c), (h c).2.2.1.trans (Cert.Kernel5Ideal.Block.final8 m c), (h c).2.2.2.1.trans (Cert.Kernel5Ideal.Block.final9 m c), (h c).2.2.2.2⟩)
    (Cert.Kernel5Ideal.Value.run_blocks (F := Ideal) m g)

open Cert.Reference5Ideal in
/-- The fifth reference runs and leaves the three windows of the specification. -/
theorem reference5_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v13) = Step.window 128 0 (m ((c : Thread nD τ).loc main_arg1)) (m ((c : Thread nD τ).loc main_arg2)) (m ((c : Thread nD τ).loc main_arg3))
      ∧ r.2.mem ((c : Thread nD τ).loc main_v25) = Step.window 512 1 (m ((c : Thread nD τ).loc main_arg1)) (m ((c : Thread nD τ).loc main_arg2)) (m ((c : Thread nD τ).loc main_arg4))
      ∧ r.2.mem ((c : Thread nD τ).loc main_v37) = Step.window 2048 2 (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ h c => ⟨((h c).1.trans (Cert.Reference5Ideal.Read.val_main_v13_eq _ _ _)).trans (Cert.Reference5Ideal.Plain.res0 _ _ _),
      ((h c).2.1.trans (Cert.Reference5Ideal.Read.val_main_v25_eq _ _ _)).trans (Cert.Reference5Ideal.Plain.res1 _ _ _),
      ((h c).2.2.1.trans (Cert.Reference5Ideal.Read.val_main_v37_eq _ _ _)).trans (Cert.Reference5Ideal.Plain.res2 _ _ _), (h c).2.2.2⟩)
    (Cert.Reference5Ideal.Value.run (F := Ideal) m g)

/-- The fifth reference leaves its arguments and, having no semaphore, every counter at zero. -/
theorem reference5_frame : Cert.quiescent_Reference5Ideal (hReference5Ideal := Cert.Reference5Ideal.Gen.facts) := fun m g _ =>
  (θ_run _ _ _).mono (fun _ h => ⟨fun c => (h c).2.2.2, sem_eq_zero_of_no_sems rfl _⟩) (reference5_run m g)

open Cert.Kernel5Ideal in
/-- The fifth equation: from memories agreeing on the arguments both programs leave the same three windows. -/
theorem equal5 : Cert.algebraic_Kernel5Ideal_Reference5Ideal (hKernel5Ideal := Cert.Kernel5Ideal.Gen.facts) (hReference5Ideal := Cert.Reference5Ideal.Gen.facts) := by
  intro m g m' g' _ ha
  refine ⟨fun c => Step.window 128 0 (m ((c : Thread nD τ).loc main_arg1)) (m ((c : Thread nD τ).loc main_arg2)) (m ((c : Thread nD τ).loc main_arg3)), fun c => Step.window 512 1 (m ((c : Thread nD τ).loc main_arg1)) (m ((c : Thread nD τ).loc main_arg2)) (m ((c : Thread nD τ).loc main_arg4)), fun c => Step.window 2048 2 (m ((c : Thread nD τ).loc main_arg1)) (m ((c : Thread nD τ).loc main_arg2)) (m ((c : Thread nD τ).loc main_arg5)), kernel5_run m g, ?_⟩
  refine (θ_run _ _ _).mono (fun r h c => ?_) (reference5_run m' g')
  obtain ⟨a0, a1, a2, a3, a4, a5⟩ := ha c
  have hc := h c
  rw [a0, a1, a2, a3, a4, a5] at hc
  rw [a0, a1, a2, a3, a4, a5]
  exact hc

theorem claim : Cert.Claim := ⟨Cert.Kernel.Gen.facts, Cert.KernelIdeal.Gen.facts, Cert.ReferenceIdeal.Gen.facts,
  Cert.Kernel2.Same.facts, Cert.Kernel2Ideal.Gen.facts, Cert.Reference2Ideal.Gen.facts, Cert.Kernel3.Same.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, reference_frame,
  Cert.Kernel2.Same.frame, fun m ρ _ => Cert.Kernel2Ideal.Gen.frame m ρ, reference2_frame,
  Cert.Kernel3.Same.frame, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  IdealRules.named_const.statement Cert.KernelIdeal.κ "q_scale" .f32 0x3E38AA3B#32 (((1 / 8) * (Real.log 2)⁻¹ : ℝ) : EReal) rfl, equal,
  trivial, equal2, trivial, equal3,
  IdealRules.named_const.statement Cert.Kernel4Ideal.κ "q_scale" .f32 0x3E38AA3B#32 (((1 / 8) * (Real.log 2)⁻¹ : ℝ) : EReal) rfl, equal4,
  trivial, equal5⟩

end Cert.Proof

end
